-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v11_0)) (v2 : (c : Dev Cert.KernelIdeal.nD) → Buf (Elt Ideal) ((c.tc : Thread Cert.KernelIdeal.nD Cert.KernelIdeal.τ).loc Cert.KernelIdeal.main_v12)) (v3 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v11_0) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_v41) = v2 c
          ∧ r.2.mem ((c.tc : Thread Cert.ReferenceIdeal.nD Cert.ReferenceIdeal.τ).loc Cert.ReferenceIdeal.main_v63) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  IdealRules.named_const.Statement Cert.Kernel2Ideal.κ "gelu_a" .f32 0x3D372713#32 ((8943 / 200000 : ℝ) : EReal)
  ∧ IdealRules.named_const.Statement Cert.Kernel2Ideal.κ "gelu_3a" .f32 0x3E095D4F#32 ((26829 / 200000 : ℝ) : EReal)

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v125)) (v1 : (c : Dev Cert.Kernel2Ideal.nD) → Buf (Elt Ideal) ((c.tc : Thread Cert.Kernel2Ideal.nD Cert.Kernel2Ideal.τ).loc Cert.Kernel2Ideal.main_v135)) (v2 : (c : Dev Cert.Kernel2Ideal.nD) → Buf (Elt Ideal) ((c.tc : Thread Cert.Kernel2Ideal.nD Cert.Kernel2Ideal.τ).loc Cert.Kernel2Ideal.main_v136)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v125) = v0 c
          ∧ r.2.mem ((c.tc : Thread Cert.Kernel2Ideal.nD Cert.Kernel2Ideal.τ).loc Cert.Kernel2Ideal.main_v135) = v1 c
          ∧ r.2.mem ((c.tc : Thread Cert.Kernel2Ideal.nD Cert.Kernel2Ideal.τ).loc Cert.Kernel2Ideal.main_v136) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v71) = v0 c
          ∧ r.2.mem ((c.tc : Thread Cert.Reference2Ideal.nD Cert.Reference2Ideal.τ).loc Cert.Reference2Ideal.main_v69) = v1 c
          ∧ r.2.mem ((c.tc : Thread Cert.Reference2Ideal.nD Cert.Reference2Ideal.τ).loc Cert.Reference2Ideal.main_v66) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v27)) (v1 : (c : Dev Cert.Kernel3Ideal.nD) → Buf (Elt Ideal) ((c.tc : Thread Cert.Kernel3Ideal.nD Cert.Kernel3Ideal.τ).loc Cert.Kernel3Ideal.main_v6)) (v2 : (c : Dev Cert.Kernel3Ideal.nD) → Buf (Elt Ideal) ((c.tc : Thread Cert.Kernel3Ideal.nD Cert.Kernel3Ideal.τ).loc Cert.Kernel3Ideal.main_v7)) (v3 : (c : Dev Cert.Kernel3Ideal.nD) → Buf (Elt Ideal) ((c.tc : Thread Cert.Kernel3Ideal.nD Cert.Kernel3Ideal.τ).loc Cert.Kernel3Ideal.main_v26_0)) (v4 : (c : Dev Cert.Kernel3Ideal.nD) → Buf (Elt Ideal) ((c.tc : Thread Cert.Kernel3Ideal.nD Cert.Kernel3Ideal.τ).loc Cert.Kernel3Ideal.main_v28)) (v5 : (c : Dev Cert.Kernel3Ideal.nD) → Buf (Elt Ideal) ((c.tc : Thread Cert.Kernel3Ideal.nD Cert.Kernel3Ideal.τ).loc Cert.Kernel3Ideal.main_v23)) (v6 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v27) = v0 c
          ∧ r.2.mem ((c.tc : Thread Cert.Kernel3Ideal.nD Cert.Kernel3Ideal.τ).loc Cert.Kernel3Ideal.main_v6) = v1 c
          ∧ r.2.mem ((c.tc : Thread Cert.Kernel3Ideal.nD Cert.Kernel3Ideal.τ).loc Cert.Kernel3Ideal.main_v7) = v2 c
          ∧ r.2.mem ((c.tc : Thread Cert.Kernel3Ideal.nD Cert.Kernel3Ideal.τ).loc Cert.Kernel3Ideal.main_v26_0) = v3 c
          ∧ r.2.mem ((c.tc : Thread Cert.Kernel3Ideal.nD Cert.Kernel3Ideal.τ).loc Cert.Kernel3Ideal.main_v28) = v4 c
          ∧ r.2.mem ((c.tc : Thread Cert.Kernel3Ideal.nD Cert.Kernel3Ideal.τ).loc Cert.Kernel3Ideal.main_v23) = v5 c
          ∧ r.2.mem ((c.tc : Thread Cert.Kernel3Ideal.nD Cert.Kernel3Ideal.τ).loc Cert.Kernel3Ideal.main_v8) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_v18) = v1 c
          ∧ r.2.mem ((c.tc : Thread Cert.Reference3Ideal.nD Cert.Reference3Ideal.τ).loc Cert.Reference3Ideal.main_v23) = v2 c
          ∧ r.2.mem ((c.tc : Thread Cert.Reference3Ideal.nD Cert.Reference3Ideal.τ).loc Cert.Reference3Ideal.main_v47) = v3 c
          ∧ r.2.mem ((c.tc : Thread Cert.Reference3Ideal.nD Cert.Reference3Ideal.τ).loc Cert.Reference3Ideal.main_v32) = v4 c
          ∧ r.2.mem ((c.tc : Thread Cert.Reference3Ideal.nD Cert.Reference3Ideal.τ).loc Cert.Reference3Ideal.main_v50) = v5 c
          ∧ r.2.mem ((c.tc : Thread Cert.Reference3Ideal.nD Cert.Reference3Ideal.τ).loc Cert.Reference3Ideal.main_v54) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v27)) (v1 : (c : Dev Cert.Kernel4Ideal.nD) → Buf (Elt Ideal) ((c.tc : Thread Cert.Kernel4Ideal.nD Cert.Kernel4Ideal.τ).loc Cert.Kernel4Ideal.main_v6)) (v2 : (c : Dev Cert.Kernel4Ideal.nD) → Buf (Elt Ideal) ((c.tc : Thread Cert.Kernel4Ideal.nD Cert.Kernel4Ideal.τ).loc Cert.Kernel4Ideal.main_v7)) (v3 : (c : Dev Cert.Kernel4Ideal.nD) → Buf (Elt Ideal) ((c.tc : Thread Cert.Kernel4Ideal.nD Cert.Kernel4Ideal.τ).loc Cert.Kernel4Ideal.main_v26_0)) (v4 : (c : Dev Cert.Kernel4Ideal.nD) → Buf (Elt Ideal) ((c.tc : Thread Cert.Kernel4Ideal.nD Cert.Kernel4Ideal.τ).loc Cert.Kernel4Ideal.main_v28)) (v5 : (c : Dev Cert.Kernel4Ideal.nD) → Buf (Elt Ideal) ((c.tc : Thread Cert.Kernel4Ideal.nD Cert.Kernel4Ideal.τ).loc Cert.Kernel4Ideal.main_v23)) (v6 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v27) = v0 c
          ∧ r.2.mem ((c.tc : Thread Cert.Kernel4Ideal.nD Cert.Kernel4Ideal.τ).loc Cert.Kernel4Ideal.main_v6) = v1 c
          ∧ r.2.mem ((c.tc : Thread Cert.Kernel4Ideal.nD Cert.Kernel4Ideal.τ).loc Cert.Kernel4Ideal.main_v7) = v2 c
          ∧ r.2.mem ((c.tc : Thread Cert.Kernel4Ideal.nD Cert.Kernel4Ideal.τ).loc Cert.Kernel4Ideal.main_v26_0) = v3 c
          ∧ r.2.mem ((c.tc : Thread Cert.Kernel4Ideal.nD Cert.Kernel4Ideal.τ).loc Cert.Kernel4Ideal.main_v28) = v4 c
          ∧ r.2.mem ((c.tc : Thread Cert.Kernel4Ideal.nD Cert.Kernel4Ideal.τ).loc Cert.Kernel4Ideal.main_v23) = v5 c
          ∧ r.2.mem ((c.tc : Thread Cert.Kernel4Ideal.nD Cert.Kernel4Ideal.τ).loc Cert.Kernel4Ideal.main_v8) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_v18) = v1 c
          ∧ r.2.mem ((c.tc : Thread Cert.Reference4Ideal.nD Cert.Reference4Ideal.τ).loc Cert.Reference4Ideal.main_v23) = v2 c
          ∧ r.2.mem ((c.tc : Thread Cert.Reference4Ideal.nD Cert.Reference4Ideal.τ).loc Cert.Reference4Ideal.main_v47) = v3 c
          ∧ r.2.mem ((c.tc : Thread Cert.Reference4Ideal.nD Cert.Reference4Ideal.τ).loc Cert.Reference4Ideal.main_v32) = v4 c
          ∧ r.2.mem ((c.tc : Thread Cert.Reference4Ideal.nD Cert.Reference4Ideal.τ).loc Cert.Reference4Ideal.main_v50) = v5 c
          ∧ r.2.mem ((c.tc : Thread Cert.Reference4Ideal.nD Cert.Reference4Ideal.τ).loc Cert.Reference4Ideal.main_v54) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v4)) (v1 : (c : Dev Cert.Kernel5Ideal.nD) → Buf (Elt Ideal) ((c.tc : Thread Cert.Kernel5Ideal.nD Cert.Kernel5Ideal.τ).loc Cert.Kernel5Ideal.main_v6)) (v2 : (c : Dev Cert.Kernel5Ideal.nD) → Buf (Elt Ideal) ((c.tc : Thread Cert.Kernel5Ideal.nD Cert.Kernel5Ideal.τ).loc Cert.Kernel5Ideal.main_v11)) (v3 : (c : Dev Cert.Kernel5Ideal.nD) → Buf (Elt Ideal) ((c.tc : Thread Cert.Kernel5Ideal.nD Cert.Kernel5Ideal.τ).loc Cert.Kernel5Ideal.main_v15_0)) (v4 : (c : Dev Cert.Kernel5Ideal.nD) → Buf (Elt Ideal) ((c.tc : Thread Cert.Kernel5Ideal.nD Cert.Kernel5Ideal.τ).loc Cert.Kernel5Ideal.main_v16)) (v5 : (c : Dev Cert.Kernel5Ideal.nD) → Buf (Elt Ideal) ((c.tc : Thread Cert.Kernel5Ideal.nD Cert.Kernel5Ideal.τ).loc Cert.Kernel5Ideal.main_v12)) (v6 : (c : Dev Cert.Kernel5Ideal.nD) → Buf (Elt Ideal) ((c.tc : Thread Cert.Kernel5Ideal.nD Cert.Kernel5Ideal.τ).loc Cert.Kernel5Ideal.main_v10)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_v6) = v1 c
          ∧ r.2.mem ((c.tc : Thread Cert.Kernel5Ideal.nD Cert.Kernel5Ideal.τ).loc Cert.Kernel5Ideal.main_v11) = v2 c
          ∧ r.2.mem ((c.tc : Thread Cert.Kernel5Ideal.nD Cert.Kernel5Ideal.τ).loc Cert.Kernel5Ideal.main_v15_0) = v3 c
          ∧ r.2.mem ((c.tc : Thread Cert.Kernel5Ideal.nD Cert.Kernel5Ideal.τ).loc Cert.Kernel5Ideal.main_v16) = v4 c
          ∧ r.2.mem ((c.tc : Thread Cert.Kernel5Ideal.nD Cert.Kernel5Ideal.τ).loc Cert.Kernel5Ideal.main_v12) = v5 c
          ∧ r.2.mem ((c.tc : Thread Cert.Kernel5Ideal.nD Cert.Kernel5Ideal.τ).loc Cert.Kernel5Ideal.main_v10) = v6 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v19) = v0 c
          ∧ r.2.mem ((c.tc : Thread Cert.Reference5Ideal.nD Cert.Reference5Ideal.τ).loc Cert.Reference5Ideal.main_v30) = v1 c
          ∧ r.2.mem ((c.tc : Thread Cert.Reference5Ideal.nD Cert.Reference5Ideal.τ).loc Cert.Reference5Ideal.main_v62) = v2 c
          ∧ r.2.mem ((c.tc : Thread Cert.Reference5Ideal.nD Cert.Reference5Ideal.τ).loc Cert.Reference5Ideal.main_v58) = v3 c
          ∧ r.2.mem ((c.tc : Thread Cert.Reference5Ideal.nD Cert.Reference5Ideal.τ).loc Cert.Reference5Ideal.main_v43) = v4 c
          ∧ r.2.mem ((c.tc : Thread Cert.Reference5Ideal.nD Cert.Reference5Ideal.τ).loc Cert.Reference5Ideal.main_v69) = v5 c
          ∧ r.2.mem ((c.tc : Thread Cert.Reference5Ideal.nD Cert.Reference5Ideal.τ).loc Cert.Reference5Ideal.main_v67) = v6 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S2048x1024 : Shape := ⟨2, ![2048, 1024]⟩
abbrev S64x64 : Shape := ⟨2, ![64, 64]⟩
abbrev S64x1024 : Shape := ⟨2, ![64, 1024]⟩
abbrev S64x16x64 : Shape := ⟨3, ![64, 16, 64]⟩
abbrev S1024 : Shape := ⟨1, ![1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64x1024 : S_.BroadcastsInDim S64x1024 (![] : Fin 0 → Fin S64x1024.rank)
  reducesTo_S64x1024_S_d0_1 : S64x1024.ReducesTo [0, 1] S_
  bcast_S_S64x16x64 : S_.BroadcastsInDim S64x16x64 (![] : Fin 0 → Fin S64x16x64.rank)
  reducesTo_S64x16x64_S_d0_1_2 : S64x16x64.ReducesTo [0, 1, 2] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_arg8 : FVec F S2048x1024 .f32) (main_v29 : IVec S_ 1) (main_v32 : IVec S64x16x64 1) (main_c_12 : IVec S_ 1) : IVec S_ 1 :=
  let main_v33 : IVec S_ 1 := (fun x v => Host.reduce IntOp.andi x v reducesTo_S64x16x64_S_d0_1_2 h_S_) main_v32 main_c_12
  let main_v34 : IVec S_ 1 := andi main_v29 main_v33
  let main_v35 : FVec F S1024 .f32 := Host.absf main_arg7
  let main_cst_13 : FVec F S_ .f32 := constant S_ .f32 0x7F800000#32
  let main_v36 : FVec F S1024 .f32 := broadcastInDim S1024 ![] bcast_S_S1024 main_cst_13
  let main_v37 : IVec S1024 1 := cmpf .olt main_v35 main_v36
  let main_c_14 : IVec S_ 1 := constantI S_ 1 1#1
  let main_v38 : IVec S_ 1 := (fun x v => Host.reduce IntOp.andi x v reducesTo_S1024_S_d0 h_S_) main_v37 main_c_14
  let main_v39 : IVec S_ 1 := andi main_v34 main_v38
  let main_v40 : FVec F S2048x1024 .f32 := Host.absf main_arg8
  let main_cst_15 : FVec F S_ .f32 := constant S_ .f32 0x7F800000#32
  let main_v41 : FVec F S2048x1024 .f32 := broadcastInDim S2048x1024 ![] bcast_S_S2048x1024 main_cst_15
  let main_v42 : IVec S2048x1024 1 := cmpf .olt main_v40 main_v41
  let main_c_16 : IVec S_ 1 := constantI S_ 1 1#1
  let main_v43 : IVec S_ 1 := (fun x v => Host.reduce IntOp.andi x v reducesTo_S2048x1024_S_d0_1 h_S_) main_v42 main_c_16
  let main_v44 : IVec S_ 1 := andi main_v39 main_v43
  main_v44

def fn_part1 {F : FTy → Type} [FloatOps F] (main_arg4 : FVec F S64x1024 .f32) (main_arg5 : FVec F S64x16x64 .f32) (main_arg6 : FVec F S64x16x64 .f32) (main_arg7 : FVec F S1024 .f32) (main_arg8 : FVec F S2048x1024 .f32) (main_v14 : IVec S_ 1) (main_v15 : FVec F S64x1024 .f32) (main_cst_5 : FVec F S_ .f32) : IVec S_ 1 :=
  let main_v16 : FVec F S64x1024 .f32 := broadcastInDim S64x1024 ![] bcast_S_S64x1024 main_cst_5
  let main_v17 : IVec S64x1024 1 := cmpf .olt main_v15 main_v16
  let main_c_6 : IVec S_ 1 := constantI S_ 1 1#1
  let main_v18 : IVec S_ 1 := (fun x v => Host.reduce IntOp.andi x v reducesTo_S64x1024_S_d0_1 h_S_) main_v17 main_c_6
  let main_v19 : IVec S_ 1 := andi main_v14 main_v18
  let main_v20 : FVec F S64x1024 .f32 := Host.absf main_arg4
  let main_cst_7 : FVec F S_ .f32 := constant S_ .f32 0x7F800000#32
  let main_v21 : FVec F S64x1024 .f32 := broadcastInDim S64x1024 ![] bcast_S_S64x1024 main_cst_7
  let main_v22 : IVec S64x1024 1 := cmpf .olt main_v20 main_v21
  let main_c_8 : IVec S_ 1 := constantI S_ 1 1#1
  let main_v23 : IVec S_ 1 := (fun x v => Host.reduce IntOp.andi x v reducesTo_S64x1024_S_d0_1 h_S_) main_v22 main_c_8
  let main_v24 : IVec S_ 1 := andi main_v19 main_v23
  let main_v25 : FVec F S64x16x64 .f32 := Host.absf main_arg5
  let main_cst_9 : FVec F S_ .f32 := constant S_ .f32 0x7F800000#32
  let main_v26 : FVec F S64x16x64 .f32 := broadcastInDim S64x16x64 ![] bcast_S_S64x16x64 main_cst_9
  let main_v27 : IVec S64x16x64 1 := cmpf .olt main_v25 main_v26
  let main_c_10 : IVec S_ 1 := constantI S_ 1 1#1
  let main_v28 : IVec S_ 1 := (fun x v => Host.reduce IntOp.andi x v reducesTo_S64x16x64_S_d0_1_2 h_S_) main_v27 main_c_10
  let main_v29 : IVec S_ 1 := andi main_v24 main_v28
  let main_v30 : FVec F S64x16x64 .f32 := Host.absf main_arg6
  let main_cst_11 : FVec F S_ .f32 := constant S_ .f32 0x7F800000#32
  let main_v31 : FVec F S64x16x64 .f32 := broadcastInDim S64x16x64 ![] bcast_S_S64x16x64 main_cst_11
  let main_v32 : IVec S64x16x64 1 := cmpf .olt main_v30 main_v31
  let main_c_12 : IVec S_ 1 := constantI S_ 1 1#1
  fn_part2 (F := F) main_arg7 main_arg8 main_v29 main_v32 main_c_12

def fn {F : FTy → Type} [FloatOps F] (main_arg0 : FVec F S2048x1024 .f32) (main_arg1 : FVec F S64x64 .f32) (main_arg2 : FVec F S64x64 .f32) (main_arg3 : FVec F S64x1024 .f32) (main_arg4 : FVec F S64x1024 .f32) (main_arg5 : FVec F S64x16x64 .f32) (main_arg6 : FVec F S64x16x64 .f32) (main_arg7 : FVec F S1024 .f32) (main_arg8 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_c_0 : IVec S_ 1 := constantI S_ 1 1#1
  let main_v4 : IVec S_ 1 := andi main_c_0 main_v3
  let main_v5 : FVec F S64x64 .f32 := Host.absf main_arg1
  let main_cst_1 : FVec F S_ .f32 := constant S_ .f32 0x7F800000#32
  let main_v6 : FVec F S64x64 .f32 := broadcastInDim S64x64 ![] bcast_S_S64x64 main_cst_1
  let main_v7 : IVec S64x64 1 := cmpf .olt main_v5 main_v6
  let main_c_2 : IVec S_ 1 := constantI S_ 1 1#1
  let main_v8 : IVec S_ 1 := (fun x v => Host.reduce IntOp.andi x v reducesTo_S64x64_S_d0_1 h_S_) main_v7 main_c_2
  let main_v9 : IVec S_ 1 := andi main_v4 main_v8
  let main_v10 : FVec F S64x64 .f32 := Host.absf main_arg2
  let main_cst_3 : FVec F S_ .f32 := constant S_ .f32 0x7F800000#32
  let main_v11 : FVec F S64x64 .f32 := broadcastInDim S64x64 ![] bcast_S_S64x64 main_cst_3
  let main_v12 : IVec S64x64 1 := cmpf .olt main_v10 main_v11
  let main_c_4 : IVec S_ 1 := constantI S_ 1 1#1
  let main_v13 : IVec S_ 1 := (fun x v => Host.reduce IntOp.andi x v reducesTo_S64x64_S_d0_1 h_S_) main_v12 main_c_4
  let main_v14 : IVec S_ 1 := andi main_v9 main_v13
  let main_v15 : FVec F S64x1024 .f32 := Host.absf main_arg3
  let main_cst_5 : FVec F S_ .f32 := constant S_ .f32 0x7F800000#32
  fn_part1 (F := F) main_arg4 main_arg5 main_arg6 main_arg7 main_arg8 main_v14 main_v15 main_cst_5
-- ==== Kernel.lean ====
abbrev S2048x1024 : Shape := ⟨2, ![2048, 1024]⟩
abbrev S1024 : Shape := ⟨1, ![1024]⟩
abbrev S1024x4096 : Shape := ⟨2, ![1024, 4096]⟩
abbrev S4096x1024 : Shape := ⟨2, ![4096, 1024]⟩
abbrev S4x2304x1024 : Shape := ⟨3, ![4, 2304, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S2048x4096 : Shape := ⟨2, ![2048, 4096]⟩
abbrev S1024x512 : Shape := ⟨2, ![1024, 512]⟩
abbrev S2048x512 : Shape := ⟨2, ![2048, 512]⟩
abbrev S4096x512 : Shape := ⟨2, ![4096, 512]⟩
abbrev S1x1024x512 : Shape := ⟨3, ![1, 1024, 512]⟩
abbrev S512x1024 : Shape := ⟨2, ![512, 1024]⟩
abbrev S512x4096 : Shape := ⟨2, ![512, 4096]⟩

abbrev nBuf : Space → Nat
  | .hbm => 20
  | .vmem => 52
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S2048x1024, .f32⟩
  | .hbm, ⟨5, _⟩ => ⟨S4x2304x1024, .bf16⟩
  | .hbm, ⟨6, _⟩ => ⟨S1024x4096, .bf16⟩
  | .hbm, ⟨7, _⟩ => ⟨S4096x1024, .bf16⟩
  | .hbm, ⟨8, _⟩ => ⟨S1x1024, .f32⟩
  | .hbm, ⟨9, _⟩ => ⟨S2048x1024, .bf16⟩
  | .hbm, ⟨10, _⟩ => ⟨S2048x4096, .bf16⟩
  | .hbm, ⟨11, _⟩ => ⟨S2048x1024, .f32⟩
  | .hbm, ⟨12, _⟩ => ⟨S4x2304x1024, .bf16⟩
  | .hbm, ⟨13, _⟩ => ⟨S2048x4096, .bf16⟩
  | .hbm, ⟨14, _⟩ => ⟨S4x2304x1024, .bf16⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S1x1024, .f32⟩
  | .hbm, ⟨19, _⟩ => ⟨S1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | .local _ .vmem, ⟨5, _⟩ => ⟨S2048x1024, .bf16⟩
  | .local _ .vmem, ⟨6, _⟩ => ⟨S1024x512, .bf16⟩
  | .local _ .vmem, ⟨7, _⟩ => ⟨S1024x512, .bf16⟩
  | .local _ .vmem, ⟨8, _⟩ => ⟨S2048x512, .bf16⟩
  | .local _ .vmem, ⟨9, _⟩ => ⟨S2048x512, .bf16⟩
  | .local _ .vmem, ⟨10, _⟩ => ⟨S1024x4096, .bf16⟩
  | .local _ .vmem, ⟨11, _⟩ => ⟨S1024x4096, .bf16⟩
  | .local _ .vmem, ⟨12, _⟩ => ⟨S4096x512, .bf16⟩
  | .local _ .vmem, ⟨13, _⟩ => ⟨S4096x512, .bf16⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | .local _ .vmem, ⟨17, _⟩ => ⟨S1024x512, .f32⟩
  | .local _ .vmem, ⟨18, _⟩ => ⟨S2048x1024, .bf16⟩
  | .local _ .vmem, ⟨19, _⟩ => ⟨S2048x1024, .bf16⟩
  | .local _ .vmem, ⟨20, _⟩ => ⟨S2048x512, .f32⟩
  | .local _ .vmem, ⟨21, _⟩ => ⟨S2048x512, .f32⟩
  | .local _ .vmem, ⟨22, _⟩ => ⟨S1x1024x512, .bf16⟩
  | .local _ .vmem, ⟨23, _⟩ => ⟨S1x1024x512, .bf16⟩
  | .local _ .vmem, ⟨24, _⟩ => ⟨S2048x1024, .f32⟩
  | .local _ .vmem, ⟨25, _⟩ => ⟨S512x1024, .bf16⟩
  | .local _ .vmem, ⟨26, _⟩ => ⟨S512x1024, .bf16⟩
  | .local _ .vmem, ⟨27, _⟩ => ⟨S2048x512, .bf16⟩
  | .local _ .vmem, ⟨28, _⟩ => ⟨S2048x512, .bf16⟩
  | .local _ .vmem, ⟨29, _⟩ => ⟨S2048x512, .bf16⟩
  | .local _ .vmem, ⟨30, _⟩ => ⟨S2048x512, .bf16⟩
  | .local _ .vmem, ⟨31, _⟩ => ⟨S2048x1024, .bf16⟩
  | .local _ .vmem, ⟨32, _⟩ => ⟨S2048x512, .bf16⟩
  | .local _ .vmem, ⟨33, _⟩ => ⟨S2048x512, .bf16⟩
  | .local _ .vmem, ⟨34, _⟩ => ⟨S1x1024x512, .bf16⟩
  | .local _ .vmem, ⟨35, _⟩ => ⟨S1x1024x512, .bf16⟩
  | .local _ .vmem, ⟨36, _⟩ => ⟨S1024x4096, .bf16⟩
  | .local _ .vmem, ⟨37, _⟩ => ⟨S1024x4096, .bf16⟩
  | .local _ .vmem, ⟨38, _⟩ => ⟨S512x4096, .bf16⟩
  | .local _ .vmem, ⟨39, _⟩ => ⟨S512x4096, .bf16⟩
  | .local _ .vmem, ⟨40, _⟩ => ⟨S1024x512, .f32⟩
  | .local _ .vmem, ⟨41, _⟩ => ⟨S1024x512, .f32⟩
  | .local _ .vmem, ⟨42, _⟩ => ⟨S256x1024, .f32⟩
  | .local _ .vmem, ⟨43, _⟩ => ⟨S256x1024, .f32⟩
  | .local _ .vmem, ⟨44, _⟩ => ⟨S1x1024, .f32⟩
  | .local _ .vmem, ⟨45, _⟩ => ⟨S256x1024, .f32⟩
  | .local _ .vmem, ⟨46, _⟩ => ⟨S256x1024, .f32⟩
  | .local _ .vmem, ⟨47, _⟩ => ⟨S256x1024, .f32⟩
  | .local _ .vmem, ⟨48, _⟩ => ⟨S256x1024, .f32⟩
  | .local _ .vmem, ⟨49, _⟩ => ⟨S256x1024, .f32⟩
  | .local _ .vmem, ⟨50, _⟩ => ⟨S256x1024, .f32⟩
  | .local _ .vmem, ⟨51, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg1_0 : Ref sig .tc := ⟨.vmem, 25, rfl⟩
abbrev cc4_stg1_1 : Ref sig .tc := ⟨.vmem, 26, rfl⟩
abbrev cc4_stg2_0 : Ref sig .tc := ⟨.vmem, 27, rfl⟩
abbrev cc4_stg2_1 : Ref sig .tc := ⟨.vmem, 28, rfl⟩
abbrev cc4_stg3_0 : Ref sig .tc := ⟨.vmem, 29, rfl⟩
abbrev cc4_stg3_1 : Ref sig .tc := ⟨.vmem, 30, rfl⟩
abbrev cc5_stg0_0 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg1_1 : Ref sig .tc := ⟨.vmem, 39, rfl⟩
abbrev cc6_stg2_0 : Ref sig .tc := ⟨.vmem, 40, rfl⟩
abbrev cc6_stg2_1 : Ref sig .tc := ⟨.vmem, 41, rfl⟩
abbrev cc7_stg0_0 : Ref sig .tc := ⟨.vmem, 42, rfl⟩
abbrev cc7_stg0_1 : Ref sig .tc := ⟨.vmem, 43, rfl⟩
abbrev cc7_stg1_0 : Ref sig .tc := ⟨.vmem, 44, rfl⟩
abbrev cc7_stg2_0 : Ref sig .tc := ⟨.vmem, 45, rfl⟩
abbrev cc7_stg2_1 : Ref sig .tc := ⟨.vmem, 46, rfl⟩
abbrev cc7_stg3_0 : Ref sig .tc := ⟨.vmem, 47, rfl⟩
abbrev cc7_stg3_1 : Ref sig .tc := ⟨.vmem, 48, rfl⟩
abbrev cc7_stg4_0 : Ref sig .tc := ⟨.vmem, 49, rfl⟩
abbrev cc7_stg4_1 : Ref sig .tc := ⟨.vmem, 50, rfl⟩
abbrev cc7_stg5_0 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem1_0 : DmaSem sig := 25
abbrev cc4_sem1_1 : DmaSem sig := 26
abbrev cc4_sem2_0 : DmaSem sig := 27
abbrev cc4_sem2_1 : DmaSem sig := 28
abbrev cc4_sem3_0 : DmaSem sig := 29
abbrev cc4_sem3_1 : DmaSem sig := 30
abbrev cc5_sem0_0 : DmaSem sig := 31
abbrev cc5_sem1_0 : DmaSem sig := 32
abbrev cc5_sem1_1 : DmaSem sig := 33
abbrev cc5_sem2_0 : DmaSem sig := 34
abbrev cc5_sem2_1 : DmaSem sig := 35
abbrev cc6_sem0_0 : DmaSem sig := 36
abbrev cc6_sem0_1 : DmaSem sig := 37
abbrev cc6_sem1_0 : DmaSem sig := 38
abbrev cc6_sem1_1 : DmaSem sig := 39
abbrev cc6_sem2_0 : DmaSem sig := 40
abbrev cc6_sem2_1 : DmaSem sig := 41
abbrev cc7_sem0_0 : DmaSem sig := 42
abbrev cc7_sem0_1 : DmaSem sig := 43
abbrev cc7_sem1_0 : DmaSem sig := 44
abbrev cc7_sem2_0 : DmaSem sig := 45
abbrev cc7_sem2_1 : DmaSem sig := 46
abbrev cc7_sem3_0 : DmaSem sig := 47
abbrev cc7_sem3_1 : DmaSem sig := 48
abbrev cc7_sem4_0 : DmaSem sig := 49
abbrev cc7_sem4_1 : DmaSem sig := 50
abbrev cc7_sem5_0 : DmaSem sig := 51

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![1, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S2048x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![2, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S4096x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1024x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨2, ![4, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_3 (i : grid3.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let v27 : BitVec 32 := Scalar.addi c1_i32_11 v26
  let c0_i32_12 : BitVec 32 := 0#32
  ![v16.toNat, v27.toNat, arg1.toNat]

abbrev stage3_0 : Fin 2 → Memref sig .tc .vmem S2048x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S2048x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1x1024x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![1, 8], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 1 → Memref sig .tc .vmem S2048x1024 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false]

abbrev stage4_1 : Fin 2 → Memref sig .tc .vmem S512x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S2048x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S2048x512 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev grid5 : Pipeline.Grid := ⟨2, ![1, 8], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_3 (i : grid5.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 arg0
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v16.toNat, v17.toNat, v27.toNat]

abbrev stage5_0 : Fin 1 → Memref sig .tc .vmem S2048x1024 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false]

abbrev stage5_1 : Fin 2 → Memref sig .tc .vmem S2048x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1x1024x512 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![2, 2], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 2 → Memref sig .tc .vmem S1024x4096 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 2 → Memref sig .tc .vmem S512x4096 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S1024x512 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev grid7 : Pipeline.Grid := ⟨1, ![8], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S256x1024 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x1024 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S256x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S256x1024 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S256x1024 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 1 → Memref sig .tc .vmem S1x1024 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]
-- ==== ReferenceIdeal.lean ====
abbrev S2048x1024 : Shape := ⟨2, ![2048, 1024]⟩
abbrev S1024 : Shape := ⟨1, ![1024]⟩
abbrev S1024x4096 : Shape := ⟨2, ![1024, 4096]⟩
abbrev S4096x1024 : Shape := ⟨2, ![4096, 1024]⟩
abbrev S4x2304x1024 : Shape := ⟨3, ![4, 2304, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x4096 : Shape := ⟨2, ![2048, 4096]⟩
abbrev S1024x4x1024 : Shape := ⟨3, ![1024, 4, 1024]⟩
abbrev S4x1024x1024 : Shape := ⟨3, ![4, 1024, 1024]⟩
abbrev S4x256x1024 : Shape := ⟨3, ![4, 256, 1024]⟩

abbrev nBuf : Space → Nat
  | .hbm => 85
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S2048x1024, .f32⟩
  | .hbm, ⟨5, _⟩ => ⟨S4x2304x1024, .bf16⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S2048x4096, .f32⟩
  | .hbm, ⟨27, _⟩ => ⟨S_, .f32⟩
  | .hbm, ⟨28, _⟩ => ⟨S2048x4096, .f32⟩
  | .hbm, ⟨29, _⟩ => ⟨S2048x4096, .f32⟩
  | .hbm, ⟨30, _⟩ => ⟨S_, .f32⟩
  | .hbm, ⟨31, _⟩ => ⟨S2048x4096, .f32⟩
  | .hbm, ⟨32, _⟩ => ⟨S2048x4096, .i1⟩
  | .hbm, ⟨33, _⟩ => ⟨S_, .f32⟩
  | .hbm, ⟨34, _⟩ => ⟨S2048x4096, .f32⟩
  | .hbm, ⟨35, _⟩ => ⟨S2048x4096, .f32⟩
  | .hbm, ⟨36, _⟩ => ⟨S_, .f32⟩
  | .hbm, ⟨37, _⟩ => ⟨S2048x4096, .f32⟩
  | .hbm, ⟨38, _⟩ => ⟨S2048x4096, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S1024x4096, .f32⟩
  | .hbm, ⟨43, _⟩ => ⟨S4096x1024, .f32⟩
  | .hbm, ⟨44, _⟩ => ⟨S2048x4096, .f32⟩
  | .hbm, ⟨45, _⟩ => ⟨S2048x4096, .f32⟩
  | .hbm, ⟨46, _⟩ => ⟨S_, .f32⟩
  | .hbm, ⟨47, _⟩ => ⟨S2048x4096, .f32⟩
  | .hbm, ⟨48, _⟩ => ⟨S2048x4096, .f32⟩
  | .hbm, ⟨49, _⟩ => ⟨S4096x1024, .f32⟩
  | .hbm, ⟨50, _⟩ => ⟨S1024x4096, .f32⟩
  | .hbm, ⟨51, _⟩ => ⟨S2048x1024, .f32⟩
  | .hbm, ⟨52, _⟩ => ⟨S2048x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S2048x1024, .f32⟩
  | .hbm, ⟨57, _⟩ => ⟨S2048x1024, .f32⟩
  | .hbm, ⟨58, _⟩ => ⟨S_, .f32⟩
  | .hbm, ⟨59, _⟩ => ⟨S1024, .f32⟩
  | .hbm, ⟨60, _⟩ => ⟨S2048x1024, .f32⟩
  | .hbm, ⟨61, _⟩ => ⟨S_, .f32⟩
  | .hbm, ⟨62, _⟩ => ⟨S2048, .f32⟩
  | .hbm, ⟨63, _⟩ => ⟨S2048x1, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1, .f32⟩
  | .hbm, ⟨68, _⟩ => ⟨S_, .f32⟩
  | .hbm, ⟨69, _⟩ => ⟨S2048x1, .f32⟩
  | .hbm, ⟨70, _⟩ => ⟨S2048x1, .f32⟩
  | .hbm, ⟨71, _⟩ => ⟨S_, .f32⟩
  | .hbm, ⟨72, _⟩ => ⟨S2048, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S2048x1024, .f32⟩
  | .hbm, ⟨77, _⟩ => ⟨S2048x1024, .f32⟩
  | .hbm, ⟨78, _⟩ => ⟨S1024x4x1024, .f32⟩
  | .hbm, ⟨79, _⟩ => ⟨S4x1024x1024, .f32⟩
  | .hbm, ⟨80, _⟩ => ⟨S4x1024x1024, .f32⟩
  | .hbm, ⟨81, _⟩ => ⟨S4x1024x1024, .bf16⟩
  | .hbm, ⟨82, _⟩ => ⟨S4x1024x1024, .bf16⟩
  | .hbm, ⟨83, _⟩ => ⟨S4x256x1024, .bf16⟩
  | .hbm, ⟨84, _⟩ => ⟨S4x2304x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_cst : Ref sig .tc := ⟨.hbm, 27, rfl⟩
abbrev main_call0_v0 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_10 : Ref sig .tc := ⟨.hbm, 68, rfl⟩
abbrev main_v49 : Ref sig .tc := ⟨.hbm, 69, rfl⟩
abbrev main_v50 : Ref sig .tc := ⟨.hbm, 70, rfl⟩
abbrev main_cst_11 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩

abbrev nD : Nat := 1
abbrev τ : Topo := Topo.v7x

variable {F : FTy → Type} [FloatOps F]
-- ==== Kernel2.lean ====
abbrev S2048x1024 : Shape := ⟨2, ![2048, 1024]⟩
abbrev S64x64 : Shape := ⟨2, ![64, 64]⟩
abbrev S64x1024 : Shape := ⟨2, ![64, 1024]⟩
abbrev S64x16x64 : Shape := ⟨3, ![64, 16, 64]⟩
abbrev S1024 : Shape := ⟨1, ![1024]⟩
abbrev S8x8 : Shape := ⟨2, ![8, 8]⟩
abbrev S_ : Shape := ⟨0, ![]⟩
abbrev S8x8x64x16 : Shape := ⟨4, ![8, 8, 64, 16]⟩
abbrev S8x8x16x64 : Shape := ⟨4, ![8, 8, 16, 64]⟩
abbrev S8x8x16x1x64 : Shape := ⟨5, ![8, 8, 16, 1, 64]⟩
abbrev S8x1x8x1 : Shape := ⟨4, ![8, 1, 8, 1]⟩
abbrev S1x8x1x8x1 : Shape := ⟨5, ![1, 8, 1, 8, 1]⟩
abbrev S8x8x16x8x64 : Shape := ⟨5, ![8, 8, 16, 8, 64]⟩
abbrev S8x128x512 : Shape := ⟨3, ![8, 128, 512]⟩
abbrev S8x128x1024 : Shape := ⟨3, ![8, 128, 1024]⟩
abbrev S8x8x64x1x16 : Shape := ⟨5, ![8, 8, 64, 1, 16]⟩
abbrev S8x8x64x8x16 : Shape := ⟨5, ![8, 8, 64, 8, 16]⟩
abbrev S8x512x128 : Shape := ⟨3, ![8, 512, 128]⟩
abbrev S8x1024x128 : Shape := ⟨3, ![8, 1024, 128]⟩
abbrev S8x512 : Shape := ⟨2, ![8, 512]⟩
abbrev S8x1x512 : Shape := ⟨3, ![8, 1, 512]⟩
abbrev S8x8x512 : Shape := ⟨3, ![8, 8, 512]⟩
abbrev S1x1024 : Shape := ⟨2, ![1, 1024]⟩
abbrev S2048x128 : Shape := ⟨2, ![2048, 128]⟩
abbrev S1x128x1024 : Shape := ⟨3, ![1, 128, 1024]⟩
abbrev S1x1024x128 : Shape := ⟨3, ![1, 1024, 128]⟩
abbrev S1x8x512 : Shape := ⟨3, ![1, 8, 512]⟩
abbrev S1x128 : Shape := ⟨2, ![1, 128]⟩
abbrev S2048x512 : Shape := ⟨2, ![2048, 512]⟩
abbrev S256x128 : Shape := ⟨2, ![256, 128]⟩
abbrev S128x1024 : Shape := ⟨2, ![128, 1024]⟩
abbrev S256x1024 : Shape := ⟨2, ![256, 1024]⟩
abbrev S256x512 : Shape := ⟨2, ![256, 512]⟩
abbrev S1x512 : Shape := ⟨2, ![1, 512]⟩
abbrev S512 : Shape := ⟨1, ![512]⟩
abbrev S512x128 : Shape := ⟨2, ![512, 128]⟩
abbrev S1x512x128 : Shape := ⟨3, ![1, 512, 128]⟩
abbrev S128 : Shape := ⟨1, ![128]⟩
abbrev S6x512 : Shape := ⟨2, ![6, 512]⟩
abbrev S128x512 : Shape := ⟨2, ![128, 512]⟩
abbrev S1x128x512 : Shape := ⟨3, ![1, 128, 512]⟩

abbrev nBuf : Space → Nat
  | .hbm => 154
  | .vmem => 29
  | .smem => 0
  | _ => 0

abbrev hbmTy0_0 (i : Nat) : BufTy := match i % 128 with
  | 0 => ⟨S2048x1024, .f32⟩
  | 1 => ⟨S64x64, .f32⟩
  | 2 => ⟨S64x64, .f32⟩
  | 3 => ⟨S64x1024, .f32⟩
  | 4 => ⟨S64x1024, .f32⟩
  | 5 => ⟨S64x16x64, .f32⟩
  | 6 => ⟨S64x16x64, .f32⟩
  | 7 => ⟨S1024, .f32⟩
  | 8 => ⟨S2048x1024, .f32⟩
  | 9 => ⟨S8x8, .i32⟩
  | 10 => ⟨S8x8, .i32⟩
  | 11 => ⟨S_, .i32⟩
  | 12 => ⟨S8x8, .i32⟩
  | 13 => ⟨S8x8, .i32⟩
  | 14 => ⟨S8x8, .i1⟩
  | 15 => ⟨S8x8, .f32⟩
  | 16 => ⟨S8x8x64x16, .f32⟩
  | 17 => ⟨S8x8x16x64, .f32⟩
  | 18 => ⟨S8x8x16x1x64, .f32⟩
  | 19 => ⟨S8x1x8x1, .f32⟩
  | 20 => ⟨S1x8x1x8x1, .f32⟩
  | 21 => ⟨S8x8x16x8x64, .f32⟩
  | 22 => ⟨S8x8x16x8x64, .f32⟩
  | 23 => ⟨S8x8x16x8x64, .f32⟩
  | 24 => ⟨S8x128x512, .f32⟩
  | 25 => ⟨S8x8x64x16, .f32⟩
  | 26 => ⟨S8x8x16x64, .f32⟩
  | 27 => ⟨S8x8x16x1x64, .f32⟩
  | 28 => ⟨S8x1x8x1, .f32⟩
  | 29 => ⟨S1x8x1x8x1, .f32⟩
  | 30 => ⟨S8x8x16x8x64, .f32⟩
  | 31 => ⟨S8x8x16x8x64, .f32⟩
  | 32 => ⟨S8x8x16x8x64, .f32⟩
  | 33 => ⟨S8x128x512, .f32⟩
  | 34 => ⟨S8x128x1024, .f32⟩
  | 35 => ⟨S8x128x1024, .bf16⟩
  | 36 => ⟨S8x8x16x64, .f32⟩
  | 37 => ⟨S8x8x64x16, .f32⟩
  | 38 => ⟨S8x8x64x1x16, .f32⟩
  | 39 => ⟨S8x1x8x1, .f32⟩
  | 40 => ⟨S1x8x1x8x1, .f32⟩
  | 41 => ⟨S8x8x64x8x16, .f32⟩
  | 42 => ⟨S8x8x64x8x16, .f32⟩
  | 43 => ⟨S8x8x64x8x16, .f32⟩
  | 44 => ⟨S8x512x128, .f32⟩
  | 45 => ⟨S8x8x16x64, .f32⟩
  | 46 => ⟨S8x8x64x16, .f32⟩
  | 47 => ⟨S8x8x64x1x16, .f32⟩
  | 48 => ⟨S8x1x8x1, .f32⟩
  | 49 => ⟨S1x8x1x8x1, .f32⟩
  | 50 => ⟨S8x8x64x8x16, .f32⟩
  | 51 => ⟨S8x8x64x8x16, .f32⟩
  | 52 => ⟨S8x8x64x8x16, .f32⟩
  | 53 => ⟨S8x512x128, .f32⟩
  | 54 => ⟨S8x512x128, .f32⟩
  | 55 => ⟨S8x1024x128, .f32⟩
  | 56 => ⟨S8x1024x128, .bf16⟩
  | 57 => ⟨S8x512, .f32⟩
  | 58 => ⟨S8x512, .f32⟩
  | 59 => ⟨S8x512, .f32⟩
  | 60 => ⟨S8x512, .f32⟩
  | 61 => ⟨S8x512, .f32⟩
  | 62 => ⟨S8x512, .f32⟩
  | 63 => ⟨S8x512, .f32⟩
  | 64 => ⟨S8x512, .f32⟩
  | 65 => ⟨S8x512, .f32⟩
  | 66 => ⟨S8x512, .f32⟩
  | 67 => ⟨S8x512, .f32⟩
  | 68 => ⟨S8x512, .f32⟩
  | 69 => ⟨S8x512, .f32⟩
  | 70 => ⟨S8x512, .f32⟩
  | 71 => ⟨S8x512, .f32⟩
  | 72 => ⟨S8x512, .f32⟩
  | 73 => ⟨S8x512, .f32⟩
  | 74 => ⟨S8x512, .f32⟩
  | 75 => ⟨S8x512, .f32⟩
  | 76 => ⟨S8x512, .f32⟩
  | 77 => ⟨S8x512, .f32⟩
  | 78 => ⟨S8x512, .f32⟩
  | 79 => ⟨S8x512, .f32⟩
  | 80 => ⟨S8x512, .f32⟩
  | 81 => ⟨S8x512, .f32⟩
  | 82 => ⟨S8x512, .f32⟩
  | 83 => ⟨S8x512, .f32⟩
  | 84 => ⟨S8x512, .f32⟩
  | 85 => ⟨S8x512, .f32⟩
  | 86 => ⟨S8x512, .f32⟩
  | 87 => ⟨S8x512, .f32⟩
  | 88 => ⟨S8x512, .f32⟩
  | 89 => ⟨S8x512, .f32⟩
  | 90 => ⟨S8x512, .f32⟩
  | 91 => ⟨S8x512, .f32⟩
  | 92 => ⟨S8x512, .f32⟩
  | 93 => ⟨S8x512, .f32⟩
  | 94 => ⟨S8x512, .f32⟩
  | 95 => ⟨S8x512, .f32⟩
  | 96 => ⟨S8x512, .f32⟩
  | 97 => ⟨S8x512, .f32⟩
  | 98 => ⟨S8x512, .f32⟩
  | 99 => ⟨S8x512, .f32⟩
  | 100 => ⟨S8x512, .f32⟩
  | 101 => ⟨S8x1x512, .f32⟩
  | 102 => ⟨S8x1x512, .f32⟩
  | 103 => ⟨S8x1x512, .f32⟩
  | 104 => ⟨S8x1x512, .f32⟩
  | 105 => ⟨S8x1x512, .f32⟩
  | 106 => ⟨S8x1x512, .f32⟩
  | 107 => ⟨S8x1x512, .f32⟩
  | 108 => ⟨S8x1x512, .f32⟩
  | 109 => ⟨S8x8x512, .f32⟩
  | 110 => ⟨S8x1x512, .f32⟩
  | 111 => ⟨S8x1x512, .f32⟩
  | 112 => ⟨S8x1x512, .f32⟩
  | 113 => ⟨S8x1x512, .f32⟩
  | 114 => ⟨S8x1x512, .f32⟩
  | 115 => ⟨S8x1x512, .f32⟩
  | 116 => ⟨S8x1x512, .f32⟩
  | 117 => ⟨S8x1x512, .f32⟩
  | 118 => ⟨S8x8x512, .f32⟩
  | 119 => ⟨S1x1024, .f32⟩
  | 120 => ⟨S2048x1024, .f32⟩
  | 121 => ⟨S8x128x1024, .f32⟩
  | 122 => ⟨S8x1024x128, .f32⟩
  | 123 => ⟨S8x8x512, .f32⟩
  | 124 => ⟨S1x1024, .f32⟩
  | 125 => ⟨S8x8, .i32⟩
  | 126 => ⟨S8x8, .i32⟩
  | 127 => ⟨S_, .i32⟩
  | _ => ⟨S2048x1024, .f32⟩

abbrev hbmTy0_1 (i : Nat) : BufTy := match i % 128 with
  | 0 => ⟨S8x8, .i32⟩
  | 1 => ⟨S8x8, .i32⟩
  | 2 => ⟨S8x8, .i1⟩
  | 3 => ⟨S8x8, .f32⟩
  | 4 => ⟨S8x512x128, .f32⟩
  | 5 => ⟨S8x8x64x8x16, .f32⟩
  | 6 => ⟨S8x1x8x1, .f32⟩
  | 7 => ⟨S1x8x1x8x1, .f32⟩
  | 8 => ⟨S8x8x64x8x16, .f32⟩
  | 9 => ⟨S8x8x64x8x16, .f32⟩
  | 10 => ⟨S_, .f32⟩
  | 11 => ⟨S8x8x64x16, .f32⟩
  | 12 => ⟨S8x8x16x64, .f32⟩
  | 13 => ⟨S64x16x64, .f32⟩
  | 14 => ⟨S8x512x128, .f32⟩
  | 15 => ⟨S8x8x64x8x16, .f32⟩
  | 16 => ⟨S8x1x8x1, .f32⟩
  | 17 => ⟨S1x8x1x8x1, .f32⟩
  | 18 => ⟨S8x8x64x8x16, .f32⟩
  | 19 => ⟨S8x8x64x8x16, .f32⟩
  | 20 => ⟨S_, .f32⟩
  | 21 => ⟨S8x8x64x16, .f32⟩
  | 22 => ⟨S8x8x16x64, .f32⟩
  | 23 => ⟨S64x16x64, .f32⟩
  | 24 => ⟨S64x16x64, .f32⟩
  | 25 => ⟨S1024, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S1x128x1024, .bf16⟩
  | .local _ .vmem, ⟨3, _⟩ => ⟨S1x128x1024, .bf16⟩
  | .local _ .vmem, ⟨4, _⟩ => ⟨S1x1024x128, .bf16⟩
  | .local _ .vmem, ⟨5, _⟩ => ⟨S1x1024x128, .bf16⟩
  | .local _ .vmem, ⟨6, _⟩ => ⟨S1x8x512, .f32⟩
  | .local _ .vmem, ⟨7, _⟩ => ⟨S1x8x512, .f32⟩
  | .local _ .vmem, ⟨8, _⟩ => ⟨S1x8x512, .f32⟩
  | .local _ .vmem, ⟨9, _⟩ => ⟨S1x8x512, .f32⟩
  | .local _ .vmem, ⟨10, _⟩ => ⟨S1x128, .f32⟩
  | .local _ .vmem, ⟨11, _⟩ => ⟨S1x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S1x128x1024, .f32⟩
  | .local _ .vmem, ⟨17, _⟩ => ⟨S1x128x1024, .f32⟩
  | .local _ .vmem, ⟨18, _⟩ => ⟨S1x1024x128, .f32⟩
  | .local _ .vmem, ⟨19, _⟩ => ⟨S1x1024x128, .f32⟩
  | .local _ .vmem, ⟨20, _⟩ => ⟨S1x8x512, .f32⟩
  | .local _ .vmem, ⟨21, _⟩ => ⟨S1x8x512, .f32⟩
  | .local _ .vmem, ⟨22, _⟩ => ⟨S1x128, .f32⟩
  | .local _ .vmem, ⟨23, _⟩ => ⟨S1x128, .f32⟩
  | .local _ .vmem, ⟨24, _⟩ => ⟨S2048x512, .f32⟩
  | .local _ .vmem, ⟨25, _⟩ => ⟨S2048x512, .f32⟩
  | .local _ .vmem, ⟨26, _⟩ => ⟨S2048x512, .f32⟩
  | .local _ .vmem, ⟨27, _⟩ => ⟨S2048x512, .f32⟩
  | .local _ .vmem, ⟨28, _⟩ => ⟨S2048x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110_0 : Ref sig .tc := ⟨.hbm, 120, rfl⟩
abbrev main_v110_1 : Ref sig .tc := ⟨.hbm, 121, rfl⟩
abbrev main_v110_2 : Ref sig .tc := ⟨.hbm, 122, rfl⟩
abbrev main_v110_3 : Ref sig .tc := ⟨.hbm, 123, rfl⟩
abbrev main_v110_4 : Ref sig .tc := ⟨.hbm, 124, rfl⟩
abbrev main_v111 : Ref sig .tc := ⟨.hbm, 125, rfl⟩
abbrev main_v112 : Ref sig .tc := ⟨.hbm, 126, rfl⟩
abbrev main_c_0 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_cst : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_cst_1 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg18 : BitVec 32 := Scf.iv c0_i32 c1_i32 k0_t1
  let c256_i32_66 : BitVec 32 := 256#32
  let v139 : BitVec 32 := Scalar.muli arg18 c256_i32_66
  v139
def k0_off1 (k0_t1 : Fin k0_t1_loop.trips) : Fin 2 → Nat :=
  let c0_i32 : BitVec 32 := 0#32
  let c1_i32 : BitVec 32 := 1#32
  let arg18 : BitVec 32 := Scf.iv c0_i32 c1_i32 k0_t1
  let c256_i32_66 : BitVec 32 := 256#32
  let v139 : BitVec 32 := Scalar.muli arg18 c256_i32_66
  let v140 : BitVec 32 := v139
  let v141 : Index := Scalar.indexCast v140
  let c0_67 : Index := 0#32
  ![v141.toNat, 0]
def k0_off2 (k0_t1 : Fin k0_t1_loop.trips) : Fin 2 → Nat :=
  let c0_i32 : BitVec 32 := 0#32
  let c1_i32 : BitVec 32 := 1#32
  let arg18 : BitVec 32 := Scf.iv c0_i32 c1_i32 k0_t1
  let c256_i32_66 : BitVec 32 := 256#32
  let v139 : BitVec 32 := Scalar.muli arg18 c256_i32_66
  let v140 : BitVec 32 := v139
  let v148 : Index := Scalar.indexCast v140
  let c0_72 : Index := 0#32
  ![v148.toNat, 0]
@[reducible] def k0_t2_loop : Scf.Loop 32 :=
  let c0_i32_13 : BitVec 32 := 0#32
  let c256_i32 : BitVec 32 := 256#32
  let v43 : BitVec 32 := Scalar.addi c0_i32_13 c256_i32
  let c1_i32_14 : BitVec 32 := 1#32
  ⟨c0_i32_13, v43, c1_i32_14⟩
def k0_mult2 (k0_t2 : Fin k0_t2_loop.trips) : BitVec 32 :=
  let c0_i32_13 : BitVec 32 := 0#32
  let c1_i32_14 : BitVec 32 := 1#32
  let arg18 : BitVec 32 := Scf.iv c0_i32_13 c1_i32_14 k0_t2
  let c8_i32_66 : BitVec 32 := 8#32
  let v139 : BitVec 32 := Scalar.muli arg18 c8_i32_66
  v139
def k0_off3 (k0_t2 : Fin k0_t2_loop.trips) : Fin 2 → Nat :=
  let c0_i32_13 : BitVec 32 := 0#32
  let c1_i32_14 : BitVec 32 := 1#32
  let arg18 : BitVec 32 := Scf.iv c0_i32_13 c1_i32_14 k0_t2
  let c8_i32_66 : BitVec 32 := 8#32
  let v139 : BitVec 32 := Scalar.muli arg18 c8_i32_66
  let v140 : BitVec 32 := v139
  let v141 : Index := Scalar.indexCast v140
  let c0_67 : Index := 0#32
  ![v141.toNat, 0]
@[reducible] def k0_t3_loop : Scf.Loop 32 :=
  let c0_i32_18 : BitVec 32 := 0#32
  let c8_i32_19 : BitVec 32 := 8#32
  let v47 : BitVec 32 := Scalar.addi c0_i32_18 c8_i32_19
  let c1_i32_20 : BitVec 32 := 1#32
  ⟨c0_i32_18, v47, c1_i32_20⟩
def k0_mult3 (k0_t3 : Fin k0_t3_loop.trips) : BitVec 32 :=
  let c0_i32_18 : BitVec 32 := 0#32
  let c1_i32_20 : BitVec 32 := 1#32
  let arg18 : BitVec 32 := Scf.iv c0_i32_18 c1_i32_20 k0_t3
  let c256_i32_66 : BitVec 32 := 256#32
  let v139 : BitVec 32 := Scalar.muli arg18 c256_i32_66
  v139
def k0_off4 (k0_t3 : Fin k0_t3_loop.trips) : Fin 2 → Nat :=
  let c0_i32_18 : BitVec 32 := 0#32
  let c1_i32_20 : BitVec 32 := 1#32
  let arg18 : BitVec 32 := Scf.iv c0_i32_18 c1_i32_20 k0_t3
  let c256_i32_66 : BitVec 32 := 256#32
  let v139 : BitVec 32 := Scalar.muli arg18 c256_i32_66
  let v140 : BitVec 32 := v139
  let v141 : Index := Scalar.indexCast v140
  let c0_67 : Index := 0#32
  ![v141.toNat, 0]
def k0_off5 (k0_t3 : Fin k0_t3_loop.trips) : Fin 2 → Nat :=
  let c0_i32_18 : BitVec 32 := 0#32
  let c1_i32_20 : BitVec 32 := 1#32
  let arg18 : BitVec 32 := Scf.iv c0_i32_18 c1_i32_20 k0_t3
  let c256_i32_66 : BitVec 32 := 256#32
  let v139 : BitVec 32 := Scalar.muli arg18 c256_i32_66
  let v140 : BitVec 32 := v139
  let v145 : Index := Scalar.indexCast v140
  let c0_69 : Index := 0#32
  ![v145.toNat, 0]
@[reducible] def k0_t4_loop : Scf.Loop 32 :=
  let c0_i32_45 : BitVec 32 := 0#32
  let c256_i32_46 : BitVec 32 := 256#32
  let v119 : BitVec 32 := Scalar.addi c0_i32_45 c256_i32_46
  let c1_i32_47 : BitVec 32 := 1#32
  ⟨c0_i32_45, v119, c1_i32_47⟩
def k0_mult4 (k0_t4 : Fin k0_t4_loop.trips) : BitVec 32 :=
  let c255_i32 : BitVec 32 := 255#32
  let c0_i32_45 : BitVec 32 := 0#32
  let c1_i32_47 : BitVec 32 := 1#32
  let arg18 : BitVec 32 := Scf.iv c0_i32_45 c1_i32_47 k0_t4
  let v139 : BitVec 32 := Scalar.subi c255_i32 arg18
  let c8_i32_66 : BitVec 32 := 8#32
  let v140 : BitVec 32 := Scalar.muli v139 c8_i32_66
  v140
def k0_off6 (k0_t4 : Fin k0_t4_loop.trips) : Fin 2 → Nat :=
  let c255_i32 : BitVec 32 := 255#32
  let c0_i32_45 : BitVec 32 := 0#32
  let c1_i32_47 : BitVec 32 := 1#32
  let arg18 : BitVec 32 := Scf.iv c0_i32_45 c1_i32_47 k0_t4
  let v139 : BitVec 32 := Scalar.subi c255_i32 arg18
  let c8_i32_66 : BitVec 32 := 8#32
  let v140 : BitVec 32 := Scalar.muli v139 c8_i32_66
  let v141 : BitVec 32 := v140
  let v142 : Index := Scalar.indexCast v141
  let c0_67 : Index := 0#32
  ![v142.toNat, 0]
def k0_mult5 (k0_t4 : Fin k0_t4_loop.trips) : BitVec 32 :=
  let c255_i32 : BitVec 32 := 255#32
  let c0_i32_45 : BitVec 32 := 0#32
  let c1_i32_47 : BitVec 32 := 1#32
  let arg18 : BitVec 32 := Scf.iv c0_i32_45 c1_i32_47 k0_t4
  let v139 : BitVec 32 := Scalar.subi c255_i32 arg18
  let c8_i32_66 : BitVec 32 := 8#32
  let v140 : BitVec 32 := Scalar.muli v139 c8_i32_66
  let v141 : BitVec 32 := v140
  let c8_i32_77 : BitVec 32 := 8#32
  let v196 : BitVec 32 := Scalar.subi v141 c8_i32_77
  let c0_i32_78 : BitVec 32 := 0#32
  let v197 : BitVec 32 := Scalar.maxsi v196 c0_i32_78
  v197
def k0_off7 (k0_t4 : Fin k0_t4_loop.trips) : Fin 2 → Nat :=
  let c255_i32 : BitVec 32 := 255#32
  let c0_i32_45 : BitVec 32 := 0#32
  let c1_i32_47 : BitVec 32 := 1#32
  let arg18 : BitVec 32 := Scf.iv c0_i32_45 c1_i32_47 k0_t4
  let v139 : BitVec 32 := Scalar.subi c255_i32 arg18
  let c8_i32_66 : BitVec 32 := 8#32
  let v140 : BitVec 32 := Scalar.muli v139 c8_i32_66
  let v141 : BitVec 32 := v140
  let c8_i32_77 : BitVec 32 := 8#32
  let v196 : BitVec 32 := Scalar.subi v141 c8_i32_77
  let c0_i32_78 : BitVec 32 := 0#32
  let v197 : BitVec 32 := Scalar.maxsi v196 c0_i32_78
  let v198 : BitVec 32 := v197
  let v206 : Index := Scalar.indexCast v198
  let c0_85 : Index := 0#32
  ![v206.toNat, 0]
@[reducible] def k0_t5_loop : Scf.Loop 32 :=
  let c0_i32_56 : BitVec 32 := 0#32
  let c8_i32_57 : BitVec 32 := 8#32
  let v131 : BitVec 32 := Scalar.addi c0_i32_56 c8_i32_57
  let c1_i32_58 : BitVec 32 := 1#32
  ⟨c0_i32_56, v131, c1_i32_58⟩
def k0_mult6 (k0_t5 : Fin k0_t5_loop.trips) : BitVec 32 :=
  let c0_i32_56 : BitVec 32 := 0#32
  let c1_i32_58 : BitVec 32 := 1#32
  let arg18 : BitVec 32 := Scf.iv c0_i32_56 c1_i32_58 k0_t5
  let c256_i32_66 : BitVec 32 := 256#32
  let v139 : BitVec 32 := Scalar.muli arg18 c256_i32_66
  v139
def k0_off8 (k0_t5 : Fin k0_t5_loop.trips) : Fin 2 → Nat :=
  let c0_i32_56 : BitVec 32 := 0#32
  let c1_i32_58 : BitVec 32 := 1#32
  let arg18 : BitVec 32 := Scf.iv c0_i32_56 c1_i32_58 k0_t5
  let c256_i32_66 : BitVec 32 := 256#32
  let v139 : BitVec 32 := Scalar.muli arg18 c256_i32_66
  let v140 : BitVec 32 := v139
  let v141 : Index := Scalar.indexCast v140
  let c0_67 : Index := 0#32
  ![v141.toNat, 0]
def k0_off9 (k0_t5 : Fin k0_t5_loop.trips) : Fin 2 → Nat :=
  let c0_i32_56 : BitVec 32 := 0#32
  let c1_i32_58 : BitVec 32 := 1#32
  let arg18 : BitVec 32 := Scf.iv c0_i32_56 c1_i32_58 k0_t5
  let c256_i32_66 : BitVec 32 := 256#32
  let v139 : BitVec 32 := Scalar.muli arg18 c256_i32_66
  let v140 : BitVec 32 := v139
  let v145 : Index := Scalar.indexCast v140
  let c0_69 : Index := 0#32
  ![v145.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Kernel2Ideal.lean ====
variable {F : FTy → Type} [FloatOps F] [Named F]
def κ : String → Option EReal := fun
  | "gelu_3a" => some ((26829 / 200000 : ℝ) : EReal)
  | "gelu_a" => some ((8943 / 200000 : ℝ) : EReal)
  | _ => none
-- ==== Reference2Ideal.lean ====
abbrev S2048x1024 : Shape := ⟨2, ![2048, 1024]⟩
abbrev S64x64 : Shape := ⟨2, ![64, 64]⟩
abbrev S64x1024 : Shape := ⟨2, ![64, 1024]⟩
abbrev S64x16x64 : Shape := ⟨3, ![64, 16, 64]⟩
abbrev S1024 : Shape := ⟨1, ![1024]⟩
abbrev S2048x64x16 : Shape := ⟨3, ![2048, 64, 16]⟩
abbrev S64x64x16 : Shape := ⟨3, ![64, 64, 16]⟩
abbrev S64x2048x64 : Shape := ⟨3, ![64, 2048, 64]⟩
abbrev S2048x64x64 : Shape := ⟨3, ![2048, 64, 64]⟩
abbrev S_ : Shape := ⟨0, ![]⟩
abbrev S1x64x64 : Shape := ⟨3, ![1, 64, 64]⟩
abbrev S64x2048x16 : Shape := ⟨3, ![64, 2048, 16]⟩
abbrev S64x16 : Shape := ⟨2, ![64, 16]⟩
abbrev S1x64x16 : Shape := ⟨3, ![1, 64, 16]⟩

abbrev nBuf : Space → Nat
  | .hbm => 134
  | .vmem => 0
  | .smem => 0
  | _ => 0

abbrev hbmTy0_0 (i : Nat) : BufTy := match i % 128 with
  | 0 => ⟨S2048x1024, .f32⟩
  | 1 => ⟨S64x64, .f32⟩
  | 2 => ⟨S64x64, .f32⟩
  | 3 => ⟨S64x1024, .f32⟩
  | 4 => ⟨S64x1024, .f32⟩
  | 5 => ⟨S64x16x64, .f32⟩
  | 6 => ⟨S64x16x64, .f32⟩
  | 7 => ⟨S1024, .f32⟩
  | 8 => ⟨S2048x1024, .f32⟩
  | 9 => ⟨S2048x64x16, .f32⟩
  | 10 => ⟨S64x64x16, .f32⟩
  | 11 => ⟨S64x2048x64, .f32⟩
  | 12 => ⟨S2048x64x64, .f32⟩
  | 13 => ⟨S64x64x16, .f32⟩
  | 14 => ⟨S64x2048x64, .f32⟩
  | 15 => ⟨S2048x64x64, .f32⟩
  | 16 => ⟨S_, .f32⟩
  | 17 => ⟨S64x64, .f32⟩
  | 18 => ⟨S_, .f32⟩
  | 19 => ⟨S2048x64x64, .f32⟩
  | 20 => ⟨S_, .f32⟩
  | 21 => ⟨S2048x64x64, .f32⟩
  | 22 => ⟨S_, .i32⟩
  | 23 => ⟨S2048x64x64, .f32⟩
  | 24 => ⟨S2048x64x64, .f32⟩
  | 25 => ⟨S64x64, .f32⟩
  | 26 => ⟨S64x64, .f32⟩
  | 27 => ⟨S_, .i32⟩
  | 28 => ⟨S64x64, .f32⟩
  | 29 => ⟨S64x64, .f32⟩
  | 30 => ⟨S2048x64x64, .f32⟩
  | 31 => ⟨S2048x64x64, .f32⟩
  | 32 => ⟨S_, .i32⟩
  | 33 => ⟨S_, .i1⟩
  | 34 => ⟨S_, .i32⟩
  | 35 => ⟨S_, .i32⟩
  | 36 => ⟨S1x64x64, .f32⟩
  | 37 => ⟨S64x64, .f32⟩
  | 38 => ⟨S_, .i32⟩
  | 39 => ⟨S_, .i32⟩
  | 40 => ⟨S1x64x64, .f32⟩
  | 41 => ⟨S64x64, .f32⟩
  | 42 => ⟨S64x64, .f32⟩
  | 43 => ⟨S64x64, .f32⟩
  | 44 => ⟨S64x64, .f32⟩
  | 45 => ⟨S64x64, .f32⟩
  | 46 => ⟨S64x64, .f32⟩
  | 47 => ⟨S64x64, .f32⟩
  | 48 => ⟨S64x64, .f32⟩
  | 49 => ⟨S64x64, .f32⟩
  | 50 => ⟨S1x64x64, .f32⟩
  | 51 => ⟨S_, .i32⟩
  | 52 => ⟨S_, .i32⟩
  | 53 => ⟨S2048x64x64, .f32⟩
  | 54 => ⟨S1x64x64, .f32⟩
  | 55 => ⟨S_, .i32⟩
  | 56 => ⟨S_, .i32⟩
  | 57 => ⟨S2048x64x64, .f32⟩
  | 58 => ⟨S_, .i32⟩
  | 59 => ⟨S_, .i32⟩
  | 60 => ⟨S64x2048x16, .f32⟩
  | 61 => ⟨S2048x64x16, .f32⟩
  | 62 => ⟨S64x2048x16, .f32⟩
  | 63 => ⟨S2048x64x16, .f32⟩
  | 64 => ⟨S2048x64x16, .f32⟩
  | 65 => ⟨S64x16, .f32⟩
  | 66 => ⟨S1x64x16, .f32⟩
  | 67 => ⟨S2048x64x16, .f32⟩
  | 68 => ⟨S2048x64x16, .f32⟩
  | 69 => ⟨S2048x64x16, .f32⟩
  | 70 => ⟨S2048x1024, .f32⟩
  | 71 => ⟨S_, .f32⟩
  | 72 => ⟨S2048x1024, .f32⟩
  | 73 => ⟨S2048x1024, .f32⟩
  | 74 => ⟨S2048x1024, .f32⟩
  | 75 => ⟨S2048x1024, .f32⟩
  | 76 => ⟨S_, .f32⟩
  | 77 => ⟨S2048x1024, .f32⟩
  | 78 => ⟨S2048x1024, .f32⟩
  | 79 => ⟨S_, .f32⟩
  | 80 => ⟨S2048x1024, .f32⟩
  | 81 => ⟨S2048x1024, .f32⟩
  | 82 => ⟨S2048x1024, .f32⟩
  | 83 => ⟨S_, .f32⟩
  | 84 => ⟨S2048x1024, .f32⟩
  | 85 => ⟨S2048x1024, .f32⟩
  | 86 => ⟨S2048x1024, .f32⟩
  | 87 => ⟨S_, .f32⟩
  | 88 => ⟨S2048x1024, .f32⟩
  | 89 => ⟨S2048x1024, .f32⟩
  | 90 => ⟨S_, .f32⟩
  | 91 => ⟨S2048x1024, .f32⟩
  | 92 => ⟨S2048x1024, .f32⟩
  | 93 => ⟨S2048x1024, .f32⟩
  | 94 => ⟨S_, .f32⟩
  | 95 => ⟨S2048x1024, .f32⟩
  | 96 => ⟨S2048x1024, .f32⟩
  | 97 => ⟨S2048x1024, .f32⟩
  | 98 => ⟨S2048x1024, .f32⟩
  | 99 => ⟨S2048x1024, .f32⟩
  | 100 => ⟨S2048x1024, .f32⟩
  | 101 => ⟨S_, .f32⟩
  | 102 => ⟨S2048x1024, .f32⟩
  | 103 => ⟨S2048x1024, .f32⟩
  | 104 => ⟨S_, .f32⟩
  | 105 => ⟨S2048x1024, .f32⟩
  | 106 => ⟨S2048x1024, .f32⟩
  | 107 => ⟨S_, .f32⟩
  | 108 => ⟨S2048x1024, .f32⟩
  | 109 => ⟨S2048x1024, .f32⟩
  | 110 => ⟨S2048x1024, .f32⟩
  | 111 => ⟨S2048x1024, .f32⟩
  | 112 => ⟨S2048x1024, .f32⟩
  | 113 => ⟨S2048x1024, .f32⟩
  | 114 => ⟨S2048x1024, .f32⟩
  | 115 => ⟨S2048x1024, .f32⟩
  | 116 => ⟨S2048x1024, .f32⟩
  | 117 => ⟨S_, .f32⟩
  | 118 => ⟨S2048x1024, .f32⟩
  | 119 => ⟨S2048x1024, .f32⟩
  | 120 => ⟨S2048x1024, .f32⟩
  | 121 => ⟨S2048x64x16, .f32⟩
  | 122 => ⟨S2048x64x16, .f32⟩
  | 123 => ⟨S_, .f32⟩
  | 124 => ⟨S64x16, .f32⟩
  | 125 => ⟨S1x64x16, .f32⟩
  | 126 => ⟨S_, .f32⟩
  | 127 => ⟨S64x16, .f32⟩
  | _ => ⟨S2048x1024, .f32⟩

abbrev hbmTy0_1 (i : Nat) : BufTy := match i % 128 with
  | 0 => ⟨S1024, .f32⟩
  | 1 => ⟨S2048x64x16, .f32⟩
  | 2 => ⟨S64x2048x16, .f32⟩
  | 3 => ⟨S64x16x64, .f32⟩
  | 4 => ⟨S64x2048x16, .f32⟩
  | 5 => ⟨S64x16x64, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_c : Ref sig .tc := ⟨.hbm, 22, rfl⟩
abbrev main_v10_0 : Ref sig .tc := ⟨.hbm, 23, rfl⟩
abbrev main_v10_1 : Ref sig .tc := ⟨.hbm, 24, rfl⟩
abbrev main_v10_2 : Ref sig .tc := ⟨.hbm, 25, rfl⟩
abbrev main_v10_3 : Ref sig .tc := ⟨.hbm, 26, rfl⟩
abbrev main_v10_4 : Ref sig .tc := ⟨.hbm, 27, rfl⟩
abbrev main_v10_5 : Ref sig .tc := ⟨.hbm, 28, rfl⟩
abbrev main_v10_6 : Ref sig .tc := ⟨.hbm, 29, rfl⟩
abbrev main_v10_7 : Ref sig .tc := ⟨.hbm, 30, rfl⟩
abbrev main_v10_8 : Ref sig .tc := ⟨.hbm, 31, rfl⟩
abbrev main_while0c_c_23 : Ref sig .tc := ⟨.hbm, 32, rfl⟩
abbrev main_while0c_v72 : Ref sig .tc := ⟨.hbm, 33, rfl⟩
abbrev main_while0b_call0_c : Ref sig .tc := ⟨.hbm, 34, rfl⟩
abbrev main_while0b_call0_c_0 : Ref sig .tc := ⟨.hbm, 35, rfl⟩
abbrev main_while0b_call0_v0 : Ref sig .tc := ⟨.hbm, 36, rfl⟩
abbrev main_while0b_v72 : Ref sig .tc := ⟨.hbm, 37, rfl⟩
abbrev main_while0b_call1_c : Ref sig .tc := ⟨.hbm, 38, rfl⟩
abbrev main_while0b_call1_c_0 : Ref sig .tc := ⟨.hbm, 39, rfl⟩
abbrev main_while0b_call1_v0 : Ref sig .tc := ⟨.hbm, 40, rfl⟩
abbrev main_while0b_v73 : Ref sig .tc := ⟨.hbm, 41, rfl⟩
abbrev main_while0b_v74 : Ref sig .tc := ⟨.hbm, 42, rfl⟩
abbrev main_while0b_v75 : Ref sig .tc := ⟨.hbm, 43, rfl⟩
abbrev main_while0b_v76 : Ref sig .tc := ⟨.hbm, 44, rfl⟩
abbrev main_while0b_v77 : Ref sig .tc := ⟨.hbm, 45, rfl⟩
abbrev main_while0b_v78 : Ref sig .tc := ⟨.hbm, 46, rfl⟩
abbrev main_while0b_v79 : Ref sig .tc := ⟨.hbm, 47, rfl⟩
abbrev main_while0b_v80 : Ref sig .tc := ⟨.hbm, 48, rfl⟩
abbrev main_while0b_v81 : Ref sig .tc := ⟨.hbm, 49, rfl⟩
abbrev main_while0b_call2_v0 : Ref sig .tc := ⟨.hbm, 50, rfl⟩
abbrev main_while0b_call2_c : Ref sig .tc := ⟨.hbm, 51, rfl⟩
abbrev main_while0b_call2_c_0 : Ref sig .tc := ⟨.hbm, 52, rfl⟩
abbrev main_while0b_v82 : Ref sig .tc := ⟨.hbm, 53, rfl⟩
abbrev main_while0b_call3_v0 : Ref sig .tc := ⟨.hbm, 54, rfl⟩
abbrev main_while0b_call3_c : Ref sig .tc := ⟨.hbm, 55, rfl⟩
abbrev main_while0b_call3_c_0 : Ref sig .tc := ⟨.hbm, 56, rfl⟩
abbrev main_while0b_v83 : Ref sig .tc := ⟨.hbm, 57, rfl⟩
abbrev main_while0b_c_23 : Ref sig .tc := ⟨.hbm, 58, rfl⟩
abbrev main_while0b_v84 : Ref sig .tc := ⟨.hbm, 59, rfl⟩
abbrev main_v11 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_cst_2 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_cst_3 : Ref sig .tc := ⟨.hbm, 76, rfl⟩
abbrev main_v26 : Ref sig .tc := ⟨.hbm, 77, rfl⟩
abbrev main_v27 : Ref sig .tc := ⟨.hbm, 78, rfl⟩
abbrev main_cst_4 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_cst_5 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_cst_6 : Ref sig .tc := ⟨.hbm, 87, rfl⟩
abbrev main_v34 : Ref sig .tc := ⟨.hbm, 88, rfl⟩
abbrev main_v35 : Ref sig .tc := ⟨.hbm, 89, rfl⟩
abbrev main_cst_7 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_cst_8 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_cst_9 : Ref sig .tc := ⟨.hbm, 101, rfl⟩
abbrev main_v45 : Ref sig .tc := ⟨.hbm, 102, rfl⟩
abbrev main_v46 : Ref sig .tc := ⟨.hbm, 103, rfl⟩
abbrev main_cst_10 : Ref sig .tc := ⟨.hbm, 104, rfl⟩
abbrev main_v47 : Ref sig .tc := ⟨.hbm, 105, rfl⟩
abbrev main_v48 : Ref sig .tc := ⟨.hbm, 106, rfl⟩
abbrev main_cst_11 : Ref sig .tc := ⟨.hbm, 107, rfl⟩
abbrev main_v49 : Ref sig .tc := ⟨.hbm, 108, rfl⟩
abbrev main_v50 : Ref sig .tc := ⟨.hbm, 109, rfl⟩
abbrev main_v51 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_cst_12 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_cst_13 : Ref sig .tc := ⟨.hbm, 123, rfl⟩
abbrev main_v63 : Ref sig .tc := ⟨.hbm, 124, rfl⟩
abbrev main_v64 : Ref sig .tc := ⟨.hbm, 125, rfl⟩
abbrev main_cst_14 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩

abbrev nD : Nat := 1
abbrev τ : Topo := Topo.v7x

variable {F : FTy → Type} [FloatOps F]

abbrev main_while0_count : Scf.Loop 32 := ⟨0#32, 2048#32, 1#32⟩
-- ==== Kernel3.lean ====
abbrev S2048x1024 : Shape := ⟨2, ![2048, 1024]⟩
abbrev S1024 : Shape := ⟨1, ![1024]⟩
abbrev S1024x4112 : Shape := ⟨2, ![1024, 4112]⟩
abbrev S1024x1024 : Shape := ⟨2, ![1024, 1024]⟩
abbrev S2048x4224 : Shape := ⟨2, ![2048, 4224]⟩
abbrev S4x2304x1024 : Shape := ⟨3, ![4, 2304, 1024]⟩
abbrev S_ : Shape := ⟨0, ![]⟩
abbrev S1024x4224 : Shape := ⟨2, ![1024, 4224]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024x384 : Shape := ⟨2, ![1024, 384]⟩
abbrev S2048x384 : Shape := ⟨2, ![2048, 384]⟩
abbrev S1024x512 : Shape := ⟨2, ![1024, 512]⟩
abbrev S2048x512 : Shape := ⟨2, ![2048, 512]⟩
abbrev S512x1024 : Shape := ⟨2, ![512, 1024]⟩
abbrev S2048x256 : Shape := ⟨2, ![2048, 256]⟩
abbrev S1x256x512 : Shape := ⟨3, ![1, 256, 512]⟩
abbrev S256x512 : Shape := ⟨2, ![256, 512]⟩
abbrev S1024x1028 : Shape := ⟨2, ![1024, 1028]⟩
abbrev S1x1024x1028 : Shape := ⟨3, ![1, 1024, 1028]⟩
abbrev S4x1024x1028 : Shape := ⟨3, ![4, 1024, 1028]⟩
abbrev S512x4224 : Shape := ⟨2, ![512, 4224]⟩
abbrev S2048x4112 : Shape := ⟨2, ![2048, 4112]⟩

abbrev nBuf : Space → Nat
  | .hbm => 40
  | .vmem => 49
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4112, .f32⟩
  | .hbm, ⟨3, _⟩ => ⟨S2048x1024, .f32⟩
  | .hbm, ⟨4, _⟩ => ⟨S1024x1024, .f32⟩
  | .hbm, ⟨5, _⟩ => ⟨S2048x4224, .f32⟩
  | .hbm, ⟨6, _⟩ => ⟨S2048x1024, .f32⟩
  | .hbm, ⟨7, _⟩ => ⟨S4x2304x1024, .bf16⟩
  | .hbm, ⟨8, _⟩ => ⟨S1024x4112, .bf16⟩
  | .hbm, ⟨9, _⟩ => ⟨S1024x1024, .bf16⟩
  | .hbm, ⟨10, _⟩ => ⟨S_, .i32⟩
  | .hbm, ⟨11, _⟩ => ⟨S_, .bf16⟩
  | .hbm, ⟨12, _⟩ => ⟨S1024x4224, .bf16⟩
  | .hbm, ⟨13, _⟩ => ⟨S1x1024, .f32⟩
  | .hbm, ⟨14, _⟩ => ⟨S2048x1024, .bf16⟩
  | .hbm, ⟨15, _⟩ => ⟨S2048x4224, .f32⟩
  | .hbm, ⟨16, _⟩ => ⟨S2048x1024, .f32⟩
  | .hbm, ⟨17, _⟩ => ⟨S2048x1024, .f32⟩
  | .hbm, ⟨18, _⟩ => ⟨S4x2304x1024, .bf16⟩
  | .hbm, ⟨19, _⟩ => ⟨S2048x4224, .bf16⟩
  | .hbm, ⟨20, _⟩ => ⟨S1024x4224, .bf16⟩
  | .hbm, ⟨21, _⟩ => ⟨S1024x4112, .bf16⟩
  | .hbm, ⟨22, _⟩ => ⟨S1024x1028, .bf16⟩
  | .hbm, ⟨23, _⟩ => ⟨S1024x4112, .bf16⟩
  | .hbm, ⟨24, _⟩ => ⟨S1024x1028, .bf16⟩
  | .hbm, ⟨25, _⟩ => ⟨S1024x4112, .bf16⟩
  | .hbm, ⟨26, _⟩ => ⟨S1024x1028, .bf16⟩
  | .hbm, ⟨27, _⟩ => ⟨S1024x4112, .bf16⟩
  | .hbm, ⟨28, _⟩ => ⟨S1024x1028, .bf16⟩
  | .hbm, ⟨29, _⟩ => ⟨S1x1024x1028, .bf16⟩
  | .hbm, ⟨30, _⟩ => ⟨S1x1024x1028, .bf16⟩
  | .hbm, ⟨31, _⟩ => ⟨S1x1024x1028, .bf16⟩
  | .hbm, ⟨32, _⟩ => ⟨S1x1024x1028, .bf16⟩
  | .hbm, ⟨33, _⟩ => ⟨S4x1024x1028, .bf16⟩
  | .hbm, ⟨34, _⟩ => ⟨S2048x1024, .f32⟩
  | .hbm, ⟨35, _⟩ => ⟨S1x1024, .f32⟩
  | .hbm, ⟨36, _⟩ => ⟨S2048x1024, .f32⟩
  | .hbm, ⟨37, _⟩ => ⟨S1x1024, .f32⟩
  | .hbm, ⟨38, _⟩ => ⟨S2048x4112, .f32⟩
  | .hbm, ⟨39, _⟩ => ⟨S1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | .local _ .vmem, ⟨5, _⟩ => ⟨S2048x1024, .bf16⟩
  | .local _ .vmem, ⟨6, _⟩ => ⟨S1024x384, .bf16⟩
  | .local _ .vmem, ⟨7, _⟩ => ⟨S1024x384, .bf16⟩
  | .local _ .vmem, ⟨8, _⟩ => ⟨S2048x384, .f32⟩
  | .local _ .vmem, ⟨9, _⟩ => ⟨S2048x384, .f32⟩
  | .local _ .vmem, ⟨10, _⟩ => ⟨S2048x1024, .f32⟩
  | .local _ .vmem, ⟨11, _⟩ => ⟨S1024x512, .bf16⟩
  | .local _ .vmem, ⟨12, _⟩ => ⟨S1024x512, .bf16⟩
  | .local _ .vmem, ⟨13, _⟩ => ⟨S2048x512, .f32⟩
  | .local _ .vmem, ⟨14, _⟩ => ⟨S2048x512, .f32⟩
  | .local _ .vmem, ⟨15, _⟩ => ⟨S2048x512, .f32⟩
  | .local _ .vmem, ⟨16, _⟩ => ⟨S2048x512, .f32⟩
  | .local _ .vmem, ⟨17, _⟩ => ⟨S2048x1024, .f32⟩
  | .local _ .vmem, ⟨18, _⟩ => ⟨S512x1024, .bf16⟩
  | .local _ .vmem, ⟨19, _⟩ => ⟨S512x1024, .bf16⟩
  | .local _ .vmem, ⟨20, _⟩ => ⟨S2048x512, .f32⟩
  | .local _ .vmem, ⟨21, _⟩ => ⟨S2048x512, .f32⟩
  | .local _ .vmem, ⟨22, _⟩ => ⟨S2048x256, .f32⟩
  | .local _ .vmem, ⟨23, _⟩ => ⟨S2048x256, .f32⟩
  | .local _ .vmem, ⟨24, _⟩ => ⟨S2048x512, .f32⟩
  | .local _ .vmem, ⟨25, _⟩ => ⟨S2048x512, .f32⟩
  | .local _ .vmem, ⟨26, _⟩ => ⟨S1x256x512, .bf16⟩
  | .local _ .vmem, ⟨27, _⟩ => ⟨S1x256x512, .bf16⟩
  | .local _ .vmem, ⟨28, _⟩ => ⟨S2048x1024, .bf16⟩
  | .local _ .vmem, ⟨29, _⟩ => ⟨S2048x384, .bf16⟩
  | .local _ .vmem, ⟨30, _⟩ => ⟨S2048x384, .bf16⟩
  | .local _ .vmem, ⟨31, _⟩ => ⟨S1024x384, .bf16⟩
  | .local _ .vmem, ⟨32, _⟩ => ⟨S1024x384, .bf16⟩
  | .local _ .vmem, ⟨33, _⟩ => ⟨S1024x4224, .bf16⟩
  | .local _ .vmem, ⟨34, _⟩ => ⟨S1024x4224, .bf16⟩
  | .local _ .vmem, ⟨35, _⟩ => ⟨S512x4224, .bf16⟩
  | .local _ .vmem, ⟨36, _⟩ => ⟨S512x4224, .bf16⟩
  | .local _ .vmem, ⟨37, _⟩ => ⟨S1024x512, .f32⟩
  | .local _ .vmem, ⟨38, _⟩ => ⟨S1024x512, .f32⟩
  | .local _ .vmem, ⟨39, _⟩ => ⟨S256x1024, .f32⟩
  | .local _ .vmem, ⟨40, _⟩ => ⟨S256x1024, .f32⟩
  | .local _ .vmem, ⟨41, _⟩ => ⟨S1x1024, .f32⟩
  | .local _ .vmem, ⟨42, _⟩ => ⟨S256x1024, .f32⟩
  | .local _ .vmem, ⟨43, _⟩ => ⟨S256x1024, .f32⟩
  | .local _ .vmem, ⟨44, _⟩ => ⟨S256x1024, .f32⟩
  | .local _ .vmem, ⟨45, _⟩ => ⟨S256x1024, .f32⟩
  | .local _ .vmem, ⟨46, _⟩ => ⟨S256x1024, .f32⟩
  | .local _ .vmem, ⟨47, _⟩ => ⟨S256x1024, .f32⟩
  | .local _ .vmem, ⟨48, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26_0 : Ref sig .tc := ⟨.hbm, 36, rfl⟩
abbrev main_v26_1 : Ref sig .tc := ⟨.hbm, 37, rfl⟩
abbrev main_v27 : Ref sig .tc := ⟨.hbm, 38, rfl⟩
abbrev main_v28 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg1_1 : Ref sig .tc := ⟨.vmem, 25, rfl⟩
abbrev cc4_stg2_0 : Ref sig .tc := ⟨.vmem, 26, rfl⟩
abbrev cc4_stg2_1 : Ref sig .tc := ⟨.vmem, 27, rfl⟩
abbrev cc5_stg0_0 : Ref sig .tc := ⟨.vmem, 28, rfl⟩
abbrev cc5_stg1_0 : Ref sig .tc := ⟨.vmem, 29, rfl⟩
abbrev cc5_stg1_1 : Ref sig .tc := ⟨.vmem, 30, rfl⟩
abbrev cc5_stg2_0 : Ref sig .tc := ⟨.vmem, 31, rfl⟩
abbrev cc5_stg2_1 : Ref sig .tc := ⟨.vmem, 32, rfl⟩
abbrev cc6_stg0_0 : Ref sig .tc := ⟨.vmem, 33, rfl⟩
abbrev cc6_stg0_1 : Ref sig .tc := ⟨.vmem, 34, rfl⟩
abbrev cc6_stg1_0 : Ref sig .tc := ⟨.vmem, 35, rfl⟩
abbrev cc6_stg1_1 : Ref sig .tc := ⟨.vmem, 36, rfl⟩
abbrev cc6_stg2_0 : Ref sig .tc := ⟨.vmem, 37, rfl⟩
abbrev cc6_stg2_1 : Ref sig .tc := ⟨.vmem, 38, rfl⟩
abbrev cc7_stg0_0 : Ref sig .tc := ⟨.vmem, 39, rfl⟩
abbrev cc7_stg0_1 : Ref sig .tc := ⟨.vmem, 40, rfl⟩
abbrev cc7_stg1_0 : Ref sig .tc := ⟨.vmem, 41, rfl⟩
abbrev cc7_stg2_0 : Ref sig .tc := ⟨.vmem, 42, rfl⟩
abbrev cc7_stg2_1 : Ref sig .tc := ⟨.vmem, 43, rfl⟩
abbrev cc7_stg3_0 : Ref sig .tc := ⟨.vmem, 44, rfl⟩
abbrev cc7_stg3_1 : Ref sig .tc := ⟨.vmem, 45, rfl⟩
abbrev cc7_stg4_0 : Ref sig .tc := ⟨.vmem, 46, rfl⟩
abbrev cc7_stg4_1 : Ref sig .tc := ⟨.vmem, 47, rfl⟩
abbrev cc7_stg5_0 : Ref sig .tc := ⟨.vmem, 48, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14
abbrev cc2_sem3_0 : DmaSem sig := 15
abbrev cc2_sem3_1 : DmaSem sig := 16
abbrev cc3_sem0_0 : DmaSem sig := 17
abbrev cc3_sem1_0 : DmaSem sig := 18
abbrev cc3_sem1_1 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem1_1 : DmaSem sig := 25
abbrev cc4_sem2_0 : DmaSem sig := 26
abbrev cc4_sem2_1 : DmaSem sig := 27
abbrev cc5_sem0_0 : DmaSem sig := 28
abbrev cc5_sem1_0 : DmaSem sig := 29
abbrev cc5_sem1_1 : DmaSem sig := 30
abbrev cc5_sem2_0 : DmaSem sig := 31
abbrev cc5_sem2_1 : DmaSem sig := 32
abbrev cc6_sem0_0 : DmaSem sig := 33
abbrev cc6_sem0_1 : DmaSem sig := 34
abbrev cc6_sem1_0 : DmaSem sig := 35
abbrev cc6_sem1_1 : DmaSem sig := 36
abbrev cc6_sem2_0 : DmaSem sig := 37
abbrev cc6_sem2_1 : DmaSem sig := 38
abbrev cc7_sem0_0 : DmaSem sig := 39
abbrev cc7_sem0_1 : DmaSem sig := 40
abbrev cc7_sem1_0 : DmaSem sig := 41
abbrev cc7_sem2_0 : DmaSem sig := 42
abbrev cc7_sem2_1 : DmaSem sig := 43
abbrev cc7_sem3_0 : DmaSem sig := 44
abbrev cc7_sem3_1 : DmaSem sig := 45
abbrev cc7_sem4_0 : DmaSem sig := 46
abbrev cc7_sem4_1 : DmaSem sig := 47
abbrev cc7_sem5_0 : DmaSem sig := 48

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![1, 11], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S2048x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S1024x384 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![1, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 1 → Memref sig .tc .vmem S2048x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false]

abbrev stage2_1 : Fin 2 → Memref sig .tc .vmem S1024x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S2048x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨2, ![1, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 1 → Memref sig .tc .vmem S2048x1024 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false]

abbrev stage3_1 : Fin 2 → Memref sig .tc .vmem S512x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S2048x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![4, 2], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_3 (i : grid4.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c8_i32 : BitVec 32 := 8#32
  let v27 : BitVec 32 := Scalar.addi c8_i32 v26
  let c0_i32_11 : BitVec 32 := 0#32
  ![v16.toNat, v27.toNat, arg1.toNat]

abbrev stage4_0 : Fin 2 → Memref sig .tc .vmem S2048x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S2048x512 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1x256x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![1, 11], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 1 → Memref sig .tc .vmem S2048x1024 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false]

abbrev stage5_1 : Fin 2 → Memref sig .tc .vmem S2048x384 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x384 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![2, 2], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 2 → Memref sig .tc .vmem S1024x4224 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 2 → Memref sig .tc .vmem S512x4224 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S1024x512 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev grid7 : Pipeline.Grid := ⟨1, ![8], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S256x1024 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x1024 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S256x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S256x1024 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S256x1024 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 1 → Memref sig .tc .vmem S1x1024 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]
-- ==== Reference3Ideal.lean ====
abbrev S2048x1024 : Shape := ⟨2, ![2048, 1024]⟩
abbrev S1024 : Shape := ⟨1, ![1024]⟩
abbrev S1024x4112 : Shape := ⟨2, ![1024, 4112]⟩
abbrev S1024x1024 : Shape := ⟨2, ![1024, 1024]⟩
abbrev S2048x4224 : Shape := ⟨2, ![2048, 4224]⟩
abbrev S4x2304x1024 : Shape := ⟨3, ![4, 2304, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x4112 : Shape := ⟨2, ![2048, 4112]⟩
abbrev S4112x1024 : Shape := ⟨2, ![4112, 1024]⟩
abbrev S1024x4x1028 : Shape := ⟨3, ![1024, 4, 1028]⟩
abbrev S4x1024x1028 : Shape := ⟨3, ![4, 1024, 1028]⟩
abbrev S4x256x1024 : Shape := ⟨3, ![4, 256, 1024]⟩
abbrev S4x2048x1024 : Shape := ⟨3, ![4, 2048, 1024]⟩

abbrev nBuf : Space → Nat
  | .hbm => 72
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4112, .f32⟩
  | .hbm, ⟨3, _⟩ => ⟨S2048x1024, .f32⟩
  | .hbm, ⟨4, _⟩ => ⟨S1024x1024, .f32⟩
  | .hbm, ⟨5, _⟩ => ⟨S2048x4224, .f32⟩
  | .hbm, ⟨6, _⟩ => ⟨S2048x1024, .f32⟩
  | .hbm, ⟨7, _⟩ => ⟨S4x2304x1024, .bf16⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S1x1024, .f32⟩
  | .hbm, ⟨26, _⟩ => ⟨S2048x1024, .f32⟩
  | .hbm, ⟨27, _⟩ => ⟨S2048x1024, .f32⟩
  | .hbm, ⟨28, _⟩ => ⟨S2048x4112, .f32⟩
  | .hbm, ⟨29, _⟩ => ⟨S2048x1024, .f32⟩
  | .hbm, ⟨30, _⟩ => ⟨S2048x1024, .f32⟩
  | .hbm, ⟨31, _⟩ => ⟨S2048x4112, .f32⟩
  | .hbm, ⟨32, _⟩ => ⟨S2048x1024, .f32⟩
  | .hbm, ⟨33, _⟩ => ⟨S1024x1024, .f32⟩
  | .hbm, ⟨34, _⟩ => ⟨S1024x1024, .f32⟩
  | .hbm, ⟨35, _⟩ => ⟨S2048x1024, .f32⟩
  | .hbm, ⟨36, _⟩ => ⟨S4112x1024, .f32⟩
  | .hbm, ⟨37, _⟩ => ⟨S1024x4112, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S2048x1024, .f32⟩
  | .hbm, ⟨44, _⟩ => ⟨S2048x1024, .f32⟩
  | .hbm, ⟨45, _⟩ => ⟨S_, .f32⟩
  | .hbm, ⟨46, _⟩ => ⟨S1024, .f32⟩
  | .hbm, ⟨47, _⟩ => ⟨S2048x1024, .f32⟩
  | .hbm, ⟨48, _⟩ => ⟨S_, .f32⟩
  | .hbm, ⟨49, _⟩ => ⟨S2048, .f32⟩
  | .hbm, ⟨50, _⟩ => ⟨S2048x1, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1, .f32⟩
  | .hbm, ⟨55, _⟩ => ⟨S_, .f32⟩
  | .hbm, ⟨56, _⟩ => ⟨S2048x1, .f32⟩
  | .hbm, ⟨57, _⟩ => ⟨S2048x1, .f32⟩
  | .hbm, ⟨58, _⟩ => ⟨S_, .f32⟩
  | .hbm, ⟨59, _⟩ => ⟨S2048, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S1024x4x1028, .f32⟩
  | .hbm, ⟨66, _⟩ => ⟨S4x1024x1028, .f32⟩
  | .hbm, ⟨67, _⟩ => ⟨S4x1024x1028, .bf16⟩
  | .hbm, ⟨68, _⟩ => ⟨S4x256x1024, .f32⟩
  | .hbm, ⟨69, _⟩ => ⟨S4x256x1024, .bf16⟩
  | .hbm, ⟨70, _⟩ => ⟨S4x2048x1024, .bf16⟩
  | .hbm, ⟨71, _⟩ => ⟨S4x2304x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩

abbrev nD : Nat := 1
abbrev τ : Topo := Topo.v7x

variable {F : FTy → Type} [FloatOps F]
-- ==== Kernel4.lean ====
abbrev S2048x1024 : Shape := ⟨2, ![2048, 1024]⟩
abbrev S1024 : Shape := ⟨1, ![1024]⟩
abbrev S1024x6176 : Shape := ⟨2, ![1024, 6176]⟩
abbrev S2048x2048 : Shape := ⟨2, ![2048, 2048]⟩
abbrev S2048x6272 : Shape := ⟨2, ![2048, 6272]⟩
abbrev S4x2560x1024 : Shape := ⟨3, ![4, 2560, 1024]⟩
abbrev S_ : Shape := ⟨0, ![]⟩
abbrev S1024x6272 : Shape := ⟨2, ![1024, 6272]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024x896 : Shape := ⟨2, ![1024, 896]⟩
abbrev S2048x896 : Shape := ⟨2, ![2048, 896]⟩
abbrev S1024x2048 : Shape := ⟨2, ![1024, 2048]⟩
abbrev S2048x512 : Shape := ⟨2, ![2048, 512]⟩
abbrev S1024x512 : Shape := ⟨2, ![1024, 512]⟩
abbrev S512x1024 : Shape := ⟨2, ![512, 1024]⟩
abbrev S1x512x512 : Shape := ⟨3, ![1, 512, 512]⟩
abbrev S512x512 : Shape := ⟨2, ![512, 512]⟩
abbrev S1024x1544 : Shape := ⟨2, ![1024, 1544]⟩
abbrev S1x1024x1544 : Shape := ⟨3, ![1, 1024, 1544]⟩
abbrev S4x1024x1544 : Shape := ⟨3, ![4, 1024, 1544]⟩
abbrev S512x6272 : Shape := ⟨2, ![512, 6272]⟩
abbrev S2048x6176 : Shape := ⟨2, ![2048, 6176]⟩

abbrev nBuf : Space → Nat
  | .hbm => 40
  | .vmem => 50
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x6176, .f32⟩
  | .hbm, ⟨3, _⟩ => ⟨S2048x2048, .f32⟩
  | .hbm, ⟨4, _⟩ => ⟨S2048x1024, .f32⟩
  | .hbm, ⟨5, _⟩ => ⟨S2048x6272, .f32⟩
  | .hbm, ⟨6, _⟩ => ⟨S2048x1024, .f32⟩
  | .hbm, ⟨7, _⟩ => ⟨S4x2560x1024, .bf16⟩
  | .hbm, ⟨8, _⟩ => ⟨S1024x6176, .bf16⟩
  | .hbm, ⟨9, _⟩ => ⟨S2048x1024, .bf16⟩
  | .hbm, ⟨10, _⟩ => ⟨S_, .i32⟩
  | .hbm, ⟨11, _⟩ => ⟨S_, .bf16⟩
  | .hbm, ⟨12, _⟩ => ⟨S1024x6272, .bf16⟩
  | .hbm, ⟨13, _⟩ => ⟨S1x1024, .f32⟩
  | .hbm, ⟨14, _⟩ => ⟨S2048x1024, .bf16⟩
  | .hbm, ⟨15, _⟩ => ⟨S2048x6272, .f32⟩
  | .hbm, ⟨16, _⟩ => ⟨S2048x1024, .f32⟩
  | .hbm, ⟨17, _⟩ => ⟨S2048x2048, .f32⟩
  | .hbm, ⟨18, _⟩ => ⟨S4x2560x1024, .bf16⟩
  | .hbm, ⟨19, _⟩ => ⟨S2048x6272, .bf16⟩
  | .hbm, ⟨20, _⟩ => ⟨S1024x6272, .bf16⟩
  | .hbm, ⟨21, _⟩ => ⟨S1024x6176, .bf16⟩
  | .hbm, ⟨22, _⟩ => ⟨S1024x1544, .bf16⟩
  | .hbm, ⟨23, _⟩ => ⟨S1024x6176, .bf16⟩
  | .hbm, ⟨24, _⟩ => ⟨S1024x1544, .bf16⟩
  | .hbm, ⟨25, _⟩ => ⟨S1024x6176, .bf16⟩
  | .hbm, ⟨26, _⟩ => ⟨S1024x1544, .bf16⟩
  | .hbm, ⟨27, _⟩ => ⟨S1024x6176, .bf16⟩
  | .hbm, ⟨28, _⟩ => ⟨S1024x1544, .bf16⟩
  | .hbm, ⟨29, _⟩ => ⟨S1x1024x1544, .bf16⟩
  | .hbm, ⟨30, _⟩ => ⟨S1x1024x1544, .bf16⟩
  | .hbm, ⟨31, _⟩ => ⟨S1x1024x1544, .bf16⟩
  | .hbm, ⟨32, _⟩ => ⟨S1x1024x1544, .bf16⟩
  | .hbm, ⟨33, _⟩ => ⟨S4x1024x1544, .bf16⟩
  | .hbm, ⟨34, _⟩ => ⟨S2048x1024, .f32⟩
  | .hbm, ⟨35, _⟩ => ⟨S1x1024, .f32⟩
  | .hbm, ⟨36, _⟩ => ⟨S2048x1024, .f32⟩
  | .hbm, ⟨37, _⟩ => ⟨S1x1024, .f32⟩
  | .hbm, ⟨38, _⟩ => ⟨S2048x6176, .f32⟩
  | .hbm, ⟨39, _⟩ => ⟨S1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | .local _ .vmem, ⟨5, _⟩ => ⟨S2048x1024, .bf16⟩
  | .local _ .vmem, ⟨6, _⟩ => ⟨S1024x896, .bf16⟩
  | .local _ .vmem, ⟨7, _⟩ => ⟨S1024x896, .bf16⟩
  | .local _ .vmem, ⟨8, _⟩ => ⟨S2048x896, .f32⟩
  | .local _ .vmem, ⟨9, _⟩ => ⟨S2048x896, .f32⟩
  | .local _ .vmem, ⟨10, _⟩ => ⟨S1024x2048, .f32⟩
  | .local _ .vmem, ⟨11, _⟩ => ⟨S1024x2048, .f32⟩
  | .local _ .vmem, ⟨12, _⟩ => ⟨S2048x512, .bf16⟩
  | .local _ .vmem, ⟨13, _⟩ => ⟨S2048x512, .bf16⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | .local _ .vmem, ⟨17, _⟩ => ⟨S1024x512, .f32⟩
  | .local _ .vmem, ⟨18, _⟩ => ⟨S2048x1024, .f32⟩
  | .local _ .vmem, ⟨19, _⟩ => ⟨S512x1024, .bf16⟩
  | .local _ .vmem, ⟨20, _⟩ => ⟨S512x1024, .bf16⟩
  | .local _ .vmem, ⟨21, _⟩ => ⟨S2048x512, .f32⟩
  | .local _ .vmem, ⟨22, _⟩ => ⟨S2048x512, .f32⟩
  | .local _ .vmem, ⟨23, _⟩ => ⟨S2048x512, .f32⟩
  | .local _ .vmem, ⟨24, _⟩ => ⟨S2048x512, .f32⟩
  | .local _ .vmem, ⟨25, _⟩ => ⟨S2048x512, .f32⟩
  | .local _ .vmem, ⟨26, _⟩ => ⟨S2048x512, .f32⟩
  | .local _ .vmem, ⟨27, _⟩ => ⟨S1x512x512, .bf16⟩
  | .local _ .vmem, ⟨28, _⟩ => ⟨S1x512x512, .bf16⟩
  | .local _ .vmem, ⟨29, _⟩ => ⟨S2048x1024, .bf16⟩
  | .local _ .vmem, ⟨30, _⟩ => ⟨S2048x896, .bf16⟩
  | .local _ .vmem, ⟨31, _⟩ => ⟨S2048x896, .bf16⟩
  | .local _ .vmem, ⟨32, _⟩ => ⟨S1024x896, .bf16⟩
  | .local _ .vmem, ⟨33, _⟩ => ⟨S1024x896, .bf16⟩
  | .local _ .vmem, ⟨34, _⟩ => ⟨S512x6272, .bf16⟩
  | .local _ .vmem, ⟨35, _⟩ => ⟨S512x6272, .bf16⟩
  | .local _ .vmem, ⟨36, _⟩ => ⟨S512x6272, .bf16⟩
  | .local _ .vmem, ⟨37, _⟩ => ⟨S512x6272, .bf16⟩
  | .local _ .vmem, ⟨38, _⟩ => ⟨S512x512, .f32⟩
  | .local _ .vmem, ⟨39, _⟩ => ⟨S512x512, .f32⟩
  | .local _ .vmem, ⟨40, _⟩ => ⟨S256x1024, .f32⟩
  | .local _ .vmem, ⟨41, _⟩ => ⟨S256x1024, .f32⟩
  | .local _ .vmem, ⟨42, _⟩ => ⟨S1x1024, .f32⟩
  | .local _ .vmem, ⟨43, _⟩ => ⟨S256x1024, .f32⟩
  | .local _ .vmem, ⟨44, _⟩ => ⟨S256x1024, .f32⟩
  | .local _ .vmem, ⟨45, _⟩ => ⟨S256x1024, .f32⟩
  | .local _ .vmem, ⟨46, _⟩ => ⟨S256x1024, .f32⟩
  | .local _ .vmem, ⟨47, _⟩ => ⟨S256x1024, .f32⟩
  | .local _ .vmem, ⟨48, _⟩ => ⟨S256x1024, .f32⟩
  | .local _ .vmem, ⟨49, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26_0 : Ref sig .tc := ⟨.hbm, 36, rfl⟩
abbrev main_v26_1 : Ref sig .tc := ⟨.hbm, 37, rfl⟩
abbrev main_v27 : Ref sig .tc := ⟨.hbm, 38, rfl⟩
abbrev main_v28 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg1_1 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg1_0 : Ref sig .tc := ⟨.vmem, 30, rfl⟩
abbrev cc5_stg1_1 : Ref sig .tc := ⟨.vmem, 31, rfl⟩
abbrev cc5_stg2_0 : Ref sig .tc := ⟨.vmem, 32, rfl⟩
abbrev cc5_stg2_1 : Ref sig .tc := ⟨.vmem, 33, rfl⟩
abbrev cc6_stg0_0 : Ref sig .tc := ⟨.vmem, 34, rfl⟩
abbrev cc6_stg0_1 : Ref sig .tc := ⟨.vmem, 35, rfl⟩
abbrev cc6_stg1_0 : Ref sig .tc := ⟨.vmem, 36, rfl⟩
abbrev cc6_stg1_1 : Ref sig .tc := ⟨.vmem, 37, rfl⟩
abbrev cc6_stg2_0 : Ref sig .tc := ⟨.vmem, 38, rfl⟩
abbrev cc6_stg2_1 : Ref sig .tc := ⟨.vmem, 39, rfl⟩
abbrev cc7_stg0_0 : Ref sig .tc := ⟨.vmem, 40, rfl⟩
abbrev cc7_stg0_1 : Ref sig .tc := ⟨.vmem, 41, rfl⟩
abbrev cc7_stg1_0 : Ref sig .tc := ⟨.vmem, 42, rfl⟩
abbrev cc7_stg2_0 : Ref sig .tc := ⟨.vmem, 43, rfl⟩
abbrev cc7_stg2_1 : Ref sig .tc := ⟨.vmem, 44, rfl⟩
abbrev cc7_stg3_0 : Ref sig .tc := ⟨.vmem, 45, rfl⟩
abbrev cc7_stg3_1 : Ref sig .tc := ⟨.vmem, 46, rfl⟩
abbrev cc7_stg4_0 : Ref sig .tc := ⟨.vmem, 47, rfl⟩
abbrev cc7_stg4_1 : Ref sig .tc := ⟨.vmem, 48, rfl⟩
abbrev cc7_stg5_0 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17
abbrev cc3_sem0_0 : DmaSem sig := 18
abbrev cc3_sem1_0 : DmaSem sig := 19
abbrev cc3_sem1_1 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem1_1 : DmaSem sig := 26
abbrev cc4_sem2_0 : DmaSem sig := 27
abbrev cc4_sem2_1 : DmaSem sig := 28
abbrev cc5_sem0_0 : DmaSem sig := 29
abbrev cc5_sem1_0 : DmaSem sig := 30
abbrev cc5_sem1_1 : DmaSem sig := 31
abbrev cc5_sem2_0 : DmaSem sig := 32
abbrev cc5_sem2_1 : DmaSem sig := 33
abbrev cc6_sem0_0 : DmaSem sig := 34
abbrev cc6_sem0_1 : DmaSem sig := 35
abbrev cc6_sem1_0 : DmaSem sig := 36
abbrev cc6_sem1_1 : DmaSem sig := 37
abbrev cc6_sem2_0 : DmaSem sig := 38
abbrev cc6_sem2_1 : DmaSem sig := 39
abbrev cc7_sem0_0 : DmaSem sig := 40
abbrev cc7_sem0_1 : DmaSem sig := 41
abbrev cc7_sem1_0 : DmaSem sig := 42
abbrev cc7_sem2_0 : DmaSem sig := 43
abbrev cc7_sem2_1 : DmaSem sig := 44
abbrev cc7_sem3_0 : DmaSem sig := 45
abbrev cc7_sem3_1 : DmaSem sig := 46
abbrev cc7_sem4_0 : DmaSem sig := 47
abbrev cc7_sem4_1 : DmaSem sig := 48
abbrev cc7_sem5_0 : DmaSem sig := 49

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![1, 7], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S2048x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S1024x896 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x896 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![2, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1024x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨2, ![1, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 1 → Memref sig .tc .vmem S2048x1024 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false]

abbrev stage3_1 : Fin 2 → Memref sig .tc .vmem S512x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S2048x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![4, 2], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_3 (i : grid4.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c4_i32 : BitVec 32 := 4#32
  let v27 : BitVec 32 := Scalar.addi c4_i32 v26
  let c0_i32_11 : BitVec 32 := 0#32
  ![v16.toNat, v27.toNat, arg1.toNat]

abbrev stage4_0 : Fin 2 → Memref sig .tc .vmem S2048x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S2048x512 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1x512x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![1, 7], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 1 → Memref sig .tc .vmem S2048x1024 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false]

abbrev stage5_1 : Fin 2 → Memref sig .tc .vmem S2048x896 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x896 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![4, 2], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 2 → Memref sig .tc .vmem S512x6272 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 2 → Memref sig .tc .vmem S512x6272 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S512x512 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev grid7 : Pipeline.Grid := ⟨1, ![8], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S256x1024 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x1024 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S256x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S256x1024 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S256x1024 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 1 → Memref sig .tc .vmem S1x1024 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]
-- ==== Reference4Ideal.lean ====
abbrev S2048x1024 : Shape := ⟨2, ![2048, 1024]⟩
abbrev S1024 : Shape := ⟨1, ![1024]⟩
abbrev S1024x6176 : Shape := ⟨2, ![1024, 6176]⟩
abbrev S2048x2048 : Shape := ⟨2, ![2048, 2048]⟩
abbrev S2048x6272 : Shape := ⟨2, ![2048, 6272]⟩
abbrev S4x2560x1024 : Shape := ⟨3, ![4, 2560, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x6176 : Shape := ⟨2, ![2048, 6176]⟩
abbrev S1024x2048 : Shape := ⟨2, ![1024, 2048]⟩
abbrev S6176x1024 : Shape := ⟨2, ![6176, 1024]⟩
abbrev S1024x4x1544 : Shape := ⟨3, ![1024, 4, 1544]⟩
abbrev S4x1024x1544 : Shape := ⟨3, ![4, 1024, 1544]⟩
abbrev S4x512x1024 : Shape := ⟨3, ![4, 512, 1024]⟩
abbrev S4x2048x1024 : Shape := ⟨3, ![4, 2048, 1024]⟩

abbrev nBuf : Space → Nat
  | .hbm => 72
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x6176, .f32⟩
  | .hbm, ⟨3, _⟩ => ⟨S2048x2048, .f32⟩
  | .hbm, ⟨4, _⟩ => ⟨S2048x1024, .f32⟩
  | .hbm, ⟨5, _⟩ => ⟨S2048x6272, .f32⟩
  | .hbm, ⟨6, _⟩ => ⟨S2048x1024, .f32⟩
  | .hbm, ⟨7, _⟩ => ⟨S4x2560x1024, .bf16⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S1x1024, .f32⟩
  | .hbm, ⟨26, _⟩ => ⟨S2048x1024, .f32⟩
  | .hbm, ⟨27, _⟩ => ⟨S2048x1024, .f32⟩
  | .hbm, ⟨28, _⟩ => ⟨S2048x6176, .f32⟩
  | .hbm, ⟨29, _⟩ => ⟨S2048x1024, .f32⟩
  | .hbm, ⟨30, _⟩ => ⟨S2048x1024, .f32⟩
  | .hbm, ⟨31, _⟩ => ⟨S2048x6176, .f32⟩
  | .hbm, ⟨32, _⟩ => ⟨S2048x1024, .f32⟩
  | .hbm, ⟨33, _⟩ => ⟨S1024x2048, .f32⟩
  | .hbm, ⟨34, _⟩ => ⟨S2048x1024, .f32⟩
  | .hbm, ⟨35, _⟩ => ⟨S2048x2048, .f32⟩
  | .hbm, ⟨36, _⟩ => ⟨S6176x1024, .f32⟩
  | .hbm, ⟨37, _⟩ => ⟨S1024x6176, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S2048x1024, .f32⟩
  | .hbm, ⟨44, _⟩ => ⟨S2048x1024, .f32⟩
  | .hbm, ⟨45, _⟩ => ⟨S_, .f32⟩
  | .hbm, ⟨46, _⟩ => ⟨S1024, .f32⟩
  | .hbm, ⟨47, _⟩ => ⟨S2048x1024, .f32⟩
  | .hbm, ⟨48, _⟩ => ⟨S_, .f32⟩
  | .hbm, ⟨49, _⟩ => ⟨S2048, .f32⟩
  | .hbm, ⟨50, _⟩ => ⟨S2048x1, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1, .f32⟩
  | .hbm, ⟨55, _⟩ => ⟨S_, .f32⟩
  | .hbm, ⟨56, _⟩ => ⟨S2048x1, .f32⟩
  | .hbm, ⟨57, _⟩ => ⟨S2048x1, .f32⟩
  | .hbm, ⟨58, _⟩ => ⟨S_, .f32⟩
  | .hbm, ⟨59, _⟩ => ⟨S2048, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S1024x4x1544, .f32⟩
  | .hbm, ⟨66, _⟩ => ⟨S4x1024x1544, .f32⟩
  | .hbm, ⟨67, _⟩ => ⟨S4x1024x1544, .bf16⟩
  | .hbm, ⟨68, _⟩ => ⟨S4x512x1024, .f32⟩
  | .hbm, ⟨69, _⟩ => ⟨S4x512x1024, .bf16⟩
  | .hbm, ⟨70, _⟩ => ⟨S4x2048x1024, .bf16⟩
  | .hbm, ⟨71, _⟩ => ⟨S4x2560x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩

abbrev nD : Nat := 1
abbrev τ : Topo := Topo.v7x

variable {F : FTy → Type} [FloatOps F]
-- ==== Kernel5.lean ====
abbrev S2048x1024 : Shape := ⟨2, ![2048, 1024]⟩
abbrev S1024 : Shape := ⟨1, ![1024]⟩
abbrev S1024x1024 : Shape := ⟨2, ![1024, 1024]⟩
abbrev S1024x2048 : Shape := ⟨2, ![1024, 2048]⟩
abbrev S4x2304x1024 : Shape := ⟨3, ![4, 2304, 1024]⟩
abbrev S4x1024x512 : Shape := ⟨3, ![4, 1024, 512]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024x512 : Shape := ⟨2, ![1024, 512]⟩
abbrev S2048x512 : Shape := ⟨2, ![2048, 512]⟩
abbrev S2048x2048 : Shape := ⟨2, ![2048, 2048]⟩
abbrev S1x1024x512 : Shape := ⟨3, ![1, 1024, 512]⟩
abbrev S512x2048 : Shape := ⟨2, ![512, 2048]⟩
abbrev S2048x256 : Shape := ⟨2, ![2048, 256]⟩
abbrev S1x256x512 : Shape := ⟨3, ![1, 256, 512]⟩
abbrev S256x512 : Shape := ⟨2, ![256, 512]⟩
abbrev S512x1024 : Shape := ⟨2, ![512, 1024]⟩

abbrev nBuf : Space → Nat
  | .hbm => 28
  | .vmem => 64
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x1024, .f32⟩
  | .hbm, ⟨3, _⟩ => ⟨S2048x1024, .f32⟩
  | .hbm, ⟨4, _⟩ => ⟨S1024x2048, .f32⟩
  | .hbm, ⟨5, _⟩ => ⟨S2048x1024, .f32⟩
  | .hbm, ⟨6, _⟩ => ⟨S2048x1024, .f32⟩
  | .hbm, ⟨7, _⟩ => ⟨S4x2304x1024, .bf16⟩
  | .hbm, ⟨8, _⟩ => ⟨S4x1024x512, .bf16⟩
  | .hbm, ⟨9, _⟩ => ⟨S1024x1024, .bf16⟩
  | .hbm, ⟨10, _⟩ => ⟨S1024x2048, .bf16⟩
  | .hbm, ⟨11, _⟩ => ⟨S1x1024, .f32⟩
  | .hbm, ⟨12, _⟩ => ⟨S2048x1024, .bf16⟩
  | .hbm, ⟨13, _⟩ => ⟨S2048x1024, .f32⟩
  | .hbm, ⟨14, _⟩ => ⟨S2048x2048, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x2048, .f32⟩
  | .hbm, ⟨19, _⟩ => ⟨S2048x2048, .bf16⟩
  | .hbm, ⟨20, _⟩ => ⟨S4x1024x512, .bf16⟩
  | .hbm, ⟨21, _⟩ => ⟨S2048x1024, .f32⟩
  | .hbm, ⟨22, _⟩ => ⟨S4x2304x1024, .bf16⟩
  | .hbm, ⟨23, _⟩ => ⟨S2048x1024, .f32⟩
  | .hbm, ⟨24, _⟩ => ⟨S1x1024, .f32⟩
  | .hbm, ⟨25, _⟩ => ⟨S2048x1024, .f32⟩
  | .hbm, ⟨26, _⟩ => ⟨S1x1024, .f32⟩
  | .hbm, ⟨27, _⟩ => ⟨S1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | .local _ .vmem, ⟨5, _⟩ => ⟨S2048x1024, .bf16⟩
  | .local _ .vmem, ⟨6, _⟩ => ⟨S1024x512, .bf16⟩
  | .local _ .vmem, ⟨7, _⟩ => ⟨S1024x512, .bf16⟩
  | .local _ .vmem, ⟨8, _⟩ => ⟨S2048x512, .f32⟩
  | .local _ .vmem, ⟨9, _⟩ => ⟨S2048x512, .f32⟩
  | .local _ .vmem, ⟨10, _⟩ => ⟨S2048x1024, .f32⟩
  | .local _ .vmem, ⟨11, _⟩ => ⟨S1024x512, .bf16⟩
  | .local _ .vmem, ⟨12, _⟩ => ⟨S1024x512, .bf16⟩
  | .local _ .vmem, ⟨13, _⟩ => ⟨S2048x512, .f32⟩
  | .local _ .vmem, ⟨14, _⟩ => ⟨S2048x512, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | .local _ .vmem, ⟨29, _⟩ => ⟨S256x1024, .f32⟩
  | .local _ .vmem, ⟨30, _⟩ => ⟨S256x1024, .f32⟩
  | .local _ .vmem, ⟨31, _⟩ => ⟨S256x1024, .f32⟩
  | .local _ .vmem, ⟨32, _⟩ => ⟨S256x1024, .f32⟩
  | .local _ .vmem, ⟨33, _⟩ => ⟨S2048x1024, .f32⟩
  | .local _ .vmem, ⟨34, _⟩ => ⟨S2048x512, .bf16⟩
  | .local _ .vmem, ⟨35, _⟩ => ⟨S2048x512, .bf16⟩
  | .local _ .vmem, ⟨36, _⟩ => ⟨S1x1024x512, .bf16⟩
  | .local _ .vmem, ⟨37, _⟩ => ⟨S1x1024x512, .bf16⟩
  | .local _ .vmem, ⟨38, _⟩ => ⟨S2048x2048, .bf16⟩
  | .local _ .vmem, ⟨39, _⟩ => ⟨S512x2048, .bf16⟩
  | .local _ .vmem, ⟨40, _⟩ => ⟨S512x2048, .bf16⟩
  | .local _ .vmem, ⟨41, _⟩ => ⟨S2048x512, .f32⟩
  | .local _ .vmem, ⟨42, _⟩ => ⟨S2048x512, .f32⟩
  | .local _ .vmem, ⟨43, _⟩ => ⟨S2048x256, .bf16⟩
  | .local _ .vmem, ⟨44, _⟩ => ⟨S2048x256, .bf16⟩
  | .local _ .vmem, ⟨45, _⟩ => ⟨S2048x512, .f32⟩
  | .local _ .vmem, ⟨46, _⟩ => ⟨S2048x512, .f32⟩
  | .local _ .vmem, ⟨47, _⟩ => ⟨S1x256x512, .bf16⟩
  | .local _ .vmem, ⟨48, _⟩ => ⟨S1x256x512, .bf16⟩
  | .local _ .vmem, ⟨49, _⟩ => ⟨S2048x1024, .f32⟩
  | .local _ .vmem, ⟨50, _⟩ => ⟨S512x1024, .bf16⟩
  | .local _ .vmem, ⟨51, _⟩ => ⟨S512x1024, .bf16⟩
  | .local _ .vmem, ⟨52, _⟩ => ⟨S2048x512, .f32⟩
  | .local _ .vmem, ⟨53, _⟩ => ⟨S2048x512, .f32⟩
  | .local _ .vmem, ⟨54, _⟩ => ⟨S256x1024, .f32⟩
  | .local _ .vmem, ⟨55, _⟩ => ⟨S256x1024, .f32⟩
  | .local _ .vmem, ⟨56, _⟩ => ⟨S1x1024, .f32⟩
  | .local _ .vmem, ⟨57, _⟩ => ⟨S256x1024, .f32⟩
  | .local _ .vmem, ⟨58, _⟩ => ⟨S256x1024, .f32⟩
  | .local _ .vmem, ⟨59, _⟩ => ⟨S256x1024, .f32⟩
  | .local _ .vmem, ⟨60, _⟩ => ⟨S256x1024, .f32⟩
  | .local _ .vmem, ⟨61, _⟩ => ⟨S256x1024, .f32⟩
  | .local _ .vmem, ⟨62, _⟩ => ⟨S256x1024, .f32⟩
  | .local _ .vmem, ⟨63, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc3_stg3_0 : Ref sig .tc := ⟨.vmem, 21, rfl⟩
abbrev cc3_stg3_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg1_1 : Ref sig .tc := ⟨.vmem, 26, rfl⟩
abbrev cc4_stg2_0 : Ref sig .tc := ⟨.vmem, 27, rfl⟩
abbrev cc4_stg2_1 : Ref sig .tc := ⟨.vmem, 28, rfl⟩
abbrev cc4_stg3_0 : Ref sig .tc := ⟨.vmem, 29, rfl⟩
abbrev cc4_stg3_1 : Ref sig .tc := ⟨.vmem, 30, rfl⟩
abbrev cc4_stg4_0 : Ref sig .tc := ⟨.vmem, 31, rfl⟩
abbrev cc4_stg4_1 : Ref sig .tc := ⟨.vmem, 32, rfl⟩
abbrev cc5_stg0_0 : Ref sig .tc := ⟨.vmem, 33, rfl⟩
abbrev cc5_stg1_0 : Ref sig .tc := ⟨.vmem, 34, rfl⟩
abbrev cc5_stg1_1 : Ref sig .tc := ⟨.vmem, 35, rfl⟩
abbrev cc5_stg2_0 : Ref sig .tc := ⟨.vmem, 36, rfl⟩
abbrev cc5_stg2_1 : Ref sig .tc := ⟨.vmem, 37, rfl⟩
abbrev cc6_stg0_0 : Ref sig .tc := ⟨.vmem, 38, rfl⟩
abbrev cc6_stg1_0 : Ref sig .tc := ⟨.vmem, 39, rfl⟩
abbrev cc6_stg1_1 : Ref sig .tc := ⟨.vmem, 40, rfl⟩
abbrev cc6_stg2_0 : Ref sig .tc := ⟨.vmem, 41, rfl⟩
abbrev cc6_stg2_1 : Ref sig .tc := ⟨.vmem, 42, rfl⟩
abbrev cc7_stg0_0 : Ref sig .tc := ⟨.vmem, 43, rfl⟩
abbrev cc7_stg0_1 : Ref sig .tc := ⟨.vmem, 44, rfl⟩
abbrev cc7_stg1_0 : Ref sig .tc := ⟨.vmem, 45, rfl⟩
abbrev cc7_stg1_1 : Ref sig .tc := ⟨.vmem, 46, rfl⟩
abbrev cc7_stg2_0 : Ref sig .tc := ⟨.vmem, 47, rfl⟩
abbrev cc7_stg2_1 : Ref sig .tc := ⟨.vmem, 48, rfl⟩
abbrev cc8_stg0_0 : Ref sig .tc := ⟨.vmem, 49, rfl⟩
abbrev cc8_stg1_0 : Ref sig .tc := ⟨.vmem, 50, rfl⟩
abbrev cc8_stg1_1 : Ref sig .tc := ⟨.vmem, 51, rfl⟩
abbrev cc8_stg2_0 : Ref sig .tc := ⟨.vmem, 52, rfl⟩
abbrev cc8_stg2_1 : Ref sig .tc := ⟨.vmem, 53, rfl⟩
abbrev cc9_stg0_0 : Ref sig .tc := ⟨.vmem, 54, rfl⟩
abbrev cc9_stg0_1 : Ref sig .tc := ⟨.vmem, 55, rfl⟩
abbrev cc9_stg1_0 : Ref sig .tc := ⟨.vmem, 56, rfl⟩
abbrev cc9_stg2_0 : Ref sig .tc := ⟨.vmem, 57, rfl⟩
abbrev cc9_stg2_1 : Ref sig .tc := ⟨.vmem, 58, rfl⟩
abbrev cc9_stg3_0 : Ref sig .tc := ⟨.vmem, 59, rfl⟩
abbrev cc9_stg3_1 : Ref sig .tc := ⟨.vmem, 60, rfl⟩
abbrev cc9_stg4_0 : Ref sig .tc := ⟨.vmem, 61, rfl⟩
abbrev cc9_stg4_1 : Ref sig .tc := ⟨.vmem, 62, rfl⟩
abbrev cc9_stg5_0 : Ref sig .tc := ⟨.vmem, 63, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20
abbrev cc3_sem3_0 : DmaSem sig := 21
abbrev cc3_sem3_1 : DmaSem sig := 22
abbrev cc4_sem0_0 : DmaSem sig := 23
abbrev cc4_sem0_1 : DmaSem sig := 24
abbrev cc4_sem1_0 : DmaSem sig := 25
abbrev cc4_sem1_1 : DmaSem sig := 26
abbrev cc4_sem2_0 : DmaSem sig := 27
abbrev cc4_sem2_1 : DmaSem sig := 28
abbrev cc4_sem3_0 : DmaSem sig := 29
abbrev cc4_sem3_1 : DmaSem sig := 30
abbrev cc4_sem4_0 : DmaSem sig := 31
abbrev cc4_sem4_1 : DmaSem sig := 32
abbrev cc5_sem0_0 : DmaSem sig := 33
abbrev cc5_sem1_0 : DmaSem sig := 34
abbrev cc5_sem1_1 : DmaSem sig := 35
abbrev cc5_sem2_0 : DmaSem sig := 36
abbrev cc5_sem2_1 : DmaSem sig := 37
abbrev cc6_sem0_0 : DmaSem sig := 38
abbrev cc6_sem1_0 : DmaSem sig := 39
abbrev cc6_sem1_1 : DmaSem sig := 40
abbrev cc6_sem2_0 : DmaSem sig := 41
abbrev cc6_sem2_1 : DmaSem sig := 42
abbrev cc7_sem0_0 : DmaSem sig := 43
abbrev cc7_sem0_1 : DmaSem sig := 44
abbrev cc7_sem1_0 : DmaSem sig := 45
abbrev cc7_sem1_1 : DmaSem sig := 46
abbrev cc7_sem2_0 : DmaSem sig := 47
abbrev cc7_sem2_1 : DmaSem sig := 48
abbrev cc8_sem0_0 : DmaSem sig := 49
abbrev cc8_sem1_0 : DmaSem sig := 50
abbrev cc8_sem1_1 : DmaSem sig := 51
abbrev cc8_sem2_0 : DmaSem sig := 52
abbrev cc8_sem2_1 : DmaSem sig := 53
abbrev cc9_sem0_0 : DmaSem sig := 54
abbrev cc9_sem0_1 : DmaSem sig := 55
abbrev cc9_sem1_0 : DmaSem sig := 56
abbrev cc9_sem2_0 : DmaSem sig := 57
abbrev cc9_sem2_1 : DmaSem sig := 58
abbrev cc9_sem3_0 : DmaSem sig := 59
abbrev cc9_sem3_1 : DmaSem sig := 60
abbrev cc9_sem4_0 : DmaSem sig := 61
abbrev cc9_sem4_1 : DmaSem sig := 62
abbrev cc9_sem5_0 : DmaSem sig := 63

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![1, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S2048x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![1, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 1 → Memref sig .tc .vmem S2048x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false]

abbrev stage2_1 : Fin 2 → Memref sig .tc .vmem S1024x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c1_i32 : BitVec 32 := 1#32
  let c0_i32 : BitVec 32 := 0#32
  ![arg0.toNat, c1_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S256x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S256x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c1_i32 : BitVec 32 := 1#32
  let c0_i32 : BitVec 32 := 0#32
  ![arg0.toNat, c1_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S256x1024 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S256x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S256x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S256x1024 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨2, ![1, 4], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_3 (i : grid5.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 arg0
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v16.toNat, v17.toNat, v27.toNat]

abbrev stage5_0 : Fin 1 → Memref sig .tc .vmem S2048x1024 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false]

abbrev stage5_1 : Fin 2 → Memref sig .tc .vmem S2048x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1x1024x512 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![1, 2], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 1 → Memref sig .tc .vmem S2048x2048 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true, false]

abbrev stage6_1 : Fin 2 → Memref sig .tc .vmem S512x2048 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S2048x512 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev grid7 : Pipeline.Grid := ⟨2, ![4, 2], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc7_transform_3 (i : grid7.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c8_i32 : BitVec 32 := 8#32
  let v27 : BitVec 32 := Scalar.addi c8_i32 v26
  let c0_i32_11 : BitVec 32 := 0#32
  ![v16.toNat, v27.toNat, arg1.toNat]

abbrev stage7_0 : Fin 2 → Memref sig .tc .vmem S2048x256 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 2 → Memref sig .tc .vmem S2048x512 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S1x256x512 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev grid8 : Pipeline.Grid := ⟨2, ![1, 2], ![false, false]⟩

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage8_0 : Fin 1 → Memref sig .tc .vmem S2048x1024 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true, false]

abbrev stage8_1 : Fin 2 → Memref sig .tc .vmem S512x1024 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 2 → Memref sig .tc .vmem S2048x512 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true]

abbrev grid9 : Pipeline.Grid := ⟨1, ![8], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S256x1024 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x1024 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S256x1024 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 2 → Memref sig .tc .vmem S256x1024 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev stage9_4 : Fin 2 → Memref sig .tc .vmem S256x1024 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev stage9_5 : Fin 1 → Memref sig .tc .vmem S1x1024 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]
-- ==== Reference5Ideal.lean ====
abbrev S2048x1024 : Shape := ⟨2, ![2048, 1024]⟩
abbrev S1024 : Shape := ⟨1, ![1024]⟩
abbrev S1024x1024 : Shape := ⟨2, ![1024, 1024]⟩
abbrev S1024x2048 : Shape := ⟨2, ![1024, 2048]⟩
abbrev S4x2304x1024 : Shape := ⟨3, ![4, 2304, 1024]⟩
abbrev S4x1024x512 : Shape := ⟨3, ![4, 1024, 512]⟩
abbrev S2048x2048 : Shape := ⟨2, ![2048, 2048]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S4x256x1024 : Shape := ⟨3, ![4, 256, 1024]⟩
abbrev S1024x4x512 : Shape := ⟨3, ![1024, 4, 512]⟩
abbrev S4x2048x1024 : Shape := ⟨3, ![4, 2048, 1024]⟩

abbrev nBuf : Space → Nat
  | .hbm => 91
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x1024, .f32⟩
  | .hbm, ⟨3, _⟩ => ⟨S2048x1024, .f32⟩
  | .hbm, ⟨4, _⟩ => ⟨S1024x2048, .f32⟩
  | .hbm, ⟨5, _⟩ => ⟨S2048x1024, .f32⟩
  | .hbm, ⟨6, _⟩ => ⟨S2048x1024, .f32⟩
  | .hbm, ⟨7, _⟩ => ⟨S4x2304x1024, .bf16⟩
  | .hbm, ⟨8, _⟩ => ⟨S4x1024x512, .bf16⟩
  | .hbm, ⟨9, _⟩ => ⟨S2048x2048, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x1024, .f32⟩
  | .hbm, ⟨28, _⟩ => ⟨S2048x1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048x1024, .f32⟩
  | .hbm, ⟨37, _⟩ => ⟨S2048x1024, .f32⟩
  | .hbm, ⟨38, _⟩ => ⟨S_, .f32⟩
  | .hbm, ⟨39, _⟩ => ⟨S2048x1024, .f32⟩
  | .hbm, ⟨40, _⟩ => ⟨S2048x1024, .f32⟩
  | .hbm, ⟨41, _⟩ => ⟨S_, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S1024x1024, .f32⟩
  | .hbm, ⟨52, _⟩ => ⟨S1024x1024, .f32⟩
  | .hbm, ⟨53, _⟩ => ⟨S2048x1024, .f32⟩
  | .hbm, ⟨54, _⟩ => ⟨S2048x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S2048x1024, .f32⟩
  | .hbm, ⟨59, _⟩ => ⟨S2048x1024, .f32⟩
  | .hbm, ⟨60, _⟩ => ⟨S_, .f32⟩
  | .hbm, ⟨61, _⟩ => ⟨S1024, .f32⟩
  | .hbm, ⟨62, _⟩ => ⟨S2048x1024, .f32⟩
  | .hbm, ⟨63, _⟩ => ⟨S_, .f32⟩
  | .hbm, ⟨64, _⟩ => ⟨S2048, .f32⟩
  | .hbm, ⟨65, _⟩ => ⟨S2048x1, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S2048x1, .f32⟩
  | .hbm, ⟨70, _⟩ => ⟨S_, .f32⟩
  | .hbm, ⟨71, _⟩ => ⟨S2048x1, .f32⟩
  | .hbm, ⟨72, _⟩ => ⟨S2048x1, .f32⟩
  | .hbm, ⟨73, _⟩ => ⟨S_, .f32⟩
  | .hbm, ⟨74, _⟩ => ⟨S2048, .f32⟩
  | .hbm, ⟨75, _⟩ => ⟨S2048x1024, .f32⟩
  | .hbm, ⟨76, _⟩ => ⟨S2048x1024, .f32⟩
  | .hbm, ⟨77, _⟩ => ⟨S2048x1024, .f32⟩
  | .hbm, ⟨78, _⟩ => ⟨S2048x1024, .f32⟩
  | .hbm, ⟨79, _⟩ => ⟨S2048x1024, .f32⟩
  | .hbm, ⟨80, _⟩ => ⟨S2048x2048, .f32⟩
  | .hbm, ⟨81, _⟩ => ⟨S2048x1024, .f32⟩
  | .hbm, ⟨82, _⟩ => ⟨S1024x2048, .f32⟩
  | .hbm, ⟨83, _⟩ => ⟨S2048x1024, .f32⟩
  | .hbm, ⟨84, _⟩ => ⟨S4x256x1024, .f32⟩
  | .hbm, ⟨85, _⟩ => ⟨S4x256x1024, .bf16⟩
  | .hbm, ⟨86, _⟩ => ⟨S1024x4x512, .f32⟩
  | .hbm, ⟨87, _⟩ => ⟨S4x1024x512, .f32⟩
  | .hbm, ⟨88, _⟩ => ⟨S4x1024x512, .bf16⟩
  | .hbm, ⟨89, _⟩ => ⟨S4x2048x1024, .bf16⟩
  | .hbm, ⟨90, _⟩ => ⟨S4x2304x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_cst_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩

abbrev nD : Nat := 1
abbrev τ : Topo := Topo.v7x

variable {F : FTy → Type} [FloatOps F]
-- ==== Proof.ScanMath.lean ====
/-
  The mathematics of the diagonal recurrence, over the reals: what the recurrence and the gradient's quantities are,
  and that eight steps of it are the doubling scheme of three shifted products and a carry.
-/
module

public import Idealize.ShloMosaic.Lib.Pointwise
public import Mathlib.Data.Complex.BigOperators
public import Mathlib.Tactic.IntervalCases
public import Mathlib.Tactic.LinearCombination

@[expose] public section

noncomputable section

namespace Cert.Proof.S5

open Finset

/-- The recurrence `x 0 = b 0`, `x (n+1) = lam * x n + b (n+1)`. -/
def rec (lam : ℂ) (b : ℕ → ℂ) : ℕ → ℂ
  | 0 => b 0
  | n + 1 => lam * rec lam b n + b (n + 1)

/-- The state before step `n`: zero before the first. -/
def before (lam : ℂ) (b : ℕ → ℂ) : ℕ → ℂ
  | 0 => 0
  | n + 1 => rec lam b n

theorem rec_eq_before (lam : ℂ) (b : ℕ → ℂ) (n : ℕ) : rec lam b n = lam * before lam b n + b n := by
  cases n <;> simp [rec, before]

/-- One shifted product of the doubling scheme: the rows from `d` on take `lam ^ d` times the row `d` before. -/
def shift (lam : ℂ) (d : ℕ) (x : ℕ → ℂ) (r : ℕ) : ℂ := x r + if d ≤ r then lam ^ d * x (r - d) else 0

/-- Eight steps of the recurrence from a carried state, by the doubling scheme. -/
def eight (lam : ℂ) (c : ℂ) (x : ℕ → ℂ) (r : ℕ) : ℂ :=
  shift lam 4 (shift lam 2 (shift lam 1 x)) r + lam ^ (r + 1) * c

theorem eight_eq (lam : ℂ) (b : ℕ → ℂ) (n r : ℕ) (hr : r < 8) :
    eight lam (before lam b n) (fun s => b (n + s)) r = rec lam b (n + r) := by
  have h0 := rec_eq_before lam b n
  have e1 : rec lam b (n + 1) = lam * rec lam b n + b (n + 1) := rfl
  have e2 : rec lam b (n + 2) = lam * rec lam b (n + 1) + b (n + 2) := rfl
  have e3 : rec lam b (n + 3) = lam * rec lam b (n + 2) + b (n + 3) := rfl
  have e4 : rec lam b (n + 4) = lam * rec lam b (n + 3) + b (n + 4) := rfl
  have e5 : rec lam b (n + 5) = lam * rec lam b (n + 4) + b (n + 5) := rfl
  have e6 : rec lam b (n + 6) = lam * rec lam b (n + 5) + b (n + 6) := rfl
  have e7 : rec lam b (n + 7) = lam * rec lam b (n + 6) + b (n + 7) := rfl
  interval_cases r <;> simp only [eight, shift] <;> norm_num
  · rw [h0]; ring
  · rw [e1, h0]; ring
  · rw [e2, e1, h0]; ring
  · rw [e3, e2, e1, h0]; ring
  · rw [e4, e3, e2, e1, h0]; ring
  · rw [e5, e4, e3, e2, e1, h0]; ring
  · rw [e6, e5, e4, e3, e2, e1, h0]; ring
  · rw [e7, e6, e5, e4, e3, e2, e1, h0]; ring

end Cert.Proof.S5

end
-- ==== Proof.K2Spec.lean ====
/-
  The gradient of the diagonal recurrence's readout, over the reals: what both programs compute.
-/
module

public import proofs.«01_k».proof.Proof.ScanMath
public import Mathlib.Analysis.SpecialFunctions.Trigonometric.DerivHyp

@[expose] public section

noncomputable section
open Idealize.ShloMosaic
namespace Cert.Proof.S5

/-- The arguments' numbers: rows by channels, and per group. -/
structure Data where
  U : ℕ → Fin 1024 → ℝ
  DY : ℕ → Fin 1024 → ℝ
  LR : Fin 64 → Fin 64 → ℝ
  LI : Fin 64 → Fin 64 → ℝ
  BR : Fin 64 → Fin 1024 → ℝ
  BI : Fin 64 → Fin 1024 → ℝ
  CR : Fin 64 → Fin 16 → Fin 64 → ℝ
  CI : Fin 64 → Fin 16 → Fin 64 → ℝ
  D : Fin 1024 → ℝ

/-- Member `k` of group `g`, of the groups of sixteen. -/
def ch (g : Fin 64) (k : Fin 16) : Fin 1024 := ⟨g * 16 + k, by omega⟩

/-- A real number as a word of the number type `κ = 0x3F4C422A` names, and the activation's slope. -/
def cw : ℝ := (Ideal.ofBits .f32 0x3F4C422A#32).toReal
def tr (y : ℝ) : ℝ := Real.tanh (cw * (y + 8943 / 200000 * y * y * y))
def gr (y : ℝ) : ℝ := 1 / 2 * (1 + tr y) + 1 / 2 * y * (1 - tr y * tr y) * cw * (1 + 26829 / 200000 * y * y)

variable (I : Data)

def lam (g p : Fin 64) : ℂ := ⟨I.LR g p, I.LI g p⟩
def bu (g p : Fin 64) (l : ℕ) : ℂ := ⟨∑ k, I.U l (ch g k) * I.BR g (ch p k), ∑ k, I.U l (ch g k) * I.BI g (ch p k)⟩
/-- The states. -/
def xs (g p : Fin 64) : ℕ → ℂ := rec (lam I g p) (bu I g p)
/-- The readout before the activation, and its gradient. -/
def yv (l : ℕ) (g : Fin 64) (k : Fin 16) : ℝ :=
  (∑ p, (xs I g p l).re * I.CR g k p) - (∑ p, (xs I g p l).im * I.CI g k p) + I.D (ch g k) * I.U l (ch g k)
def dp (l : ℕ) (g : Fin 64) (k : Fin 16) : ℝ := I.DY l (ch g k) * gr (yv I l g k)
/-- The three gradients. -/
def dCr (g : Fin 64) (k : Fin 16) (p : Fin 64) : ℝ := ∑ l : Fin 2048, (xs I g p l).re * dp I l g k
def dCi (g : Fin 64) (k : Fin 16) (p : Fin 64) : ℝ := ∑ l : Fin 2048, (xs I g p l).im * -dp I l g k
def dD (g : Fin 64) (k : Fin 16) : ℝ := ∑ l : Fin 2048, dp I l g k * I.U l (ch g k)

/-- Sums of reals, in the extended reals. -/
theorem cast_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

theorem word_cw : Ideal.ofBits .f32 0x3F4C422A#32 = (cw : EReal) := by
  have : ∃ r : ℝ, Ideal.ofBits .f32 0x3F4C422A#32 = (r : EReal) := by
    refine ⟨13386282 * 2 ^ (-24 : ℤ), ?_⟩
    simp [Ideal.ofBits, Ideal.ieee, -EReal.coe_mul]
  obtain ⟨r, hr⟩ := this
  rw [cw, hr, EReal.toReal_coe]
theorem word_half' : Ideal.ofBits .f32 0x3F000000#32 = ((1 / 2 : ℝ) : EReal) := by
  simp [Ideal.ofBits, Ideal.ieee, -EReal.coe_mul]; norm_num
theorem word_three : Ideal.ofBits .f32 0x40400000#32 = ((3 : ℝ) : EReal) := by
  simp [Ideal.ofBits, Ideal.ieee, -EReal.coe_mul]; norm_num

end Cert.Proof.S5
end
-- ==== Proof.K2RefLoop.lean ====
/-
  The reference's loop: after `n` trips the carried states are those of the recurrence, and the stacked arrays hold
  the states of the rows before `n`.
-/
module

public import proofs.«01_k».proof.Proof.Gen.Reference2Ideal.Run
public import proofs.«01_k».proof.Proof.K2Spec
public import Idealize.ShloMosaic.Lib.StableHlo.ReadAt
public import Idealize.ShloMosaic.Lib.Pipeline.ValueKit
public import Idealize.ShloMosaic.Lib.DynamicIndex
public import Idealize.ShloMosaic.Lib.WordCmp

@[expose] public section

set_option maxRecDepth 16384
noncomputable section
open Idealize.ShloMosaic Idealize.ShloMosaic.TcCoe Idealize.SL.Sem
open Cert.Reference2Ideal Cert.Reference2Ideal.Gen Cert.Reference2Ideal.Value
namespace Cert.Proof.S5

/-- Row `n` of the inputs, where the counter is at `n`. -/
theorem slice_at (x : Vec Ideal S2048x64x64 .f32) (w : IVec S_ 32) (n : Fin 2048) (hw : w = fun _ => BitVec.ofNat 32 n) (g p : Fin 64) :
    shapeCast S64x64 (Host.dynamicSlice S1x64x64 x (fun k => (((![w, constantI S_ 32 0#32, constantI S_ 32 0#32] : Fin 3 → IVec S_ 32)) k (Shape.Idx.first h_S_)).toInt) sliceFits_S2048x64x64_S1x64x64) shapeCasts_S1x64x64_S64x64 (ix2 g p) = x (ix3 n g p) := by
  have hn : S2048x64x64.Slices ![(n : ℕ), 0, 0] S1x64x64 := ⟨rfl, fun a => by fin_cases a <;> simp <;> omega⟩
  rw [Host.dynamicSlice_eq_extractStridedSlice S1x64x64 x _ ![(n : ℕ), 0, 0] _ hn (fun a => by
    subst hw
    fin_cases a
    · exact toInt_ofNat_of_lt (by omega)
    · rfl
    · rfl)]
  pointwise []

/-- The stacked array, row `l`, after row `n` is written. -/
theorem update_at (x : Vec Ideal S2048x64x64 .f32) (y : Vec Ideal S64x64 .f32) (w : IVec S_ 32) (n : Fin 2048) (hw : w = fun _ => BitVec.ofNat 32 n) (l : Fin 2048) (g p : Fin 64) :
    Host.dynamicUpdateSlice x (broadcastInDim S1x64x64 ![1, 2] bcast_S64x64_S1x64x64_1_2 y) (fun k => (((![w, constantI S_ 32 0#32, constantI S_ 32 0#32] : Fin 3 → IVec S_ 32)) k (Shape.Idx.first h_S_)).toInt) updateFits_S2048x64x64_S1x64x64 (ix3 l g p)
      = if l = n then y (ix2 g p) else x (ix3 l g p) := by
  have hn : S2048x64x64.Slices ![(n : ℕ), 0, 0] S1x64x64 := ⟨rfl, fun a => by fin_cases a <;> simp <;> omega⟩
  rw [WordCmp.dynamicUpdateSlice_eq_update x _ _ _ ![(n : ℕ), 0, 0] hn (fun a => by
    subst hw
    fin_cases a
    · exact toInt_ofNat_of_lt (by omega)
    · rfl
    · rfl)]
  pointwise []
  by_cases h : l = n
  · rw [if_pos h, dif_pos (by subst h; omega)]
  · rw [if_neg h, dif_neg (fun hh => h (Fin.ext (by omega)))]

variable (I : Data)

theorem loop_ref (V : Valuation τ sig (Elt Ideal))
    (h0 : ∀ (l : Fin 2048) (g p : Fin 64), V (Proc.devRef .tc main_v10_0) (ix3 l g p) = ((bu I g p l).re : EReal))
    (h1 : ∀ (l : Fin 2048) (g p : Fin 64), V (Proc.devRef .tc main_v10_1) (ix3 l g p) = ((bu I g p l).im : EReal))
    (h2 : ∀ g p : Fin 64, V (Proc.devRef .tc main_v10_2) (ix2 g p) = (I.LR g p : EReal))
    (h3 : ∀ g p : Fin 64, V (Proc.devRef .tc main_v10_3) (ix2 g p) = (I.LI g p : EReal))
    (h4 : V (Proc.devRef .tc main_v10_4) = fun _ => (0#32 : BitVec 32))
    (h5 : ∀ g p : Fin 64, V (Proc.devRef .tc main_v10_5) (ix2 g p) = (0 : EReal))
    (h6 : ∀ g p : Fin 64, V (Proc.devRef .tc main_v10_6) (ix2 g p) = (0 : EReal)) (n : ℕ) (hn : n ≤ 2048) :
    (∀ (l : Fin 2048) (g p : Fin 64), STEP^[n] V (Proc.devRef .tc main_v10_0) (ix3 l g p) = ((bu I g p l).re : EReal))
    ∧ (∀ (l : Fin 2048) (g p : Fin 64), STEP^[n] V (Proc.devRef .tc main_v10_1) (ix3 l g p) = ((bu I g p l).im : EReal))
    ∧ (∀ g p : Fin 64, STEP^[n] V (Proc.devRef .tc main_v10_2) (ix2 g p) = (I.LR g p : EReal))
    ∧ (∀ g p : Fin 64, STEP^[n] V (Proc.devRef .tc main_v10_3) (ix2 g p) = (I.LI g p : EReal))
    ∧ (STEP^[n] V (Proc.devRef .tc main_v10_4) = fun _ => BitVec.ofNat 32 n)
    ∧ (∀ g p : Fin 64, STEP^[n] V (Proc.devRef .tc main_v10_5) (ix2 g p) = ((before (lam I g p) (bu I g p) n).re : EReal))
    ∧ (∀ g p : Fin 64, STEP^[n] V (Proc.devRef .tc main_v10_6) (ix2 g p) = ((before (lam I g p) (bu I g p) n).im : EReal))
    ∧ (∀ (l : Fin 2048), (l : ℕ) < n → ∀ g p : Fin 64, STEP^[n] V (Proc.devRef .tc main_v10_7) (ix3 l g p) = ((xs I g p l).re : EReal))
    ∧ (∀ (l : Fin 2048), (l : ℕ) < n → ∀ g p : Fin 64, STEP^[n] V (Proc.devRef .tc main_v10_8) (ix3 l g p) = ((xs I g p l).im : EReal)) := by
  induction n with
  | zero =>
    refine ⟨h0, h1, h2, h3, h4, fun g p => ?_, fun g p => ?_, fun l hl => absurd hl (Nat.not_lt_zero _), fun l hl => absurd hl (Nat.not_lt_zero _)⟩
    · exact (h5 g p).trans (by simp [before])
    · exact (h6 g p).trans (by simp [before])
  | succ n ih =>
    obtain ⟨i0, i1, i2, i3, i4, i5, i6, i7, i8⟩ := ih (by omega)
    rw [Function.iterate_succ_apply']
    generalize STEP^[n] V = W at *
    have a71 : ∀ g p : Fin 64, res_main_while0b_v77 W (ix2 g p) = ((xs I g p n).re : EReal) := by
      intro g p
      unfold res_main_while0b_v77
      have e := slice_at (W (Proc.devRef .tc main_v10_0)) (W (Proc.devRef .tc main_v10_4)) ⟨n, by omega⟩ i4 g p
      refine (congrArg₂ (HAdd.hAdd (α := EReal) (β := EReal) (γ := EReal)) (congrArg₂ (HSub.hSub (α := EReal) (β := EReal) (γ := EReal))
        (congrArg₂ (HMul.hMul (α := EReal) (β := EReal) (γ := EReal)) (i2 g p) (i5 g p)) (congrArg₂ (HMul.hMul (α := EReal) (β := EReal) (γ := EReal)) (i3 g p) (i6 g p))) (e.trans (i0 _ g p))).trans ?_
      rw [xs, rec_eq_before, ← EReal.coe_mul, ← EReal.coe_mul, ← EReal.coe_sub, ← EReal.coe_add]
      simp [lam]
    have a75 : ∀ g p : Fin 64, res_main_while0b_v81 W (ix2 g p) = ((xs I g p n).im : EReal) := by
      intro g p
      unfold res_main_while0b_v81
      have e := slice_at (W (Proc.devRef .tc main_v10_1)) (W (Proc.devRef .tc main_v10_4)) ⟨n, by omega⟩ i4 g p
      refine (congrArg₂ (HAdd.hAdd (α := EReal) (β := EReal) (γ := EReal)) (congrArg₂ (HAdd.hAdd (α := EReal) (β := EReal) (γ := EReal))
        (congrArg₂ (HMul.hMul (α := EReal) (β := EReal) (γ := EReal)) (i2 g p) (i6 g p)) (congrArg₂ (HMul.hMul (α := EReal) (β := EReal) (γ := EReal)) (i3 g p) (i5 g p))) (e.trans (i1 _ g p))).trans ?_
      rw [xs, rec_eq_before, ← EReal.coe_mul, ← EReal.coe_mul, ← EReal.coe_add, ← EReal.coe_add]
      simp [lam]
    refine ⟨?_, ?_, ?_, ?_, ?_, ?_, ?_, ?_, ?_⟩
    · rw [STEP_main_v10_0]; exact i0
    · rw [STEP_main_v10_1]; exact i1
    · rw [STEP_main_v10_2]; exact i2
    · rw [STEP_main_v10_3]; exact i3
    · rw [STEP_main_v10_4]; unfold step_main_v10_4; rw [i4]
      funext i
      exact (BitVec.ofNat_add n 1).symm
    · rw [STEP_main_v10_5]; exact a71
    · rw [STEP_main_v10_6]; exact a75
    · intro l hl g p
      rw [STEP_main_v10_7]
      refine (update_at (W (Proc.devRef .tc main_v10_7)) _ (W (Proc.devRef .tc main_v10_4)) ⟨n, by omega⟩ i4 l g p).trans ?_
      split_ifs with h
      · rw [h]; exact a71 g p
      · exact i7 l (by have : (l : ℕ) ≠ n := fun e => h (Fin.ext e); omega) g p
    · intro l hl g p
      rw [STEP_main_v10_8]
      refine (update_at (W (Proc.devRef .tc main_v10_8)) _ (W (Proc.devRef .tc main_v10_4)) ⟨n, by omega⟩ i4 l g p).trans ?_
      split_ifs with h
      · rw [h]; exact a75 g p
      · exact i8 l (by have : (l : ℕ) ≠ n := fun e => h (Fin.ext e); omega) g p

end Cert.Proof.S5
end
-- ==== Proof.K2RefVal.lean ====
/-
  The reference's operations around its loop, and its three results.
-/
module

public import proofs.«01_k».proof.Proof.K2RefLoop

@[expose] public section

set_option maxRecDepth 16384
noncomputable section
open Idealize.ShloMosaic Idealize.ShloMosaic.TcCoe Idealize.SL.Sem
open Cert.Reference2Ideal Cert.Reference2Ideal.Gen Cert.Reference2Ideal.Value
namespace Cert.Proof.S5

/-- The readout. -/
def opsP {F : FTy → Type} [FloatOps F] : List (HloOp τ sig (Elt F)) := [
  StableHlo.binary main_v10_7 main_arg5 main_v11 ((fun l r => Host.dotGeneral dot_S2048x64x64_S64x16x64_S64x2048x16_2_2_0_1_1_0 none l r) : (⟨S2048x64x64, .f32⟩ : BufTy).Contents (Elt F) → (⟨S64x16x64, .f32⟩ : BufTy).Contents (Elt F) → (⟨S64x2048x16, .f32⟩ : BufTy).Contents (Elt F)),
  StableHlo.unary main_v11 main_v12 ((transpose S2048x64x16 [1, 0, 2] · transposes_S64x2048x16_S2048x64x16_1_0_2) : (⟨S64x2048x16, .f32⟩ : BufTy).Contents (Elt F) → (⟨S2048x64x16, .f32⟩ : BufTy).Contents (Elt F)),
  StableHlo.binary main_v10_8 main_arg6 main_v13 ((fun l r => Host.dotGeneral dot_S2048x64x64_S64x16x64_S64x2048x16_2_2_0_1_1_0 none l r) : (⟨S2048x64x64, .f32⟩ : BufTy).Contents (Elt F) → (⟨S64x16x64, .f32⟩ : BufTy).Contents (Elt F) → (⟨S64x2048x16, .f32⟩ : BufTy).Contents (Elt F)),
  StableHlo.unary main_v13 main_v14 ((transpose S2048x64x16 [1, 0, 2] · transposes_S64x2048x16_S2048x64x16_1_0_2) : (⟨S64x2048x16, .f32⟩ : BufTy).Contents (Elt F) → (⟨S2048x64x16, .f32⟩ : BufTy).Contents (Elt F)),
  StableHlo.binary main_v12 main_v14 main_v15 (subf : (⟨S2048x64x16, .f32⟩ : BufTy).Contents (Elt F) → (⟨S2048x64x16, .f32⟩ : BufTy).Contents (Elt F) → (⟨S2048x64x16, .f32⟩ : BufTy).Contents (Elt F)),
  StableHlo.reshape main_arg7 main_v16 (rfl : (.f32 : EltTy) = .f32) shapeCasts_S1024_S64x16,
  StableHlo.unary main_v16 main_v17 (broadcastInDim S1x64x16 ![1, 2] bcast_S64x16_S1x64x16_1_2 : (⟨S64x16, .f32⟩ : BufTy).Contents (Elt F) → (⟨S1x64x16, .f32⟩ : BufTy).Contents (Elt F)),
  StableHlo.unary main_v17 main_v18 (broadcastInDim S2048x64x16 ![0, 1, 2] bcast_S1x64x16_S2048x64x16_0_1_2 : (⟨S1x64x16, .f32⟩ : BufTy).Contents (Elt F) → (⟨S2048x64x16, .f32⟩ : BufTy).Contents (Elt F)),
  StableHlo.binary main_v18 main_v0 main_v19 (mulf : (⟨S2048x64x16, .f32⟩ : BufTy).Contents (Elt F) → (⟨S2048x64x16, .f32⟩ : BufTy).Contents (Elt F) → (⟨S2048x64x16, .f32⟩ : BufTy).Contents (Elt F)),
  StableHlo.binary main_v15 main_v19 main_v20 (addf : (⟨S2048x64x16, .f32⟩ : BufTy).Contents (Elt F) → (⟨S2048x64x16, .f32⟩ : BufTy).Contents (Elt F) → (⟨S2048x64x16, .f32⟩ : BufTy).Contents (Elt F)),
  StableHlo.reshape main_v20 main_v21 (rfl : (.f32 : EltTy) = .f32) shapeCasts_S2048x64x16_S2048x1024]
/-- Its activation. -/
def opsQ {F : FTy → Type} [FloatOps F] : List (HloOp τ sig (Elt F)) := [
  StableHlo.nullary main_cst_2 (constant S_ .f32 0x3F000000#32),
  StableHlo.unary main_cst_2 main_v22 (broadcastInDim S2048x1024 ![] bcast_S_S2048x1024 : (⟨S_, .f32⟩ : BufTy).Contents (Elt F) → (⟨S2048x1024, .f32⟩ : BufTy).Contents (Elt F)),
  StableHlo.binary main_v22 main_v21 main_v23 (mulf : (⟨S2048x1024, .f32⟩ : BufTy).Contents (Elt F) → (⟨S2048x1024, .f32⟩ : BufTy).Contents (Elt F) → (⟨S2048x1024, .f32⟩ : BufTy).Contents (Elt F)),
  StableHlo.binary main_v21 main_v21 main_v24 (mulf : (⟨S2048x1024, .f32⟩ : BufTy).Contents (Elt F) → (⟨S2048x1024, .f32⟩ : BufTy).Contents (Elt F) → (⟨S2048x1024, .f32⟩ : BufTy).Contents (Elt F)),
  StableHlo.binary main_v24 main_v21 main_v25 (mulf : (⟨S2048x1024, .f32⟩ : BufTy).Contents (Elt F) → (⟨S2048x1024, .f32⟩ : BufTy).Contents (Elt F) → (⟨S2048x1024, .f32⟩ : BufTy).Contents (Elt F)),
  StableHlo.nullary main_cst_3 (constant S_ .f32 0x460BBC00#32),
  StableHlo.unary main_cst_3 main_v26 (broadcastInDim S2048x1024 ![] bcast_S_S2048x1024 : (⟨S_, .f32⟩ : BufTy).Contents (Elt F) → (⟨S2048x1024, .f32⟩ : BufTy).Contents (Elt F)),
  StableHlo.binary main_v25 main_v26 main_v27 (mulf : (⟨S2048x1024, .f32⟩ : BufTy).Contents (Elt F) → (⟨S2048x1024, .f32⟩ : BufTy).Contents (Elt F) → (⟨S2048x1024, .f32⟩ : BufTy).Contents (Elt F)),
  StableHlo.nullary main_cst_4 (constant S_ .f32 0x48435000#32),
  StableHlo.unary main_cst_4 main_v28 (broadcastInDim S2048x1024 ![] bcast_S_S2048x1024 : (⟨S_, .f32⟩ : BufTy).Contents (Elt F) → (⟨S2048x1024, .f32⟩ : BufTy).Contents (Elt F)),
  StableHlo.binary main_v27 main_v28 main_v29 (Host.divf : (⟨S2048x1024, .f32⟩ : BufTy).Contents (Elt F) → (⟨S2048x1024, .f32⟩ : BufTy).Contents (Elt F) → (⟨S2048x1024, .f32⟩ : BufTy).Contents (Elt F)),
  StableHlo.binary main_v21 main_v29 main_v30 (addf : (⟨S2048x1024, .f32⟩ : BufTy).Contents (Elt F) → (⟨S2048x1024, .f32⟩ : BufTy).Contents (Elt F) → (⟨S2048x1024, .f32⟩ : BufTy).Contents (Elt F)),
  StableHlo.nullary main_cst_5 (constant S_ .f32 0x3F4C422A#32),
  StableHlo.unary main_cst_5 main_v31 (broadcastInDim S2048x1024 ![] bcast_S_S2048x1024 : (⟨S_, .f32⟩ : BufTy).Contents (Elt F) → (⟨S2048x1024, .f32⟩ : BufTy).Contents (Elt F)),
  StableHlo.binary main_v31 main_v30 main_v32 (mulf : (⟨S2048x1024, .f32⟩ : BufTy).Contents (Elt F) → (⟨S2048x1024, .f32⟩ : BufTy).Contents (Elt F) → (⟨S2048x1024, .f32⟩ : BufTy).Contents (Elt F)),
  StableHlo.unary main_v32 main_v33 (Host.tanh : (⟨S2048x1024, .f32⟩ : BufTy).Contents (Elt F) → (⟨S2048x1024, .f32⟩ : BufTy).Contents (Elt F))]
/-- The activation's gradient. -/
def opsQ2 {F : FTy → Type} [FloatOps F] : List (HloOp τ sig (Elt F)) := [
  StableHlo.nullary main_cst_6 (constant S_ .f32 0x3F800000#32),
  StableHlo.unary main_cst_6 main_v34 (broadcastInDim S2048x1024 ![] bcast_S_S2048x1024 : (⟨S_, .f32⟩ : BufTy).Contents (Elt F) → (⟨S2048x1024, .f32⟩ : BufTy).Contents (Elt F)),
  StableHlo.binary main_v34 main_v33 main_v35 (addf : (⟨S2048x1024, .f32⟩ : BufTy).Contents (Elt F) → (⟨S2048x1024, .f32⟩ : BufTy).Contents (Elt F) → (⟨S2048x1024, .f32⟩ : BufTy).Contents (Elt F)),
  StableHlo.nullary main_cst_7 (constant S_ .f32 0x3F800000#32),
  StableHlo.unary main_cst_7 main_v36 (broadcastInDim S2048x1024 ![] bcast_S_S2048x1024 : (⟨S_, .f32⟩ : BufTy).Contents (Elt F) → (⟨S2048x1024, .f32⟩ : BufTy).Contents (Elt F)),
  StableHlo.binary main_v36 main_v33 main_v37 (subf : (⟨S2048x1024, .f32⟩ : BufTy).Contents (Elt F) → (⟨S2048x1024, .f32⟩ : BufTy).Contents (Elt F) → (⟨S2048x1024, .f32⟩ : BufTy).Contents (Elt F)),
  StableHlo.binary main_v35 main_v37 main_v38 (mulf : (⟨S2048x1024, .f32⟩ : BufTy).Contents (Elt F) → (⟨S2048x1024, .f32⟩ : BufTy).Contents (Elt F) → (⟨S2048x1024, .f32⟩ : BufTy).Contents (Elt F)),
  StableHlo.nullary main_cst_8 (constant S_ .f32 0x3F800000#32),
  StableHlo.unary main_cst_8 main_v39 (broadcastInDim S2048x1024 ![] bcast_S_S2048x1024 : (⟨S_, .f32⟩ : BufTy).Contents (Elt F) → (⟨S2048x1024, .f32⟩ : BufTy).Contents (Elt F)),
  StableHlo.binary main_v39 main_v33 main_v40 (addf : (⟨S2048x1024, .f32⟩ : BufTy).Contents (Elt F) → (⟨S2048x1024, .f32⟩ : BufTy).Contents (Elt F) → (⟨S2048x1024, .f32⟩ : BufTy).Contents (Elt F)),
  StableHlo.binary main_v23 main_v40 main_v41 (mulf : (⟨S2048x1024, .f32⟩ : BufTy).Contents (Elt F) → (⟨S2048x1024, .f32⟩ : BufTy).Contents (Elt F) → (⟨S2048x1024, .f32⟩ : BufTy).Contents (Elt F)),
  StableHlo.binary main_v23 main_arg8 main_v42 (mulf : (⟨S2048x1024, .f32⟩ : BufTy).Contents (Elt F) → (⟨S2048x1024, .f32⟩ : BufTy).Contents (Elt F) → (⟨S2048x1024, .f32⟩ : BufTy).Contents (Elt F)),
  StableHlo.binary main_arg8 main_v40 main_v43 (mulf : (⟨S2048x1024, .f32⟩ : BufTy).Contents (Elt F) → (⟨S2048x1024, .f32⟩ : BufTy).Contents (Elt F) → (⟨S2048x1024, .f32⟩ : BufTy).Contents (Elt F)),
  StableHlo.binary main_v42 main_v38 main_v44 (mulf : (⟨S2048x1024, .f32⟩ : BufTy).Contents (Elt F) → (⟨S2048x1024, .f32⟩ : BufTy).Contents (Elt F) → (⟨S2048x1024, .f32⟩ : BufTy).Contents (Elt F)),
  StableHlo.nullary main_cst_9 (constant S_ .f32 0x3F4C422A#32),
  StableHlo.unary main_cst_9 main_v45 (broadcastInDim S2048x1024 ![] bcast_S_S2048x1024 : (⟨S_, .f32⟩ : BufTy).Contents (Elt F) → (⟨S2048x1024, .f32⟩ : BufTy).Contents (Elt F)),
  StableHlo.binary main_v45 main_v44 main_v46 (mulf : (⟨S2048x1024, .f32⟩ : BufTy).Contents (Elt F) → (⟨S2048x1024, .f32⟩ : BufTy).Contents (Elt F) → (⟨S2048x1024, .f32⟩ : BufTy).Contents (Elt F)),
  StableHlo.nullary main_cst_10 (constant S_ .f32 0x48435000#32),
  StableHlo.unary main_cst_10 main_v47 (broadcastInDim S2048x1024 ![] bcast_S_S2048x1024 : (⟨S_, .f32⟩ : BufTy).Contents (Elt F) → (⟨S2048x1024, .f32⟩ : BufTy).Contents (Elt F)),
  StableHlo.binary main_v46 main_v47 main_v48 (Host.divf : (⟨S2048x1024, .f32⟩ : BufTy).Contents (Elt F) → (⟨S2048x1024, .f32⟩ : BufTy).Contents (Elt F) → (⟨S2048x1024, .f32⟩ : BufTy).Contents (Elt F)),
  StableHlo.nullary main_cst_11 (constant S_ .f32 0x460BBC00#32),
  StableHlo.unary main_cst_11 main_v49 (broadcastInDim S2048x1024 ![] bcast_S_S2048x1024 : (⟨S_, .f32⟩ : BufTy).Contents (Elt F) → (⟨S2048x1024, .f32⟩ : BufTy).Contents (Elt F)),
  StableHlo.binary main_v48 main_v49 main_v50 (mulf : (⟨S2048x1024, .f32⟩ : BufTy).Contents (Elt F) → (⟨S2048x1024, .f32⟩ : BufTy).Contents (Elt F) → (⟨S2048x1024, .f32⟩ : BufTy).Contents (Elt F)),
  StableHlo.binary main_v24 main_v50 main_v51 (mulf : (⟨S2048x1024, .f32⟩ : BufTy).Contents (Elt F) → (⟨S2048x1024, .f32⟩ : BufTy).Contents (Elt F) → (⟨S2048x1024, .f32⟩ : BufTy).Contents (Elt F)),
  StableHlo.binary main_v46 main_v51 main_v52 (addf : (⟨S2048x1024, .f32⟩ : BufTy).Contents (Elt F) → (⟨S2048x1024, .f32⟩ : BufTy).Contents (Elt F) → (⟨S2048x1024, .f32⟩ : BufTy).Contents (Elt F)),
  StableHlo.binary main_v50 main_v21 main_v53 (mulf : (⟨S2048x1024, .f32⟩ : BufTy).Contents (Elt F) → (⟨S2048x1024, .f32⟩ : BufTy).Contents (Elt F) → (⟨S2048x1024, .f32⟩ : BufTy).Contents (Elt F)),
  StableHlo.binary main_v21 main_v53 main_v54 (mulf : (⟨S2048x1024, .f32⟩ : BufTy).Contents (Elt F) → (⟨S2048x1024, .f32⟩ : BufTy).Contents (Elt F) → (⟨S2048x1024, .f32⟩ : BufTy).Contents (Elt F)),
  StableHlo.binary main_v52 main_v54 main_v55 (addf : (⟨S2048x1024, .f32⟩ : BufTy).Contents (Elt F) → (⟨S2048x1024, .f32⟩ : BufTy).Contents (Elt F) → (⟨S2048x1024, .f32⟩ : BufTy).Contents (Elt F)),
  StableHlo.binary main_v53 main_v21 main_v56 (mulf : (⟨S2048x1024, .f32⟩ : BufTy).Contents (Elt F) → (⟨S2048x1024, .f32⟩ : BufTy).Contents (Elt F) → (⟨S2048x1024, .f32⟩ : BufTy).Contents (Elt F)),
  StableHlo.binary main_v55 main_v56 main_v57 (addf : (⟨S2048x1024, .f32⟩ : BufTy).Contents (Elt F) → (⟨S2048x1024, .f32⟩ : BufTy).Contents (Elt F) → (⟨S2048x1024, .f32⟩ : BufTy).Contents (Elt F)),
  StableHlo.nullary main_cst_12 (constant S_ .f32 0x3F000000#32),
  StableHlo.unary main_cst_12 main_v58 (broadcastInDim S2048x1024 ![] bcast_S_S2048x1024 : (⟨S_, .f32⟩ : BufTy).Contents (Elt F) → (⟨S2048x1024, .f32⟩ : BufTy).Contents (Elt F)),
  StableHlo.binary main_v58 main_v43 main_v59 (mulf : (⟨S2048x1024, .f32⟩ : BufTy).Contents (Elt F) → (⟨S2048x1024, .f32⟩ : BufTy).Contents (Elt F) → (⟨S2048x1024, .f32⟩ : BufTy).Contents (Elt F)),
  StableHlo.binary main_v57 main_v59 main_v60 (addf : (⟨S2048x1024, .f32⟩ : BufTy).Contents (Elt F) → (⟨S2048x1024, .f32⟩ : BufTy).Contents (Elt F) → (⟨S2048x1024, .f32⟩ : BufTy).Contents (Elt F))]
/-- The three gradients. -/
def opsR {F : FTy → Type} [FloatOps F] : List (HloOp τ sig (Elt F)) := [
  StableHlo.reshape main_v60 main_v61 (rfl : (.f32 : EltTy) = .f32) shapeCasts_S2048x1024_S2048x64x16,
  StableHlo.binary main_v61 main_v0 main_v62 (mulf : (⟨S2048x64x16, .f32⟩ : BufTy).Contents (Elt F) → (⟨S2048x64x16, .f32⟩ : BufTy).Contents (Elt F) → (⟨S2048x64x16, .f32⟩ : BufTy).Contents (Elt F)),
  StableHlo.nullary main_cst_13 (constant S_ .f32 0x00000000#32),
  StableHlo.binary main_v62 main_cst_13 main_v63 ((fun x v => Host.reduceAdd x v reducesTo_S2048x64x16_S64x16_d0 h_S_) : (⟨S2048x64x16, .f32⟩ : BufTy).Contents (Elt F) → (⟨S_, .f32⟩ : BufTy).Contents (Elt F) → (⟨S64x16, .f32⟩ : BufTy).Contents (Elt F)),
  StableHlo.reshape main_v63 main_v64 (rfl : (.f32 : EltTy) = .f32) shapeCasts_S64x16_S1x64x16,
  StableHlo.nullary main_cst_14 (constant S_ .f32 0x00000000#32),
  StableHlo.binary main_v64 main_cst_14 main_v65 ((fun x v => Host.reduceAdd x v reducesTo_S1x64x16_S64x16_d0 h_S_) : (⟨S1x64x16, .f32⟩ : BufTy).Contents (Elt F) → (⟨S_, .f32⟩ : BufTy).Contents (Elt F) → (⟨S64x16, .f32⟩ : BufTy).Contents (Elt F)),
  StableHlo.reshape main_v65 main_v66 (rfl : (.f32 : EltTy) = .f32) shapeCasts_S64x16_S1024,
  StableHlo.unary main_v61 main_v67 (Host.negf : (⟨S2048x64x16, .f32⟩ : BufTy).Contents (Elt F) → (⟨S2048x64x16, .f32⟩ : BufTy).Contents (Elt F)),
  StableHlo.unary main_v67 main_v68 ((transpose S64x2048x16 [1, 0, 2] · transposes_S2048x64x16_S64x2048x16_1_0_2) : (⟨S2048x64x16, .f32⟩ : BufTy).Contents (Elt F) → (⟨S64x2048x16, .f32⟩ : BufTy).Contents (Elt F)),
  StableHlo.binary main_v68 main_v10_8 main_v69 ((fun l r => Host.dotGeneral dot_S64x2048x16_S2048x64x64_S64x16x64_1_0_2_2_0_1 none l r) : (⟨S64x2048x16, .f32⟩ : BufTy).Contents (Elt F) → (⟨S2048x64x64, .f32⟩ : BufTy).Contents (Elt F) → (⟨S64x16x64, .f32⟩ : BufTy).Contents (Elt F)),
  StableHlo.unary main_v61 main_v70 ((transpose S64x2048x16 [1, 0, 2] · transposes_S2048x64x16_S64x2048x16_1_0_2) : (⟨S2048x64x16, .f32⟩ : BufTy).Contents (Elt F) → (⟨S64x2048x16, .f32⟩ : BufTy).Contents (Elt F)),
  StableHlo.binary main_v70 main_v10_7 main_v71 ((fun l r => Host.dotGeneral dot_S64x2048x16_S2048x64x64_S64x16x64_1_0_2_2_0_1 none l r) : (⟨S64x2048x16, .f32⟩ : BufTy).Contents (Elt F) → (⟨S2048x64x64, .f32⟩ : BufTy).Contents (Elt F) → (⟨S64x16x64, .f32⟩ : BufTy).Contents (Elt F))]

theorem ops_split : (hostOps0_1 : List (HloOp τ sig (Elt Ideal))) = opsP ++ (opsQ ++ (opsQ2 ++ opsR)) := rfl

variable (V : Valuation τ sig (Elt Ideal))
theorem keep_opsP {r : Ref sig .tc} (hr : r ∉ [main_v11, main_v12, main_v13, main_v14, main_v15, main_v16, main_v17, main_v18, main_v19, main_v20, main_v21]) : StableHlo.after opsP V (Proc.devRef .tc r) = V (Proc.devRef .tc r) :=
  StableHlo.after_unwritten _ (by unfold opsP; rfl) hr V
theorem keep_opsQ {r : Ref sig .tc} (hr : r ∉ [main_cst_2, main_v22, main_v23, main_v24, main_v25, main_cst_3, main_v26, main_v27, main_cst_4, main_v28, main_v29, main_v30, main_cst_5, main_v31, main_v32, main_v33]) : StableHlo.after opsQ V (Proc.devRef .tc r) = V (Proc.devRef .tc r) :=
  StableHlo.after_unwritten _ (by unfold opsQ; rfl) hr V
theorem keep_opsQ2 {r : Ref sig .tc} (hr : r ∉ [main_cst_6, main_v34, main_v35, main_cst_7, main_v36, main_v37, main_v38, main_cst_8, main_v39, main_v40, main_v41, main_v42, main_v43, main_v44, main_cst_9, main_v45, main_v46, main_cst_10, main_v47, main_v48, main_cst_11, main_v49, main_v50, main_v51, main_v52, main_v53, main_v54, main_v55, main_v56, main_v57, main_cst_12, main_v58, main_v59, main_v60]) : StableHlo.after opsQ2 V (Proc.devRef .tc r) = V (Proc.devRef .tc r) :=
  StableHlo.after_unwritten _ (by unfold opsQ2; rfl) hr V
theorem keep_opsR {r : Ref sig .tc} (hr : r ∉ [main_v61, main_v62, main_cst_13, main_v63, main_v64, main_cst_14, main_v65, main_v66, main_v67, main_v68, main_v69, main_v70, main_v71]) : StableHlo.after opsR V (Proc.devRef .tc r) = V (Proc.devRef .tc r) :=
  StableHlo.after_unwritten _ (by unfold opsR; rfl) hr V

theorem ch_div (g : Fin 64) (k : Fin 16) (h : (ch g k : ℕ) / 16 < 64) : (⟨(ch g k : ℕ) / 16, h⟩ : Fin 64) = g := Fin.ext (by simp [ch]; omega)
theorem ch_mod (g : Fin 64) (k : Fin 16) (h : (ch g k : ℕ) % 16 < 16) : (⟨(ch g k : ℕ) % 16, h⟩ : Fin 16) = k := Fin.ext (by simp [ch])
theorem ch_join (g : Fin 64) (k : Fin 16) (h : (ch g k : ℕ) / 16 * 16 + (ch g k : ℕ) % 16 < 1024) : (⟨(ch g k : ℕ) / 16 * 16 + (ch g k : ℕ) % 16, h⟩ : Fin 1024) = ch g k :=
  Fin.ext (by simp; omega)

/-- The readout at a row and a member of a group. -/
theorem read_y (l : Fin 2048) (g : Fin 64) (k : Fin 16) : StableHlo.after opsP V (Proc.devRef .tc main_v21) (ix2 l (ch g k))
    = HAdd.hAdd (α := EReal) (HSub.hSub (α := EReal) (∑ p : Fin 64, HMul.hMul (α := EReal) (V (Proc.devRef .tc main_v10_7) (ix3 l g p)) (V (Proc.devRef .tc main_arg5) (ix3 g k p)))
        (∑ p : Fin 64, HMul.hMul (α := EReal) (V (Proc.devRef .tc main_v10_8) (ix3 l g p)) (V (Proc.devRef .tc main_arg6) (ix3 g k p))))
      (HMul.hMul (α := EReal) (V (Proc.devRef .tc main_arg7) (ix1 (ch g k))) (V (Proc.devRef .tc main_v0) (ix3 l g k))) := by
  unfold opsP; after_reads_at
  simp only [ch_div, ch_mod, ch_join]

/-- The activation's inner value, with the cubic coefficient a fraction. -/
def tq (y : EReal) : EReal := Ideal.tanh (Ideal.ofBits .f32 0x3F4C422A#32 * (y + Ideal.div (y * y * y * Ideal.ofBits .f32 0x460BBC00#32) (Ideal.ofBits .f32 0x48435000#32)))
/-- The gradient through it, from the values kept. -/
def gq (y h s t d : EReal) : EReal :=
  (Ideal.ofBits .f32 0x3F4C422A#32 * (h * d * ((1 + t) * (1 - t)))
    + s * (Ideal.div (Ideal.ofBits .f32 0x3F4C422A#32 * (h * d * ((1 + t) * (1 - t)))) (Ideal.ofBits .f32 0x48435000#32) * Ideal.ofBits .f32 0x460BBC00#32)
    + y * (Ideal.div (Ideal.ofBits .f32 0x3F4C422A#32 * (h * d * ((1 + t) * (1 - t)))) (Ideal.ofBits .f32 0x48435000#32) * Ideal.ofBits .f32 0x460BBC00#32 * y)
    + Ideal.div (Ideal.ofBits .f32 0x3F4C422A#32 * (h * d * ((1 + t) * (1 - t)))) (Ideal.ofBits .f32 0x48435000#32) * Ideal.ofBits .f32 0x460BBC00#32 * y * y)
    + Ideal.ofBits .f32 0x3F000000#32 * (d * (1 + t))

theorem read_t : StableHlo.after opsQ V (Proc.devRef .tc main_v33) = fun i => tq (V (Proc.devRef .tc main_v21) i) := by
  funext i; unfold opsQ; after_reads_at; rfl
theorem read_h : StableHlo.after opsQ V (Proc.devRef .tc main_v23) = fun i => HMul.hMul (α := EReal) (Ideal.ofBits .f32 0x3F000000#32) (V (Proc.devRef .tc main_v21) i) := by
  funext i; unfold opsQ; after_reads_at
theorem read_s : StableHlo.after opsQ V (Proc.devRef .tc main_v24) = fun i => HMul.hMul (α := EReal) (V (Proc.devRef .tc main_v21) i) (V (Proc.devRef .tc main_v21) i) := by
  funext i; unfold opsQ; after_reads_at
theorem read_g : StableHlo.after opsQ2 V (Proc.devRef .tc main_v60)
    = fun i => gq (V (Proc.devRef .tc main_v21) i) (V (Proc.devRef .tc main_v23) i) (V (Proc.devRef .tc main_v24) i) (V (Proc.devRef .tc main_v33) i) (V (Proc.devRef .tc main_arg8) i) := by
  funext i; unfold opsQ2; after_reads_at; rfl
theorem read_66 (g : Fin 64) (k : Fin 16) : StableHlo.after opsR V (Proc.devRef .tc main_v66) (ix1 (ch g k))
    = ∑ l : Fin 2048, HMul.hMul (α := EReal) (V (Proc.devRef .tc main_v60) (ix2 l (ch g k))) (V (Proc.devRef .tc main_v0) (ix3 l g k)) := by
  unfold opsR; after_reads_at
  simp only [ch_div, ch_mod, ch_join]
  exact Fin.sum_univ_one (M := EReal) _
theorem read_69 (g : Fin 64) (k : Fin 16) (p : Fin 64) : StableHlo.after opsR V (Proc.devRef .tc main_v69) (ix3 g k p)
    = ∑ l : Fin 2048, HMul.hMul (α := EReal) (Neg.neg (α := EReal) (V (Proc.devRef .tc main_v60) (ix2 l (ch g k)))) (V (Proc.devRef .tc main_v10_8) (ix3 l g p)) := by
  unfold opsR; after_reads_at; rfl
theorem read_71 (g : Fin 64) (k : Fin 16) (p : Fin 64) : StableHlo.after opsR V (Proc.devRef .tc main_v71) (ix3 g k p)
    = ∑ l : Fin 2048, HMul.hMul (α := EReal) (V (Proc.devRef .tc main_v60) (ix2 l (ch g k))) (V (Proc.devRef .tc main_v10_7) (ix3 l g p)) := by
  unfold opsR; after_reads_at; rfl
theorem read_v0 (l : Fin 2048) (g : Fin 64) (k : Fin 16) : StableHlo.after hostOps0 V (Proc.devRef .tc main_v0) (ix3 l g k) = V (Proc.devRef .tc main_arg0) (ix2 l (ch g k)) := by
  unfold hostOps0; after_reads_at; rfl
theorem read_v10_0 (l : Fin 2048) (g p : Fin 64) : StableHlo.after hostOps0 V (Proc.devRef .tc main_v10_0) (ix3 l g p)
    = ∑ k : Fin 16, HMul.hMul (α := EReal) (V (Proc.devRef .tc main_arg0) (ix2 l (ch g k))) (V (Proc.devRef .tc main_arg3) (ix2 g (ch p k))) := by
  unfold hostOps0; after_reads_at; unfold id; pointwise []; rfl
theorem read_v10_1 (l : Fin 2048) (g p : Fin 64) : StableHlo.after hostOps0 V (Proc.devRef .tc main_v10_1) (ix3 l g p)
    = ∑ k : Fin 16, HMul.hMul (α := EReal) (V (Proc.devRef .tc main_arg0) (ix2 l (ch g k))) (V (Proc.devRef .tc main_arg4) (ix2 g (ch p k))) := by
  unfold hostOps0; after_reads_at; unfold id; pointwise []; rfl
theorem read_v10_2 : StableHlo.after hostOps0 V (Proc.devRef .tc main_v10_2) = V (Proc.devRef .tc main_arg1) := by
  unfold hostOps0; after_reads_at; rfl
theorem read_v10_3 : StableHlo.after hostOps0 V (Proc.devRef .tc main_v10_3) = V (Proc.devRef .tc main_arg2) := by
  unfold hostOps0; after_reads_at; rfl
theorem read_v10_5 (g p : Fin 64) : StableHlo.after hostOps0 V (Proc.devRef .tc main_v10_5) (ix2 g p) = (0 : EReal) := by
  unfold hostOps0; after_reads_at; unfold id; pointwise []
theorem read_v10_6 (g p : Fin 64) : StableHlo.after hostOps0 V (Proc.devRef .tc main_v10_6) (ix2 g p) = (0 : EReal) := by
  unfold hostOps0; after_reads_at; unfold id; pointwise []

theorem word_8943 : Ideal.ofBits .f32 0x460BBC00#32 = ((8943 : ℝ) : EReal) := by
  simp [Ideal.ofBits, Ideal.ieee, -EReal.coe_mul]; norm_num
theorem word_200000 : Ideal.ofBits .f32 0x48435000#32 = ((200000 : ℝ) : EReal) := by
  simp [Ideal.ofBits, Ideal.ieee, -EReal.coe_mul]; norm_num

/-- On reals the activation's inner value and gradient are those of the formula. -/
theorem tq_real (y : ℝ) : tq (y : EReal) = (tr y : EReal) := by
  unfold tq tr
  rw [word_cw, word_8943, word_200000, Ideal.div_coe (by norm_num)]
  simp only [← EReal.coe_mul, ← EReal.coe_add, Ideal.tanh_coe]
  congr 3; ring
theorem gq_real (y d : ℝ) : gq (y : EReal) (Ideal.ofBits .f32 0x3F000000#32 * (y : EReal)) ((y : EReal) * (y : EReal)) (tr y : EReal) (d : EReal) = ((d * gr y : ℝ) : EReal) := by
  unfold gq gr
  rw [word_cw, word_8943, word_200000, word_half', Ideal.div_coe (by norm_num), show (1 : EReal) = ((1 : ℝ) : EReal) from rfl]
  simp only [← EReal.coe_mul, ← EReal.coe_add, ← EReal.coe_sub]
  congr 1; ring

/-- The arguments are the numbers of `I`. -/
structure Args (I : Data) (a0 : Vec Ideal S2048x1024 .f32) (a1 a2 : Vec Ideal S64x64 .f32) (a3 a4 : Vec Ideal S64x1024 .f32) (a5 a6 : Vec Ideal S64x16x64 .f32)
    (a7 : Vec Ideal S1024 .f32) (a8 : Vec Ideal S2048x1024 .f32) : Prop where
  u : ∀ l c, a0 (ix2 l c) = (I.U l c : EReal)
  lr : ∀ g p, a1 (ix2 g p) = (I.LR g p : EReal)
  li : ∀ g p, a2 (ix2 g p) = (I.LI g p : EReal)
  br : ∀ g c, a3 (ix2 g c) = (I.BR g c : EReal)
  bi : ∀ g c, a4 (ix2 g c) = (I.BI g c : EReal)
  cr : ∀ g k p, a5 (ix3 g k p) = (I.CR g k p : EReal)
  ci : ∀ g k p, a6 (ix3 g k p) = (I.CI g k p : EReal)
  d : ∀ c, a7 (ix1 c) = (I.D c : EReal)
  dy : ∀ l c, a8 (ix2 l c) = (I.DY l c : EReal)

variable (I : Data)
/-- `Args` of a memory's nine arguments. -/
def ArgsOf (V : Valuation τ sig (Elt Ideal)) : Prop :=
  Args I (V (Proc.devRef .tc main_arg0)) (V (Proc.devRef .tc main_arg1)) (V (Proc.devRef .tc main_arg2)) (V (Proc.devRef .tc main_arg3)) (V (Proc.devRef .tc main_arg4))
    (V (Proc.devRef .tc main_arg5)) (V (Proc.devRef .tc main_arg6)) (V (Proc.devRef .tc main_arg7)) (V (Proc.devRef .tc main_arg8))

/-- Into the loop: the inputs' projections. -/
theorem bu_re (h : ArgsOf I V) (l : Fin 2048) (g p : Fin 64) : StableHlo.after hostOps0 V (Proc.devRef .tc main_v10_0) (ix3 l g p) = ((bu I g p l).re : EReal) := by
  rw [read_v10_0]
  refine (Finset.sum_congr rfl fun k _ => congrArg₂ (HMul.hMul (α := EReal) (β := EReal) (γ := EReal)) (h.u l (ch g k)) (h.br g (ch p k))).trans ?_
  simp only [← EReal.coe_mul, ← cast_sum]; rfl
theorem bu_im (h : ArgsOf I V) (l : Fin 2048) (g p : Fin 64) : StableHlo.after hostOps0 V (Proc.devRef .tc main_v10_1) (ix3 l g p) = ((bu I g p l).im : EReal) := by
  rw [read_v10_1]
  refine (Finset.sum_congr rfl fun k _ => congrArg₂ (HMul.hMul (α := EReal) (β := EReal) (γ := EReal)) (h.u l (ch g k)) (h.bi g (ch p k))).trans ?_
  simp only [← EReal.coe_mul, ← cast_sum]; rfl

/-- What the operations after the loop find. -/
structure Found (V : Valuation τ sig (Elt Ideal)) : Prop where
  sr : ∀ (l : Fin 2048) (g p : Fin 64), V (Proc.devRef .tc main_v10_7) (ix3 l g p) = ((xs I g p l).re : EReal)
  si : ∀ (l : Fin 2048) (g p : Fin 64), V (Proc.devRef .tc main_v10_8) (ix3 l g p) = ((xs I g p l).im : EReal)
  u : ∀ (l : Fin 2048) (g : Fin 64) (k : Fin 16), V (Proc.devRef .tc main_v0) (ix3 l g k) = (I.U l (ch g k) : EReal)
  cr : ∀ g k p, V (Proc.devRef .tc main_arg5) (ix3 g k p) = (I.CR g k p : EReal)
  ci : ∀ g k p, V (Proc.devRef .tc main_arg6) (ix3 g k p) = (I.CI g k p : EReal)
  d : ∀ c, V (Proc.devRef .tc main_arg7) (ix1 c) = (I.D c : EReal)
  dy : ∀ (l : Fin 2048) c, V (Proc.devRef .tc main_arg8) (ix2 l c) = (I.DY l c : EReal)

variable {I} {V}
theorem y_real (h : Found I V) (l : Fin 2048) (g : Fin 64) (k : Fin 16) : StableHlo.after opsP V (Proc.devRef .tc main_v21) (ix2 l (ch g k)) = (yv I l g k : EReal) := by
  rw [read_y]
  refine (congrArg₂ (HAdd.hAdd (α := EReal) (β := EReal) (γ := EReal)) (congrArg₂ (HSub.hSub (α := EReal) (β := EReal) (γ := EReal))
    (Finset.sum_congr rfl fun p _ => congrArg₂ (HMul.hMul (α := EReal) (β := EReal) (γ := EReal)) (h.sr l g p) (h.cr g k p))
    (Finset.sum_congr rfl fun p _ => congrArg₂ (HMul.hMul (α := EReal) (β := EReal) (γ := EReal)) (h.si l g p) (h.ci g k p)))
    (congrArg₂ (HMul.hMul (α := EReal) (β := EReal) (γ := EReal)) (h.d (ch g k)) (h.u l g k))).trans ?_
  simp only [← EReal.coe_mul, ← cast_sum, ← EReal.coe_sub, ← EReal.coe_add]; rfl
theorem dp_real (h : Found I V) (l : Fin 2048) (g : Fin 64) (k : Fin 16) :
    StableHlo.after opsQ2 (StableHlo.after opsQ (StableHlo.after opsP V)) (Proc.devRef .tc main_v60) (ix2 l (ch g k)) = (dp I l g k : EReal) := by
  rw [read_g, read_h, read_s, read_t, keep_opsQ _ (r := main_v21) (by decide), keep_opsQ _ (r := main_arg8) (by decide), keep_opsP _ (r := main_arg8) (by decide)]
  show gq _ (HMul.hMul (α := EReal) _ _) (HMul.hMul (α := EReal) _ _) (tq _) _ = _
  rw [y_real h, h.dy, tq_real, gq_real]; rfl

theorem after_join (a b : List (HloOp τ sig (Elt Ideal))) (V : Valuation τ sig (Elt Ideal)) : StableHlo.after (a ++ b) V = StableHlo.after b (StableHlo.after a V) := by
  induction a generalizing V with
  | nil => rfl
  | cons op a ih => exact ih _

theorem end_split (V : Valuation τ sig (Elt Ideal)) : StableHlo.after hostOps0_1 V = StableHlo.after opsR (StableHlo.after opsQ2 (StableHlo.after opsQ (StableHlo.after opsP V))) := by
  rw [ops_split, after_join, after_join, after_join]
theorem end_D (h : Found I V) (g : Fin 64) (k : Fin 16) : StableHlo.after hostOps0_1 V (Proc.devRef .tc main_v66) (ix1 (ch g k)) = (dD I g k : EReal) := by
  rw [end_split, read_66]
  refine (Finset.sum_congr rfl fun l _ => congrArg₂ (HMul.hMul (α := EReal) (β := EReal) (γ := EReal)) (dp_real h l g k)
    ((congrFun ((keep_opsQ2 _ (r := main_v0) (by decide)).trans ((keep_opsQ _ (r := main_v0) (by decide)).trans (keep_opsP _ (r := main_v0) (by decide)))) _).trans (h.u l g k))).trans ?_
  simp only [← EReal.coe_mul, ← cast_sum]; rfl
theorem end_Ci (h : Found I V) (g : Fin 64) (k : Fin 16) (p : Fin 64) : StableHlo.after hostOps0_1 V (Proc.devRef .tc main_v69) (ix3 g k p) = (dCi I g k p : EReal) := by
  rw [end_split, read_69]
  refine (Finset.sum_congr rfl fun l _ => congrArg₂ (HMul.hMul (α := EReal) (β := EReal) (γ := EReal)) (congrArg (Neg.neg (α := EReal)) (dp_real h l g k))
    ((congrFun ((keep_opsQ2 _ (r := main_v10_8) (by decide)).trans ((keep_opsQ _ (r := main_v10_8) (by decide)).trans (keep_opsP _ (r := main_v10_8) (by decide)))) _).trans (h.si l g p))).trans ?_
  simp only [← EReal.coe_mul, ← EReal.coe_neg, ← cast_sum]
  exact congrArg _ (Finset.sum_congr rfl fun l _ => mul_comm _ _)
theorem end_Cr (h : Found I V) (g : Fin 64) (k : Fin 16) (p : Fin 64) : StableHlo.after hostOps0_1 V (Proc.devRef .tc main_v71) (ix3 g k p) = (dCr I g k p : EReal) := by
  rw [end_split, read_71]
  refine (Finset.sum_congr rfl fun l _ => congrArg₂ (HMul.hMul (α := EReal) (β := EReal) (γ := EReal)) (dp_real h l g k)
    ((congrFun ((keep_opsQ2 _ (r := main_v10_7) (by decide)).trans ((keep_opsQ _ (r := main_v10_7) (by decide)).trans (keep_opsP _ (r := main_v10_7) (by decide)))) _).trans (h.sr l g p))).trans ?_
  simp only [← EReal.coe_mul, ← cast_sum]
  exact congrArg _ (Finset.sum_congr rfl fun l _ => mul_comm _ _)

end Cert.Proof.S5
end
-- ==== Proof.K2Pre.lean ====
module

public import proofs.«01_k».proof.Proof.Gen.Kernel2Ideal.Launch
public import proofs.«01_k».proof.Proof.K2RefVal
public import Idealize.ShloMosaic.Lib.StableHlo.ReadAt

@[expose] public section

set_option maxRecDepth 16384
noncomputable section
open Idealize.ShloMosaic Idealize.ShloMosaic.TcCoe Idealize.SL.Sem
open Cert.Kernel2Ideal Cert.Kernel2Ideal.Gen
/-! What the host operations before the kernel's call leave in the call's arrays. -/
namespace Cert.Proof.S5

def preE {F : FTy → Type} [FloatOps F] : List (HloOp τ sig (Elt F)) := [
  StableHlo.nullary main_v0 (iotaInDim S8x8 32 0),
  StableHlo.nullary main_v1 (iotaInDim S8x8 32 1),
  StableHlo.nullary main_c (constantI S_ 32 0#32),
  StableHlo.unary main_c main_v2 (broadcastInDim S8x8 ![] bcast_S_S8x8 : (⟨S_, .i32⟩ : BufTy).Contents (Elt F) → (⟨S8x8, .i32⟩ : BufTy).Contents (Elt F)),
  StableHlo.binary main_v0 main_v2 main_v3 (addi : (⟨S8x8, .i32⟩ : BufTy).Contents (Elt F) → (⟨S8x8, .i32⟩ : BufTy).Contents (Elt F) → (⟨S8x8, .i32⟩ : BufTy).Contents (Elt F)),
  StableHlo.binary main_v3 main_v1 main_v4 (cmpi .eq : (⟨S8x8, .i32⟩ : BufTy).Contents (Elt F) → (⟨S8x8, .i32⟩ : BufTy).Contents (Elt F) → (⟨S8x8, .i1⟩ : BufTy).Contents (Elt F)),
  StableHlo.unary main_v4 main_v5 (uitofp .f32 : (⟨S8x8, .i1⟩ : BufTy).Contents (Elt F) → (⟨S8x8, .f32⟩ : BufTy).Contents (Elt F))]
def preBr {F : FTy → Type} [FloatOps F] : List (HloOp τ sig (Elt F)) := [
  StableHlo.reshape main_arg3 main_v6 (rfl : (.f32 : EltTy) = .f32) shapeCasts_S64x1024_S8x8x64x16,
  StableHlo.unary main_v6 main_v7 ((transpose S8x8x16x64 [0, 1, 3, 2] · transposes_S8x8x64x16_S8x8x16x64_0_1_3_2) : (⟨S8x8x64x16, .f32⟩ : BufTy).Contents (Elt F) → (⟨S8x8x16x64, .f32⟩ : BufTy).Contents (Elt F)),
  StableHlo.unary main_v7 main_v8 (broadcastInDim S8x8x16x1x64 ![0, 1, 2, 4] bcast_S8x8x16x64_S8x8x16x1x64_0_1_2_4 : (⟨S8x8x16x64, .f32⟩ : BufTy).Contents (Elt F) → (⟨S8x8x16x1x64, .f32⟩ : BufTy).Contents (Elt F)),
  StableHlo.unary main_v5 main_v9 (broadcastInDim S8x1x8x1 ![0, 2] bcast_S8x8_S8x1x8x1_0_2 : (⟨S8x8, .f32⟩ : BufTy).Contents (Elt F) → (⟨S8x1x8x1, .f32⟩ : BufTy).Contents (Elt F)),
  StableHlo.unary main_v9 main_v10 (broadcastInDim S1x8x1x8x1 ![1, 2, 3, 4] bcast_S8x1x8x1_S1x8x1x8x1_1_2_3_4 : (⟨S8x1x8x1, .f32⟩ : BufTy).Contents (Elt F) → (⟨S1x8x1x8x1, .f32⟩ : BufTy).Contents (Elt F)),
  StableHlo.unary main_v8 main_v11 (broadcastInDim S8x8x16x8x64 ![0, 1, 2, 3, 4] bcast_S8x8x16x1x64_S8x8x16x8x64_0_1_2_3_4 : (⟨S8x8x16x1x64, .f32⟩ : BufTy).Contents (Elt F) → (⟨S8x8x16x8x64, .f32⟩ : BufTy).Contents (Elt F)),
  StableHlo.unary main_v10 main_v12 (broadcastInDim S8x8x16x8x64 ![0, 1, 2, 3, 4] bcast_S1x8x1x8x1_S8x8x16x8x64_0_1_2_3_4 : (⟨S1x8x1x8x1, .f32⟩ : BufTy).Contents (Elt F) → (⟨S8x8x16x8x64, .f32⟩ : BufTy).Contents (Elt F)),
  StableHlo.binary main_v11 main_v12 main_v13 (mulf : (⟨S8x8x16x8x64, .f32⟩ : BufTy).Contents (Elt F) → (⟨S8x8x16x8x64, .f32⟩ : BufTy).Contents (Elt F) → (⟨S8x8x16x8x64, .f32⟩ : BufTy).Contents (Elt F)),
  StableHlo.reshape main_v13 main_v14 (rfl : (.f32 : EltTy) = .f32) shapeCasts_S8x8x16x8x64_S8x128x512]
def preBi {F : FTy → Type} [FloatOps F] : List (HloOp τ sig (Elt F)) := [
  StableHlo.reshape main_arg4 main_v15 (rfl : (.f32 : EltTy) = .f32) shapeCasts_S64x1024_S8x8x64x16,
  StableHlo.unary main_v15 main_v16 ((transpose S8x8x16x64 [0, 1, 3, 2] · transposes_S8x8x64x16_S8x8x16x64_0_1_3_2) : (⟨S8x8x64x16, .f32⟩ : BufTy).Contents (Elt F) → (⟨S8x8x16x64, .f32⟩ : BufTy).Contents (Elt F)),
  StableHlo.unary main_v16 main_v17 (broadcastInDim S8x8x16x1x64 ![0, 1, 2, 4] bcast_S8x8x16x64_S8x8x16x1x64_0_1_2_4 : (⟨S8x8x16x64, .f32⟩ : BufTy).Contents (Elt F) → (⟨S8x8x16x1x64, .f32⟩ : BufTy).Contents (Elt F)),
  StableHlo.unary main_v5 main_v18 (broadcastInDim S8x1x8x1 ![0, 2] bcast_S8x8_S8x1x8x1_0_2 : (⟨S8x8, .f32⟩ : BufTy).Contents (Elt F) → (⟨S8x1x8x1, .f32⟩ : BufTy).Contents (Elt F)),
  StableHlo.unary main_v18 main_v19 (broadcastInDim S1x8x1x8x1 ![1, 2, 3, 4] bcast_S8x1x8x1_S1x8x1x8x1_1_2_3_4 : (⟨S8x1x8x1, .f32⟩ : BufTy).Contents (Elt F) → (⟨S1x8x1x8x1, .f32⟩ : BufTy).Contents (Elt F)),
  StableHlo.unary main_v17 main_v20 (broadcastInDim S8x8x16x8x64 ![0, 1, 2, 3, 4] bcast_S8x8x16x1x64_S8x8x16x8x64_0_1_2_3_4 : (⟨S8x8x16x1x64, .f32⟩ : BufTy).Contents (Elt F) → (⟨S8x8x16x8x64, .f32⟩ : BufTy).Contents (Elt F)),
  StableHlo.unary main_v19 main_v21 (broadcastInDim S8x8x16x8x64 ![0, 1, 2, 3, 4] bcast_S1x8x1x8x1_S8x8x16x8x64_0_1_2_3_4 : (⟨S1x8x1x8x1, .f32⟩ : BufTy).Contents (Elt F) → (⟨S8x8x16x8x64, .f32⟩ : BufTy).Contents (Elt F)),
  StableHlo.binary main_v20 main_v21 main_v22 (mulf : (⟨S8x8x16x8x64, .f32⟩ : BufTy).Contents (Elt F) → (⟨S8x8x16x8x64, .f32⟩ : BufTy).Contents (Elt F) → (⟨S8x8x16x8x64, .f32⟩ : BufTy).Contents (Elt F)),
  StableHlo.reshape main_v22 main_v23 (rfl : (.f32 : EltTy) = .f32) shapeCasts_S8x8x16x8x64_S8x128x512]
def preB {F : FTy → Type} [FloatOps F] : List (HloOp τ sig (Elt F)) := [
  StableHlo.binary main_v14 main_v23 main_v24 ((fun a b => concatenate S8x128x1024 2 [⟨S8x128x512, a⟩, ⟨S8x128x512, b⟩] concatenates_S8x128x512_S8x128x512_S8x128x1024_d2) : (⟨S8x128x512, .f32⟩ : BufTy).Contents (Elt F) → (⟨S8x128x512, .f32⟩ : BufTy).Contents (Elt F) → (⟨S8x128x1024, .f32⟩ : BufTy).Contents (Elt F)),
  StableHlo.unary main_v24 main_v25 ((truncf .bf16 · bitsLt_bf16_f32) : (⟨S8x128x1024, .f32⟩ : BufTy).Contents (Elt F) → (⟨S8x128x1024, .bf16⟩ : BufTy).Contents (Elt F))]
def preCr {F : FTy → Type} [FloatOps F] : List (HloOp τ sig (Elt F)) := [
  StableHlo.reshape main_arg5 main_v26 (rfl : (.f32 : EltTy) = .f32) shapeCasts_S64x16x64_S8x8x16x64,
  StableHlo.unary main_v26 main_v27 ((transpose S8x8x64x16 [0, 1, 3, 2] · transposes_S8x8x16x64_S8x8x64x16_0_1_3_2) : (⟨S8x8x16x64, .f32⟩ : BufTy).Contents (Elt F) → (⟨S8x8x64x16, .f32⟩ : BufTy).Contents (Elt F)),
  StableHlo.unary main_v27 main_v28 (broadcastInDim S8x8x64x1x16 ![0, 1, 2, 4] bcast_S8x8x64x16_S8x8x64x1x16_0_1_2_4 : (⟨S8x8x64x16, .f32⟩ : BufTy).Contents (Elt F) → (⟨S8x8x64x1x16, .f32⟩ : BufTy).Contents (Elt F)),
  StableHlo.unary main_v5 main_v29 (broadcastInDim S8x1x8x1 ![0, 2] bcast_S8x8_S8x1x8x1_0_2 : (⟨S8x8, .f32⟩ : BufTy).Contents (Elt F) → (⟨S8x1x8x1, .f32⟩ : BufTy).Contents (Elt F)),
  StableHlo.unary main_v29 main_v30 (broadcastInDim S1x8x1x8x1 ![1, 2, 3, 4] bcast_S8x1x8x1_S1x8x1x8x1_1_2_3_4 : (⟨S8x1x8x1, .f32⟩ : BufTy).Contents (Elt F) → (⟨S1x8x1x8x1, .f32⟩ : BufTy).Contents (Elt F)),
  StableHlo.unary main_v28 main_v31 (broadcastInDim S8x8x64x8x16 ![0, 1, 2, 3, 4] bcast_S8x8x64x1x16_S8x8x64x8x16_0_1_2_3_4 : (⟨S8x8x64x1x16, .f32⟩ : BufTy).Contents (Elt F) → (⟨S8x8x64x8x16, .f32⟩ : BufTy).Contents (Elt F)),
  StableHlo.unary main_v30 main_v32 (broadcastInDim S8x8x64x8x16 ![0, 1, 2, 3, 4] bcast_S1x8x1x8x1_S8x8x64x8x16_0_1_2_3_4 : (⟨S1x8x1x8x1, .f32⟩ : BufTy).Contents (Elt F) → (⟨S8x8x64x8x16, .f32⟩ : BufTy).Contents (Elt F)),
  StableHlo.binary main_v31 main_v32 main_v33 (mulf : (⟨S8x8x64x8x16, .f32⟩ : BufTy).Contents (Elt F) → (⟨S8x8x64x8x16, .f32⟩ : BufTy).Contents (Elt F) → (⟨S8x8x64x8x16, .f32⟩ : BufTy).Contents (Elt F)),
  StableHlo.reshape main_v33 main_v34 (rfl : (.f32 : EltTy) = .f32) shapeCasts_S8x8x64x8x16_S8x512x128]
def preCi {F : FTy → Type} [FloatOps F] : List (HloOp τ sig (Elt F)) := [
  StableHlo.reshape main_arg6 main_v35 (rfl : (.f32 : EltTy) = .f32) shapeCasts_S64x16x64_S8x8x16x64,
  StableHlo.unary main_v35 main_v36 ((transpose S8x8x64x16 [0, 1, 3, 2] · transposes_S8x8x16x64_S8x8x64x16_0_1_3_2) : (⟨S8x8x16x64, .f32⟩ : BufTy).Contents (Elt F) → (⟨S8x8x64x16, .f32⟩ : BufTy).Contents (Elt F)),
  StableHlo.unary main_v36 main_v37 (broadcastInDim S8x8x64x1x16 ![0, 1, 2, 4] bcast_S8x8x64x16_S8x8x64x1x16_0_1_2_4 : (⟨S8x8x64x16, .f32⟩ : BufTy).Contents (Elt F) → (⟨S8x8x64x1x16, .f32⟩ : BufTy).Contents (Elt F)),
  StableHlo.unary main_v5 main_v38 (broadcastInDim S8x1x8x1 ![0, 2] bcast_S8x8_S8x1x8x1_0_2 : (⟨S8x8, .f32⟩ : BufTy).Contents (Elt F) → (⟨S8x1x8x1, .f32⟩ : BufTy).Contents (Elt F)),
  StableHlo.unary main_v38 main_v39 (broadcastInDim S1x8x1x8x1 ![1, 2, 3, 4] bcast_S8x1x8x1_S1x8x1x8x1_1_2_3_4 : (⟨S8x1x8x1, .f32⟩ : BufTy).Contents (Elt F) → (⟨S1x8x1x8x1, .f32⟩ : BufTy).Contents (Elt F)),
  StableHlo.unary main_v37 main_v40 (broadcastInDim S8x8x64x8x16 ![0, 1, 2, 3, 4] bcast_S8x8x64x1x16_S8x8x64x8x16_0_1_2_3_4 : (⟨S8x8x64x1x16, .f32⟩ : BufTy).Contents (Elt F) → (⟨S8x8x64x8x16, .f32⟩ : BufTy).Contents (Elt F)),
  StableHlo.unary main_v39 main_v41 (broadcastInDim S8x8x64x8x16 ![0, 1, 2, 3, 4] bcast_S1x8x1x8x1_S8x8x64x8x16_0_1_2_3_4 : (⟨S1x8x1x8x1, .f32⟩ : BufTy).Contents (Elt F) → (⟨S8x8x64x8x16, .f32⟩ : BufTy).Contents (Elt F)),
  StableHlo.binary main_v40 main_v41 main_v42 (mulf : (⟨S8x8x64x8x16, .f32⟩ : BufTy).Contents (Elt F) → (⟨S8x8x64x8x16, .f32⟩ : BufTy).Contents (Elt F) → (⟨S8x8x64x8x16, .f32⟩ : BufTy).Contents (Elt F)),
  StableHlo.reshape main_v42 main_v43 (rfl : (.f32 : EltTy) = .f32) shapeCasts_S8x8x64x8x16_S8x512x128]
def preC {F : FTy → Type} [FloatOps F] : List (HloOp τ sig (Elt F)) := [
  StableHlo.unary main_v43 main_v44 (Host.negf : (⟨S8x512x128, .f32⟩ : BufTy).Contents (Elt F) → (⟨S8x512x128, .f32⟩ : BufTy).Contents (Elt F)),
  StableHlo.binary main_v34 main_v44 main_v45 ((fun a b => concatenate S8x1024x128 1 [⟨S8x512x128, a⟩, ⟨S8x512x128, b⟩] concatenates_S8x512x128_S8x512x128_S8x1024x128_d1) : (⟨S8x512x128, .f32⟩ : BufTy).Contents (Elt F) → (⟨S8x512x128, .f32⟩ : BufTy).Contents (Elt F) → (⟨S8x1024x128, .f32⟩ : BufTy).Contents (Elt F)),
  StableHlo.unary main_v45 main_v46 ((truncf .bf16 · bitsLt_bf16_f32) : (⟨S8x1024x128, .f32⟩ : BufTy).Contents (Elt F) → (⟨S8x1024x128, .bf16⟩ : BufTy).Contents (Elt F))]
def preP1 {F : FTy → Type} [FloatOps F] : List (HloOp τ sig (Elt F)) := [
  StableHlo.reshape main_arg1 main_v47 (rfl : (.f32 : EltTy) = .f32) shapeCasts_S64x64_S8x512,
  StableHlo.reshape main_arg2 main_v48 (rfl : (.f32 : EltTy) = .f32) shapeCasts_S64x64_S8x512]
def preP2 {F : FTy → Type} [FloatOps F] : List (HloOp τ sig (Elt F)) := [
  StableHlo.binary main_v47 main_v47 main_v49 (mulf : (⟨S8x512, .f32⟩ : BufTy).Contents (Elt F) → (⟨S8x512, .f32⟩ : BufTy).Contents (Elt F) → (⟨S8x512, .f32⟩ : BufTy).Contents (Elt F)),
  StableHlo.binary main_v48 main_v48 main_v50 (mulf : (⟨S8x512, .f32⟩ : BufTy).Contents (Elt F) → (⟨S8x512, .f32⟩ : BufTy).Contents (Elt F) → (⟨S8x512, .f32⟩ : BufTy).Contents (Elt F)),
  StableHlo.binary main_v49 main_v50 main_v51 (subf : (⟨S8x512, .f32⟩ : BufTy).Contents (Elt F) → (⟨S8x512, .f32⟩ : BufTy).Contents (Elt F) → (⟨S8x512, .f32⟩ : BufTy).Contents (Elt F)),
  StableHlo.binary main_v47 main_v48 main_v52 (mulf : (⟨S8x512, .f32⟩ : BufTy).Contents (Elt F) → (⟨S8x512, .f32⟩ : BufTy).Contents (Elt F) → (⟨S8x512, .f32⟩ : BufTy).Contents (Elt F)),
  StableHlo.binary main_v48 main_v47 main_v53 (mulf : (⟨S8x512, .f32⟩ : BufTy).Contents (Elt F) → (⟨S8x512, .f32⟩ : BufTy).Contents (Elt F) → (⟨S8x512, .f32⟩ : BufTy).Contents (Elt F)),
  StableHlo.binary main_v52 main_v53 main_v54 (addf : (⟨S8x512, .f32⟩ : BufTy).Contents (Elt F) → (⟨S8x512, .f32⟩ : BufTy).Contents (Elt F) → (⟨S8x512, .f32⟩ : BufTy).Contents (Elt F))]
def preP3 {F : FTy → Type} [FloatOps F] : List (HloOp τ sig (Elt F)) := [
  StableHlo.binary main_v51 main_v47 main_v55 (mulf : (⟨S8x512, .f32⟩ : BufTy).Contents (Elt F) → (⟨S8x512, .f32⟩ : BufTy).Contents (Elt F) → (⟨S8x512, .f32⟩ : BufTy).Contents (Elt F)),
  StableHlo.binary main_v54 main_v48 main_v56 (mulf : (⟨S8x512, .f32⟩ : BufTy).Contents (Elt F) → (⟨S8x512, .f32⟩ : BufTy).Contents (Elt F) → (⟨S8x512, .f32⟩ : BufTy).Contents (Elt F)),
  StableHlo.binary main_v55 main_v56 main_v57 (subf : (⟨S8x512, .f32⟩ : BufTy).Contents (Elt F) → (⟨S8x512, .f32⟩ : BufTy).Contents (Elt F) → (⟨S8x512, .f32⟩ : BufTy).Contents (Elt F)),
  StableHlo.binary main_v51 main_v48 main_v58 (mulf : (⟨S8x512, .f32⟩ : BufTy).Contents (Elt F) → (⟨S8x512, .f32⟩ : BufTy).Contents (Elt F) → (⟨S8x512, .f32⟩ : BufTy).Contents (Elt F)),
  StableHlo.binary main_v54 main_v47 main_v59 (mulf : (⟨S8x512, .f32⟩ : BufTy).Contents (Elt F) → (⟨S8x512, .f32⟩ : BufTy).Contents (Elt F) → (⟨S8x512, .f32⟩ : BufTy).Contents (Elt F)),
  StableHlo.binary main_v58 main_v59 main_v60 (addf : (⟨S8x512, .f32⟩ : BufTy).Contents (Elt F) → (⟨S8x512, .f32⟩ : BufTy).Contents (Elt F) → (⟨S8x512, .f32⟩ : BufTy).Contents (Elt F))]
def preP4 {F : FTy → Type} [FloatOps F] : List (HloOp τ sig (Elt F)) := [
  StableHlo.binary main_v57 main_v47 main_v61 (mulf : (⟨S8x512, .f32⟩ : BufTy).Contents (Elt F) → (⟨S8x512, .f32⟩ : BufTy).Contents (Elt F) → (⟨S8x512, .f32⟩ : BufTy).Contents (Elt F)),
  StableHlo.binary main_v60 main_v48 main_v62 (mulf : (⟨S8x512, .f32⟩ : BufTy).Contents (Elt F) → (⟨S8x512, .f32⟩ : BufTy).Contents (Elt F) → (⟨S8x512, .f32⟩ : BufTy).Contents (Elt F)),
  StableHlo.binary main_v61 main_v62 main_v63 (subf : (⟨S8x512, .f32⟩ : BufTy).Contents (Elt F) → (⟨S8x512, .f32⟩ : BufTy).Contents (Elt F) → (⟨S8x512, .f32⟩ : BufTy).Contents (Elt F)),
  StableHlo.binary main_v57 main_v48 main_v64 (mulf : (⟨S8x512, .f32⟩ : BufTy).Contents (Elt F) → (⟨S8x512, .f32⟩ : BufTy).Contents (Elt F) → (⟨S8x512, .f32⟩ : BufTy).Contents (Elt F)),
  StableHlo.binary main_v60 main_v47 main_v65 (mulf : (⟨S8x512, .f32⟩ : BufTy).Contents (Elt F) → (⟨S8x512, .f32⟩ : BufTy).Contents (Elt F) → (⟨S8x512, .f32⟩ : BufTy).Contents (Elt F)),
  StableHlo.binary main_v64 main_v65 main_v66 (addf : (⟨S8x512, .f32⟩ : BufTy).Contents (Elt F) → (⟨S8x512, .f32⟩ : BufTy).Contents (Elt F) → (⟨S8x512, .f32⟩ : BufTy).Contents (Elt F))]
def preP5 {F : FTy → Type} [FloatOps F] : List (HloOp τ sig (Elt F)) := [
  StableHlo.binary main_v63 main_v47 main_v67 (mulf : (⟨S8x512, .f32⟩ : BufTy).Contents (Elt F) → (⟨S8x512, .f32⟩ : BufTy).Contents (Elt F) → (⟨S8x512, .f32⟩ : BufTy).Contents (Elt F)),
  StableHlo.binary main_v66 main_v48 main_v68 (mulf : (⟨S8x512, .f32⟩ : BufTy).Contents (Elt F) → (⟨S8x512, .f32⟩ : BufTy).Contents (Elt F) → (⟨S8x512, .f32⟩ : BufTy).Contents (Elt F)),
  StableHlo.binary main_v67 main_v68 main_v69 (subf : (⟨S8x512, .f32⟩ : BufTy).Contents (Elt F) → (⟨S8x512, .f32⟩ : BufTy).Contents (Elt F) → (⟨S8x512, .f32⟩ : BufTy).Contents (Elt F)),
  StableHlo.binary main_v63 main_v48 main_v70 (mulf : (⟨S8x512, .f32⟩ : BufTy).Contents (Elt F) → (⟨S8x512, .f32⟩ : BufTy).Contents (Elt F) → (⟨S8x512, .f32⟩ : BufTy).Contents (Elt F)),
  StableHlo.binary main_v66 main_v47 main_v71 (mulf : (⟨S8x512, .f32⟩ : BufTy).Contents (Elt F) → (⟨S8x512, .f32⟩ : BufTy).Contents (Elt F) → (⟨S8x512, .f32⟩ : BufTy).Contents (Elt F)),
  StableHlo.binary main_v70 main_v71 main_v72 (addf : (⟨S8x512, .f32⟩ : BufTy).Contents (Elt F) → (⟨S8x512, .f32⟩ : BufTy).Contents (Elt F) → (⟨S8x512, .f32⟩ : BufTy).Contents (Elt F))]
def preP6 {F : FTy → Type} [FloatOps F] : List (HloOp τ sig (Elt F)) := [
  StableHlo.binary main_v69 main_v47 main_v73 (mulf : (⟨S8x512, .f32⟩ : BufTy).Contents (Elt F) → (⟨S8x512, .f32⟩ : BufTy).Contents (Elt F) → (⟨S8x512, .f32⟩ : BufTy).Contents (Elt F)),
  StableHlo.binary main_v72 main_v48 main_v74 (mulf : (⟨S8x512, .f32⟩ : BufTy).Contents (Elt F) → (⟨S8x512, .f32⟩ : BufTy).Contents (Elt F) → (⟨S8x512, .f32⟩ : BufTy).Contents (Elt F)),
  StableHlo.binary main_v73 main_v74 main_v75 (subf : (⟨S8x512, .f32⟩ : BufTy).Contents (Elt F) → (⟨S8x512, .f32⟩ : BufTy).Contents (Elt F) → (⟨S8x512, .f32⟩ : BufTy).Contents (Elt F)),
  StableHlo.binary main_v69 main_v48 main_v76 (mulf : (⟨S8x512, .f32⟩ : BufTy).Contents (Elt F) → (⟨S8x512, .f32⟩ : BufTy).Contents (Elt F) → (⟨S8x512, .f32⟩ : BufTy).Contents (Elt F)),
  StableHlo.binary main_v72 main_v47 main_v77 (mulf : (⟨S8x512, .f32⟩ : BufTy).Contents (Elt F) → (⟨S8x512, .f32⟩ : BufTy).Contents (Elt F) → (⟨S8x512, .f32⟩ : BufTy).Contents (Elt F)),
  StableHlo.binary main_v76 main_v77 main_v78 (addf : (⟨S8x512, .f32⟩ : BufTy).Contents (Elt F) → (⟨S8x512, .f32⟩ : BufTy).Contents (Elt F) → (⟨S8x512, .f32⟩ : BufTy).Contents (Elt F))]
def preP7 {F : FTy → Type} [FloatOps F] : List (HloOp τ sig (Elt F)) := [
  StableHlo.binary main_v75 main_v47 main_v79 (mulf : (⟨S8x512, .f32⟩ : BufTy).Contents (Elt F) → (⟨S8x512, .f32⟩ : BufTy).Contents (Elt F) → (⟨S8x512, .f32⟩ : BufTy).Contents (Elt F)),
  StableHlo.binary main_v78 main_v48 main_v80 (mulf : (⟨S8x512, .f32⟩ : BufTy).Contents (Elt F) → (⟨S8x512, .f32⟩ : BufTy).Contents (Elt F) → (⟨S8x512, .f32⟩ : BufTy).Contents (Elt F)),
  StableHlo.binary main_v79 main_v80 main_v81 (subf : (⟨S8x512, .f32⟩ : BufTy).Contents (Elt F) → (⟨S8x512, .f32⟩ : BufTy).Contents (Elt F) → (⟨S8x512, .f32⟩ : BufTy).Contents (Elt F)),
  StableHlo.binary main_v75 main_v48 main_v82 (mulf : (⟨S8x512, .f32⟩ : BufTy).Contents (Elt F) → (⟨S8x512, .f32⟩ : BufTy).Contents (Elt F) → (⟨S8x512, .f32⟩ : BufTy).Contents (Elt F)),
  StableHlo.binary main_v78 main_v47 main_v83 (mulf : (⟨S8x512, .f32⟩ : BufTy).Contents (Elt F) → (⟨S8x512, .f32⟩ : BufTy).Contents (Elt F) → (⟨S8x512, .f32⟩ : BufTy).Contents (Elt F)),
  StableHlo.binary main_v82 main_v83 main_v84 (addf : (⟨S8x512, .f32⟩ : BufTy).Contents (Elt F) → (⟨S8x512, .f32⟩ : BufTy).Contents (Elt F) → (⟨S8x512, .f32⟩ : BufTy).Contents (Elt F))]
def preP8 {F : FTy → Type} [FloatOps F] : List (HloOp τ sig (Elt F)) := [
  StableHlo.binary main_v81 main_v47 main_v85 (mulf : (⟨S8x512, .f32⟩ : BufTy).Contents (Elt F) → (⟨S8x512, .f32⟩ : BufTy).Contents (Elt F) → (⟨S8x512, .f32⟩ : BufTy).Contents (Elt F)),
  StableHlo.binary main_v84 main_v48 main_v86 (mulf : (⟨S8x512, .f32⟩ : BufTy).Contents (Elt F) → (⟨S8x512, .f32⟩ : BufTy).Contents (Elt F) → (⟨S8x512, .f32⟩ : BufTy).Contents (Elt F)),
  StableHlo.binary main_v85 main_v86 main_v87 (subf : (⟨S8x512, .f32⟩ : BufTy).Contents (Elt F) → (⟨S8x512, .f32⟩ : BufTy).Contents (Elt F) → (⟨S8x512, .f32⟩ : BufTy).Contents (Elt F)),
  StableHlo.binary main_v81 main_v48 main_v88 (mulf : (⟨S8x512, .f32⟩ : BufTy).Contents (Elt F) → (⟨S8x512, .f32⟩ : BufTy).Contents (Elt F) → (⟨S8x512, .f32⟩ : BufTy).Contents (Elt F)),
  StableHlo.binary main_v84 main_v47 main_v89 (mulf : (⟨S8x512, .f32⟩ : BufTy).Contents (Elt F) → (⟨S8x512, .f32⟩ : BufTy).Contents (Elt F) → (⟨S8x512, .f32⟩ : BufTy).Contents (Elt F)),
  StableHlo.binary main_v88 main_v89 main_v90 (addf : (⟨S8x512, .f32⟩ : BufTy).Contents (Elt F) → (⟨S8x512, .f32⟩ : BufTy).Contents (Elt F) → (⟨S8x512, .f32⟩ : BufTy).Contents (Elt F))]
def preS1 {F : FTy → Type} [FloatOps F] : List (HloOp τ sig (Elt F)) := [
  StableHlo.unary main_v47 main_v91 (broadcastInDim S8x1x512 ![0, 2] bcast_S8x512_S8x1x512_0_2 : (⟨S8x512, .f32⟩ : BufTy).Contents (Elt F) → (⟨S8x1x512, .f32⟩ : BufTy).Contents (Elt F)),
  StableHlo.unary main_v51 main_v92 (broadcastInDim S8x1x512 ![0, 2] bcast_S8x512_S8x1x512_0_2 : (⟨S8x512, .f32⟩ : BufTy).Contents (Elt F) → (⟨S8x1x512, .f32⟩ : BufTy).Contents (Elt F)),
  StableHlo.unary main_v57 main_v93 (broadcastInDim S8x1x512 ![0, 2] bcast_S8x512_S8x1x512_0_2 : (⟨S8x512, .f32⟩ : BufTy).Contents (Elt F) → (⟨S8x1x512, .f32⟩ : BufTy).Contents (Elt F)),
  StableHlo.unary main_v63 main_v94 (broadcastInDim S8x1x512 ![0, 2] bcast_S8x512_S8x1x512_0_2 : (⟨S8x512, .f32⟩ : BufTy).Contents (Elt F) → (⟨S8x1x512, .f32⟩ : BufTy).Contents (Elt F)),
  StableHlo.unary main_v69 main_v95 (broadcastInDim S8x1x512 ![0, 2] bcast_S8x512_S8x1x512_0_2 : (⟨S8x512, .f32⟩ : BufTy).Contents (Elt F) → (⟨S8x1x512, .f32⟩ : BufTy).Contents (Elt F)),
  StableHlo.unary main_v75 main_v96 (broadcastInDim S8x1x512 ![0, 2] bcast_S8x512_S8x1x512_0_2 : (⟨S8x512, .f32⟩ : BufTy).Contents (Elt F) → (⟨S8x1x512, .f32⟩ : BufTy).Contents (Elt F)),
  StableHlo.unary main_v81 main_v97 (broadcastInDim S8x1x512 ![0, 2] bcast_S8x512_S8x1x512_0_2 : (⟨S8x512, .f32⟩ : BufTy).Contents (Elt F) → (⟨S8x1x512, .f32⟩ : BufTy).Contents (Elt F)),
  StableHlo.unary main_v87 main_v98 (broadcastInDim S8x1x512 ![0, 2] bcast_S8x512_S8x1x512_0_2 : (⟨S8x512, .f32⟩ : BufTy).Contents (Elt F) → (⟨S8x1x512, .f32⟩ : BufTy).Contents (Elt F))]
def preS2 {F : FTy → Type} [FloatOps F] : List (HloOp τ sig (Elt F)) := [
  StableHlo.nary ![main_v91, main_v92, main_v93, main_v94, main_v95, main_v96, main_v97, main_v98] main_v99 (fun u => (concatenate S8x8x512 1 [⟨S8x1x512, (u 0 : (⟨S8x1x512, .f32⟩ : BufTy).Contents (Elt F))⟩, ⟨S8x1x512, (u 1 : (⟨S8x1x512, .f32⟩ : BufTy).Contents (Elt F))⟩, ⟨S8x1x512, (u 2 : (⟨S8x1x512, .f32⟩ : BufTy).Contents (Elt F))⟩, ⟨S8x1x512, (u 3 : (⟨S8x1x512, .f32⟩ : BufTy).Contents (Elt F))⟩, ⟨S8x1x512, (u 4 : (⟨S8x1x512, .f32⟩ : BufTy).Contents (Elt F))⟩, ⟨S8x1x512, (u 5 : (⟨S8x1x512, .f32⟩ : BufTy).Contents (Elt F))⟩, ⟨S8x1x512, (u 6 : (⟨S8x1x512, .f32⟩ : BufTy).Contents (Elt F))⟩, ⟨S8x1x512, (u 7 : (⟨S8x1x512, .f32⟩ : BufTy).Contents (Elt F))⟩] concatenates_S8x1x512_S8x1x512_S8x1x512_S8x1x512_S8x1x512_S8x1x512_S8x1x512_S8x1x512_S8x8x512_d1 : (⟨S8x8x512, .f32⟩ : BufTy).Contents (Elt F)))]
def preS3 {F : FTy → Type} [FloatOps F] : List (HloOp τ sig (Elt F)) := [
  StableHlo.unary main_v48 main_v100 (broadcastInDim S8x1x512 ![0, 2] bcast_S8x512_S8x1x512_0_2 : (⟨S8x512, .f32⟩ : BufTy).Contents (Elt F) → (⟨S8x1x512, .f32⟩ : BufTy).Contents (Elt F)),
  StableHlo.unary main_v54 main_v101 (broadcastInDim S8x1x512 ![0, 2] bcast_S8x512_S8x1x512_0_2 : (⟨S8x512, .f32⟩ : BufTy).Contents (Elt F) → (⟨S8x1x512, .f32⟩ : BufTy).Contents (Elt F)),
  StableHlo.unary main_v60 main_v102 (broadcastInDim S8x1x512 ![0, 2] bcast_S8x512_S8x1x512_0_2 : (⟨S8x512, .f32⟩ : BufTy).Contents (Elt F) → (⟨S8x1x512, .f32⟩ : BufTy).Contents (Elt F)),
  StableHlo.unary main_v66 main_v103 (broadcastInDim S8x1x512 ![0, 2] bcast_S8x512_S8x1x512_0_2 : (⟨S8x512, .f32⟩ : BufTy).Contents (Elt F) → (⟨S8x1x512, .f32⟩ : BufTy).Contents (Elt F)),
  StableHlo.unary main_v72 main_v104 (broadcastInDim S8x1x512 ![0, 2] bcast_S8x512_S8x1x512_0_2 : (⟨S8x512, .f32⟩ : BufTy).Contents (Elt F) → (⟨S8x1x512, .f32⟩ : BufTy).Contents (Elt F)),
  StableHlo.unary main_v78 main_v105 (broadcastInDim S8x1x512 ![0, 2] bcast_S8x512_S8x1x512_0_2 : (⟨S8x512, .f32⟩ : BufTy).Contents (Elt F) → (⟨S8x1x512, .f32⟩ : BufTy).Contents (Elt F)),
  StableHlo.unary main_v84 main_v106 (broadcastInDim S8x1x512 ![0, 2] bcast_S8x512_S8x1x512_0_2 : (⟨S8x512, .f32⟩ : BufTy).Contents (Elt F) → (⟨S8x1x512, .f32⟩ : BufTy).Contents (Elt F)),
  StableHlo.unary main_v90 main_v107 (broadcastInDim S8x1x512 ![0, 2] bcast_S8x512_S8x1x512_0_2 : (⟨S8x512, .f32⟩ : BufTy).Contents (Elt F) → (⟨S8x1x512, .f32⟩ : BufTy).Contents (Elt F))]
def preS4 {F : FTy → Type} [FloatOps F] : List (HloOp τ sig (Elt F)) := [
  StableHlo.nary ![main_v100, main_v101, main_v102, main_v103, main_v104, main_v105, main_v106, main_v107] main_v108 (fun u => (concatenate S8x8x512 1 [⟨S8x1x512, (u 0 : (⟨S8x1x512, .f32⟩ : BufTy).Contents (Elt F))⟩, ⟨S8x1x512, (u 1 : (⟨S8x1x512, .f32⟩ : BufTy).Contents (Elt F))⟩, ⟨S8x1x512, (u 2 : (⟨S8x1x512, .f32⟩ : BufTy).Contents (Elt F))⟩, ⟨S8x1x512, (u 3 : (⟨S8x1x512, .f32⟩ : BufTy).Contents (Elt F))⟩, ⟨S8x1x512, (u 4 : (⟨S8x1x512, .f32⟩ : BufTy).Contents (Elt F))⟩, ⟨S8x1x512, (u 5 : (⟨S8x1x512, .f32⟩ : BufTy).Contents (Elt F))⟩, ⟨S8x1x512, (u 6 : (⟨S8x1x512, .f32⟩ : BufTy).Contents (Elt F))⟩, ⟨S8x1x512, (u 7 : (⟨S8x1x512, .f32⟩ : BufTy).Contents (Elt F))⟩] concatenates_S8x1x512_S8x1x512_S8x1x512_S8x1x512_S8x1x512_S8x1x512_S8x1x512_S8x1x512_S8x8x512_d1 : (⟨S8x8x512, .f32⟩ : BufTy).Contents (Elt F)))]
def preS5 {F : FTy → Type} [FloatOps F] : List (HloOp τ sig (Elt F)) := [
  StableHlo.reshape main_arg7 main_v109 (rfl : (.f32 : EltTy) = .f32) shapeCasts_S1024_S1x1024]
theorem pre_split : (hostOps0 : List (HloOp τ sig (Elt Ideal))) = preE ++ (preBr ++ (preBi ++ (preB ++ (preCr ++ (preCi ++ (preC ++ (preP1 ++ (preP2 ++ (preP3 ++ (preP4 ++ (preP5 ++ (preP6 ++ (preP7 ++ (preP8 ++ (preS1 ++ (preS2 ++ (preS3 ++ (preS4 ++ (preS5))))))))))))))))))) := rfl
variable (V : Valuation τ sig (Elt Ideal))
theorem keep_preE {r : Ref sig .tc} (hr : r ∉ [main_v0, main_v1, main_c, main_v2, main_v3, main_v4, main_v5]) : StableHlo.after preE V (Proc.devRef .tc r) = V (Proc.devRef .tc r) :=
  StableHlo.after_unwritten _ (by unfold preE; rfl) hr V
theorem keep_preBr {r : Ref sig .tc} (hr : r ∉ [main_v6, main_v7, main_v8, main_v9, main_v10, main_v11, main_v12, main_v13, main_v14]) : StableHlo.after preBr V (Proc.devRef .tc r) = V (Proc.devRef .tc r) :=
  StableHlo.after_unwritten _ (by unfold preBr; rfl) hr V
theorem keep_preBi {r : Ref sig .tc} (hr : r ∉ [main_v15, main_v16, main_v17, main_v18, main_v19, main_v20, main_v21, main_v22, main_v23]) : StableHlo.after preBi V (Proc.devRef .tc r) = V (Proc.devRef .tc r) :=
  StableHlo.after_unwritten _ (by unfold preBi; rfl) hr V
theorem keep_preB {r : Ref sig .tc} (hr : r ∉ [main_v24, main_v25]) : StableHlo.after preB V (Proc.devRef .tc r) = V (Proc.devRef .tc r) :=
  StableHlo.after_unwritten _ (by unfold preB; rfl) hr V
theorem keep_preCr {r : Ref sig .tc} (hr : r ∉ [main_v26, main_v27, main_v28, main_v29, main_v30, main_v31, main_v32, main_v33, main_v34]) : StableHlo.after preCr V (Proc.devRef .tc r) = V (Proc.devRef .tc r) :=
  StableHlo.after_unwritten _ (by unfold preCr; rfl) hr V
theorem keep_preCi {r : Ref sig .tc} (hr : r ∉ [main_v35, main_v36, main_v37, main_v38, main_v39, main_v40, main_v41, main_v42, main_v43]) : StableHlo.after preCi V (Proc.devRef .tc r) = V (Proc.devRef .tc r) :=
  StableHlo.after_unwritten _ (by unfold preCi; rfl) hr V
theorem keep_preC {r : Ref sig .tc} (hr : r ∉ [main_v44, main_v45, main_v46]) : StableHlo.after preC V (Proc.devRef .tc r) = V (Proc.devRef .tc r) :=
  StableHlo.after_unwritten _ (by unfold preC; rfl) hr V
theorem keep_preP1 {r : Ref sig .tc} (hr : r ∉ [main_v47, main_v48]) : StableHlo.after preP1 V (Proc.devRef .tc r) = V (Proc.devRef .tc r) :=
  StableHlo.after_unwritten _ (by unfold preP1; rfl) hr V
theorem keep_preP2 {r : Ref sig .tc} (hr : r ∉ [main_v49, main_v50, main_v51, main_v52, main_v53, main_v54]) : StableHlo.after preP2 V (Proc.devRef .tc r) = V (Proc.devRef .tc r) :=
  StableHlo.after_unwritten _ (by unfold preP2; rfl) hr V
theorem keep_preP3 {r : Ref sig .tc} (hr : r ∉ [main_v55, main_v56, main_v57, main_v58, main_v59, main_v60]) : StableHlo.after preP3 V (Proc.devRef .tc r) = V (Proc.devRef .tc r) :=
  StableHlo.after_unwritten _ (by unfold preP3; rfl) hr V
theorem keep_preP4 {r : Ref sig .tc} (hr : r ∉ [main_v61, main_v62, main_v63, main_v64, main_v65, main_v66]) : StableHlo.after preP4 V (Proc.devRef .tc r) = V (Proc.devRef .tc r) :=
  StableHlo.after_unwritten _ (by unfold preP4; rfl) hr V
theorem keep_preP5 {r : Ref sig .tc} (hr : r ∉ [main_v67, main_v68, main_v69, main_v70, main_v71, main_v72]) : StableHlo.after preP5 V (Proc.devRef .tc r) = V (Proc.devRef .tc r) :=
  StableHlo.after_unwritten _ (by unfold preP5; rfl) hr V
theorem keep_preP6 {r : Ref sig .tc} (hr : r ∉ [main_v73, main_v74, main_v75, main_v76, main_v77, main_v78]) : StableHlo.after preP6 V (Proc.devRef .tc r) = V (Proc.devRef .tc r) :=
  StableHlo.after_unwritten _ (by unfold preP6; rfl) hr V
theorem keep_preP7 {r : Ref sig .tc} (hr : r ∉ [main_v79, main_v80, main_v81, main_v82, main_v83, main_v84]) : StableHlo.after preP7 V (Proc.devRef .tc r) = V (Proc.devRef .tc r) :=
  StableHlo.after_unwritten _ (by unfold preP7; rfl) hr V
theorem keep_preP8 {r : Ref sig .tc} (hr : r ∉ [main_v85, main_v86, main_v87, main_v88, main_v89, main_v90]) : StableHlo.after preP8 V (Proc.devRef .tc r) = V (Proc.devRef .tc r) :=
  StableHlo.after_unwritten _ (by unfold preP8; rfl) hr V
theorem keep_preS1 {r : Ref sig .tc} (hr : r ∉ [main_v91, main_v92, main_v93, main_v94, main_v95, main_v96, main_v97, main_v98]) : StableHlo.after preS1 V (Proc.devRef .tc r) = V (Proc.devRef .tc r) :=
  StableHlo.after_unwritten _ (by unfold preS1; rfl) hr V
theorem keep_preS2 {r : Ref sig .tc} (hr : r ∉ [main_v99]) : StableHlo.after preS2 V (Proc.devRef .tc r) = V (Proc.devRef .tc r) :=
  StableHlo.after_unwritten _ (by unfold preS2; rfl) hr V
theorem keep_preS3 {r : Ref sig .tc} (hr : r ∉ [main_v100, main_v101, main_v102, main_v103, main_v104, main_v105, main_v106, main_v107]) : StableHlo.after preS3 V (Proc.devRef .tc r) = V (Proc.devRef .tc r) :=
  StableHlo.after_unwritten _ (by unfold preS3; rfl) hr V
theorem keep_preS4 {r : Ref sig .tc} (hr : r ∉ [main_v108]) : StableHlo.after preS4 V (Proc.devRef .tc r) = V (Proc.devRef .tc r) :=
  StableHlo.after_unwritten _ (by unfold preS4; rfl) hr V
theorem keep_preS5 {r : Ref sig .tc} (hr : r ∉ [main_v109]) : StableHlo.after preS5 V (Proc.devRef .tc r) = V (Proc.devRef .tc r) :=
  StableHlo.after_unwritten _ (by unfold preS5; rfl) hr V

/-- Group `a` of block `j`; lane `k` of its sixteen channels; lane `p` of its sixty-four states. -/
def gp (j a : Fin 8) : Fin 64 := ⟨j * 8 + a, by omega⟩
def cl (a : Fin 8) (k : Fin 16) : Fin 128 := ⟨a * 16 + k, by omega⟩
def sl (b : Fin 8) (p : Fin 64) : Fin 512 := ⟨b * 64 + p, by omega⟩
theorem cl_div (a : Fin 8) (k : Fin 16) (h : (cl a k : ℕ) / 16 < 8) : (⟨(cl a k : ℕ) / 16, h⟩ : Fin 8) = a := Fin.ext (by simp [cl]; omega)
theorem cl_mod (a : Fin 8) (k : Fin 16) (h : (cl a k : ℕ) % 16 < 16) : (⟨(cl a k : ℕ) % 16, h⟩ : Fin 16) = k := Fin.ext (by simp [cl])
theorem sl_div (b : Fin 8) (p : Fin 64) (h : (sl b p : ℕ) / 64 < 8) : (⟨(sl b p : ℕ) / 64, h⟩ : Fin 8) = b := Fin.ext (by simp [sl]; omega)
theorem sl_mod (b : Fin 8) (p : Fin 64) (h : (sl b p : ℕ) % 64 < 64) : (⟨(sl b p : ℕ) % 64, h⟩ : Fin 64) = p := Fin.ext (by simp [sl])
theorem gp_cl (j a : Fin 8) (k : Fin 16) (h : (j : ℕ) * 8 + (cl a k : ℕ) / 16 < 64) : (⟨(j : ℕ) * 8 + (cl a k : ℕ) / 16, h⟩ : Fin 64) = gp j a := Fin.ext (by simp [cl, gp]; omega)
theorem gp_sl (j b : Fin 8) (p : Fin 64) (h : (j : ℕ) * 8 + (sl b p : ℕ) / 64 < 64) : (⟨(j : ℕ) * 8 + (sl b p : ℕ) / 64, h⟩ : Fin 64) = gp j b := Fin.ext (by simp [sl, gp]; omega)
theorem ch_lanes (a b : Fin 8) (k : Fin 16) (p : Fin 64) (h : (sl b p : ℕ) % 64 * 16 + (cl a k : ℕ) % 16 < 1024) : (⟨(sl b p : ℕ) % 64 * 16 + (cl a k : ℕ) % 16, h⟩ : Fin 1024) = ch p k :=
  Fin.ext (by simp [sl, cl, ch]; omega)

/-- The identity's number. -/
theorem eye_bit : ∀ a b : Fin 8, IntOp.cmpi .eq (IntOp.addi (BitVec.ofNat 32 (a : ℕ)) 0#32) (BitVec.ofNat 32 (b : ℕ)) = if a = b then 1#1 else 0#1 := by
  decide +kernel
theorem eye_word (a b : Fin 8) : FloatOps.uitofp (F := Ideal) .f32 (IntOp.cmpi .eq (IntOp.addi (BitVec.ofNat 32 (a : ℕ)) 0#32) (BitVec.ofNat 32 (b : ℕ)))
    = ((if a = b then (1 : ℝ) else 0 : ℝ) : EReal) := by
  rw [eye_bit]; split <;> simp [FloatOps.uitofp]
theorem pre_eye (a b : Fin 8) : StableHlo.after preE V (Proc.devRef .tc main_v5) (ix2 a b) = ((if a = b then (1 : ℝ) else 0 : ℝ) : EReal) := by
  unfold preE; after_reads_at
  exact eye_word a b
theorem pre_br (j a b : Fin 8) (k : Fin 16) (p : Fin 64) :
    StableHlo.after preBr V (Proc.devRef .tc main_v14) (ix3 j (cl a k) (sl b p))
      = HMul.hMul (α := EReal) (V (Proc.devRef .tc main_arg3) (ix2 (gp j a) (ch p k))) (V (Proc.devRef .tc main_v5) (ix2 a b)) := by
  unfold preBr; after_reads_at
  simp only [cl_div, sl_div, gp_cl, ch_lanes]
theorem pre_bi (j a b : Fin 8) (k : Fin 16) (p : Fin 64) :
    StableHlo.after preBi V (Proc.devRef .tc main_v23) (ix3 j (cl a k) (sl b p))
      = HMul.hMul (α := EReal) (V (Proc.devRef .tc main_arg4) (ix2 (gp j a) (ch p k))) (V (Proc.devRef .tc main_v5) (ix2 a b)) := by
  unfold preBi; after_reads_at
  simp only [cl_div, sl_div, gp_cl, ch_lanes]
theorem pre_cr (j a b : Fin 8) (k : Fin 16) (p : Fin 64) :
    StableHlo.after preCr V (Proc.devRef .tc main_v34) (ix3 j (sl b p) (cl a k))
      = HMul.hMul (α := EReal) (V (Proc.devRef .tc main_arg5) (ix3 (gp j b) k p)) (V (Proc.devRef .tc main_v5) (ix2 b a)) := by
  unfold preCr; after_reads_at
  simp only [cl_div, cl_mod, sl_div, sl_mod, gp_sl]
theorem pre_ci (j a b : Fin 8) (k : Fin 16) (p : Fin 64) :
    StableHlo.after preCi V (Proc.devRef .tc main_v43) (ix3 j (sl b p) (cl a k))
      = HMul.hMul (α := EReal) (V (Proc.devRef .tc main_arg6) (ix3 (gp j b) k p)) (V (Proc.devRef .tc main_v5) (ix2 b a)) := by
  unfold preCi; after_reads_at
  simp only [cl_div, cl_mod, sl_div, sl_mod, gp_sl]
theorem pre_b_re (j : Fin 8) (c : Fin 128) (t : Fin 512) : StableHlo.after preB V (Proc.devRef .tc main_v25) (ix3 j c (Fin.castAdd 512 t)) = V (Proc.devRef .tc main_v14) (ix3 j c t) := by
  unfold preB; after_reads_at
  exact dif_pos t.isLt
theorem pre_b_im (j : Fin 8) (c : Fin 128) (t : Fin 512) : StableHlo.after preB V (Proc.devRef .tc main_v25) (ix3 j c (Fin.natAdd 512 t)) = V (Proc.devRef .tc main_v23) (ix3 j c t) := by
  unfold preB; after_reads_at
  refine (dif_neg (by simp)).trans ?_
  exact congrArg (fun x => V (Proc.devRef .tc main_v23) (ix3 j c x)) (Fin.ext (by simp))
theorem pre_c_re (j : Fin 8) (t : Fin 512) (c : Fin 128) : StableHlo.after preC V (Proc.devRef .tc main_v46) (ix3 j (Fin.castAdd 512 t) c) = V (Proc.devRef .tc main_v34) (ix3 j t c) := by
  unfold preC; after_reads_at
  exact dif_pos t.isLt
theorem pre_c_im (j : Fin 8) (t : Fin 512) (c : Fin 128) : StableHlo.after preC V (Proc.devRef .tc main_v46) (ix3 j (Fin.natAdd 512 t) c) = Neg.neg (α := EReal) (V (Proc.devRef .tc main_v43) (ix3 j t c)) := by
  unfold preC; after_reads_at
  refine (dif_neg (by simp)).trans ?_
  after_reads_at
  exact congrArg (fun x => Neg.neg (α := EReal) (V (Proc.devRef .tc main_v43) (ix3 j x c))) (Fin.ext (by simp))
theorem pre_d (x : Fin 1024) : StableHlo.after preS5 V (Proc.devRef .tc main_v109) (ix2 0 x) = V (Proc.devRef .tc main_arg7) (ix1 x) := by
  unfold preS5; after_reads_at
theorem pre_lr (j b : Fin 8) (p : Fin 64) : StableHlo.after preP1 V (Proc.devRef .tc main_v47) (ix2 j (sl b p)) = V (Proc.devRef .tc main_arg1) (ix2 (gp j b) p) := by
  unfold preP1; after_reads_at; simp only [gp_sl, sl_mod]
theorem pre_li (j b : Fin 8) (p : Fin 64) : StableHlo.after preP1 V (Proc.devRef .tc main_v48) (ix2 j (sl b p)) = V (Proc.devRef .tc main_arg2) (ix2 (gp j b) p) := by
  unfold preP1; after_reads_at; simp only [gp_sl, sl_mod]

/-- One more power, in its two parts. -/
theorem pow_re (z w : ℂ) (a b c d : EReal) (ha : a = (z.re : EReal)) (hb : b = (w.re : EReal)) (hc : c = (z.im : EReal)) (hd : d = (w.im : EReal)) : a * b - c * d = ((z * w).re : EReal) := by
  subst ha hb hc hd; rw [Complex.mul_re, EReal.coe_sub, EReal.coe_mul, EReal.coe_mul]
theorem pow_im (z w : ℂ) (a b c d : EReal) (ha : a = (z.re : EReal)) (hb : b = (w.im : EReal)) (hc : c = (z.im : EReal)) (hd : d = (w.re : EReal)) : a * b + c * d = ((z * w).im : EReal) := by
  subst ha hb hc hd; rw [Complex.mul_im, EReal.coe_add, EReal.coe_mul, EReal.coe_mul]

/-- The powers held so far, at a lane. -/
theorem pre_pow2 (lam : ℂ) (i : S8x512.Idx) (h1 : V (Proc.devRef .tc main_v47) i = (lam.re : EReal)) (h2 : V (Proc.devRef .tc main_v48) i = (lam.im : EReal))
    (h3 : V (Proc.devRef .tc main_v47) i = ((lam ^ 1).re : EReal)) (h4 : V (Proc.devRef .tc main_v48) i = ((lam ^ 1).im : EReal)) :
    StableHlo.after preP2 V (Proc.devRef .tc main_v51) i = ((lam ^ 2).re : EReal) ∧ StableHlo.after preP2 V (Proc.devRef .tc main_v54) i = ((lam ^ 2).im : EReal) := by
  rw [show lam ^ 2 = lam ^ 1 * lam from pow_succ lam 1]
  unfold preP2
  constructor
  · after_reads_at
    exact pow_re _ _ _ _ _ _ h3 h1 h4 h2
  · after_reads_at
    exact pow_im _ _ _ _ _ _ h3 h2 h4 h1
theorem pre_pow3 (lam : ℂ) (i : S8x512.Idx) (h1 : V (Proc.devRef .tc main_v47) i = (lam.re : EReal)) (h2 : V (Proc.devRef .tc main_v48) i = (lam.im : EReal))
    (h3 : V (Proc.devRef .tc main_v51) i = ((lam ^ 2).re : EReal)) (h4 : V (Proc.devRef .tc main_v54) i = ((lam ^ 2).im : EReal)) :
    StableHlo.after preP3 V (Proc.devRef .tc main_v57) i = ((lam ^ 3).re : EReal) ∧ StableHlo.after preP3 V (Proc.devRef .tc main_v60) i = ((lam ^ 3).im : EReal) := by
  rw [show lam ^ 3 = lam ^ 2 * lam from pow_succ lam 2]
  unfold preP3
  constructor
  · after_reads_at
    exact pow_re _ _ _ _ _ _ h3 h1 h4 h2
  · after_reads_at
    exact pow_im _ _ _ _ _ _ h3 h2 h4 h1
theorem pre_pow4 (lam : ℂ) (i : S8x512.Idx) (h1 : V (Proc.devRef .tc main_v47) i = (lam.re : EReal)) (h2 : V (Proc.devRef .tc main_v48) i = (lam.im : EReal))
    (h3 : V (Proc.devRef .tc main_v57) i = ((lam ^ 3).re : EReal)) (h4 : V (Proc.devRef .tc main_v60) i = ((lam ^ 3).im : EReal)) :
    StableHlo.after preP4 V (Proc.devRef .tc main_v63) i = ((lam ^ 4).re : EReal) ∧ StableHlo.after preP4 V (Proc.devRef .tc main_v66) i = ((lam ^ 4).im : EReal) := by
  rw [show lam ^ 4 = lam ^ 3 * lam from pow_succ lam 3]
  unfold preP4
  constructor
  · after_reads_at
    exact pow_re _ _ _ _ _ _ h3 h1 h4 h2
  · after_reads_at
    exact pow_im _ _ _ _ _ _ h3 h2 h4 h1
theorem pre_pow5 (lam : ℂ) (i : S8x512.Idx) (h1 : V (Proc.devRef .tc main_v47) i = (lam.re : EReal)) (h2 : V (Proc.devRef .tc main_v48) i = (lam.im : EReal))
    (h3 : V (Proc.devRef .tc main_v63) i = ((lam ^ 4).re : EReal)) (h4 : V (Proc.devRef .tc main_v66) i = ((lam ^ 4).im : EReal)) :
    StableHlo.after preP5 V (Proc.devRef .tc main_v69) i = ((lam ^ 5).re : EReal) ∧ StableHlo.after preP5 V (Proc.devRef .tc main_v72) i = ((lam ^ 5).im : EReal) := by
  rw [show lam ^ 5 = lam ^ 4 * lam from pow_succ lam 4]
  unfold preP5
  constructor
  · after_reads_at
    exact pow_re _ _ _ _ _ _ h3 h1 h4 h2
  · after_reads_at
    exact pow_im _ _ _ _ _ _ h3 h2 h4 h1
theorem pre_pow6 (lam : ℂ) (i : S8x512.Idx) (h1 : V (Proc.devRef .tc main_v47) i = (lam.re : EReal)) (h2 : V (Proc.devRef .tc main_v48) i = (lam.im : EReal))
    (h3 : V (Proc.devRef .tc main_v69) i = ((lam ^ 5).re : EReal)) (h4 : V (Proc.devRef .tc main_v72) i = ((lam ^ 5).im : EReal)) :
    StableHlo.after preP6 V (Proc.devRef .tc main_v75) i = ((lam ^ 6).re : EReal) ∧ StableHlo.after preP6 V (Proc.devRef .tc main_v78) i = ((lam ^ 6).im : EReal) := by
  rw [show lam ^ 6 = lam ^ 5 * lam from pow_succ lam 5]
  unfold preP6
  constructor
  · after_reads_at
    exact pow_re _ _ _ _ _ _ h3 h1 h4 h2
  · after_reads_at
    exact pow_im _ _ _ _ _ _ h3 h2 h4 h1
theorem pre_pow7 (lam : ℂ) (i : S8x512.Idx) (h1 : V (Proc.devRef .tc main_v47) i = (lam.re : EReal)) (h2 : V (Proc.devRef .tc main_v48) i = (lam.im : EReal))
    (h3 : V (Proc.devRef .tc main_v75) i = ((lam ^ 6).re : EReal)) (h4 : V (Proc.devRef .tc main_v78) i = ((lam ^ 6).im : EReal)) :
    StableHlo.after preP7 V (Proc.devRef .tc main_v81) i = ((lam ^ 7).re : EReal) ∧ StableHlo.after preP7 V (Proc.devRef .tc main_v84) i = ((lam ^ 7).im : EReal) := by
  rw [show lam ^ 7 = lam ^ 6 * lam from pow_succ lam 6]
  unfold preP7
  constructor
  · after_reads_at
    exact pow_re _ _ _ _ _ _ h3 h1 h4 h2
  · after_reads_at
    exact pow_im _ _ _ _ _ _ h3 h2 h4 h1
theorem pre_pow8 (lam : ℂ) (i : S8x512.Idx) (h1 : V (Proc.devRef .tc main_v47) i = (lam.re : EReal)) (h2 : V (Proc.devRef .tc main_v48) i = (lam.im : EReal))
    (h3 : V (Proc.devRef .tc main_v81) i = ((lam ^ 7).re : EReal)) (h4 : V (Proc.devRef .tc main_v84) i = ((lam ^ 7).im : EReal)) :
    StableHlo.after preP8 V (Proc.devRef .tc main_v87) i = ((lam ^ 8).re : EReal) ∧ StableHlo.after preP8 V (Proc.devRef .tc main_v90) i = ((lam ^ 8).im : EReal) := by
  rw [show lam ^ 8 = lam ^ 7 * lam from pow_succ lam 7]
  unfold preP8
  constructor
  · after_reads_at
    exact pow_re _ _ _ _ _ _ h3 h1 h4 h2
  · after_reads_at
    exact pow_im _ _ _ _ _ _ h3 h2 h4 h1
theorem pre_st_re (j : Fin 8) (t : Fin 512) (f : Fin 8 → EReal) (h0 : V (Proc.devRef .tc main_v47) (ix2 j t) = f 0) (h1 : V (Proc.devRef .tc main_v51) (ix2 j t) = f 1) (h2 : V (Proc.devRef .tc main_v57) (ix2 j t) = f 2) (h3 : V (Proc.devRef .tc main_v63) (ix2 j t) = f 3) (h4 : V (Proc.devRef .tc main_v69) (ix2 j t) = f 4) (h5 : V (Proc.devRef .tc main_v75) (ix2 j t) = f 5) (h6 : V (Proc.devRef .tc main_v81) (ix2 j t) = f 6) (h7 : V (Proc.devRef .tc main_v87) (ix2 j t) = f 7) (k : Fin 8) :
    StableHlo.after preS2 (StableHlo.after preS1 V) (Proc.devRef .tc main_v99) (ix3 j k t) = f k := by
  have e0 : StableHlo.after preS1 V (Proc.devRef .tc main_v91) (ix3 j 0 t) = f 0 := by
    refine Eq.trans ?_ h0
    unfold preS1; after_reads_at
  have e1 : StableHlo.after preS1 V (Proc.devRef .tc main_v92) (ix3 j 0 t) = f 1 := by
    refine Eq.trans ?_ h1
    unfold preS1; after_reads_at
  have e2 : StableHlo.after preS1 V (Proc.devRef .tc main_v93) (ix3 j 0 t) = f 2 := by
    refine Eq.trans ?_ h2
    unfold preS1; after_reads_at
  have e3 : StableHlo.after preS1 V (Proc.devRef .tc main_v94) (ix3 j 0 t) = f 3 := by
    refine Eq.trans ?_ h3
    unfold preS1; after_reads_at
  have e4 : StableHlo.after preS1 V (Proc.devRef .tc main_v95) (ix3 j 0 t) = f 4 := by
    refine Eq.trans ?_ h4
    unfold preS1; after_reads_at
  have e5 : StableHlo.after preS1 V (Proc.devRef .tc main_v96) (ix3 j 0 t) = f 5 := by
    refine Eq.trans ?_ h5
    unfold preS1; after_reads_at
  have e6 : StableHlo.after preS1 V (Proc.devRef .tc main_v97) (ix3 j 0 t) = f 6 := by
    refine Eq.trans ?_ h6
    unfold preS1; after_reads_at
  have e7 : StableHlo.after preS1 V (Proc.devRef .tc main_v98) (ix3 j 0 t) = f 7 := by
    refine Eq.trans ?_ h7
    unfold preS1; after_reads_at
  generalize StableHlo.after preS1 V = W at *
  fin_cases k
  · refine Eq.trans ?_ e0
    show StableHlo.after preS2 W (Proc.devRef .tc main_v99) (ix3 j 0 t) = _
    unfold preS2; after_reads_at
  · refine Eq.trans ?_ e1
    show StableHlo.after preS2 W (Proc.devRef .tc main_v99) (ix3 j 1 t) = _
    unfold preS2; after_reads_at
  · refine Eq.trans ?_ e2
    show StableHlo.after preS2 W (Proc.devRef .tc main_v99) (ix3 j 2 t) = _
    unfold preS2; after_reads_at
  · refine Eq.trans ?_ e3
    show StableHlo.after preS2 W (Proc.devRef .tc main_v99) (ix3 j 3 t) = _
    unfold preS2; after_reads_at
  · refine Eq.trans ?_ e4
    show StableHlo.after preS2 W (Proc.devRef .tc main_v99) (ix3 j 4 t) = _
    unfold preS2; after_reads_at
  · refine Eq.trans ?_ e5
    show StableHlo.after preS2 W (Proc.devRef .tc main_v99) (ix3 j 5 t) = _
    unfold preS2; after_reads_at
  · refine Eq.trans ?_ e6
    show StableHlo.after preS2 W (Proc.devRef .tc main_v99) (ix3 j 6 t) = _
    unfold preS2; after_reads_at
  · refine Eq.trans ?_ e7
    show StableHlo.after preS2 W (Proc.devRef .tc main_v99) (ix3 j 7 t) = _
    unfold preS2; after_reads_at
theorem pre_st_im (j : Fin 8) (t : Fin 512) (f : Fin 8 → EReal) (h0 : V (Proc.devRef .tc main_v48) (ix2 j t) = f 0) (h1 : V (Proc.devRef .tc main_v54) (ix2 j t) = f 1) (h2 : V (Proc.devRef .tc main_v60) (ix2 j t) = f 2) (h3 : V (Proc.devRef .tc main_v66) (ix2 j t) = f 3) (h4 : V (Proc.devRef .tc main_v72) (ix2 j t) = f 4) (h5 : V (Proc.devRef .tc main_v78) (ix2 j t) = f 5) (h6 : V (Proc.devRef .tc main_v84) (ix2 j t) = f 6) (h7 : V (Proc.devRef .tc main_v90) (ix2 j t) = f 7) (k : Fin 8) :
    StableHlo.after preS4 (StableHlo.after preS3 V) (Proc.devRef .tc main_v108) (ix3 j k t) = f k := by
  have e0 : StableHlo.after preS3 V (Proc.devRef .tc main_v100) (ix3 j 0 t) = f 0 := by
    refine Eq.trans ?_ h0
    unfold preS3; after_reads_at
  have e1 : StableHlo.after preS3 V (Proc.devRef .tc main_v101) (ix3 j 0 t) = f 1 := by
    refine Eq.trans ?_ h1
    unfold preS3; after_reads_at
  have e2 : StableHlo.after preS3 V (Proc.devRef .tc main_v102) (ix3 j 0 t) = f 2 := by
    refine Eq.trans ?_ h2
    unfold preS3; after_reads_at
  have e3 : StableHlo.after preS3 V (Proc.devRef .tc main_v103) (ix3 j 0 t) = f 3 := by
    refine Eq.trans ?_ h3
    unfold preS3; after_reads_at
  have e4 : StableHlo.after preS3 V (Proc.devRef .tc main_v104) (ix3 j 0 t) = f 4 := by
    refine Eq.trans ?_ h4
    unfold preS3; after_reads_at
  have e5 : StableHlo.after preS3 V (Proc.devRef .tc main_v105) (ix3 j 0 t) = f 5 := by
    refine Eq.trans ?_ h5
    unfold preS3; after_reads_at
  have e6 : StableHlo.after preS3 V (Proc.devRef .tc main_v106) (ix3 j 0 t) = f 6 := by
    refine Eq.trans ?_ h6
    unfold preS3; after_reads_at
  have e7 : StableHlo.after preS3 V (Proc.devRef .tc main_v107) (ix3 j 0 t) = f 7 := by
    refine Eq.trans ?_ h7
    unfold preS3; after_reads_at
  generalize StableHlo.after preS3 V = W at *
  fin_cases k
  · refine Eq.trans ?_ e0
    show StableHlo.after preS4 W (Proc.devRef .tc main_v108) (ix3 j 0 t) = _
    unfold preS4; after_reads_at
  · refine Eq.trans ?_ e1
    show StableHlo.after preS4 W (Proc.devRef .tc main_v108) (ix3 j 1 t) = _
    unfold preS4; after_reads_at
  · refine Eq.trans ?_ e2
    show StableHlo.after preS4 W (Proc.devRef .tc main_v108) (ix3 j 2 t) = _
    unfold preS4; after_reads_at
  · refine Eq.trans ?_ e3
    show StableHlo.after preS4 W (Proc.devRef .tc main_v108) (ix3 j 3 t) = _
    unfold preS4; after_reads_at
  · refine Eq.trans ?_ e4
    show StableHlo.after preS4 W (Proc.devRef .tc main_v108) (ix3 j 4 t) = _
    unfold preS4; after_reads_at
  · refine Eq.trans ?_ e5
    show StableHlo.after preS4 W (Proc.devRef .tc main_v108) (ix3 j 5 t) = _
    unfold preS4; after_reads_at
  · refine Eq.trans ?_ e6
    show StableHlo.after preS4 W (Proc.devRef .tc main_v108) (ix3 j 6 t) = _
    unfold preS4; after_reads_at
  · refine Eq.trans ?_ e7
    show StableHlo.after preS4 W (Proc.devRef .tc main_v108) (ix3 j 7 t) = _
    unfold preS4; after_reads_at

/-- What the kernel's call finds in its arrays, as the arguments' numbers. -/
structure Arr (I : Data) (W : Valuation τ sig (Elt Ideal)) : Prop where
  u : ∀ l x, W (Proc.devRef .tc main_arg0) (ix2 l x) = (I.U l x : EReal)
  dy : ∀ l x, W (Proc.devRef .tc main_arg8) (ix2 l x) = (I.DY l x : EReal)
  br : ∀ (j a b : Fin 8) (k : Fin 16) (p : Fin 64), W (Proc.devRef .tc main_v25) (ix3 j (cl a k) (Fin.castAdd 512 (sl b p))) = ((I.BR (gp j a) (ch p k) * if a = b then (1 : ℝ) else 0 : ℝ) : EReal)
  bi : ∀ (j a b : Fin 8) (k : Fin 16) (p : Fin 64), W (Proc.devRef .tc main_v25) (ix3 j (cl a k) (Fin.natAdd 512 (sl b p))) = ((I.BI (gp j a) (ch p k) * if a = b then (1 : ℝ) else 0 : ℝ) : EReal)
  cr : ∀ (j a b : Fin 8) (k : Fin 16) (p : Fin 64), W (Proc.devRef .tc main_v46) (ix3 j (Fin.castAdd 512 (sl b p)) (cl a k)) = ((I.CR (gp j b) k p * if b = a then (1 : ℝ) else 0 : ℝ) : EReal)
  ci : ∀ (j a b : Fin 8) (k : Fin 16) (p : Fin 64), W (Proc.devRef .tc main_v46) (ix3 j (Fin.natAdd 512 (sl b p)) (cl a k)) = ((-(I.CI (gp j b) k p * if b = a then (1 : ℝ) else 0) : ℝ) : EReal)
  pr : ∀ (j k b : Fin 8) (p : Fin 64), W (Proc.devRef .tc main_v99) (ix3 j k (sl b p)) = ((lam I (gp j b) p ^ (k.val + 1)).re : EReal)
  pi : ∀ (j k b : Fin 8) (p : Fin 64), W (Proc.devRef .tc main_v108) (ix3 j k (sl b p)) = ((lam I (gp j b) p ^ (k.val + 1)).im : EReal)
  d : ∀ x, W (Proc.devRef .tc main_v109) (ix2 0 x) = (I.D x : EReal)

set_option maxHeartbeats 4000000 in
theorem pre_found (I : Data) (h : Args I (V (Proc.devRef .tc main_arg0)) (V (Proc.devRef .tc main_arg1)) (V (Proc.devRef .tc main_arg2)) (V (Proc.devRef .tc main_arg3)) (V (Proc.devRef .tc main_arg4))
    (V (Proc.devRef .tc main_arg5)) (V (Proc.devRef .tc main_arg6)) (V (Proc.devRef .tc main_arg7)) (V (Proc.devRef .tc main_arg8))) : Arr I (StableHlo.after hostOps0 V) := by
  rw [pre_split]
  simp only [StableHlo.after_append]
  have f_u := fun (l : Fin 2048) (x : Fin 1024) => h.u l x
  have f_dy := fun (l : Fin 2048) (x : Fin 1024) => h.dy l x
  have hr : ∀ (j b : Fin 8) (p : Fin 64), StableHlo.after preP1 (StableHlo.after preC (StableHlo.after preCi (StableHlo.after preCr (StableHlo.after preB (StableHlo.after preBi (StableHlo.after preBr (StableHlo.after preE V))))))) (Proc.devRef .tc main_v47) (ix2 j (sl b p)) = ((lam I (gp j b) p).re : EReal) := fun j b p => by
    rw [pre_lr, keep_preC _ (by decide +kernel), keep_preCi _ (by decide +kernel), keep_preCr _ (by decide +kernel), keep_preB _ (by decide +kernel), keep_preBi _ (by decide +kernel), keep_preBr _ (by decide +kernel), keep_preE _ (by decide +kernel)]; exact h.lr _ _
  have hi : ∀ (j b : Fin 8) (p : Fin 64), StableHlo.after preP1 (StableHlo.after preC (StableHlo.after preCi (StableHlo.after preCr (StableHlo.after preB (StableHlo.after preBi (StableHlo.after preBr (StableHlo.after preE V))))))) (Proc.devRef .tc main_v48) (ix2 j (sl b p)) = ((lam I (gp j b) p).im : EReal) := fun j b p => by
    rw [pre_li, keep_preC _ (by decide +kernel), keep_preCi _ (by decide +kernel), keep_preCr _ (by decide +kernel), keep_preB _ (by decide +kernel), keep_preBi _ (by decide +kernel), keep_preBr _ (by decide +kernel), keep_preE _ (by decide +kernel)]; exact h.li _ _
  have u' : ∀ l x, V (Proc.devRef .tc main_arg0) (ix2 l x) = (I.U l x : EReal) := h.u
  have dy' : ∀ l x, V (Proc.devRef .tc main_arg8) (ix2 l x) = (I.DY l x : EReal) := h.dy
  have d' : ∀ x, V (Proc.devRef .tc main_arg7) (ix1 x) = (I.D x : EReal) := h.d
  refine { u := fun l x => ?_, dy := fun l x => ?_, br := fun j a b k p => ?_, bi := fun j a b k p => ?_, cr := fun j a b k p => ?_, ci := fun j a b k p => ?_, pr := fun j k b p => ?_, pi := fun j k b p => ?_, d := fun x => ?_ }
  · rw [keep_preS5 _ (by decide +kernel), keep_preS4 _ (by decide +kernel), keep_preS3 _ (by decide +kernel), keep_preS2 _ (by decide +kernel), keep_preS1 _ (by decide +kernel), keep_preP8 _ (by decide +kernel), keep_preP7 _ (by decide +kernel), keep_preP6 _ (by decide +kernel), keep_preP5 _ (by decide +kernel), keep_preP4 _ (by decide +kernel), keep_preP3 _ (by decide +kernel), keep_preP2 _ (by decide +kernel), keep_preP1 _ (by decide +kernel), keep_preC _ (by decide +kernel), keep_preCi _ (by decide +kernel), keep_preCr _ (by decide +kernel), keep_preB _ (by decide +kernel), keep_preBi _ (by decide +kernel), keep_preBr _ (by decide +kernel), keep_preE _ (by decide +kernel)]; exact h.u l x
  · rw [keep_preS5 _ (by decide +kernel), keep_preS4 _ (by decide +kernel), keep_preS3 _ (by decide +kernel), keep_preS2 _ (by decide +kernel), keep_preS1 _ (by decide +kernel), keep_preP8 _ (by decide +kernel), keep_preP7 _ (by decide +kernel), keep_preP6 _ (by decide +kernel), keep_preP5 _ (by decide +kernel), keep_preP4 _ (by decide +kernel), keep_preP3 _ (by decide +kernel), keep_preP2 _ (by decide +kernel), keep_preP1 _ (by decide +kernel), keep_preC _ (by decide +kernel), keep_preCi _ (by decide +kernel), keep_preCr _ (by decide +kernel), keep_preB _ (by decide +kernel), keep_preBi _ (by decide +kernel), keep_preBr _ (by decide +kernel), keep_preE _ (by decide +kernel)]; exact h.dy l x
  · rw [keep_preS5 _ (by decide +kernel), keep_preS4 _ (by decide +kernel), keep_preS3 _ (by decide +kernel), keep_preS2 _ (by decide +kernel), keep_preS1 _ (by decide +kernel), keep_preP8 _ (by decide +kernel), keep_preP7 _ (by decide +kernel), keep_preP6 _ (by decide +kernel), keep_preP5 _ (by decide +kernel), keep_preP4 _ (by decide +kernel), keep_preP3 _ (by decide +kernel), keep_preP2 _ (by decide +kernel), keep_preP1 _ (by decide +kernel), keep_preC _ (by decide +kernel), keep_preCi _ (by decide +kernel), keep_preCr _ (by decide +kernel), pre_b_re, keep_preBi _ (by decide +kernel), pre_br, keep_preE _ (by decide +kernel), pre_eye]
    exact (congrArg (fun t => HMul.hMul (α := EReal) t _) (h.br _ _)).trans (EReal.coe_mul _ _).symm
  · rw [keep_preS5 _ (by decide +kernel), keep_preS4 _ (by decide +kernel), keep_preS3 _ (by decide +kernel), keep_preS2 _ (by decide +kernel), keep_preS1 _ (by decide +kernel), keep_preP8 _ (by decide +kernel), keep_preP7 _ (by decide +kernel), keep_preP6 _ (by decide +kernel), keep_preP5 _ (by decide +kernel), keep_preP4 _ (by decide +kernel), keep_preP3 _ (by decide +kernel), keep_preP2 _ (by decide +kernel), keep_preP1 _ (by decide +kernel), keep_preC _ (by decide +kernel), keep_preCi _ (by decide +kernel), keep_preCr _ (by decide +kernel), pre_b_im, pre_bi, keep_preBr _ (by decide +kernel), keep_preE _ (by decide +kernel), keep_preBr _ (by decide +kernel), pre_eye]
    exact (congrArg (fun t => HMul.hMul (α := EReal) t _) (h.bi _ _)).trans (EReal.coe_mul _ _).symm
  · rw [keep_preS5 _ (by decide +kernel), keep_preS4 _ (by decide +kernel), keep_preS3 _ (by decide +kernel), keep_preS2 _ (by decide +kernel), keep_preS1 _ (by decide +kernel), keep_preP8 _ (by decide +kernel), keep_preP7 _ (by decide +kernel), keep_preP6 _ (by decide +kernel), keep_preP5 _ (by decide +kernel), keep_preP4 _ (by decide +kernel), keep_preP3 _ (by decide +kernel), keep_preP2 _ (by decide +kernel), keep_preP1 _ (by decide +kernel), pre_c_re, keep_preCi _ (by decide +kernel), pre_cr, keep_preB _ (by decide +kernel), keep_preBi _ (by decide +kernel), keep_preBr _ (by decide +kernel), keep_preE _ (by decide +kernel), keep_preB _ (by decide +kernel), keep_preBi _ (by decide +kernel), keep_preBr _ (by decide +kernel), pre_eye]
    exact (congrArg (fun t => HMul.hMul (α := EReal) t _) (h.cr _ _ _)).trans (EReal.coe_mul _ _).symm
  · rw [keep_preS5 _ (by decide +kernel), keep_preS4 _ (by decide +kernel), keep_preS3 _ (by decide +kernel), keep_preS2 _ (by decide +kernel), keep_preS1 _ (by decide +kernel), keep_preP8 _ (by decide +kernel), keep_preP7 _ (by decide +kernel), keep_preP6 _ (by decide +kernel), keep_preP5 _ (by decide +kernel), keep_preP4 _ (by decide +kernel), keep_preP3 _ (by decide +kernel), keep_preP2 _ (by decide +kernel), keep_preP1 _ (by decide +kernel), pre_c_im, pre_ci, keep_preCr _ (by decide +kernel), keep_preB _ (by decide +kernel), keep_preBi _ (by decide +kernel), keep_preBr _ (by decide +kernel), keep_preE _ (by decide +kernel), keep_preCr _ (by decide +kernel), keep_preB _ (by decide +kernel), keep_preBi _ (by decide +kernel), keep_preBr _ (by decide +kernel), pre_eye]
    exact (congrArg (fun t => Neg.neg (α := EReal) (HMul.hMul (α := EReal) t _)) (h.ci _ _ _)).trans (by rw [← EReal.coe_mul, ← EReal.coe_neg])
  · rw [keep_preS5 _ (by decide +kernel), keep_preS4 _ (by decide +kernel), keep_preS3 _ (by decide +kernel), pre_st_re (f := fun k => ((lam I (gp j b) p ^ (k.val + 1)).re : EReal))]
    all_goals
      have r1 := hr j b p; have i1 := hi j b p
      generalize StableHlo.after (preP1 (F := Ideal)) _ = W1 at *
      have q2 := pre_pow2 W1 (lam I (gp j b) p) _ r1 i1 (by rw [pow_one]; exact r1) (by rw [pow_one]; exact i1)
      have q3 := pre_pow3 (StableHlo.after preP2 W1) (lam I (gp j b) p) (ix2 j (sl b p)) (by rw [keep_preP2 _ (by decide +kernel)]; exact r1) (by rw [keep_preP2 _ (by decide +kernel)]; exact i1) q2.1 q2.2
      have q4 := pre_pow4 (StableHlo.after preP3 (StableHlo.after preP2 W1)) (lam I (gp j b) p) (ix2 j (sl b p)) (by rw [keep_preP3 _ (by decide +kernel), keep_preP2 _ (by decide +kernel)]; exact r1) (by rw [keep_preP3 _ (by decide +kernel), keep_preP2 _ (by decide +kernel)]; exact i1) q3.1 q3.2
      have q5 := pre_pow5 (StableHlo.after preP4 (StableHlo.after preP3 (StableHlo.after preP2 W1))) (lam I (gp j b) p) (ix2 j (sl b p)) (by rw [keep_preP4 _ (by decide +kernel), keep_preP3 _ (by decide +kernel), keep_preP2 _ (by decide +kernel)]; exact r1) (by rw [keep_preP4 _ (by decide +kernel), keep_preP3 _ (by decide +kernel), keep_preP2 _ (by decide +kernel)]; exact i1) q4.1 q4.2
      have q6 := pre_pow6 (StableHlo.after preP5 (StableHlo.after preP4 (StableHlo.after preP3 (StableHlo.after preP2 W1)))) (lam I (gp j b) p) (ix2 j (sl b p)) (by rw [keep_preP5 _ (by decide +kernel), keep_preP4 _ (by decide +kernel), keep_preP3 _ (by decide +kernel), keep_preP2 _ (by decide +kernel)]; exact r1) (by rw [keep_preP5 _ (by decide +kernel), keep_preP4 _ (by decide +kernel), keep_preP3 _ (by decide +kernel), keep_preP2 _ (by decide +kernel)]; exact i1) q5.1 q5.2
      have q7 := pre_pow7 (StableHlo.after preP6 (StableHlo.after preP5 (StableHlo.after preP4 (StableHlo.after preP3 (StableHlo.after preP2 W1))))) (lam I (gp j b) p) (ix2 j (sl b p)) (by rw [keep_preP6 _ (by decide +kernel), keep_preP5 _ (by decide +kernel), keep_preP4 _ (by decide +kernel), keep_preP3 _ (by decide +kernel), keep_preP2 _ (by decide +kernel)]; exact r1) (by rw [keep_preP6 _ (by decide +kernel), keep_preP5 _ (by decide +kernel), keep_preP4 _ (by decide +kernel), keep_preP3 _ (by decide +kernel), keep_preP2 _ (by decide +kernel)]; exact i1) q6.1 q6.2
      have q8 := pre_pow8 (StableHlo.after preP7 (StableHlo.after preP6 (StableHlo.after preP5 (StableHlo.after preP4 (StableHlo.after preP3 (StableHlo.after preP2 W1)))))) (lam I (gp j b) p) (ix2 j (sl b p)) (by rw [keep_preP7 _ (by decide +kernel), keep_preP6 _ (by decide +kernel), keep_preP5 _ (by decide +kernel), keep_preP4 _ (by decide +kernel), keep_preP3 _ (by decide +kernel), keep_preP2 _ (by decide +kernel)]; exact r1) (by rw [keep_preP7 _ (by decide +kernel), keep_preP6 _ (by decide +kernel), keep_preP5 _ (by decide +kernel), keep_preP4 _ (by decide +kernel), keep_preP3 _ (by decide +kernel), keep_preP2 _ (by decide +kernel)]; exact i1) q7.1 q7.2
    · rw [keep_preP8 _ (by decide +kernel), keep_preP7 _ (by decide +kernel), keep_preP6 _ (by decide +kernel), keep_preP5 _ (by decide +kernel), keep_preP4 _ (by decide +kernel), keep_preP3 _ (by decide +kernel), keep_preP2 _ (by decide +kernel)]; exact (r1).trans (by simp)
    · rw [keep_preP8 _ (by decide +kernel), keep_preP7 _ (by decide +kernel), keep_preP6 _ (by decide +kernel), keep_preP5 _ (by decide +kernel), keep_preP4 _ (by decide +kernel), keep_preP3 _ (by decide +kernel)]; exact q2.1
    · rw [keep_preP8 _ (by decide +kernel), keep_preP7 _ (by decide +kernel), keep_preP6 _ (by decide +kernel), keep_preP5 _ (by decide +kernel), keep_preP4 _ (by decide +kernel)]; exact q3.1
    · rw [keep_preP8 _ (by decide +kernel), keep_preP7 _ (by decide +kernel), keep_preP6 _ (by decide +kernel), keep_preP5 _ (by decide +kernel)]; exact q4.1
    · rw [keep_preP8 _ (by decide +kernel), keep_preP7 _ (by decide +kernel), keep_preP6 _ (by decide +kernel)]; exact q5.1
    · rw [keep_preP8 _ (by decide +kernel), keep_preP7 _ (by decide +kernel)]; exact q6.1
    · rw [keep_preP8 _ (by decide +kernel)]; exact q7.1
    · exact q8.1
  · rw [keep_preS5 _ (by decide +kernel), pre_st_im (f := fun k => ((lam I (gp j b) p ^ (k.val + 1)).im : EReal))]
    all_goals
      have r1 := hr j b p; have i1 := hi j b p
      generalize StableHlo.after (preP1 (F := Ideal)) _ = W1 at *
      have q2 := pre_pow2 W1 (lam I (gp j b) p) _ r1 i1 (by rw [pow_one]; exact r1) (by rw [pow_one]; exact i1)
      have q3 := pre_pow3 (StableHlo.after preP2 W1) (lam I (gp j b) p) (ix2 j (sl b p)) (by rw [keep_preP2 _ (by decide +kernel)]; exact r1) (by rw [keep_preP2 _ (by decide +kernel)]; exact i1) q2.1 q2.2
      have q4 := pre_pow4 (StableHlo.after preP3 (StableHlo.after preP2 W1)) (lam I (gp j b) p) (ix2 j (sl b p)) (by rw [keep_preP3 _ (by decide +kernel), keep_preP2 _ (by decide +kernel)]; exact r1) (by rw [keep_preP3 _ (by decide +kernel), keep_preP2 _ (by decide +kernel)]; exact i1) q3.1 q3.2
      have q5 := pre_pow5 (StableHlo.after preP4 (StableHlo.after preP3 (StableHlo.after preP2 W1))) (lam I (gp j b) p) (ix2 j (sl b p)) (by rw [keep_preP4 _ (by decide +kernel), keep_preP3 _ (by decide +kernel), keep_preP2 _ (by decide +kernel)]; exact r1) (by rw [keep_preP4 _ (by decide +kernel), keep_preP3 _ (by decide +kernel), keep_preP2 _ (by decide +kernel)]; exact i1) q4.1 q4.2
      have q6 := pre_pow6 (StableHlo.after preP5 (StableHlo.after preP4 (StableHlo.after preP3 (StableHlo.after preP2 W1)))) (lam I (gp j b) p) (ix2 j (sl b p)) (by rw [keep_preP5 _ (by decide +kernel), keep_preP4 _ (by decide +kernel), keep_preP3 _ (by decide +kernel), keep_preP2 _ (by decide +kernel)]; exact r1) (by rw [keep_preP5 _ (by decide +kernel), keep_preP4 _ (by decide +kernel), keep_preP3 _ (by decide +kernel), keep_preP2 _ (by decide +kernel)]; exact i1) q5.1 q5.2
      have q7 := pre_pow7 (StableHlo.after preP6 (StableHlo.after preP5 (StableHlo.after preP4 (StableHlo.after preP3 (StableHlo.after preP2 W1))))) (lam I (gp j b) p) (ix2 j (sl b p)) (by rw [keep_preP6 _ (by decide +kernel), keep_preP5 _ (by decide +kernel), keep_preP4 _ (by decide +kernel), keep_preP3 _ (by decide +kernel), keep_preP2 _ (by decide +kernel)]; exact r1) (by rw [keep_preP6 _ (by decide +kernel), keep_preP5 _ (by decide +kernel), keep_preP4 _ (by decide +kernel), keep_preP3 _ (by decide +kernel), keep_preP2 _ (by decide +kernel)]; exact i1) q6.1 q6.2
      have q8 := pre_pow8 (StableHlo.after preP7 (StableHlo.after preP6 (StableHlo.after preP5 (StableHlo.after preP4 (StableHlo.after preP3 (StableHlo.after preP2 W1)))))) (lam I (gp j b) p) (ix2 j (sl b p)) (by rw [keep_preP7 _ (by decide +kernel), keep_preP6 _ (by decide +kernel), keep_preP5 _ (by decide +kernel), keep_preP4 _ (by decide +kernel), keep_preP3 _ (by decide +kernel), keep_preP2 _ (by decide +kernel)]; exact r1) (by rw [keep_preP7 _ (by decide +kernel), keep_preP6 _ (by decide +kernel), keep_preP5 _ (by decide +kernel), keep_preP4 _ (by decide +kernel), keep_preP3 _ (by decide +kernel), keep_preP2 _ (by decide +kernel)]; exact i1) q7.1 q7.2
    · rw [keep_preS2 _ (by decide +kernel), keep_preS1 _ (by decide +kernel), keep_preP8 _ (by decide +kernel), keep_preP7 _ (by decide +kernel), keep_preP6 _ (by decide +kernel), keep_preP5 _ (by decide +kernel), keep_preP4 _ (by decide +kernel), keep_preP3 _ (by decide +kernel), keep_preP2 _ (by decide +kernel)]; exact (i1).trans (by simp)
    · rw [keep_preS2 _ (by decide +kernel), keep_preS1 _ (by decide +kernel), keep_preP8 _ (by decide +kernel), keep_preP7 _ (by decide +kernel), keep_preP6 _ (by decide +kernel), keep_preP5 _ (by decide +kernel), keep_preP4 _ (by decide +kernel), keep_preP3 _ (by decide +kernel)]; exact q2.2
    · rw [keep_preS2 _ (by decide +kernel), keep_preS1 _ (by decide +kernel), keep_preP8 _ (by decide +kernel), keep_preP7 _ (by decide +kernel), keep_preP6 _ (by decide +kernel), keep_preP5 _ (by decide +kernel), keep_preP4 _ (by decide +kernel)]; exact q3.2
    · rw [keep_preS2 _ (by decide +kernel), keep_preS1 _ (by decide +kernel), keep_preP8 _ (by decide +kernel), keep_preP7 _ (by decide +kernel), keep_preP6 _ (by decide +kernel), keep_preP5 _ (by decide +kernel)]; exact q4.2
    · rw [keep_preS2 _ (by decide +kernel), keep_preS1 _ (by decide +kernel), keep_preP8 _ (by decide +kernel), keep_preP7 _ (by decide +kernel), keep_preP6 _ (by decide +kernel)]; exact q5.2
    · rw [keep_preS2 _ (by decide +kernel), keep_preS1 _ (by decide +kernel), keep_preP8 _ (by decide +kernel), keep_preP7 _ (by decide +kernel)]; exact q6.2
    · rw [keep_preS2 _ (by decide +kernel), keep_preS1 _ (by decide +kernel), keep_preP8 _ (by decide +kernel)]; exact q7.2
    · rw [keep_preS2 _ (by decide +kernel), keep_preS1 _ (by decide +kernel)]; exact q8.2
  · rw [pre_d, keep_preS4 _ (by decide +kernel), keep_preS3 _ (by decide +kernel), keep_preS2 _ (by decide +kernel), keep_preS1 _ (by decide +kernel), keep_preP8 _ (by decide +kernel), keep_preP7 _ (by decide +kernel), keep_preP6 _ (by decide +kernel), keep_preP5 _ (by decide +kernel), keep_preP4 _ (by decide +kernel), keep_preP3 _ (by decide +kernel), keep_preP2 _ (by decide +kernel), keep_preP1 _ (by decide +kernel), keep_preC _ (by decide +kernel), keep_preCi _ (by decide +kernel), keep_preCr _ (by decide +kernel), keep_preB _ (by decide +kernel), keep_preBi _ (by decide +kernel), keep_preBr _ (by decide +kernel), keep_preE _ (by decide +kernel)]; exact h.d x

end Cert.Proof.S5
end
-- ==== Proof.K2Run.lean ====
module

public import proofs.«01_k».proof.Proof.Gen.Kernel2Ideal.Frame.Runs

@[expose] public section

set_option maxRecDepth 16384

noncomputable section

namespace Cert.Kernel2Ideal.Scan

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The powers' real parts as the body loads them. -/
abbrev pre4 (c : Dev nD) (i : grid0.Coords) (arg1 : Memref sig .tc .vmem S2048x128 .f32) (w1 : arg1.IsWhole) (arg2 : Memref sig .tc .vmem S1x128x1024 .bf16) (w2 : arg2.IsWhole) (arg3 : Memref sig .tc .vmem S1x1024x128 .bf16) (w3 : arg3.IsWhole) (arg4 : Memref sig .tc .vmem S1x8x512 .f32) (w4 : arg4.IsWhole) (arg5 : Memref sig .tc .vmem S1x8x512 .f32) (w5 : arg5.IsWhole) (arg6 : Memref sig .tc .vmem S1x128 .f32) (w6 : arg6.IsWhole) (arg7 : Memref sig .tc .vmem S2048x128 .f32) (w7 : arg7.IsWhole) (arg8 : Memref sig .tc .vmem S2048x128 .f32) (w8 : arg8.IsWhole) (arg9 : Memref sig .tc .vmem S1x128x1024 .f32) (w9 : arg9.IsWhole) (arg10 : Memref sig .tc .vmem S1x1024x128 .f32) (w10 : arg10.IsWhole) (arg11 : Memref sig .tc .vmem S1x8x512 .f32) (w11 : arg11.IsWhole) (arg12 : Memref sig .tc .vmem S1x128 .f32) (w12 : arg12.IsWhole) (arg13 : Memref sig .tc .vmem S2048x512 .f32) (w13 : arg13.IsWhole) (arg14 : Memref sig .tc .vmem S2048x512 .f32) (w14 : arg14.IsWhole) (arg15 : Memref sig .tc .vmem S2048x512 .f32) (w15 : arg15.IsWhole) (arg16 : Memref sig .tc .vmem S2048x512 .f32) (w16 : arg16.IsWhole) (arg17 : Memref sig .tc .vmem S2048x128 .f32) (w17 : arg17.IsWhole) (X4 : BufTy.Contents (Elt F) arg4.view.ty) : Vec F S1x8x512 .f32 := View.readAt (Elt F) arg4.view (Rect.unit ![0, 0, 0] S1x8x512.size inb_S1x8x512_S1x8x512_0_0_0).toLoadRect X4

/-- The powers' imaginary parts. -/
abbrev pre5 (c : Dev nD) (i : grid0.Coords) (arg1 : Memref sig .tc .vmem S2048x128 .f32) (w1 : arg1.IsWhole) (arg2 : Memref sig .tc .vmem S1x128x1024 .bf16) (w2 : arg2.IsWhole) (arg3 : Memref sig .tc .vmem S1x1024x128 .bf16) (w3 : arg3.IsWhole) (arg4 : Memref sig .tc .vmem S1x8x512 .f32) (w4 : arg4.IsWhole) (arg5 : Memref sig .tc .vmem S1x8x512 .f32) (w5 : arg5.IsWhole) (arg6 : Memref sig .tc .vmem S1x128 .f32) (w6 : arg6.IsWhole) (arg7 : Memref sig .tc .vmem S2048x128 .f32) (w7 : arg7.IsWhole) (arg8 : Memref sig .tc .vmem S2048x128 .f32) (w8 : arg8.IsWhole) (arg9 : Memref sig .tc .vmem S1x128x1024 .f32) (w9 : arg9.IsWhole) (arg10 : Memref sig .tc .vmem S1x1024x128 .f32) (w10 : arg10.IsWhole) (arg11 : Memref sig .tc .vmem S1x8x512 .f32) (w11 : arg11.IsWhole) (arg12 : Memref sig .tc .vmem S1x128 .f32) (w12 : arg12.IsWhole) (arg13 : Memref sig .tc .vmem S2048x512 .f32) (w13 : arg13.IsWhole) (arg14 : Memref sig .tc .vmem S2048x512 .f32) (w14 : arg14.IsWhole) (arg15 : Memref sig .tc .vmem S2048x512 .f32) (w15 : arg15.IsWhole) (arg16 : Memref sig .tc .vmem S2048x512 .f32) (w16 : arg16.IsWhole) (arg17 : Memref sig .tc .vmem S2048x128 .f32) (w17 : arg17.IsWhole) (X5 : BufTy.Contents (Elt F) arg5.view.ty) : Vec F S1x8x512 .f32 := View.readAt (Elt F) arg5.view (Rect.unit ![0, 0, 0] S1x8x512.size inb_S1x8x512_S1x8x512_0_0_0).toLoadRect X5

variable (c : Dev nD) (i : grid0.Coords) (arg1 : Memref sig .tc .vmem S2048x128 .f32) (w1 : arg1.IsWhole) (arg2 : Memref sig .tc .vmem S1x128x1024 .bf16) (w2 : arg2.IsWhole) (arg3 : Memref sig .tc .vmem S1x1024x128 .bf16) (w3 : arg3.IsWhole) (arg4 : Memref sig .tc .vmem S1x8x512 .f32) (w4 : arg4.IsWhole) (arg5 : Memref sig .tc .vmem S1x8x512 .f32) (w5 : arg5.IsWhole) (arg6 : Memref sig .tc .vmem S1x128 .f32) (w6 : arg6.IsWhole) (arg7 : Memref sig .tc .vmem S2048x128 .f32) (w7 : arg7.IsWhole) (arg8 : Memref sig .tc .vmem S2048x128 .f32) (w8 : arg8.IsWhole) (arg9 : Memref sig .tc .vmem S1x128x1024 .f32) (w9 : arg9.IsWhole) (arg10 : Memref sig .tc .vmem S1x1024x128 .f32) (w10 : arg10.IsWhole) (arg11 : Memref sig .tc .vmem S1x8x512 .f32) (w11 : arg11.IsWhole) (arg12 : Memref sig .tc .vmem S1x128 .f32) (w12 : arg12.IsWhole) (arg13 : Memref sig .tc .vmem S2048x512 .f32) (w13 : arg13.IsWhole) (arg14 : Memref sig .tc .vmem S2048x512 .f32) (w14 : arg14.IsWhole) (arg15 : Memref sig .tc .vmem S2048x512 .f32) (w15 : arg15.IsWhole) (arg16 : Memref sig .tc .vmem S2048x512 .f32) (w16 : arg16.IsWhole) (arg17 : Memref sig .tc .vmem S2048x128 .f32) (w17 : arg17.IsWhole)

/-- What the first loop stores: the drive's real and imaginary rows. -/
@[irreducible] def pcs1 (X1 : BufTy.Contents (Elt F) arg1.view.ty) (X2 : BufTy.Contents (Elt F) arg2.view.ty) : List (View.Piece (Elt F) S2048x512 .f32) × List (View.Piece (Elt F) S2048x512 .f32) :=
  pb_k0_t1 Variants.none c none i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 (Scf.trips k0_t1_loop.lb k0_t1_loop.ub k0_t1_loop.st)

/-- The drive, real. -/
@[irreducible] def A13 (X1 : BufTy.Contents (Elt F) arg1.view.ty) (X2 : BufTy.Contents (Elt F) arg2.view.ty) : BufTy.Contents (Elt F) arg13.view.ty :=
  arg13.view.writes (Elt F) arg13.view.junk (pcs1 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2).1

/-- The drive, imaginary. -/
@[irreducible] def A14 (X1 : BufTy.Contents (Elt F) arg1.view.ty) (X2 : BufTy.Contents (Elt F) arg2.view.ty) : BufTy.Contents (Elt F) arg14.view.ty :=
  arg14.view.writes (Elt F) arg14.view.junk (pcs1 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2).2

/-- The scan: its carried row and its stores. -/
@[irreducible] def out2 (X1 : BufTy.Contents (Elt F) arg1.view.ty) (X2 : BufTy.Contents (Elt F) arg2.view.ty) (X4 : BufTy.Contents (Elt F) arg4.view.ty) (X5 : BufTy.Contents (Elt F) arg5.view.ty) : (FVec F S1x512 .f32 × FVec F S1x512 .f32) × List (View.Piece (Elt F) S2048x512 .f32) × List (View.Piece (Elt F) S2048x512 .f32) :=
  st_k0_t2 Variants.none c none i arg1 w1 arg2 w2 arg3 w3 arg4 w4 arg5 w5 arg6 w6 arg7 w7 arg8 w8 arg9 w9 arg10 w10 arg11 w11 arg12 w12 arg13 w13 arg14 w14 arg15 w15 arg16 w16 arg17 w17 (k0_pay57 (pre4 c i arg1 w1 arg2 w2 arg3 w3 arg4 w4 arg5 w5 arg6 w6 arg7 w7 arg8 w8 arg9 w9 arg10 w10 arg11 w11 arg12 w12 arg13 w13 arg14 w14 arg15 w15 arg16 w16 arg17 w17 X4)) (k0_pay58 (pre5 c i arg1 w1 arg2 w2 arg3 w3 arg4 w4 arg5 w5 arg6 w6 arg7 w7 arg8 w8 arg9 w9 arg10 w10 arg11 w11 arg12 w12 arg13 w13 arg14 w14 arg15 w15 arg16 w16 arg17 w17 X5)) (iota .tc S8x512 32 [0] iota_S8x512_d0_w32) (k0_pay60 (pre4 c i arg1 w1 arg2 w2 arg3 w3 arg4 w4 arg5 w5 arg6 w6 arg7 w7 arg8 w8 arg9 w9 arg10 w10 arg11 w11 arg12 w12 arg13 w13 arg14 w14 arg15 w15 arg16 w16 arg17 w17 X4)) (k0_pay61 (pre5 c i arg1 w1 arg2 w2 arg3 w3 arg4 w4 arg5 w5 arg6 w6 arg7 w7 arg8 w8 arg9 w9 arg10 w10 arg11 w11 arg12 w12 arg13 w13 arg14 w14 arg15 w15 arg16 w16 arg17 w17 X5)) (k0_pay63 (pre4 c i arg1 w1 arg2 w2 arg3 w3 arg4 w4 arg5 w5 arg6 w6 arg7 w7 arg8 w8 arg9 w9 arg10 w10 arg11 w11 arg12 w12 arg13 w13 arg14 w14 arg15 w15 arg16 w16 arg17 w17 X4)) (k0_pay64 (pre5 c i arg1 w1 arg2 w2 arg3 w3 arg4 w4 arg5 w5 arg6 w6 arg7 w7 arg8 w8 arg9 w9 arg10 w10 arg11 w11 arg12 w12 arg13 w13 arg14 w14 arg15 w15 arg16 w16 arg17 w17 X5)) k0_pay65 (k0_pay66 (pre4 c i arg1 w1 arg2 w2 arg3 w3 arg4 w4 arg5 w5 arg6 w6 arg7 w7 arg8 w8 arg9 w9 arg10 w10 arg11 w11 arg12 w12 arg13 w13 arg14 w14 arg15 w15 arg16 w16 arg17 w17 X4)) (Scalar.ofBits .f32 0x00000000#32) (k0_pay67 (pre5 c i arg1 w1 arg2 w2 arg3 w3 arg4 w4 arg5 w5 arg6 w6 arg7 w7 arg8 w8 arg9 w9 arg10 w10 arg11 w11 arg12 w12 arg13 w13 arg14 w14 arg15 w15 arg16 w16 arg17 w17 X5)) (A13 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2) (A14 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2) (k0_pay69, k0_pay69) (Scf.trips k0_t2_loop.lb k0_t2_loop.ub k0_t2_loop.st)

/-- The state, real. -/
@[irreducible] def B13 (X1 : BufTy.Contents (Elt F) arg1.view.ty) (X2 : BufTy.Contents (Elt F) arg2.view.ty) (X4 : BufTy.Contents (Elt F) arg4.view.ty) (X5 : BufTy.Contents (Elt F) arg5.view.ty) : BufTy.Contents (Elt F) arg13.view.ty :=
  arg13.view.writes (Elt F) (A13 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2) (out2 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X4 X5).2.1

/-- The state, imaginary. -/
@[irreducible] def B14 (X1 : BufTy.Contents (Elt F) arg1.view.ty) (X2 : BufTy.Contents (Elt F) arg2.view.ty) (X4 : BufTy.Contents (Elt F) arg4.view.ty) (X5 : BufTy.Contents (Elt F) arg5.view.ty) : BufTy.Contents (Elt F) arg14.view.ty :=
  arg14.view.writes (Elt F) (A14 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2) (out2 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X4 X5).2.2

/-- The read-out's backward loop: its sums and its stores. -/
@[irreducible] def out3 (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) : (FVec F S512x128 .f32 × FVec F S512x128 .f32 × FVec F S1x128 .f32) × List (View.Piece (Elt F) S2048x512 .f32) × List (View.Piece (Elt F) S2048x512 .f32) × List (View.Piece (Elt F) S2048x128 .f32) :=
  st_k0_t3 Variants.none c none i arg1 w1 arg2 w2 arg3 w3 arg4 w4 arg5 w5 arg6 w6 arg7 w7 arg8 w8 arg9 w9 arg10 w10 arg11 w11 arg12 w12 arg13 w13 arg14 w14 arg15 w15 arg16 w16 arg17 w17 (k0_pay57 (pre4 c i arg1 w1 arg2 w2 arg3 w3 arg4 w4 arg5 w5 arg6 w6 arg7 w7 arg8 w8 arg9 w9 arg10 w10 arg11 w11 arg12 w12 arg13 w13 arg14 w14 arg15 w15 arg16 w16 arg17 w17 X4)) (k0_pay58 (pre5 c i arg1 w1 arg2 w2 arg3 w3 arg4 w4 arg5 w5 arg6 w6 arg7 w7 arg8 w8 arg9 w9 arg10 w10 arg11 w11 arg12 w12 arg13 w13 arg14 w14 arg15 w15 arg16 w16 arg17 w17 X5)) (iota .tc S8x512 32 [0] iota_S8x512_d0_w32) (k0_pay60 (pre4 c i arg1 w1 arg2 w2 arg3 w3 arg4 w4 arg5 w5 arg6 w6 arg7 w7 arg8 w8 arg9 w9 arg10 w10 arg11 w11 arg12 w12 arg13 w13 arg14 w14 arg15 w15 arg16 w16 arg17 w17 X4)) (k0_pay61 (pre5 c i arg1 w1 arg2 w2 arg3 w3 arg4 w4 arg5 w5 arg6 w6 arg7 w7 arg8 w8 arg9 w9 arg10 w10 arg11 w11 arg12 w12 arg13 w13 arg14 w14 arg15 w15 arg16 w16 arg17 w17 X5)) (k0_pay63 (pre4 c i arg1 w1 arg2 w2 arg3 w3 arg4 w4 arg5 w5 arg6 w6 arg7 w7 arg8 w8 arg9 w9 arg10 w10 arg11 w11 arg12 w12 arg13 w13 arg14 w14 arg15 w15 arg16 w16 arg17 w17 X4)) (k0_pay64 (pre5 c i arg1 w1 arg2 w2 arg3 w3 arg4 w4 arg5 w5 arg6 w6 arg7 w7 arg8 w8 arg9 w9 arg10 w10 arg11 w11 arg12 w12 arg13 w13 arg14 w14 arg15 w15 arg16 w16 arg17 w17 X5)) k0_pay65 (k0_pay66 (pre4 c i arg1 w1 arg2 w2 arg3 w3 arg4 w4 arg5 w5 arg6 w6 arg7 w7 arg8 w8 arg9 w9 arg10 w10 arg11 w11 arg12 w12 arg13 w13 arg14 w14 arg15 w15 arg16 w16 arg17 w17 X4)) (Scalar.ofBits .f32 0x00000000#32) (k0_pay67 (pre5 c i arg1 w1 arg2 w2 arg3 w3 arg4 w4 arg5 w5 arg6 w6 arg7 w7 arg8 w8 arg9 w9 arg10 w10 arg11 w11 arg12 w12 arg13 w13 arg14 w14 arg15 w15 arg16 w16 arg17 w17 X5)) X1 X3 X6 X7 (B13 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X4 X5) (B14 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X4 X5) (k0_pay74, k0_pay74, k0_pay75) (Scf.trips k0_t3_loop.lb k0_t3_loop.ub k0_t3_loop.st)

/-- The read-out's backward loop's rows. -/
@[irreducible] def B15 (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) : BufTy.Contents (Elt F) arg15.view.ty :=
  arg15.view.writes (Elt F) arg15.view.junk (out3 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7).2.1

/-- The read-out's backward loop's rows. -/
@[irreducible] def B16 (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) : BufTy.Contents (Elt F) arg16.view.ty :=
  arg16.view.writes (Elt F) arg16.view.junk (out3 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7).2.2.1

/-- The read-out's backward loop's rows. -/
@[irreducible] def B17 (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) : BufTy.Contents (Elt F) arg17.view.ty :=
  arg17.view.writes (Elt F) arg17.view.junk (out3 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7).2.2.2

/-- A whole buffer under stores that cover it holds them over anything. -/
theorem over_junk {s : Shape} {e : EltTy} {sp : Space} {m : Memref sig .tc sp s e} (hw : m.IsWhole) (f : BufTy.Contents (Elt F) m.view.ty) (L : List (View.Piece (Elt F) s e))
    (h : ∀ y, ∃ p ∈ L, y ∈ p.1.set) : m.view.writes (Elt F) f L = m.view.writes (Elt F) m.view.junk L := by
  obtain ⟨b, rfl, rfl, rfl, h'⟩ := hw
  cases h'
  funext y
  exact View.read_writes_apply_eq (View.whole b) f (View.whole b) (View.whole b).junk y L (h y)

theorem cov13 (X1 : BufTy.Contents (Elt F) arg1.view.ty) (X2 : BufTy.Contents (Elt F) arg2.view.ty) (y : S2048x512.Idx) : ∃ p ∈ (pcs1 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2).1, y ∈ p.1.set :=
  View.cover_of_tiledL (pcs1 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2).1 S256x512.size (by sl_kernel_rfl) y

theorem cov14 (X1 : BufTy.Contents (Elt F) arg1.view.ty) (X2 : BufTy.Contents (Elt F) arg2.view.ty) (y : S2048x512.Idx) : ∃ p ∈ (pcs1 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2).2, y ∈ p.1.set :=
  View.cover_of_tiledL (pcs1 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2).2 S256x512.size (by sl_kernel_rfl) y

theorem cov15 (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (y : S2048x512.Idx) : ∃ p ∈ (out3 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7).2.1, y ∈ p.1.set :=
  View.cover_of_tiledL (out3 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7).2.1 S256x512.size (by sl_kernel_rfl) y

theorem cov16 (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (y : S2048x512.Idx) : ∃ p ∈ (out3 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7).2.2.1, y ∈ p.1.set :=
  View.cover_of_tiledL (out3 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7).2.2.1 S256x512.size (by sl_kernel_rfl) y

theorem cov17 (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (y : S2048x128.Idx) : ∃ p ∈ (out3 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7).2.2.2, y ∈ p.1.set :=
  View.cover_of_tiledL (out3 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7).2.2.2 S256x128.size (by sl_kernel_rfl) y

/-- The read-out weights' cotangent: its two stores. -/
@[irreducible] def pcs10 (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) : List (View.Piece (Elt F) S1x1024x128 .f32) :=
  [⟨Rect.unit (s := S1x1024x128) ![0, 512, 0] S1x512x128.size inb_S1x1024x128_S1x512x128_0_512_0, k0_pay79 (out3 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7).1.2.1⟩, ⟨Rect.unit (s := S1x1024x128) ![0, 0, 0] S1x512x128.size inb_S1x1024x128_S1x512x128_0_0_0, k0_pay78 (out3 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7).1.1⟩]

/-- The skip's cotangent: its store. -/
@[irreducible] def pcs12 (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) : List (View.Piece (Elt F) S1x128 .f32) :=
  [⟨Rect.unit (s := S1x128) ![0, 0] S1x128.size inb_S1x128_S1x128_0_0, (out3 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7).1.2.2⟩]

/-- The reverse scan: what it carries and its stores. -/
@[irreducible] def out4 (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) : (FVec F S1x512 .f32 × FVec F S1x512 .f32 × FVec F S8x512 .f32 × FVec F S8x512 .f32) × List (View.Piece (Elt F) S2048x512 .f32) × List (View.Piece (Elt F) S2048x512 .f32) :=
  st_k0_t4 Variants.none c none i arg1 w1 arg2 w2 arg3 w3 arg4 w4 arg5 w5 arg6 w6 arg7 w7 arg8 w8 arg9 w9 arg10 w10 arg11 w11 arg12 w12 arg13 w13 arg14 w14 arg15 w15 arg16 w16 arg17 w17 (iota .tc S8x512 32 [0] iota_S8x512_d0_w32) (k0_pay84 k0_pay82 (Scalar.ofBits .f32 0x00000000#32) (k0_pay83 (pre4 c i arg1 w1 arg2 w2 arg3 w3 arg4 w4 arg5 w5 arg6 w6 arg7 w7 arg8 w8 arg9 w9 arg10 w10 arg11 w11 arg12 w12 arg13 w13 arg14 w14 arg15 w15 arg16 w16 arg17 w17 X4))) (k0_pay85 (k0_pay81 (pre5 c i arg1 w1 arg2 w2 arg3 w3 arg4 w4 arg5 w5 arg6 w6 arg7 w7 arg8 w8 arg9 w9 arg10 w10 arg11 w11 arg12 w12 arg13 w13 arg14 w14 arg15 w15 arg16 w16 arg17 w17 X5)) k0_pay82) (k0_pay87 (k0_pay80 (pre4 c i arg1 w1 arg2 w2 arg3 w3 arg4 w4 arg5 w5 arg6 w6 arg7 w7 arg8 w8 arg9 w9 arg10 w10 arg11 w11 arg12 w12 arg13 w13 arg14 w14 arg15 w15 arg16 w16 arg17 w17 X4)) (iota .tc S8x512 32 [0] iota_S8x512_d0_w32)) (k0_pay88 (k0_pay81 (pre5 c i arg1 w1 arg2 w2 arg3 w3 arg4 w4 arg5 w5 arg6 w6 arg7 w7 arg8 w8 arg9 w9 arg10 w10 arg11 w11 arg12 w12 arg13 w13 arg14 w14 arg15 w15 arg16 w16 arg17 w17 X5)) (iota .tc S8x512 32 [0] iota_S8x512_d0_w32)) (k0_pay90 (k0_pay80 (pre4 c i arg1 w1 arg2 w2 arg3 w3 arg4 w4 arg5 w5 arg6 w6 arg7 w7 arg8 w8 arg9 w9 arg10 w10 arg11 w11 arg12 w12 arg13 w13 arg14 w14 arg15 w15 arg16 w16 arg17 w17 X4)) (iota .tc S8x512 32 [0] iota_S8x512_d0_w32)) (k0_pay91 (k0_pay81 (pre5 c i arg1 w1 arg2 w2 arg3 w3 arg4 w4 arg5 w5 arg6 w6 arg7 w7 arg8 w8 arg9 w9 arg10 w10 arg11 w11 arg12 w12 arg13 w13 arg14 w14 arg15 w15 arg16 w16 arg17 w17 X5)) (iota .tc S8x512 32 [0] iota_S8x512_d0_w32)) (k0_pay92 (k0_pay80 (pre4 c i arg1 w1 arg2 w2 arg3 w3 arg4 w4 arg5 w5 arg6 w6 arg7 w7 arg8 w8 arg9 w9 arg10 w10 arg11 w11 arg12 w12 arg13 w13 arg14 w14 arg15 w15 arg16 w16 arg17 w17 X4))) (k0_pay93 (k0_pay81 (pre5 c i arg1 w1 arg2 w2 arg3 w3 arg4 w4 arg5 w5 arg6 w6 arg7 w7 arg8 w8 arg9 w9 arg10 w10 arg11 w11 arg12 w12 arg13 w13 arg14 w14 arg15 w15 arg16 w16 arg17 w17 X5))) (B13 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X4 X5) (B14 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X4 X5) (B15 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7) (B16 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7) (k0_pay94, k0_pay94, k0_pay95, k0_pay95) (Scf.trips k0_t4_loop.lb k0_t4_loop.ub k0_t4_loop.st)

theorem out4_eq (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) : out4 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7 = st_k0_t4 Variants.none c none i arg1 w1 arg2 w2 arg3 w3 arg4 w4 arg5 w5 arg6 w6 arg7 w7 arg8 w8 arg9 w9 arg10 w10 arg11 w11 arg12 w12 arg13 w13 arg14 w14 arg15 w15 arg16 w16 arg17 w17 (iota .tc S8x512 32 [0] iota_S8x512_d0_w32) (k0_pay84 k0_pay82 (Scalar.ofBits .f32 0x00000000#32) (k0_pay83 (pre4 c i arg1 w1 arg2 w2 arg3 w3 arg4 w4 arg5 w5 arg6 w6 arg7 w7 arg8 w8 arg9 w9 arg10 w10 arg11 w11 arg12 w12 arg13 w13 arg14 w14 arg15 w15 arg16 w16 arg17 w17 X4))) (k0_pay85 (k0_pay81 (pre5 c i arg1 w1 arg2 w2 arg3 w3 arg4 w4 arg5 w5 arg6 w6 arg7 w7 arg8 w8 arg9 w9 arg10 w10 arg11 w11 arg12 w12 arg13 w13 arg14 w14 arg15 w15 arg16 w16 arg17 w17 X5)) k0_pay82) (k0_pay87 (k0_pay80 (pre4 c i arg1 w1 arg2 w2 arg3 w3 arg4 w4 arg5 w5 arg6 w6 arg7 w7 arg8 w8 arg9 w9 arg10 w10 arg11 w11 arg12 w12 arg13 w13 arg14 w14 arg15 w15 arg16 w16 arg17 w17 X4)) (iota .tc S8x512 32 [0] iota_S8x512_d0_w32)) (k0_pay88 (k0_pay81 (pre5 c i arg1 w1 arg2 w2 arg3 w3 arg4 w4 arg5 w5 arg6 w6 arg7 w7 arg8 w8 arg9 w9 arg10 w10 arg11 w11 arg12 w12 arg13 w13 arg14 w14 arg15 w15 arg16 w16 arg17 w17 X5)) (iota .tc S8x512 32 [0] iota_S8x512_d0_w32)) (k0_pay90 (k0_pay80 (pre4 c i arg1 w1 arg2 w2 arg3 w3 arg4 w4 arg5 w5 arg6 w6 arg7 w7 arg8 w8 arg9 w9 arg10 w10 arg11 w11 arg12 w12 arg13 w13 arg14 w14 arg15 w15 arg16 w16 arg17 w17 X4)) (iota .tc S8x512 32 [0] iota_S8x512_d0_w32)) (k0_pay91 (k0_pay81 (pre5 c i arg1 w1 arg2 w2 arg3 w3 arg4 w4 arg5 w5 arg6 w6 arg7 w7 arg8 w8 arg9 w9 arg10 w10 arg11 w11 arg12 w12 arg13 w13 arg14 w14 arg15 w15 arg16 w16 arg17 w17 X5)) (iota .tc S8x512 32 [0] iota_S8x512_d0_w32)) (k0_pay92 (k0_pay80 (pre4 c i arg1 w1 arg2 w2 arg3 w3 arg4 w4 arg5 w5 arg6 w6 arg7 w7 arg8 w8 arg9 w9 arg10 w10 arg11 w11 arg12 w12 arg13 w13 arg14 w14 arg15 w15 arg16 w16 arg17 w17 X4))) (k0_pay93 (k0_pay81 (pre5 c i arg1 w1 arg2 w2 arg3 w3 arg4 w4 arg5 w5 arg6 w6 arg7 w7 arg8 w8 arg9 w9 arg10 w10 arg11 w11 arg12 w12 arg13 w13 arg14 w14 arg15 w15 arg16 w16 arg17 w17 X5))) (B13 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X4 X5) (B14 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X4 X5) (B15 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7) (B16 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7) (k0_pay94, k0_pay94, k0_pay95, k0_pay95) (Scf.trips k0_t4_loop.lb k0_t4_loop.ub k0_t4_loop.st) := by
  unfold out4; rfl

/-- The adjoint state, real. -/
@[irreducible] def C15 (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) : BufTy.Contents (Elt F) arg15.view.ty :=
  arg15.view.writes (Elt F) (B15 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7) (out4 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7).2.1

theorem C15_eq (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) : C15 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7 = arg15.view.writes (Elt F) (B15 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7) (out4 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7).2.1 := by
  unfold C15; rfl

/-- The adjoint state, imaginary. -/
@[irreducible] def C16 (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) : BufTy.Contents (Elt F) arg16.view.ty :=
  arg16.view.writes (Elt F) (B16 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7) (out4 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7).2.2

theorem C16_eq (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) : C16 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7 = arg16.view.writes (Elt F) (B16 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7) (out4 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7).2.2 := by
  unfold C16; rfl

/-- The last loop: its sums and its stores. -/
@[irreducible] def out5 (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) : (FVec F S128x512 .f32 × FVec F S128x512 .f32) × List (View.Piece (Elt F) S2048x128 .f32) :=
  st_k0_t5 Variants.none c none i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X6 (C15 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7) (C16 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7) (B17 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7) (k0_pay5, k0_pay5) (Scf.trips k0_t5_loop.lb k0_t5_loop.ub k0_t5_loop.st)

theorem out5_eq (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) : out5 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7 = st_k0_t5 Variants.none c none i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X6 (C15 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7) (C16 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7) (B17 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7) (k0_pay5, k0_pay5) (Scf.trips k0_t5_loop.lb k0_t5_loop.ub k0_t5_loop.st) := by
  unfold out5; rfl

/-- The input's cotangent: its stores. -/
@[irreducible] def pcs8 (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) : List (View.Piece (Elt F) S2048x128 .f32) :=
  (out5 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7).2

theorem pcs8_eq (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) : pcs8 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7 = (out5 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7).2 := by
  unfold pcs8; rfl

/-- The drive weights' cotangent: its two stores. -/
@[irreducible] def pcs9 (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) : List (View.Piece (Elt F) S1x128x1024 .f32) :=
  [⟨Rect.unit (s := S1x128x1024) ![0, 0, 512] S1x128x512.size inb_S1x128x1024_S1x128x512_0_0_512, k0_pay10 (out5 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7).1.2⟩, ⟨Rect.unit (s := S1x128x1024) ![0, 0, 0] S1x128x512.size inb_S1x128x1024_S1x128x512_0_0_0, k0_pay9 (out5 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7).1.1⟩]

theorem pcs9_eq (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) : pcs9 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7 = [⟨Rect.unit (s := S1x128x1024) ![0, 0, 512] S1x128x512.size inb_S1x128x1024_S1x128x512_0_0_512, k0_pay10 (out5 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7).1.2⟩, ⟨Rect.unit (s := S1x128x1024) ![0, 0, 0] S1x128x512.size inb_S1x128x1024_S1x128x512_0_0_0, k0_pay9 (out5 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7).1.1⟩] := by
  unfold pcs9; rfl

/-- The powers' cotangent: its store. -/
@[irreducible] def pcs11 (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) : List (View.Piece (Elt F) S1x8x512 .f32) :=
  [⟨Rect.unit (s := S1x8x512) ![0, 0, 0] S1x8x512.size inb_S1x8x512_S1x8x512_0_0_0, k0_pay4 (out4 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7).1.2.2.1 (out4 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7).1.2.2.2⟩]

theorem pcs11_eq (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) : pcs11 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7 = [⟨Rect.unit (s := S1x8x512) ![0, 0, 0] S1x8x512.size inb_S1x8x512_S1x8x512_0_0_0, k0_pay4 (out4 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7).1.2.2.1 (out4 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7).1.2.2.2⟩] := by
  unfold pcs11; rfl

theorem cov8 (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (y : S2048x128.Idx) : ∃ p ∈ (pcs8 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7), y ∈ p.1.set :=
  View.cover_of_tiledL (pcs8 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7) S256x128.size (by sl_kernel_rfl) y

theorem cov9 (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (y : S1x128x1024.Idx) : ∃ p ∈ (pcs9 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7), y ∈ p.1.set :=
  View.cover_of_tiledL (pcs9 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7) S1x128x512.size (by sl_kernel_rfl) y

theorem cov10 (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (y : S1x1024x128.Idx) : ∃ p ∈ (pcs10 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7), y ∈ p.1.set :=
  View.cover_of_tiledL (pcs10 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7) S1x512x128.size (by sl_kernel_rfl) y

theorem cov11 (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (y : S1x8x512.Idx) : ∃ p ∈ (pcs11 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7), y ∈ p.1.set :=
  View.cover_of_tiledL (pcs11 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7) S1x8x512.size (by sl_kernel_rfl) y

theorem cov12 (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (y : S1x128.Idx) : ∃ p ∈ (pcs12 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7), y ∈ p.1.set :=
  View.cover_of_tiledL (pcs12 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7) S1x128.size (by sl_kernel_rfl) y

/-- The words between the two scans. -/
theorem run_words (c : Dev nD) (i : grid0.Coords) (arg1 : Memref sig .tc .vmem S2048x128 .f32) (w1 : arg1.IsWhole) (arg2 : Memref sig .tc .vmem S1x128x1024 .bf16) (w2 : arg2.IsWhole) (arg3 : Memref sig .tc .vmem S1x1024x128 .bf16) (w3 : arg3.IsWhole) (arg4 : Memref sig .tc .vmem S1x8x512 .f32) (w4 : arg4.IsWhole) (arg5 : Memref sig .tc .vmem S1x8x512 .f32) (w5 : arg5.IsWhole) (arg6 : Memref sig .tc .vmem S1x128 .f32) (w6 : arg6.IsWhole) (arg7 : Memref sig .tc .vmem S2048x128 .f32) (w7 : arg7.IsWhole) (arg8 : Memref sig .tc .vmem S2048x128 .f32) (w8 : arg8.IsWhole) (arg9 : Memref sig .tc .vmem S1x128x1024 .f32) (w9 : arg9.IsWhole) (arg10 : Memref sig .tc .vmem S1x1024x128 .f32) (w10 : arg10.IsWhole) (arg11 : Memref sig .tc .vmem S1x8x512 .f32) (w11 : arg11.IsWhole) (arg12 : Memref sig .tc .vmem S1x128 .f32) (w12 : arg12.IsWhole) (arg13 : Memref sig .tc .vmem S2048x512 .f32) (w13 : arg13.IsWhole) (arg14 : Memref sig .tc .vmem S2048x512 .f32) (w14 : arg14.IsWhole) (arg15 : Memref sig .tc .vmem S2048x512 .f32) (w15 : arg15.IsWhole) (arg16 : Memref sig .tc .vmem S2048x512 .f32) (w16 : arg16.IsWhole) (arg17 : Memref sig .tc .vmem S2048x128 .f32) (w17 : arg17.IsWhole) (v57 : FVec F S8x512 .f32) (v61 : FVec F S8x512 .f32) (v62 : IVec S8x512 32) (v64 : IVec S8x512 1) (cst_36 : F .f32) (v67 : FVec F S8x512 .f32) (E : Set ℕ) (K : (Σ' (v69 : FVec F S8x512 .f32) (v74 : FVec F S8x512 .f32) (v81 : FVec F S8x512 .f32) (v86 : FVec F S8x512 .f32) (v93 : FVec F S8x512 .f32) (v98 : FVec F S8x512 .f32) (v107 : FVec F S8x512 .f32) (v116 : FVec F S8x512 .f32) (v117 : FVec F S1x512 .f32), FVec F S8x512 .f32) → sProp 𝕄) :
    K ⟨k0_pay84 v64 cst_36 v67, k0_pay85 v61 v64, k0_pay87 v57 v62, k0_pay88 v61 v62, k0_pay90 v57 v62, k0_pay91 v61 v62, k0_pay92 v57, k0_pay93 v61, k0_pay94 (F := F), k0_pay95 (F := F)⟩
      ⊢ wp frame (wpE (defs₀ (F := F)) Variants.none c none) E (k0_part8 i arg1 w1 arg2 w2 arg3 w3 arg4 w4 arg5 w5 arg6 w6 arg7 w7 arg8 w8 arg9 w9 arg10 w10 arg11 w11 arg12 w12 arg13 w13 arg14 w14 arg15 w15 arg16 w16 arg17 w17 v57 v61 v62 v64 cst_36 v67) K := by
  simp only [k0_part8_eq_skeleton]; unfold k0_part8_skel
  iintro H
  sl_step
  iexact H

/-- The first loop, as a whole. -/
theorem run_one (X1 : BufTy.Contents (Elt F) arg1.view.ty) (X2 : BufTy.Contents (Elt F) arg2.view.ty) (X4 : BufTy.Contents (Elt F) arg4.view.ty) (X5 : BufTy.Contents (Elt F) arg5.view.ty) (f13 : BufTy.Contents (Elt F) arg13.view.ty) (f14 : BufTy.Contents (Elt F) arg14.view.ty) (E : Set ℕ) (K : (Σ' (v2 : FVec F S8x512 .f32) (v4 : FVec F S8x512 .f32) (v5 : IVec S8x512 32) (v12 : FVec F S8x512 .f32) (v17 : FVec F S8x512 .f32) (v24 : FVec F S8x512 .f32) (v29 : FVec F S8x512 .f32) (v31 : IVec S8x512 1) (v36 : FVec F S8x512 .f32) (cst_11 : F .f32), FVec F S1x512 .f32) → sProp 𝕄) :
    iprop((arg1.view.loc (c : Thread nD τ) ↦[arg1.view.set]{fullShare} X1) ∗ (arg2.view.loc (c : Thread nD τ) ↦[arg2.view.set]{fullShare} X2) ∗ (arg4.view.loc (c : Thread nD τ) ↦[arg4.view.set]{fullShare} X4) ∗ (arg5.view.loc (c : Thread nD τ) ↦[arg5.view.set]{fullShare} X5) ∗ (arg13.view.loc (c : Thread nD τ) ↦[arg13.view.set]{fullShare} f13) ∗ (arg14.view.loc (c : Thread nD τ) ↦[arg14.view.set]{fullShare} f14)
        ∗ (iprop((arg1.view.loc (c : Thread nD τ) ↦[arg1.view.set]{fullShare} X1) ∗ (arg2.view.loc (c : Thread nD τ) ↦[arg2.view.set]{fullShare} X2) ∗ (arg4.view.loc (c : Thread nD τ) ↦[arg4.view.set]{fullShare} X4) ∗ (arg5.view.loc (c : Thread nD τ) ↦[arg5.view.set]{fullShare} X5) ∗ (arg13.view.loc (c : Thread nD τ) ↦[arg13.view.set]{fullShare} (A13 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2)) ∗ (arg14.view.loc (c : Thread nD τ) ↦[arg14.view.set]{fullShare} (A14 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2))) -∗ K (⟨(k0_pay57 (pre4 c i arg1 w1 arg2 w2 arg3 w3 arg4 w4 arg5 w5 arg6 w6 arg7 w7 arg8 w8 arg9 w9 arg10 w10 arg11 w11 arg12 w12 arg13 w13 arg14 w14 arg15 w15 arg16 w16 arg17 w17 X4)), (k0_pay58 (pre5 c i arg1 w1 arg2 w2 arg3 w3 arg4 w4 arg5 w5 arg6 w6 arg7 w7 arg8 w8 arg9 w9 arg10 w10 arg11 w11 arg12 w12 arg13 w13 arg14 w14 arg15 w15 arg16 w16 arg17 w17 X5)), (iota .tc S8x512 32 [0] iota_S8x512_d0_w32), (k0_pay60 (pre4 c i arg1 w1 arg2 w2 arg3 w3 arg4 w4 arg5 w5 arg6 w6 arg7 w7 arg8 w8 arg9 w9 arg10 w10 arg11 w11 arg12 w12 arg13 w13 arg14 w14 arg15 w15 arg16 w16 arg17 w17 X4)), (k0_pay61 (pre5 c i arg1 w1 arg2 w2 arg3 w3 arg4 w4 arg5 w5 arg6 w6 arg7 w7 arg8 w8 arg9 w9 arg10 w10 arg11 w11 arg12 w12 arg13 w13 arg14 w14 arg15 w15 arg16 w16 arg17 w17 X5)), (k0_pay63 (pre4 c i arg1 w1 arg2 w2 arg3 w3 arg4 w4 arg5 w5 arg6 w6 arg7 w7 arg8 w8 arg9 w9 arg10 w10 arg11 w11 arg12 w12 arg13 w13 arg14 w14 arg15 w15 arg16 w16 arg17 w17 X4)), (k0_pay64 (pre5 c i arg1 w1 arg2 w2 arg3 w3 arg4 w4 arg5 w5 arg6 w6 arg7 w7 arg8 w8 arg9 w9 arg10 w10 arg11 w11 arg12 w12 arg13 w13 arg14 w14 arg15 w15 arg16 w16 arg17 w17 X5)), k0_pay65, (k0_pay66 (pre4 c i arg1 w1 arg2 w2 arg3 w3 arg4 w4 arg5 w5 arg6 w6 arg7 w7 arg8 w8 arg9 w9 arg10 w10 arg11 w11 arg12 w12 arg13 w13 arg14 w14 arg15 w15 arg16 w16 arg17 w17 X4)), (Scalar.ofBits .f32 0x00000000#32), (k0_pay67 (pre5 c i arg1 w1 arg2 w2 arg3 w3 arg4 w4 arg5 w5 arg6 w6 arg7 w7 arg8 w8 arg9 w9 arg10 w10 arg11 w11 arg12 w12 arg13 w13 arg14 w14 arg15 w15 arg16 w16 arg17 w17 X5))⟩ : (Σ' (v2 : FVec F S8x512 .f32) (v4 : FVec F S8x512 .f32) (v5 : IVec S8x512 32) (v12 : FVec F S8x512 .f32) (v17 : FVec F S8x512 .f32) (v24 : FVec F S8x512 .f32) (v29 : FVec F S8x512 .f32) (v31 : IVec S8x512 1) (v36 : FVec F S8x512 .f32) (cst_11 : F .f32), FVec F S1x512 .f32))))
      ⊢ wp frame (wpE (defs₀ (F := F)) Variants.none c none) E (k0_part6 i arg1 w1 arg2 w2 arg3 w3 arg4 w4 arg5 w5 arg6 w6 arg7 w7 arg8 w8 arg9 w9 arg10 w10 arg11 w11 arg12 w12 arg13 w13 arg14 w14 arg15 w15 arg16 w16 arg17 w17) K := by
  unfold A13 A14
  rw [← over_junk w13 f13 _ (cov13 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2), ← over_junk w14 f14 _ (cov14 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2)]
  unfold pcs1
  simp only [k0_part6_eq_skeleton]; unfold k0_part6_skel
  iintro ⟨H1, H2, H4, H5, H13, H14, Hk⟩
  sl_exec
  sl_step
  unfold run_one.sl.cst_11 run_one.sl.v5
  iapply Hk
  isplitl [H1]; · iexact H1
  isplitl [H2]; · iexact H2
  isplitl [H4]; · iexact H4
  isplitl [H5]; · iexact H5
  isplitl [H13]; · iexact H13
  iexact H14

/-- The scan and the read-out's backward loop. -/
theorem run_two (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (f10 : BufTy.Contents (Elt F) arg10.view.ty) (f12 : BufTy.Contents (Elt F) arg12.view.ty) (f15 : BufTy.Contents (Elt F) arg15.view.ty) (f16 : BufTy.Contents (Elt F) arg16.view.ty) (f17 : BufTy.Contents (Elt F) arg17.view.ty) (E : Set ℕ) (K : (Σ' (v57 : FVec F S8x512 .f32) (v61 : FVec F S8x512 .f32) (v62 : IVec S8x512 32) (v64 : IVec S8x512 1) (cst_36 : F .f32), FVec F S8x512 .f32) → sProp 𝕄) :
    iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg10.view.loc (c : Thread nD τ) ↦[arg10.view.set]{fullShare} f10) ∗ (arg12.view.loc (c : Thread nD τ) ↦[arg12.view.set]{fullShare} f12) ∗ (arg13.view.loc (c : Thread nD τ) ↦[arg13.view.set]{fullShare} (A13 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2)) ∗ (arg14.view.loc (c : Thread nD τ) ↦[arg14.view.set]{fullShare} (A14 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2)) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17)
        ∗ (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg10.view.loc (c : Thread nD τ) ↦[arg10.view.set]{fullShare} arg10.view.writes (Elt F) f10 (pcs10 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7)) ∗ (arg12.view.loc (c : Thread nD τ) ↦[arg12.view.set]{fullShare} arg12.view.writes (Elt F) f12 (pcs12 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7)) ∗ (arg13.view.loc (c : Thread nD τ) ↦[arg13.view.set]{fullShare} (B13 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X4 X5)) ∗ (arg14.view.loc (c : Thread nD τ) ↦[arg14.view.set]{fullShare} (B14 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X4 X5)) ∗ (arg15.view.loc (c : Thread nD τ) ↦[arg15.view.set]{fullShare} (B15 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7)) ∗ (arg16.view.loc (c : Thread nD τ) ↦[arg16.view.set]{fullShare} (B16 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7)) ∗ (arg17.view.loc (c : Thread nD τ) ↦[arg17.view.set]{fullShare} (B17 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7))) -∗ K (⟨k0_pay80 (pre4 c i arg1 w1 arg2 w2 arg3 w3 arg4 w4 arg5 w5 arg6 w6 arg7 w7 arg8 w8 arg9 w9 arg10 w10 arg11 w11 arg12 w12 arg13 w13 arg14 w14 arg15 w15 arg16 w16 arg17 w17 X4), k0_pay81 (pre5 c i arg1 w1 arg2 w2 arg3 w3 arg4 w4 arg5 w5 arg6 w6 arg7 w7 arg8 w8 arg9 w9 arg10 w10 arg11 w11 arg12 w12 arg13 w13 arg14 w14 arg15 w15 arg16 w16 arg17 w17 X5), (iota .tc S8x512 32 [0] iota_S8x512_d0_w32), k0_pay82, Scalar.ofBits .f32 0x00000000#32, k0_pay83 (pre4 c i arg1 w1 arg2 w2 arg3 w3 arg4 w4 arg5 w5 arg6 w6 arg7 w7 arg8 w8 arg9 w9 arg10 w10 arg11 w11 arg12 w12 arg13 w13 arg14 w14 arg15 w15 arg16 w16 arg17 w17 X4)⟩ : (Σ' (v57 : FVec F S8x512 .f32) (v61 : FVec F S8x512 .f32) (v62 : IVec S8x512 32) (v64 : IVec S8x512 1) (cst_36 : F .f32), FVec F S8x512 .f32))))
      ⊢ wp frame (wpE (defs₀ (F := F)) Variants.none c none) E (k0_part7 i arg1 w1 arg2 w2 arg3 w3 arg4 w4 arg5 w5 arg6 w6 arg7 w7 arg8 w8 arg9 w9 arg10 w10 arg11 w11 arg12 w12 arg13 w13 arg14 w14 arg15 w15 arg16 w16 arg17 w17 (k0_pay57 (pre4 c i arg1 w1 arg2 w2 arg3 w3 arg4 w4 arg5 w5 arg6 w6 arg7 w7 arg8 w8 arg9 w9 arg10 w10 arg11 w11 arg12 w12 arg13 w13 arg14 w14 arg15 w15 arg16 w16 arg17 w17 X4)) (k0_pay58 (pre5 c i arg1 w1 arg2 w2 arg3 w3 arg4 w4 arg5 w5 arg6 w6 arg7 w7 arg8 w8 arg9 w9 arg10 w10 arg11 w11 arg12 w12 arg13 w13 arg14 w14 arg15 w15 arg16 w16 arg17 w17 X5)) (iota .tc S8x512 32 [0] iota_S8x512_d0_w32) (k0_pay60 (pre4 c i arg1 w1 arg2 w2 arg3 w3 arg4 w4 arg5 w5 arg6 w6 arg7 w7 arg8 w8 arg9 w9 arg10 w10 arg11 w11 arg12 w12 arg13 w13 arg14 w14 arg15 w15 arg16 w16 arg17 w17 X4)) (k0_pay61 (pre5 c i arg1 w1 arg2 w2 arg3 w3 arg4 w4 arg5 w5 arg6 w6 arg7 w7 arg8 w8 arg9 w9 arg10 w10 arg11 w11 arg12 w12 arg13 w13 arg14 w14 arg15 w15 arg16 w16 arg17 w17 X5)) (k0_pay63 (pre4 c i arg1 w1 arg2 w2 arg3 w3 arg4 w4 arg5 w5 arg6 w6 arg7 w7 arg8 w8 arg9 w9 arg10 w10 arg11 w11 arg12 w12 arg13 w13 arg14 w14 arg15 w15 arg16 w16 arg17 w17 X4)) (k0_pay64 (pre5 c i arg1 w1 arg2 w2 arg3 w3 arg4 w4 arg5 w5 arg6 w6 arg7 w7 arg8 w8 arg9 w9 arg10 w10 arg11 w11 arg12 w12 arg13 w13 arg14 w14 arg15 w15 arg16 w16 arg17 w17 X5)) k0_pay65 (k0_pay66 (pre4 c i arg1 w1 arg2 w2 arg3 w3 arg4 w4 arg5 w5 arg6 w6 arg7 w7 arg8 w8 arg9 w9 arg10 w10 arg11 w11 arg12 w12 arg13 w13 arg14 w14 arg15 w15 arg16 w16 arg17 w17 X4)) (Scalar.ofBits .f32 0x00000000#32) (k0_pay67 (pre5 c i arg1 w1 arg2 w2 arg3 w3 arg4 w4 arg5 w5 arg6 w6 arg7 w7 arg8 w8 arg9 w9 arg10 w10 arg11 w11 arg12 w12 arg13 w13 arg14 w14 arg15 w15 arg16 w16 arg17 w17 X5))) K := by
  unfold pcs10 pcs12 B15 B16 B17
  rw [← over_junk w15 f15 _ (cov15 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7), ← over_junk w16 f16 _ (cov16 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7), ← over_junk w17 f17 _ (cov17 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7)]
  unfold out3 B13 B14 out2
  simp only [k0_part7_eq_skeleton]; unfold k0_part7_skel
  iintro ⟨H1, H2, H3, H4, H5, H6, H7, H10, H12, H13, H14, H15, H16, H17, Hk⟩
  sl_exec
  sl_step
  unfold run_two.sl.cst_36 run_two.sl.v62
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H10]; · iexact H10
  isplitl [H12]; · iexact H12
  isplitl [H13]; · iexact H13
  isplitl [H14]; · iexact H14
  isplitl [H15]; · iexact H15
  isplitl [H16]; · iexact H16
  iexact H17

set_option maxHeartbeats 1000000 in
/-- The whole body. -/
theorem run_body (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (E : Set ℕ) (K : PUnit → sProp 𝕄) :
    iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17)
        ∗ (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (∃ f, (arg8.view.loc (c : Thread nD τ) ↦[arg8.view.set]{fullShare} arg8.view.writes (Elt F) f (pcs8 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7))) ∗ (∃ f, (arg9.view.loc (c : Thread nD τ) ↦[arg9.view.set]{fullShare} arg9.view.writes (Elt F) f (pcs9 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7))) ∗ (∃ f, (arg10.view.loc (c : Thread nD τ) ↦[arg10.view.set]{fullShare} arg10.view.writes (Elt F) f (pcs10 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7))) ∗ (∃ f, (arg11.view.loc (c : Thread nD τ) ↦[arg11.view.set]{fullShare} arg11.view.writes (Elt F) f (pcs11 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7))) ∗ (∃ f, (arg12.view.loc (c : Thread nD τ) ↦[arg12.view.set]{fullShare} arg12.view.writes (Elt F) f (pcs12 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7))) ∗ (∃ g, (arg13.view.loc (c : Thread nD τ) ↦[arg13.view.set]{fullShare} g)) ∗ (∃ g, (arg14.view.loc (c : Thread nD τ) ↦[arg14.view.set]{fullShare} g)) ∗ (∃ g, (arg15.view.loc (c : Thread nD τ) ↦[arg15.view.set]{fullShare} g)) ∗ (∃ g, (arg16.view.loc (c : Thread nD τ) ↦[arg16.view.set]{fullShare} g)) ∗ (∃ g, (arg17.view.loc (c : Thread nD τ) ↦[arg17.view.set]{fullShare} g))) -∗ K ⟨⟩))
      ⊢ wp frame (wpE (defs₀ (F := F)) Variants.none c none) E (cc0_s5_bwd i arg1 w1 arg2 w2 arg3 w3 arg4 w4 arg5 w5 arg6 w6 arg7 w7 arg8 w8 arg9 w9 arg10 w10 arg11 w11 arg12 w12 arg13 w13 arg14 w14 arg15 w15 arg16 w16 arg17 w17) K := by
  simp only [cc0_s5_bwd_eq_skeleton]; unfold cc0_s5_bwd_skel
  iintro ⟨H1, H2, H3, H4, H5, H6, H7, H8, H9, H10, H11, H12, H13, H14, H15, H16, H17, Hk⟩
  rw [wp_bind]
  iapply (run_one c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X4 X5 f13 f14 E _)
  isplitl [H1]; · iexact H1
  isplitl [H2]; · iexact H2
  isplitl [H4]; · iexact H4
  isplitl [H5]; · iexact H5
  isplitl [H13]; · iexact H13
  isplitl [H14]; · iexact H14
  iintro ⟨H1, H2, H4, H5, H13, H14⟩
  rw [wp_bind]
  iapply (run_two c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7 f10 f12 f15 f16 f17 E _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H10]; · iexact H10
  isplitl [H12]; · iexact H12
  isplitl [H13]; · iexact H13
  isplitl [H14]; · iexact H14
  isplitl [H15]; · iexact H15
  isplitl [H16]; · iexact H16
  isplitl [H17]; · iexact H17
  iintro ⟨H1, H2, H3, H4, H5, H6, H7, H10, H12, H13, H14, H15, H16, H17⟩
  dsimp only
  rw [wp_bind]
  iapply (run_words c i arg1 w1 arg2 w2 arg3 w3 arg4 w4 arg5 w5 arg6 w6 arg7 w7 arg8 w8 arg9 w9 arg10 w10 arg11 w11 arg12 w12 arg13 w13 arg14 w14 arg15 w15 arg16 w16 arg17 w17 _ _ _ _ _ _ E _)
  dsimp only
  generalize h8 : (pcs8 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7) = L8
  generalize h9 : (pcs9 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7) = L9
  generalize h11 : (pcs11 c i arg1 w1 arg2 w2 arg3 w3 arg4 w4 arg5 w5 arg6 w6 arg7 w7 arg8 w8 arg9 w9 arg10 w10 arg11 w11 arg12 w12 arg13 w13 arg14 w14 arg15 w15 arg16 w16 arg17 w17 X1 X2 X3 X4 X5 X6 X7) = L11
  sl_exec
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _; rw [← h8, pcs8_eq, out5_eq, C15_eq, C16_eq, out4_eq]
    iexact H8
  isplitl [H9]
  · iexists _; rw [← h9, pcs9_eq, out5_eq, C15_eq, C16_eq, out4_eq]
    iexact H9
  isplitl [H10]; · iexists _; iexact H10
  isplitl [H11]
  · iexists _; rw [← h11, pcs11_eq, out4_eq]
    unfold run_body.sl.H11_1
    iexact H11
  isplitl [H12]; · iexists _; iexact H12
  isplitl [H13]; · iexists _; iexact H13
  isplitl [H14]; · iexists _; iexact H14
  isplitl [H15]; · iexists _; iexact H15
  isplitl [H16]; · iexists _; iexact H16
  iexists _; iexact H17

/-- What the body leaves in each output's buffer, as pieces: functions of the seven blocks it is given. -/
abbrev given8 (x0 : Vec F S2048x128 .f32) (x1 : Vec F S1x128x1024 .bf16) (x2 : Vec F S1x1024x128 .bf16) (x3 : Vec F S1x8x512 .f32) (x4 : Vec F S1x8x512 .f32) (x5 : Vec F S1x128 .f32) (x6 : Vec F S2048x128 .f32) : List (View.Piece (Elt F) S2048x128 .f32) := pcs8 c i arg1 w1 arg2 w2 arg3 w3 arg4 w4 arg5 w5 arg6 w6 arg7 w7 arg8 w8 arg9 w9 arg10 w10 arg11 w11 arg12 w12 arg13 w13 arg14 w14 arg15 w15 arg16 w16 arg17 w17 (w1.unread x0) (w2.unread x1) (w3.unread x2) (w4.unread x3) (w5.unread x4) (w6.unread x5) (w7.unread x6)
abbrev given9 (x0 : Vec F S2048x128 .f32) (x1 : Vec F S1x128x1024 .bf16) (x2 : Vec F S1x1024x128 .bf16) (x3 : Vec F S1x8x512 .f32) (x4 : Vec F S1x8x512 .f32) (x5 : Vec F S1x128 .f32) (x6 : Vec F S2048x128 .f32) : List (View.Piece (Elt F) S1x128x1024 .f32) := pcs9 c i arg1 w1 arg2 w2 arg3 w3 arg4 w4 arg5 w5 arg6 w6 arg7 w7 arg8 w8 arg9 w9 arg10 w10 arg11 w11 arg12 w12 arg13 w13 arg14 w14 arg15 w15 arg16 w16 arg17 w17 (w1.unread x0) (w2.unread x1) (w3.unread x2) (w4.unread x3) (w5.unread x4) (w6.unread x5) (w7.unread x6)
abbrev given10 (x0 : Vec F S2048x128 .f32) (x1 : Vec F S1x128x1024 .bf16) (x2 : Vec F S1x1024x128 .bf16) (x3 : Vec F S1x8x512 .f32) (x4 : Vec F S1x8x512 .f32) (x5 : Vec F S1x128 .f32) (x6 : Vec F S2048x128 .f32) : List (View.Piece (Elt F) S1x1024x128 .f32) := pcs10 c i arg1 w1 arg2 w2 arg3 w3 arg4 w4 arg5 w5 arg6 w6 arg7 w7 arg8 w8 arg9 w9 arg10 w10 arg11 w11 arg12 w12 arg13 w13 arg14 w14 arg15 w15 arg16 w16 arg17 w17 (w1.unread x0) (w2.unread x1) (w3.unread x2) (w4.unread x3) (w5.unread x4) (w6.unread x5) (w7.unread x6)
abbrev given11 (x0 : Vec F S2048x128 .f32) (x1 : Vec F S1x128x1024 .bf16) (x2 : Vec F S1x1024x128 .bf16) (x3 : Vec F S1x8x512 .f32) (x4 : Vec F S1x8x512 .f32) (x5 : Vec F S1x128 .f32) (x6 : Vec F S2048x128 .f32) : List (View.Piece (Elt F) S1x8x512 .f32) := pcs11 c i arg1 w1 arg2 w2 arg3 w3 arg4 w4 arg5 w5 arg6 w6 arg7 w7 arg8 w8 arg9 w9 arg10 w10 arg11 w11 arg12 w12 arg13 w13 arg14 w14 arg15 w15 arg16 w16 arg17 w17 (w1.unread x0) (w2.unread x1) (w3.unread x2) (w4.unread x3) (w5.unread x4) (w6.unread x5) (w7.unread x6)
abbrev given12 (x0 : Vec F S2048x128 .f32) (x1 : Vec F S1x128x1024 .bf16) (x2 : Vec F S1x1024x128 .bf16) (x3 : Vec F S1x8x512 .f32) (x4 : Vec F S1x8x512 .f32) (x5 : Vec F S1x128 .f32) (x6 : Vec F S2048x128 .f32) : List (View.Piece (Elt F) S1x128 .f32) := pcs12 c i arg1 w1 arg2 w2 arg3 w3 arg4 w4 arg5 w5 arg6 w6 arg7 w7 arg8 w8 arg9 w9 arg10 w10 arg11 w11 arg12 w12 arg13 w13 arg14 w14 arg15 w15 arg16 w16 arg17 w17 (w1.unread x0) (w2.unread x1) (w3.unread x2) (w4.unread x3) (w5.unread x4) (w6.unread x5) (w7.unread x6)

set_option maxHeartbeats 1000000 in
/-- The whole body, over what its buffers read. -/
theorem run_owned (x0 : Vec F S2048x128 .f32) (x1 : Vec F S1x128x1024 .bf16) (x2 : Vec F S1x1024x128 .bf16) (x3 : Vec F S1x8x512 .f32) (x4 : Vec F S1x8x512 .f32) (x5 : Vec F S1x128 .f32) (x6 : Vec F S2048x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, (arg8.view.loc (c : Thread nD τ) ↦[arg8.view.set]{fullShare} arg8.view.writes (Elt F) f (given8 c i arg1 w1 arg2 w2 arg3 w3 arg4 w4 arg5 w5 arg6 w6 arg7 w7 arg8 w8 arg9 w9 arg10 w10 arg11 w11 arg12 w12 arg13 w13 arg14 w14 arg15 w15 arg16 w16 arg17 w17 x0 x1 x2 x3 x4 x5 x6))) ∗ (∃ f, (arg9.view.loc (c : Thread nD τ) ↦[arg9.view.set]{fullShare} arg9.view.writes (Elt F) f (given9 c i arg1 w1 arg2 w2 arg3 w3 arg4 w4 arg5 w5 arg6 w6 arg7 w7 arg8 w8 arg9 w9 arg10 w10 arg11 w11 arg12 w12 arg13 w13 arg14 w14 arg15 w15 arg16 w16 arg17 w17 x0 x1 x2 x3 x4 x5 x6))) ∗ (∃ f, (arg10.view.loc (c : Thread nD τ) ↦[arg10.view.set]{fullShare} arg10.view.writes (Elt F) f (given10 c i arg1 w1 arg2 w2 arg3 w3 arg4 w4 arg5 w5 arg6 w6 arg7 w7 arg8 w8 arg9 w9 arg10 w10 arg11 w11 arg12 w12 arg13 w13 arg14 w14 arg15 w15 arg16 w16 arg17 w17 x0 x1 x2 x3 x4 x5 x6))) ∗ (∃ f, (arg11.view.loc (c : Thread nD τ) ↦[arg11.view.set]{fullShare} arg11.view.writes (Elt F) f (given11 c i arg1 w1 arg2 w2 arg3 w3 arg4 w4 arg5 w5 arg6 w6 arg7 w7 arg8 w8 arg9 w9 arg10 w10 arg11 w11 arg12 w12 arg13 w13 arg14 w14 arg15 w15 arg16 w16 arg17 w17 x0 x1 x2 x3 x4 x5 x6))) ∗ (∃ f, (arg12.view.loc (c : Thread nD τ) ↦[arg12.view.set]{fullShare} arg12.view.writes (Elt F) f (given12 c i arg1 w1 arg2 w2 arg3 w3 arg4 w4 arg5 w5 arg6 w6 arg7 w7 arg8 w8 arg9 w9 arg10 w10 arg11 w11 arg12 w12 arg13 w13 arg14 w14 arg15 w15 arg16 w16 arg17 w17 x0 x1 x2 x3 x4 x5 x6))) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none c none) E (cc0_s5_bwd i arg1 w1 arg2 w2 arg3 w3 arg4 w4 arg5 w5 arg6 w6 arg7 w7 arg8 w8 arg9 w9 arg10 w10 arg11 w11 arg12 w12 arg13 w13 arg14 w14 arg15 w15 arg16 w16 arg17 w17) K := by
  unfold owns
  iintro ⟨⟨%g1, %h1, H1⟩, ⟨%g2, %h2, H2⟩, ⟨%g3, %h3, H3⟩, ⟨%g4, %h4, H4⟩, ⟨%g5, %h5, H5⟩, ⟨%g6, %h6, H6⟩, ⟨%g7, %h7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
  obtain rfl := w1.eq_unread h1; obtain rfl := w2.eq_unread h2; obtain rfl := w3.eq_unread h3; obtain rfl := w4.eq_unread h4; obtain rfl := w5.eq_unread h5; obtain rfl := w6.eq_unread h6; obtain rfl := w7.eq_unread h7
  iapply (run_body c i arg1 w1 arg2 w2 arg3 w3 arg4 w4 arg5 w5 arg6 w6 arg7 w7 arg8 w8 arg9 w9 arg10 w10 arg11 w11 arg12 w12 arg13 w13 arg14 w14 arg15 w15 arg16 w16 arg17 w17 (w1.unread x0) (w2.unread x1) (w3.unread x2) (w4.unread x3) (w5.unread x4) (w6.unread x5) (w7.unread x6) f8 f9 f10 f11 f12 f13 f14 f15 f16 f17 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H1, H2, H3, H4, H5, H6, H7, ⟨%e8, H8⟩, ⟨%e9, H9⟩, ⟨%e10, H10⟩, ⟨%e11, H11⟩, ⟨%e12, H12⟩, ⟨%e13, H13⟩, ⟨%e14, H14⟩, ⟨%e15, H15⟩, ⟨%e16, H16⟩, ⟨%e17, H17⟩⟩
  iapply Hk
  isplitl [H1]
  · iexists _; isplitr; · ipureintro; exact w1.read_unread _
    iexact H1
  isplitl [H2]
  · iexists _; isplitr; · ipureintro; exact w2.read_unread _
    iexact H2
  isplitl [H3]
  · iexists _; isplitr; · ipureintro; exact w3.read_unread _
    iexact H3
  isplitl [H4]
  · iexists _; isplitr; · ipureintro; exact w4.read_unread _
    iexact H4
  isplitl [H5]
  · iexists _; isplitr; · ipureintro; exact w5.read_unread _
    iexact H5
  isplitl [H6]
  · iexists _; isplitr; · ipureintro; exact w6.read_unread _
    iexact H6
  isplitl [H7]
  · iexists _; isplitr; · ipureintro; exact w7.read_unread _
    iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  iexists _, _; isplitr; swap; · iexact H17
  ipureintro; rfl

end Cert.Kernel2Ideal.Scan

end
-- ==== Proof.K2Scan.lean ====
module

public import proofs.«01_k».proof.Proof.Gen.Kernel2Ideal.Skeleton
public import proofs.«01_k».proof.Proof.ScanMath
public import Idealize.ShloMosaic.Lib.Pointwise

@[expose] public section

set_option maxRecDepth 16384
noncomputable section
open Idealize.ShloMosaic Idealize.ShloMosaic.TcCoe Idealize.SL.Sem
open Cert.Kernel2Ideal Cert.Kernel2Ideal.Gen
/-! Eight rows of the kernel's scan: at real operands the doubling steps and the carry compute the closed form of the recurrence. -/
namespace Cert.Proof.S5

/-- One doubling step, real part. -/
theorem step_re (lam : ℂ) (d r : ℕ) (z : ℕ → ℂ) (x p q : EReal) (s : ℕ) (hx : x = ((z r).re : EReal))
    (hp : p = if d ≤ r then ((lam ^ d).re : EReal) else 0) (hq : q = if d ≤ r then ((lam ^ d).im : EReal) else 0)
    (hs : d ≤ r → s = r - d) :
    x + (p * ((z s).re : EReal) - q * ((z s).im : EReal)) = ((shift lam d z r).re : EReal) := by
  subst hx hp hq
  unfold shift
  split_ifs with h
  · rw [hs h, Complex.add_re, Complex.mul_re]; push_cast; rfl
  · simp

/-- One doubling step, imaginary part. -/
theorem step_im (lam : ℂ) (d r : ℕ) (z : ℕ → ℂ) (x p q : EReal) (s : ℕ) (hx : x = ((z r).im : EReal))
    (hp : p = if d ≤ r then ((lam ^ d).re : EReal) else 0) (hq : q = if d ≤ r then ((lam ^ d).im : EReal) else 0)
    (hs : d ≤ r → s = r - d) :
    x + (p * ((z s).im : EReal) + q * ((z s).re : EReal)) = ((shift lam d z r).im : EReal) := by
  subst hx hp hq
  unfold shift
  split_ifs with h
  · rw [hs h, Complex.add_im, Complex.mul_im]; push_cast; rfl
  · simp

/-- The rows masked for the steps of one, two and four rows. -/
theorem mask_one (v : FVec Ideal S1x8x512 .f32) (r : Fin 8) (j : Fin 512) :
    k0_pay60 v (ix2 r j) = if 1 ≤ r.val then v (ix3 0 0 j) else 0 := by
  pointwise [k0_pay60, k0_pay59, k0_pay57]
  fin_cases r <;> rfl
theorem mask_one' (v : FVec Ideal S1x8x512 .f32) (r : Fin 8) (j : Fin 512) :
    k0_pay61 v (ix2 r j) = if 1 ≤ r.val then v (ix3 0 0 j) else 0 := by
  pointwise [k0_pay61, k0_pay59, k0_pay58]
  fin_cases r <;> rfl
theorem mask_two (v : FVec Ideal S1x8x512 .f32) (r : Fin 8) (j : Fin 512) :
    k0_pay63 v (ix2 r j) = if 2 ≤ r.val then v (ix3 0 1 j) else 0 := by
  pointwise [k0_pay63, k0_pay62, k0_pay57]
  fin_cases r <;> rfl
theorem mask_two' (v : FVec Ideal S1x8x512 .f32) (r : Fin 8) (j : Fin 512) :
    k0_pay64 v (ix2 r j) = if 2 ≤ r.val then v (ix3 0 1 j) else 0 := by
  pointwise [k0_pay64, k0_pay62, k0_pay58]
  fin_cases r <;> rfl
theorem mask_four (v : FVec Ideal S1x8x512 .f32) (r : Fin 8) (j : Fin 512) :
    k0_pay66 v (ix2 r j) = if 4 ≤ r.val then v (ix3 0 3 j) else 0 := by
  pointwise [k0_pay66, k0_pay65, k0_pay57]
  fin_cases r <;> rfl
theorem mask_four' (v : FVec Ideal S1x8x512 .f32) (r : Fin 8) (j : Fin 512) :
    k0_pay68 k0_pay65 (Scalar.ofBits .f32 0x00000000#32) (k0_pay67 v) (ix2 r j) = if 4 ≤ r.val then v (ix3 0 3 j) else 0 := by
  pointwise [k0_pay68, k0_pay67, k0_pay65, k0_pay58]
  fin_cases r <;> rfl

variable (v w : FVec Ideal S1x8x512 .f32) (x y : FVec Ideal S8x512 .f32) (c d : FVec Ideal S1x512 .f32) (j : Fin 512)
  (lam cc : ℂ) (z : ℕ → ℂ)

/-- The tables of powers and the eight rows hold, on lane `j`, the powers of `lam` and the complex numbers `z 0 … z 7`. -/
structure Lane : Prop where
  pre : ∀ k : Fin 8, v (ix3 0 k j) = ((lam ^ (k.val + 1)).re : EReal)
  pim : ∀ k : Fin 8, w (ix3 0 k j) = ((lam ^ (k.val + 1)).im : EReal)
  xre : ∀ r : Fin 8, x (ix2 r j) = ((z r).re : EReal)
  xim : ∀ r : Fin 8, y (ix2 r j) = ((z r).im : EReal)

variable {v w x y c d j lam cc z}

theorem stage_one (h : Lane v w x y j lam z) (r : Fin 8) :
    k0_pay13 (F := Ideal) (k0_pay60 v) (k0_pay61 w) x y (ix2 r j) = ((shift lam 1 z r).re : EReal)
      ∧ k0_pay14 (F := Ideal) (k0_pay60 v) (k0_pay61 w) x y (ix2 r j) = ((shift lam 1 z r).im : EReal) := by
  have e : 1 ≤ r.val → (r.val + 8 - 1) % 8 = r.val - 1 := by omega
  have p : k0_pay60 (F := Ideal) v (ix2 r j) = if 1 ≤ r.val then ((lam ^ 1).re : EReal) else 0 := by rw [mask_one, h.pre]; rfl
  have q : k0_pay61 (F := Ideal) w (ix2 r j) = if 1 ≤ r.val then ((lam ^ 1).im : EReal) else 0 := by rw [mask_one', h.pim]; rfl
  constructor
  · pointwise [k0_pay13, k0_pay11, k0_pay12]
    rw [h.xre ⟨(r.val + 8 - 1) % 8, _⟩, h.xim ⟨(r.val + 8 - 1) % 8, _⟩]
    exact step_re lam 1 r z _ _ _ _ (h.xre r) p q e
  · pointwise [k0_pay14, k0_pay11, k0_pay12]
    rw [h.xre ⟨(r.val + 8 - 1) % 8, _⟩, h.xim ⟨(r.val + 8 - 1) % 8, _⟩]
    exact step_im lam 1 r z _ _ _ _ (h.xim r) p q e

theorem stage_two (h : Lane v w x y j lam z) (r : Fin 8) :
    k0_pay17 (F := Ideal) (k0_pay60 v) (k0_pay61 w) (k0_pay63 v) (k0_pay64 w) x y (ix2 r j) = ((shift lam 2 (shift lam 1 z) r).re : EReal)
      ∧ k0_pay18 (F := Ideal) (k0_pay60 v) (k0_pay61 w) (k0_pay63 v) (k0_pay64 w) x y (ix2 r j) = ((shift lam 2 (shift lam 1 z) r).im : EReal) := by
  have e : 2 ≤ r.val → (r.val + 8 - 2) % 8 = r.val - 2 := by omega
  have p : k0_pay63 (F := Ideal) v (ix2 r j) = if 2 ≤ r.val then ((lam ^ 2).re : EReal) else 0 := by rw [mask_two, h.pre]; rfl
  have q : k0_pay64 (F := Ideal) w (ix2 r j) = if 2 ≤ r.val then ((lam ^ 2).im : EReal) else 0 := by rw [mask_two', h.pim]; rfl
  constructor
  · pointwise [k0_pay17, k0_pay15, k0_pay16]
    rw [(stage_one h ⟨(r.val + 8 - 2) % 8, _⟩).1, (stage_one h ⟨(r.val + 8 - 2) % 8, _⟩).2]
    exact step_re lam 2 r (shift lam 1 z) _ _ _ _ (stage_one h r).1 p q e
  · pointwise [k0_pay18, k0_pay15, k0_pay16]
    rw [(stage_one h ⟨(r.val + 8 - 2) % 8, _⟩).1, (stage_one h ⟨(r.val + 8 - 2) % 8, _⟩).2]
    exact step_im lam 2 r (shift lam 1 z) _ _ _ _ (stage_one h r).2 p q e

/-- Eight rows: what the trip stores is the closed form of eight steps. -/
theorem stage_eight (h : Lane v w x y j lam z) (hc : c (ix2 0 j) = (cc.re : EReal)) (hd : d (ix2 0 j) = (cc.im : EReal)) (r : Fin 8) :
    k0_pay21 (F := Ideal) (k0_pay57 v) (k0_pay58 w) (k0_pay60 v) (k0_pay61 w) (k0_pay63 v) (k0_pay64 w) (k0_pay66 v)
        (k0_pay68 k0_pay65 (Scalar.ofBits .f32 0x00000000#32) (k0_pay67 w)) c d x y (ix2 r j) = ((eight lam cc z r).re : EReal)
      ∧ k0_pay22 (F := Ideal) (k0_pay57 v) (k0_pay58 w) (k0_pay60 v) (k0_pay61 w) (k0_pay63 v) (k0_pay64 w) (k0_pay66 v)
        (k0_pay68 k0_pay65 (Scalar.ofBits .f32 0x00000000#32) (k0_pay67 w)) c d x y (ix2 r j) = ((eight lam cc z r).im : EReal) := by
  have e : 4 ≤ r.val → (r.val + 8 - 4) % 8 = r.val - 4 := by omega
  have p : k0_pay66 (F := Ideal) v (ix2 r j) = if 4 ≤ r.val then ((lam ^ 4).re : EReal) else 0 := by rw [mask_four, h.pre]; rfl
  have q : k0_pay68 (F := Ideal) k0_pay65 (Scalar.ofBits .f32 0x00000000#32) (k0_pay67 w) (ix2 r j) = if 4 ≤ r.val then ((lam ^ 4).im : EReal) else 0 := by
    rw [mask_four', h.pim]; rfl
  generalize hm : (k0_pay68 k0_pay65 (Scalar.ofBits .f32 0x00000000#32) (k0_pay67 w) : FVec Ideal S8x512 .f32) = m4 at q ⊢
  constructor
  · pointwise [k0_pay21, k0_pay19, k0_pay20]
    rw [(stage_two h ⟨(r.val + 8 - 4) % 8, _⟩).1, (stage_two h ⟨(r.val + 8 - 4) % 8, _⟩).2,
      step_re lam 4 r (shift lam 2 (shift lam 1 z)) _ _ _ _ (stage_two h r).1 p q e]
    pointwise [k0_pay57, k0_pay58]
    rw [h.pre, h.pim, hc, hd, eight, Complex.add_re, Complex.mul_re]
    push_cast; rfl
  · pointwise [k0_pay22, k0_pay19, k0_pay20]
    rw [(stage_two h ⟨(r.val + 8 - 4) % 8, _⟩).1, (stage_two h ⟨(r.val + 8 - 4) % 8, _⟩).2,
      step_im lam 4 r (shift lam 2 (shift lam 1 z)) _ _ _ _ (stage_two h r).2 p q e]
    pointwise [k0_pay57, k0_pay58]
    rw [h.pre, h.pim, hc, hd, eight, Complex.add_im, Complex.mul_im]
    push_cast; rfl

/-- The carry is the last of the eight rows. -/
theorem carry_re (x : FVec Ideal S8x512 .f32) (j : Fin 512) : k0_pay72 (F := Ideal) (iota .tc S8x512 32 [0] iota_S8x512_d0_w32) x (ix2 0 j) = x (ix2 7 j) := by
  pointwise [k0_pay72]
  rw [Finset.sum_eq_single (7 : Fin 8)]
  · rfl
  · intro k _ hk
    have : IntOp.cmpi .eq (BitVec.ofNat 32 k.val) 7#32 = 0#1 := by revert k; decide
    exact if_neg (by rw [this]; decide)
  · simp

theorem carry_im (x : FVec Ideal S8x512 .f32) (j : Fin 512) : k0_pay73 (F := Ideal) (iota .tc S8x512 32 [0] iota_S8x512_d0_w32) x (ix2 0 j) = x (ix2 7 j) :=
  carry_re x j

end Cert.Proof.S5
end
-- ==== Proof.K2Trips.lean ====
module

public import proofs.«01_k».proof.Proof.Gen.Kernel2Ideal.Loops
public import proofs.«01_k».proof.Proof.K2Scan
public import Idealize.ShloMosaic.Lib.WritesUnit

@[expose] public section

set_option maxRecDepth 16384
noncomputable section
open Idealize.ShloMosaic Idealize.ShloMosaic.TcCoe Idealize.SL.Sem
open Cert.Kernel2Ideal Cert.Kernel2Ideal.Gen
/-! The trips of the first three loops of the kernel's body, as the payloads of the rows they read. -/
namespace Cert.Proof.S5

section Rows
variable {sig : RefSig} {κ : Kind} {sp : Space} {e : EltTy} {Val : EltTy → Type} {N M : ℕ}

/-- A load of `n` whole rows from row `o` on. -/
theorem load_rows (v : View sig κ sp ⟨2, ![N, M]⟩ e) (f : v.ty.Contents Val) {off : Fin 2 → ℕ} {n o : ℕ} (inb : ∀ a, off a + (![n, M] : Fin 2 → ℕ) a ≤ (![N, M] : Fin 2 → ℕ) a)
    (ho : off = ![o, 0]) (r : Fin n) (j : Fin M) (l : Fin N) (hl : l.val = o + r.val) :
    v.readAt Val (Rect.unit (s := ⟨2, ![N, M]⟩) off ![n, M] inb).toLoadRect f (ix2 r j) = v.read Val f (ix2 l j) := by
  subst ho
  refine congrArg (v.read Val f) (funext fun a => Fin.ext ?_)
  match a with
  | ⟨0, _⟩ => show o + 1 * r.val = l.val; omega
  | ⟨1, _⟩ => show 0 + 1 * j.val = j.val; omega

/-- After a store of `n` whole rows from row `o` on: a stored row. -/
theorem stored_row (v : View sig κ sp ⟨2, ![N, M]⟩ e) (f : v.ty.Contents Val) {off : Fin 2 → ℕ} {n o : ℕ} (inb : ∀ a, off a + (![n, M] : Fin 2 → ℕ) a ≤ (![N, M] : Fin 2 → ℕ) a)
    (ho : off = ![o, 0]) (w : (Rect.unit (s := ⟨2, ![N, M]⟩) off ![n, M] inb).shape.Idx → Val e) (L : List (View.Piece Val ⟨2, ![N, M]⟩ e))
    (r : Fin n) (j : Fin M) (l : Fin N) (hl : l.val = o + r.val) :
    v.read Val (v.writes Val f (⟨Rect.unit off ![n, M] inb, w⟩ :: L)) (ix2 l j) = w (ix2 r j) :=
  View.read_writes_cons_unit_of_mem v f inb w L (ix2 l j) (ix2 r j) ho fun a => by
    match a with
    | ⟨0, _⟩ => exact hl
    | ⟨1, _⟩ => show j.val = 0 + j.val; omega

/-- After a store of `n` whole rows from row `o` on: a row outside. -/
theorem other_row (v : View sig κ sp ⟨2, ![N, M]⟩ e) (f : v.ty.Contents Val) {off : Fin 2 → ℕ} {n o : ℕ} (inb : ∀ a, off a + (![n, M] : Fin 2 → ℕ) a ≤ (![N, M] : Fin 2 → ℕ) a)
    (ho : off = ![o, 0]) (w : (Rect.unit (s := ⟨2, ![N, M]⟩) off ![n, M] inb).shape.Idx → Val e) (L : List (View.Piece Val ⟨2, ![N, M]⟩ e))
    (j : Fin M) (l : Fin N) (hl : l.val < o ∨ o + n ≤ l.val) :
    v.read Val (v.writes Val f (⟨Rect.unit off ![n, M] inb, w⟩ :: L)) (ix2 l j) = v.read Val (v.writes Val f L) (ix2 l j) :=
  View.read_writes_cons_unit_of_not_mem v f inb w L (ix2 l j) ho 0 hl
end Rows

variable {F : FTy → Type} [FloatOps F] [Named F]
variable (𝒱 : Variants) (c : Dev nD) (bd : Option 𝒱.V) (i : grid0.Coords) (arg1 : Memref sig .tc .vmem S2048x128 .f32) (harg1 : arg1.IsWhole) (arg2 : Memref sig .tc .vmem S1x128x1024 .bf16) (harg2 : arg2.IsWhole) (arg3 : Memref sig .tc .vmem S1x1024x128 .bf16) (harg3 : arg3.IsWhole) (arg4 : Memref sig .tc .vmem S1x8x512 .f32) (harg4 : arg4.IsWhole) (arg5 : Memref sig .tc .vmem S1x8x512 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S1x128x1024 .f32) (harg9 : arg9.IsWhole) (arg10 : Memref sig .tc .vmem S1x1024x128 .f32) (harg10 : arg10.IsWhole) (arg11 : Memref sig .tc .vmem S1x8x512 .f32) (harg11 : arg11.IsWhole) (arg12 : Memref sig .tc .vmem S1x128 .f32) (harg12 : arg12.IsWhole) (arg13 : Memref sig .tc .vmem S2048x512 .f32) (harg13 : arg13.IsWhole) (arg14 : Memref sig .tc .vmem S2048x512 .f32) (harg14 : arg14.IsWhole) (arg15 : Memref sig .tc .vmem S2048x512 .f32) (harg15 : arg15.IsWhole) (arg16 : Memref sig .tc .vmem S2048x512 .f32) (harg16 : arg16.IsWhole) (arg17 : Memref sig .tc .vmem S2048x128 .f32) (harg17 : arg17.IsWhole)

theorem trip_one (X1 : BufTy.Contents (Elt F) arg1.view.ty) (X2 : BufTy.Contents (Elt F) arg2.view.ty) (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 k
      = ([⟨Rect.unit (s := S2048x512) (k0_off2 k) S256x512.size (k0_off2_inb k), k0_pay55 (View.readAt (Elt F) arg1.view (Rect.unit (s := S2048x128) (k0_off1 k) S256x128.size (k0_off1_inb k)).toLoadRect X1)
            (View.readAt (Elt F) arg2.view (Rect.unit (s := S1x128x1024) ![0, 0, 0] S1x128x1024.size inb_S1x128x1024_S1x128x1024_0_0_0).toLoadRect X2)⟩],
         [⟨Rect.unit (s := S2048x512) (k0_off2 k) S256x512.size (k0_off2_inb k), k0_pay56 (View.readAt (Elt F) arg1.view (Rect.unit (s := S2048x128) (k0_off1 k) S256x128.size (k0_off1_inb k)).toLoadRect X1)
            (View.readAt (Elt F) arg2.view (Rect.unit (s := S1x128x1024) ![0, 0, 0] S1x128x1024.size inb_S1x128x1024_S1x128x1024_0_0_0).toLoadRect X2)⟩]) := by
  unfold tripL_k0_t1 trip_k0_t1
  rfl

variable (v2 : FVec F S8x512 .f32) (v4 : FVec F S8x512 .f32) (v5 : IVec S8x512 32) (v12 : FVec F S8x512 .f32) (v17 : FVec F S8x512 .f32) (v24 : FVec F S8x512 .f32) (v29 : FVec F S8x512 .f32) (v31 : IVec S8x512 1) (v36 : FVec F S8x512 .f32) (cst_11 : F .f32) (v38 : FVec F S1x512 .f32)

/-- What a trip of the scan stores. -/
def scan_re (k : Fin k0_t2_loop.trips) (acc : FVec F S1x512 .f32 × FVec F S1x512 .f32) (f13 : BufTy.Contents (Elt F) arg13.view.ty) (f14 : BufTy.Contents (Elt F) arg14.view.ty) :
    FVec F S8x512 .f32 :=
  k0_pay21 v2 v4 v12 v17 v24 v29 v36 (k0_pay68 v31 cst_11 v38) acc.1 acc.2 (View.readAt (Elt F) arg13.view (Rect.unit (s := S2048x512) (k0_off3 k) S8x512.size (k0_off3_inb k)).toLoadRect f13)
    (View.readAt (Elt F) arg14.view (Rect.unit (s := S2048x512) (k0_off3 k) S8x512.size (k0_off3_inb k)).toLoadRect f14)
def scan_im (k : Fin k0_t2_loop.trips) (acc : FVec F S1x512 .f32 × FVec F S1x512 .f32) (f13 : BufTy.Contents (Elt F) arg13.view.ty) (f14 : BufTy.Contents (Elt F) arg14.view.ty) :
    FVec F S8x512 .f32 :=
  k0_pay22 v2 v4 v12 v17 v24 v29 v36 (k0_pay68 v31 cst_11 v38) acc.1 acc.2 (View.readAt (Elt F) arg13.view (Rect.unit (s := S2048x512) (k0_off3 k) S8x512.size (k0_off3_inb k)).toLoadRect f13)
    (View.readAt (Elt F) arg14.view (Rect.unit (s := S2048x512) (k0_off3 k) S8x512.size (k0_off3_inb k)).toLoadRect f14)

theorem trip_two (k : Fin k0_t2_loop.trips) (acc : FVec F S1x512 .f32 × FVec F S1x512 .f32) (f13 : BufTy.Contents (Elt F) arg13.view.ty) (f14 : BufTy.Contents (Elt F) arg14.view.ty) :
    tripR_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v2 v4 v5 v12 v17 v24 v29 v31 v36 cst_11 v38 k acc f13 f14
      = (k0_pay72 v5 (scan_re arg13 arg14 v2 v4 v12 v17 v24 v29 v31 v36 cst_11 v38 k acc f13 f14), k0_pay73 v5 (scan_im arg13 arg14 v2 v4 v12 v17 v24 v29 v31 v36 cst_11 v38 k acc f13 f14)) := by
  unfold tripR_k0_t2 trip_k0_t2
  rfl

theorem trip_two' (k : Fin k0_t2_loop.trips) (acc : FVec F S1x512 .f32 × FVec F S1x512 .f32) (f13 : BufTy.Contents (Elt F) arg13.view.ty) (f14 : BufTy.Contents (Elt F) arg14.view.ty) :
    tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v2 v4 v5 v12 v17 v24 v29 v31 v36 cst_11 v38 k acc f13 f14
      = ([⟨Rect.unit (s := S2048x512) (k0_off3 k) S8x512.size (k0_off3_inb k), k0_pay70 (scan_re arg13 arg14 v2 v4 v12 v17 v24 v29 v31 v36 cst_11 v38 k acc f13 f14)⟩],
         [⟨Rect.unit (s := S2048x512) (k0_off3 k) S8x512.size (k0_off3_inb k), k0_pay71 (scan_im arg13 arg14 v2 v4 v12 v17 v24 v29 v31 v36 cst_11 v38 k acc f13 f14)⟩]) := by
  unfold tripL_k0_t2 trip_k0_t2
  rfl

/-- The readout's gradient and its sums, of the rows a trip reads. -/
def dypre (x z : Vec F S256x512 .f32) (u dy : Vec F S256x128 .f32) (p q : Vec F S1x512x128 .bf16) (d : Vec F S1x128 .f32) : FVec F S256x128 .f32 :=
  k0_pay28 (k0_pay23 x z u p q d) dy (k0_pay25 x z u p q d) (k0_pay26 x z u p q d) (k0_pay27 x z u p q d)

theorem trip_three (X1 : BufTy.Contents (Elt F) arg1.view.ty) (X3 : BufTy.Contents (Elt F) arg3.view.ty) (X6 : BufTy.Contents (Elt F) arg6.view.ty) (X7 : BufTy.Contents (Elt F) arg7.view.ty)
    (k : Fin k0_t3_loop.trips) (acc : FVec F S512x128 .f32 × FVec F S512x128 .f32 × FVec F S1x128 .f32) (f13 : BufTy.Contents (Elt F) arg13.view.ty) (f14 : BufTy.Contents (Elt F) arg14.view.ty)
    (x z : Vec F S256x512 .f32) (u dy : Vec F S256x128 .f32) (p q : Vec F S1x512x128 .bf16) (d : Vec F S1x128 .f32)
    (hx : View.readAt (Elt F) arg13.view (Rect.unit (s := S2048x512) (k0_off4 k) S256x512.size (k0_off4_inb k)).toLoadRect f13 = x)
    (hz : View.readAt (Elt F) arg14.view (Rect.unit (s := S2048x512) (k0_off4 k) S256x512.size (k0_off4_inb k)).toLoadRect f14 = z)
    (hu : View.readAt (Elt F) arg1.view (Rect.unit (s := S2048x128) (k0_off5 k) S256x128.size (k0_off5_inb k)).toLoadRect X1 = u)
    (hdy : View.readAt (Elt F) arg7.view (Rect.unit (s := S2048x128) (k0_off5 k) S256x128.size (k0_off5_inb k)).toLoadRect X7 = dy)
    (hp : View.readAt (Elt F) arg3.view (Rect.unit (s := S1x1024x128) ![0, 0, 0] S1x512x128.size inb_S1x1024x128_S1x512x128_0_0_0).toLoadRect X3 = p)
    (hq : View.readAt (Elt F) arg3.view (Rect.unit (s := S1x1024x128) ![0, 512, 0] S1x512x128.size inb_S1x1024x128_S1x512x128_0_512_0).toLoadRect X3 = q)
    (hd : View.readAt (Elt F) arg6.view (Rect.unit (s := S1x128) ![0, 0] S1x128.size inb_S1x128_S1x128_0_0).toLoadRect X6 = d) :
    tripR_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v2 v4 v5 v12 v17 v24 v29 v31 v36 cst_11 v38 X1 X3 X6 X7 f13 f14 k acc
      = (k0_pay32 acc.1 x (k0_pay23 x z u p q d) dy (k0_pay25 x z u p q d) (k0_pay26 x z u p q d) (k0_pay27 x z u p q d),
         k0_pay76 acc.2.1 (k0_pay33 z (k0_pay23 x z u p q d) dy (k0_pay25 x z u p q d) (k0_pay26 x z u p q d) (k0_pay27 x z u p q d)),
         k0_pay77 acc.2.2 u (dypre x z u dy p q d)) := by
  subst hx hz hu hdy hp hq hd
  unfold tripR_k0_t3 trip_k0_t3
  rfl
end Cert.Proof.S5
end
-- ==== Proof.K2Vals.lean ====
module

public import proofs.«01_k».proof.Proof.K2Trips

@[expose] public section

set_option maxRecDepth 16384
noncomputable section
open Idealize.ShloMosaic Idealize.ShloMosaic.TcCoe Idealize.SL.Sem
open Cert.Kernel2Ideal Cert.Kernel2Ideal.Gen
/-! The first two loops of the kernel's body: the input products, and the scan over all rows. -/
namespace Cert.Proof.S5

theorem input_re (x : Vec Ideal S256x128 .f32) (b : Vec Ideal S1x128x1024 .bf16) (r : Fin 256) (j : Fin 512) :
    k0_pay55 (F := Ideal) x b (ix2 r j) = ∑ c : Fin 128, (x (ix2 r c) : EReal) * b (ix3 0 c (Fin.castAdd 512 j)) := by
  pointwise [k0_pay55, k0_pay54]
  refine Finset.sum_congr rfl fun c _ => ?_
  refine congrArg (fun t => (x (ix2 r c) : EReal) * b (ix3 0 c t)) (Fin.ext ?_)
  simp

theorem input_im (x : Vec Ideal S256x128 .f32) (b : Vec Ideal S1x128x1024 .bf16) (r : Fin 256) (j : Fin 512) :
    k0_pay56 (F := Ideal) x b (ix2 r j) = ∑ c : Fin 128, (x (ix2 r c) : EReal) * b (ix3 0 c (Fin.natAdd 512 j)) := by
  pointwise [k0_pay56, k0_pay54]
  refine Finset.sum_congr rfl fun c _ => ?_
  refine congrArg (fun t => (x (ix2 r c) : EReal) * b (ix3 0 c t)) (Fin.ext ?_)
  simp; omega

theorem trips_one : k0_t1_loop.trips = 8 := by decide +kernel
theorem trips_two : k0_t2_loop.trips = 256 := by decide +kernel
theorem trips_three : k0_t3_loop.trips = 8 := by decide +kernel

/-- A load of a whole array of rank three. -/
theorem load_whole {sig : RefSig} {κ : Kind} {sp : Space} {e : EltTy} {Val : EltTy → Type} {A N M : ℕ} (v : View sig κ sp ⟨3, ![A, N, M]⟩ e) (f : v.ty.Contents Val)
    {n o : ℕ} (inb : ∀ a, (![0, o, 0] : Fin 3 → ℕ) a + (![A, n, M] : Fin 3 → ℕ) a ≤ (![A, N, M] : Fin 3 → ℕ) a) (a : Fin A) (r : Fin n) (j : Fin M) (l : Fin N) (hl : l.val = o + r.val) :
    v.readAt Val (Rect.unit (s := ⟨3, ![A, N, M]⟩) ![0, o, 0] ![A, n, M] inb).toLoadRect f (ix3 a r j) = v.read Val f (ix3 a l j) := by
  refine congrArg (v.read Val f) (funext fun d => Fin.ext ?_)
  match d with
  | ⟨0, _⟩ => show 0 + 1 * a.val = a.val; omega
  | ⟨1, _⟩ => show o + 1 * r.val = l.val; omega
  | ⟨2, _⟩ => show 0 + 1 * j.val = j.val; omega

variable (𝒱 : Variants) (c : Dev nD) (bd : Option 𝒱.V) (i : grid0.Coords) (arg1 : Memref sig .tc .vmem S2048x128 .f32) (harg1 : arg1.IsWhole) (arg2 : Memref sig .tc .vmem S1x128x1024 .bf16) (harg2 : arg2.IsWhole) (arg3 : Memref sig .tc .vmem S1x1024x128 .bf16) (harg3 : arg3.IsWhole) (arg4 : Memref sig .tc .vmem S1x8x512 .f32) (harg4 : arg4.IsWhole) (arg5 : Memref sig .tc .vmem S1x8x512 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S1x128x1024 .f32) (harg9 : arg9.IsWhole) (arg10 : Memref sig .tc .vmem S1x1024x128 .f32) (harg10 : arg10.IsWhole) (arg11 : Memref sig .tc .vmem S1x8x512 .f32) (harg11 : arg11.IsWhole) (arg12 : Memref sig .tc .vmem S1x128 .f32) (harg12 : arg12.IsWhole) (arg13 : Memref sig .tc .vmem S2048x512 .f32) (harg13 : arg13.IsWhole) (arg14 : Memref sig .tc .vmem S2048x512 .f32) (harg14 : arg14.IsWhole) (arg15 : Memref sig .tc .vmem S2048x512 .f32) (harg15 : arg15.IsWhole) (arg16 : Memref sig .tc .vmem S2048x512 .f32) (harg16 : arg16.IsWhole) (arg17 : Memref sig .tc .vmem S2048x128 .f32) (harg17 : arg17.IsWhole)

theorem loop_one (X1 : BufTy.Contents (Elt Ideal) arg1.view.ty) (X2 : BufTy.Contents (Elt Ideal) arg2.view.ty) (u : ℕ → Fin 128 → EReal) (b : Fin 128 → Fin 1024 → EReal)
    (hu : ∀ (l : Fin 2048) (c : Fin 128), arg1.view.read (Elt Ideal) X1 (ix2 l c) = u l c) (hb : ∀ (c : Fin 128) (j : Fin 1024), arg2.view.read (Elt Ideal) X2 (ix3 0 c j) = b c j)
    (f13 : BufTy.Contents (Elt Ideal) arg13.view.ty) (f14 : BufTy.Contents (Elt Ideal) arg14.view.ty) (n : ℕ) (hn : n ≤ 8) (l : Fin 2048) (j : Fin 512) (hl : l.val < 256 * n) :
    arg13.view.read (Elt Ideal) (arg13.view.writes (Elt Ideal) f13 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 n).1) (ix2 l j) = ∑ c : Fin 128, u l c * b c (Fin.castAdd 512 j)
      ∧ arg14.view.read (Elt Ideal) (arg14.view.writes (Elt Ideal) f14 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 n).2) (ix2 l j) = ∑ c : Fin 128, u l c * b c (Fin.natAdd 512 j) := by
  induction n with
  | zero => omega
  | succ n ih =>
    have hk : n < k0_t1_loop.trips := by rw [trips_one]; omega
    have e := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 ⟨n, hk⟩
    rw [trip_one] at e
    have e' := ih (by omega)
    generalize pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 n = s at e e'
    generalize pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 (n + 1) = s' at e ⊢
    subst e
    dsimp only [List.cons_append, List.nil_append]
    have o1 := k0_off1_eq ⟨n, hk⟩
    have o2 := k0_off2_eq ⟨n, hk⟩
    by_cases h : l.val < 256 * n
    · rw [other_row _ _ _ o2 _ _ j l (Or.inl h), other_row _ _ _ o2 _ _ j l (Or.inl h)]
      exact e' h
    · have hr : l.val - 256 * n < 256 := by omega
      have hl' : l.val = 256 * n + (⟨l.val - 256 * n, hr⟩ : Fin 256).val := by show l.val = 256 * n + (l.val - 256 * n); omega
      rw [stored_row _ _ _ o2 _ _ ⟨l.val - 256 * n, hr⟩ j l hl', stored_row _ _ _ o2 _ _ ⟨l.val - 256 * n, hr⟩ j l hl']
      constructor
      · refine (input_re _ _ _ _).trans (Finset.sum_congr rfl fun c _ => ?_)
        exact congrArg₂ _ ((load_rows _ _ _ o1 _ c l hl').trans (hu l c)) ((load_whole _ _ _ 0 c _ c (by simp)).trans (hb c _))
      · refine (input_im _ _ _ _).trans (Finset.sum_congr rfl fun c _ => ?_)
        exact congrArg₂ _ ((load_rows _ _ _ o1 _ c l hl').trans (hu l c)) ((load_whole _ _ _ 0 c _ c (by simp)).trans (hb c _))

variable (v w : FVec Ideal S1x8x512 .f32)

theorem loop_two (G13 : BufTy.Contents (Elt Ideal) arg13.view.ty) (G14 : BufTy.Contents (Elt Ideal) arg14.view.ty) (j : Fin 512) (lam : ℂ) (b : ℕ → ℂ)
    (hv : ∀ k : Fin 8, v (ix3 0 k j) = ((lam ^ (k.val + 1)).re : EReal)) (hw : ∀ k : Fin 8, w (ix3 0 k j) = ((lam ^ (k.val + 1)).im : EReal))
    (h13 : ∀ l : Fin 2048, arg13.view.read (Elt Ideal) G13 (ix2 l j) = ((b l).re : EReal)) (h14 : ∀ l : Fin 2048, arg14.view.read (Elt Ideal) G14 (ix2 l j) = ((b l).im : EReal)) (n : ℕ) (hn : n ≤ 256) :
    (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay57 v) (k0_pay58 w) (iota .tc S8x512 32 [0] iota_S8x512_d0_w32) (k0_pay60 v) (k0_pay61 w) (k0_pay63 v) (k0_pay64 w) k0_pay65 (k0_pay66 v) (Scalar.ofBits .f32 0x00000000#32) (k0_pay67 w) G13 G14 (k0_pay69, k0_pay69) n).1.1 (ix2 0 j) = ((before lam b (8 * n)).re : EReal) ∧ (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay57 v) (k0_pay58 w) (iota .tc S8x512 32 [0] iota_S8x512_d0_w32) (k0_pay60 v) (k0_pay61 w) (k0_pay63 v) (k0_pay64 w) k0_pay65 (k0_pay66 v) (Scalar.ofBits .f32 0x00000000#32) (k0_pay67 w) G13 G14 (k0_pay69, k0_pay69) n).1.2 (ix2 0 j) = ((before lam b (8 * n)).im : EReal)
      ∧ ∀ l : Fin 2048, arg13.view.read (Elt Ideal) (arg13.view.writes (Elt Ideal) G13 (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay57 v) (k0_pay58 w) (iota .tc S8x512 32 [0] iota_S8x512_d0_w32) (k0_pay60 v) (k0_pay61 w) (k0_pay63 v) (k0_pay64 w) k0_pay65 (k0_pay66 v) (Scalar.ofBits .f32 0x00000000#32) (k0_pay67 w) G13 G14 (k0_pay69, k0_pay69) n).2.1) (ix2 l j) = ((if l.val < 8 * n then rec lam b l else b l).re : EReal)
        ∧ arg14.view.read (Elt Ideal) (arg14.view.writes (Elt Ideal) G14 (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay57 v) (k0_pay58 w) (iota .tc S8x512 32 [0] iota_S8x512_d0_w32) (k0_pay60 v) (k0_pay61 w) (k0_pay63 v) (k0_pay64 w) k0_pay65 (k0_pay66 v) (Scalar.ofBits .f32 0x00000000#32) (k0_pay67 w) G13 G14 (k0_pay69, k0_pay69) n).2.2) (ix2 l j) = ((if l.val < 8 * n then rec lam b l else b l).im : EReal) := by
  induction n with
  | zero =>
    refine ⟨?_, ?_, fun l => ⟨?_, ?_⟩⟩
    · show k0_pay69 (F := Ideal) (ix2 0 j) = _
      pointwise [k0_pay69]
      simp [before]
    · show k0_pay69 (F := Ideal) (ix2 0 j) = _
      pointwise [k0_pay69]
      simp [before]
    · rw [if_neg (by simp)]; exact h13 l
    · rw [if_neg (by simp)]; exact h14 l
  | succ n ih =>
    have hk : n < k0_t2_loop.trips := by rw [trips_two]; omega
    have e := st_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay57 v) (k0_pay58 w) (iota .tc S8x512 32 [0] iota_S8x512_d0_w32) (k0_pay60 v) (k0_pay61 w) (k0_pay63 v) (k0_pay64 w) k0_pay65 (k0_pay66 v) (Scalar.ofBits .f32 0x00000000#32) (k0_pay67 w) G13 G14 (k0_pay69, k0_pay69) ⟨n, hk⟩
    rw [trip_two, trip_two'] at e
    have e' := ih (by omega)
    generalize st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay57 v) (k0_pay58 w) (iota .tc S8x512 32 [0] iota_S8x512_d0_w32) (k0_pay60 v) (k0_pay61 w) (k0_pay63 v) (k0_pay64 w) k0_pay65 (k0_pay66 v) (Scalar.ofBits .f32 0x00000000#32) (k0_pay67 w) G13 G14 (k0_pay69, k0_pay69) n = s at e e'
    generalize st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay57 v) (k0_pay58 w) (iota .tc S8x512 32 [0] iota_S8x512_d0_w32) (k0_pay60 v) (k0_pay61 w) (k0_pay63 v) (k0_pay64 w) k0_pay65 (k0_pay66 v) (Scalar.ofBits .f32 0x00000000#32) (k0_pay67 w) G13 G14 (k0_pay69, k0_pay69) (n + 1) = s' at e ⊢
    subst e
    dsimp only [List.cons_append, List.nil_append]
    have o3 := k0_off3_eq ⟨n, hk⟩
    obtain ⟨c1, c2, c3⟩ := e'
    have L : Lane v w (View.readAt (Elt Ideal) arg13.view (Rect.unit (s := S2048x512) (k0_off3 ⟨n, hk⟩) S8x512.size (k0_off3_inb ⟨n, hk⟩)).toLoadRect (arg13.view.writes (Elt Ideal) G13 s.2.1))
        (View.readAt (Elt Ideal) arg14.view (Rect.unit (s := S2048x512) (k0_off3 ⟨n, hk⟩) S8x512.size (k0_off3_inb ⟨n, hk⟩)).toLoadRect (arg14.view.writes (Elt Ideal) G14 s.2.2)) j lam (fun r => b (8 * n + r)) := by
      refine ⟨hv, hw, fun r => ?_, fun r => ?_⟩
      · have hl : 8 * n + r.val < 2048 := by omega
        refine (load_rows _ _ _ o3 r j ⟨8 * n + r.val, hl⟩ rfl).trans ((c3 _).1.trans ?_)
        rw [if_neg (by simp)]
      · have hl : 8 * n + r.val < 2048 := by omega
        refine (load_rows _ _ _ o3 r j ⟨8 * n + r.val, hl⟩ rfl).trans ((c3 _).2.trans ?_)
        rw [if_neg (by simp)]
    have key : ∀ r : Fin 8, _ := fun r => stage_eight (cc := before lam b (8 * n)) L c1 c2 r
    refine ⟨?_, ?_, fun l => ?_⟩
    · refine (carry_re _ j).trans ((key 7).1.trans ?_)
      exact congrArg (fun t : ℂ => (t.re : EReal)) (eight_eq lam b (8 * n) 7 (by omega))
    · refine (carry_im _ j).trans ((key 7).2.trans ?_)
      exact congrArg (fun t : ℂ => (t.im : EReal)) (eight_eq lam b (8 * n) 7 (by omega))
    · by_cases h : 8 * n ≤ l.val ∧ l.val < 8 * n + 8
      · have hr : l.val - 8 * n < 8 := by omega
        have hl' : l.val = 8 * n + (⟨l.val - 8 * n, hr⟩ : Fin 8).val := by show l.val = 8 * n + (l.val - 8 * n); omega
        rw [stored_row _ _ _ o3 _ _ ⟨l.val - 8 * n, hr⟩ j l hl', stored_row _ _ _ o3 _ _ ⟨l.val - 8 * n, hr⟩ j l hl', if_pos (by omega)]
        have e8 := eight_eq lam b (8 * n) (l.val - 8 * n) hr
        rw [show 8 * n + (l.val - 8 * n) = l.val by omega] at e8
        constructor
        · refine Eq.trans ?_ ((key ⟨l.val - 8 * n, hr⟩).1.trans (congrArg (fun t : ℂ => (t.re : EReal)) e8))
          pointwise [k0_pay70]
          rfl
        · refine Eq.trans ?_ ((key ⟨l.val - 8 * n, hr⟩).2.trans (congrArg (fun t : ℂ => (t.im : EReal)) e8))
          pointwise [k0_pay71]
          rfl
      · rw [other_row _ _ _ o3 _ _ j l (by show l.val < 8 * n ∨ 8 * n + 8 ≤ l.val; omega), other_row _ _ _ o3 _ _ j l (by show l.val < 8 * n ∨ 8 * n + 8 ≤ l.val; omega)]
        have : (l.val < 8 * (n + 1)) = (l.val < 8 * n) := by apply propext; omega
        simp only [this]
        exact c3 l

end Cert.Proof.S5
end
-- ==== Proof.K2Read.lean ====
module

public import proofs.«01_k».proof.Proof.K2Vals

@[expose] public section

set_option maxRecDepth 16384
noncomputable section
open Idealize.ShloMosaic Idealize.ShloMosaic.TcCoe Idealize.SL.Sem
open Cert.Kernel2Ideal Cert.Kernel2Ideal.Gen
/-! The third loop of the kernel's body: the readout, its gradient, and the sums over all rows. -/
namespace Cert.Proof.S5

/-- The kernel's inner function of the activation, and the derivative by which it multiplies the incoming gradient. -/
def tk (y : EReal) : EReal := Ideal.tanh (Ideal.ofBits .f32 0x3F4C422A#32 * (y + ((8943 / 200000 : ℝ) : EReal) * y * y * y))
def gk (y : EReal) : EReal :=
  Ideal.ofBits .f32 0x3F000000#32 * (1 + tk y)
    + Ideal.ofBits .f32 0x3F000000#32 * y * (1 - tk y * tk y) * Ideal.ofBits .f32 0x3F4C422A#32
      * (1 + ((26829 / 200000 : ℝ) : EReal) * y * y)

/-- The readout before the activation, at row `r` and channel `c`. -/
theorem readout (x z : Vec Ideal S256x512 .f32) (u : Vec Ideal S256x128 .f32) (p q : Vec Ideal S1x512x128 .bf16) (d : Vec Ideal S1x128 .f32) (r : Fin 256) (c : Fin 128) :
    k0_pay23 (F := Ideal) x z u p q d (ix2 r c) = HAdd.hAdd (α := EReal) (β := EReal) (γ := EReal) ((∑ j : Fin 512, (x (ix2 r j) : EReal) * p (ix3 0 j c)) + ∑ j : Fin 512, (z (ix2 r j) : EReal) * q (ix3 0 j c)) (HMul.hMul (α := EReal) (d (ix2 0 c)) (u (ix2 r c))) := by
  pointwise [k0_pay23]

theorem dypre_at (x z : Vec Ideal S256x512 .f32) (u dy : Vec Ideal S256x128 .f32) (p q : Vec Ideal S1x512x128 .bf16) (d : Vec Ideal S1x128 .f32) (r : Fin 256) (c : Fin 128) :
    dypre (F := Ideal) x z u dy p q d (ix2 r c) = HMul.hMul (α := EReal) (dy (ix2 r c)) (gk (k0_pay23 (F := Ideal) x z u p q d (ix2 r c))) := by
  unfold dypre k0_pay27 k0_pay26 k0_pay25 k0_pay24
  generalize k0_pay23 (F := Ideal) x z u p q d = y
  pointwise [k0_pay28]
  rfl

theorem sum_re (acc : FVec Ideal S512x128 .f32) (x z : Vec Ideal S256x512 .f32) (u dy : Vec Ideal S256x128 .f32) (p q : Vec Ideal S1x512x128 .bf16) (d : Vec Ideal S1x128 .f32) (r : Fin 512) (c : Fin 128) :
    k0_pay32 acc x (k0_pay23 x z u p q d) dy (k0_pay25 x z u p q d) (k0_pay26 x z u p q d) (k0_pay27 x z u p q d) (ix2 r c)
      = HAdd.hAdd (α := EReal) (β := EReal) (γ := EReal) (acc (ix2 r c)) (∑ l : Fin 256, (x (ix2 l r) : EReal) * dypre (F := Ideal) x z u dy p q d (ix2 l c)) := by
  have : k0_pay32 acc x (k0_pay23 x z u p q d) dy (k0_pay25 x z u p q d) (k0_pay26 x z u p q d) (k0_pay27 x z u p q d)
    = addf acc (matmul dot_S256x512_S256x128_S512x128_0_0_1_1_n_n none (truncf .bf16 x bitsLt_bf16_f32) (truncf .bf16 (dypre x z u dy p q d) bitsLt_bf16_f32) (constant S512x128 .f32 0x00000000#32)) := rfl
  rw [this]
  pointwise []

theorem sum_im (acc : FVec Ideal S512x128 .f32) (x z : Vec Ideal S256x512 .f32) (u dy : Vec Ideal S256x128 .f32) (p q : Vec Ideal S1x512x128 .bf16) (d : Vec Ideal S1x128 .f32) (r : Fin 512) (c : Fin 128) :
    k0_pay76 acc (k0_pay33 z (k0_pay23 x z u p q d) dy (k0_pay25 x z u p q d) (k0_pay26 x z u p q d) (k0_pay27 x z u p q d)) (ix2 r c)
      = HAdd.hAdd (α := EReal) (β := EReal) (γ := EReal) (acc (ix2 r c)) (∑ l : Fin 256, (z (ix2 l r) : EReal) * dypre (F := Ideal) x z u dy p q d (ix2 l c)) := by
  have : k0_pay76 acc (k0_pay33 z (k0_pay23 x z u p q d) dy (k0_pay25 x z u p q d) (k0_pay26 x z u p q d) (k0_pay27 x z u p q d))
    = addf acc (matmul dot_S256x512_S256x128_S512x128_0_0_1_1_n_n none (truncf .bf16 z bitsLt_bf16_f32) (truncf .bf16 (dypre x z u dy p q d) bitsLt_bf16_f32) (constant S512x128 .f32 0x00000000#32)) := rfl
  rw [this]
  pointwise []

theorem sum_d (acc : FVec Ideal S1x128 .f32) (u g : Vec Ideal S256x128 .f32) (c : Fin 128) :
    k0_pay77 acc u g (ix2 0 c) = HAdd.hAdd (α := EReal) (β := EReal) (γ := EReal) (acc (ix2 0 c)) (∑ l : Fin 256, (g (ix2 l c) : EReal) * u (ix2 l c)) := by
  pointwise [k0_pay77]

variable (𝒱 : Variants) (c : Dev nD) (bd : Option 𝒱.V) (i : grid0.Coords) (arg1 : Memref sig .tc .vmem S2048x128 .f32) (harg1 : arg1.IsWhole) (arg2 : Memref sig .tc .vmem S1x128x1024 .bf16) (harg2 : arg2.IsWhole) (arg3 : Memref sig .tc .vmem S1x1024x128 .bf16) (harg3 : arg3.IsWhole) (arg4 : Memref sig .tc .vmem S1x8x512 .f32) (harg4 : arg4.IsWhole) (arg5 : Memref sig .tc .vmem S1x8x512 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S1x128x1024 .f32) (harg9 : arg9.IsWhole) (arg10 : Memref sig .tc .vmem S1x1024x128 .f32) (harg10 : arg10.IsWhole) (arg11 : Memref sig .tc .vmem S1x8x512 .f32) (harg11 : arg11.IsWhole) (arg12 : Memref sig .tc .vmem S1x128 .f32) (harg12 : arg12.IsWhole) (arg13 : Memref sig .tc .vmem S2048x512 .f32) (harg13 : arg13.IsWhole) (arg14 : Memref sig .tc .vmem S2048x512 .f32) (harg14 : arg14.IsWhole) (arg15 : Memref sig .tc .vmem S2048x512 .f32) (harg15 : arg15.IsWhole) (arg16 : Memref sig .tc .vmem S2048x512 .f32) (harg16 : arg16.IsWhole) (arg17 : Memref sig .tc .vmem S2048x128 .f32) (harg17 : arg17.IsWhole)

/-- The readout's gradient at a row, of the row's states and inputs. -/
def dyp (s t : ℕ → Fin 512 → EReal) (u dy : ℕ → Fin 128 → EReal) (m : Fin 1024 → Fin 128 → EReal) (d : Fin 128 → EReal) (l : ℕ) (c : Fin 128) : EReal :=
  dy l c * gk ((∑ j : Fin 512, s l j * m (Fin.castAdd 512 j) c) + (∑ j : Fin 512, t l j * m (Fin.natAdd 512 j) c) + d c * u l c)

theorem loop_three (X1 : BufTy.Contents (Elt Ideal) arg1.view.ty) (X3 : BufTy.Contents (Elt Ideal) arg3.view.ty) (X6 : BufTy.Contents (Elt Ideal) arg6.view.ty) (X7 : BufTy.Contents (Elt Ideal) arg7.view.ty)
    (X13 : BufTy.Contents (Elt Ideal) arg13.view.ty) (X14 : BufTy.Contents (Elt Ideal) arg14.view.ty) (v2 v4 : FVec Ideal S8x512 .f32) (v5 : IVec S8x512 32) (v12 v17 v24 v29 : FVec Ideal S8x512 .f32) (v31 : IVec S8x512 1) (v36 : FVec Ideal S8x512 .f32) (cst_11 : Ideal .f32) (v38 : FVec Ideal S1x512 .f32)
    (s t : ℕ → Fin 512 → EReal) (u dy : ℕ → Fin 128 → EReal) (m : Fin 1024 → Fin 128 → EReal) (d : Fin 128 → EReal)
    (h1 : ∀ (l : Fin 2048) (ch : Fin 128), arg1.view.read (Elt Ideal) X1 (ix2 l ch) = u l ch) (h3 : ∀ (j : Fin 1024) (ch : Fin 128), arg3.view.read (Elt Ideal) X3 (ix3 0 j ch) = m j ch)
    (h6 : ∀ ch : Fin 128, arg6.view.read (Elt Ideal) X6 (ix2 0 ch) = d ch) (h7 : ∀ (l : Fin 2048) (ch : Fin 128), arg7.view.read (Elt Ideal) X7 (ix2 l ch) = dy l ch)
    (h13 : ∀ (l : Fin 2048) (j : Fin 512), arg13.view.read (Elt Ideal) X13 (ix2 l j) = s l j) (h14 : ∀ (l : Fin 2048) (j : Fin 512), arg14.view.read (Elt Ideal) X14 (ix2 l j) = t l j)
    (n : ℕ) (hn : n ≤ 8) (ch : Fin 128) :
    (∀ j : Fin 512, (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v2 v4 v5 v12 v17 v24 v29 v31 v36 cst_11 v38 X1 X3 X6 X7 X13 X14 (k0_pay74, k0_pay74, k0_pay75) n).1.1 (ix2 j ch) = ∑ l ∈ Finset.range (256 * n), s l j * dyp s t u dy m d l ch)
      ∧ (∀ j : Fin 512, (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v2 v4 v5 v12 v17 v24 v29 v31 v36 cst_11 v38 X1 X3 X6 X7 X13 X14 (k0_pay74, k0_pay74, k0_pay75) n).1.2.1 (ix2 j ch) = ∑ l ∈ Finset.range (256 * n), t l j * dyp s t u dy m d l ch)
      ∧ (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v2 v4 v5 v12 v17 v24 v29 v31 v36 cst_11 v38 X1 X3 X6 X7 X13 X14 (k0_pay74, k0_pay74, k0_pay75) n).1.2.2 (ix2 0 ch) = ∑ l ∈ Finset.range (256 * n), dyp s t u dy m d l ch * u l ch := by
  induction n with
  | zero =>
    refine ⟨fun j => ?_, fun j => ?_, ?_⟩
    · show k0_pay74 (F := Ideal) (ix2 j ch) = _
      pointwise [k0_pay74]
      simp
    · show k0_pay74 (F := Ideal) (ix2 j ch) = _
      pointwise [k0_pay74]
      simp
    · show k0_pay75 (F := Ideal) (ix2 0 ch) = _
      pointwise [k0_pay75]
      simp
  | succ n ih =>
    have hk : n < k0_t3_loop.trips := by rw [trips_three]; omega
    have e := congrArg Prod.fst (st_k0_t3_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v2 v4 v5 v12 v17 v24 v29 v31 v36 cst_11 v38 X1 X3 X6 X7 X13 X14 (k0_pay74, k0_pay74, k0_pay75) ⟨n, hk⟩)
    dsimp only at e
    rw [trip_three 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v2 v4 v5 v12 v17 v24 v29 v31 v36 cst_11 v38 X1 X3 X6 X7 ⟨n, hk⟩ _ X13 X14 _ _ _ _ _ _ _ rfl rfl rfl rfl rfl rfl rfl] at e
    have e' := ih (by omega)
    generalize (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v2 v4 v5 v12 v17 v24 v29 v31 v36 cst_11 v38 X1 X3 X6 X7 X13 X14 (k0_pay74, k0_pay74, k0_pay75) n).1 = a at e e'
    generalize (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v2 v4 v5 v12 v17 v24 v29 v31 v36 cst_11 v38 X1 X3 X6 X7 X13 X14 (k0_pay74, k0_pay74, k0_pay75) (n + 1)).1 = a' at e ⊢
    subst e
    have o4 := k0_off4_eq ⟨n, hk⟩
    have o5 := k0_off5_eq ⟨n, hk⟩
    obtain ⟨c1, c2, c3⟩ := e'
    have r13 : ∀ (r : Fin 256) (j : Fin 512), View.readAt (Elt Ideal) arg13.view (Rect.unit (s := S2048x512) (k0_off4 ⟨n, hk⟩) S256x512.size (k0_off4_inb ⟨n, hk⟩)).toLoadRect X13 (ix2 r j) = s (256 * n + r) j :=
      fun r j => (load_rows _ _ _ o4 r j ⟨256 * n + r.val, by omega⟩ rfl).trans (h13 _ j)
    have r14 : ∀ (r : Fin 256) (j : Fin 512), View.readAt (Elt Ideal) arg14.view (Rect.unit (s := S2048x512) (k0_off4 ⟨n, hk⟩) S256x512.size (k0_off4_inb ⟨n, hk⟩)).toLoadRect X14 (ix2 r j) = t (256 * n + r) j :=
      fun r j => (load_rows _ _ _ o4 r j ⟨256 * n + r.val, by omega⟩ rfl).trans (h14 _ j)
    have r1 : ∀ (r : Fin 256) (ch : Fin 128), View.readAt (Elt Ideal) arg1.view (Rect.unit (s := S2048x128) (k0_off5 ⟨n, hk⟩) S256x128.size (k0_off5_inb ⟨n, hk⟩)).toLoadRect X1 (ix2 r ch) = u (256 * n + r) ch :=
      fun r ch => (load_rows _ _ _ o5 r ch ⟨256 * n + r.val, by omega⟩ rfl).trans (h1 _ ch)
    have r7 : ∀ (r : Fin 256) (ch : Fin 128), View.readAt (Elt Ideal) arg7.view (Rect.unit (s := S2048x128) (k0_off5 ⟨n, hk⟩) S256x128.size (k0_off5_inb ⟨n, hk⟩)).toLoadRect X7 (ix2 r ch) = dy (256 * n + r) ch :=
      fun r ch => (load_rows _ _ _ o5 r ch ⟨256 * n + r.val, by omega⟩ rfl).trans (h7 _ ch)
    have r3 : ∀ (j : Fin 512) (ch : Fin 128), View.readAt (Elt Ideal) arg3.view (Rect.unit (s := S1x1024x128) ![0, 0, 0] S1x512x128.size inb_S1x1024x128_S1x512x128_0_0_0).toLoadRect X3 (ix3 0 j ch) = m (Fin.castAdd 512 j) ch :=
      fun j ch => (load_whole _ _ _ 0 j ch (Fin.castAdd 512 j) (by simp)).trans (h3 _ ch)
    have r3' : ∀ (j : Fin 512) (ch : Fin 128), View.readAt (Elt Ideal) arg3.view (Rect.unit (s := S1x1024x128) ![0, 512, 0] S1x512x128.size inb_S1x1024x128_S1x512x128_0_512_0).toLoadRect X3 (ix3 0 j ch) = m (Fin.natAdd 512 j) ch :=
      fun j ch => (load_whole _ _ _ 0 j ch (Fin.natAdd 512 j) (by simp; omega)).trans (h3 _ ch)
    have r6 : ∀ ch : Fin 128, View.readAt (Elt Ideal) arg6.view (Rect.unit (s := S1x128) ![0, 0] S1x128.size inb_S1x128_S1x128_0_0).toLoadRect X6 (ix2 0 ch) = d ch :=
      fun ch => (load_rows _ _ _ rfl 0 ch 0 rfl).trans (h6 ch)
    generalize View.readAt (Elt Ideal) arg13.view (Rect.unit (s := S2048x512) (k0_off4 ⟨n, hk⟩) S256x512.size (k0_off4_inb ⟨n, hk⟩)).toLoadRect X13 = x13 at r13 ⊢
    generalize View.readAt (Elt Ideal) arg14.view (Rect.unit (s := S2048x512) (k0_off4 ⟨n, hk⟩) S256x512.size (k0_off4_inb ⟨n, hk⟩)).toLoadRect X14 = x14 at r14 ⊢
    generalize View.readAt (Elt Ideal) arg1.view (Rect.unit (s := S2048x128) (k0_off5 ⟨n, hk⟩) S256x128.size (k0_off5_inb ⟨n, hk⟩)).toLoadRect X1 = x1 at r1 ⊢
    generalize View.readAt (Elt Ideal) arg7.view (Rect.unit (s := S2048x128) (k0_off5 ⟨n, hk⟩) S256x128.size (k0_off5_inb ⟨n, hk⟩)).toLoadRect X7 = x7 at r7 ⊢
    generalize View.readAt (Elt Ideal) arg3.view (Rect.unit (s := S1x1024x128) ![0, 0, 0] S1x512x128.size inb_S1x1024x128_S1x512x128_0_0_0).toLoadRect X3 = x3 at r3 ⊢
    generalize View.readAt (Elt Ideal) arg3.view (Rect.unit (s := S1x1024x128) ![0, 512, 0] S1x512x128.size inb_S1x1024x128_S1x512x128_0_512_0).toLoadRect X3 = x3' at r3' ⊢
    generalize View.readAt (Elt Ideal) arg6.view (Rect.unit (s := S1x128) ![0, 0] S1x128.size inb_S1x128_S1x128_0_0).toLoadRect X6 = x6 at r6 ⊢
    have g : ∀ r : Fin 256, dypre (F := Ideal) x13 x14 x1 x7 x3 x3' x6 (ix2 r ch) = dyp s t u dy m d (256 * n + r) ch := by
      intro r
      rw [dypre_at, readout, r7, r6, r1, dyp]
      simp only [r13, r14, r3, r3']
    refine ⟨fun j => ?_, fun j => ?_, ?_⟩
    · refine (sum_re _ _ _ _ _ _ _ _ _ _).trans ?_
      rw [c1 j, Nat.mul_succ, Finset.sum_range_add, Finset.sum_range (n := 256)]
      refine congrArg _ (Finset.sum_congr rfl fun r _ => ?_)
      rw [r13, g]
    · refine (sum_im _ _ _ _ _ _ _ _ _ _).trans ?_
      rw [c2 j, Nat.mul_succ, Finset.sum_range_add, Finset.sum_range (n := 256)]
      refine congrArg _ (Finset.sum_congr rfl fun r _ => ?_)
      rw [r14, g]
    · refine (sum_d _ _ _ _).trans ?_
      rw [c3, Nat.mul_succ, Finset.sum_range_add, Finset.sum_range (n := 256)]
      refine congrArg _ (Finset.sum_congr rfl fun r _ => ?_)
      rw [r1, g]

end Cert.Proof.S5
end
-- ==== Proof.K2Block.lean ====
module

public import proofs.«01_k».proof.Proof.K2Pre
public import proofs.«01_k».proof.Proof.K2Run
public import proofs.«01_k».proof.Proof.K2Read

@[expose] public section

set_option maxRecDepth 16384
noncomputable section
open Idealize.ShloMosaic Idealize.ShloMosaic.TcCoe Idealize.SL.Sem
open Cert.Kernel2Ideal Cert.Kernel2Ideal.Gen Cert.Kernel2Ideal.Scan
/-! One grid point of the kernel: from its seven input blocks to the two output blocks claimed. -/
namespace Cert.Proof.S5

/-- The activation's slope, of a real number. -/
theorem tk_real (y : ℝ) : tk (y : EReal) = (tr y : EReal) := by
  unfold tk tr; rw [word_cw]
  simp only [← EReal.coe_mul, ← EReal.coe_add]
  exact Ideal.tanh_coe _
theorem gk_real (y : ℝ) : gk (y : EReal) = (gr y : EReal) := by
  unfold gk gr; rw [tk_real, word_half', word_cw, ← EReal.coe_one]
  simp only [← EReal.coe_mul, ← EReal.coe_add, ← EReal.coe_sub]

theorem cl_surj (x : Fin 128) : ∃ a k, x = cl a k := ⟨⟨x / 16, by omega⟩, ⟨x % 16, by omega⟩, Fin.ext (by simp [cl]; omega)⟩
theorem sl_surj (x : Fin 512) : ∃ b p, x = sl b p := ⟨⟨x / 64, by omega⟩, ⟨x % 64, by omega⟩, Fin.ext (by simp [sl]; omega)⟩
/-- A sum over the lanes, group by group. -/
theorem sum_cl {M : Type} [AddCommMonoid M] (f : Fin 128 → M) : ∑ x, f x = ∑ a : Fin 8, ∑ k : Fin 16, f (cl a k) := by
  rw [← Fintype.sum_prod_type']
  exact (Fintype.sum_equiv finProdFinEquiv (fun y : Fin 8 × Fin 16 => f (cl y.1 y.2)) f fun y => congrArg f (Fin.ext (by show y.1.val * 16 + y.2.val = y.2.val + 16 * y.1.val; omega))).symm
theorem sum_sl {M : Type} [AddCommMonoid M] (f : Fin 512 → M) : ∑ x, f x = ∑ b : Fin 8, ∑ p : Fin 64, f (sl b p) := by
  rw [← Fintype.sum_prod_type']
  exact (Fintype.sum_equiv finProdFinEquiv (fun y : Fin 8 × Fin 64 => f (sl y.1 y.2)) f fun y => congrArg f (Fin.ext (by show y.1.val * 64 + y.2.val = y.2.val + 64 * y.1.val; omega))).symm

/-- Block `j` of the input arrays. -/
structure Blk (I : Data) (j : Fin 8) (x0 : Vec Ideal S2048x128 .f32) (x1 : Vec Ideal S1x128x1024 .bf16) (x2 : Vec Ideal S1x1024x128 .bf16) (x3 x4 : Vec Ideal S1x8x512 .f32) (x5 : Vec Ideal S1x128 .f32) (x6 : Vec Ideal S2048x128 .f32) : Prop where
  u : ∀ l a k, x0 (ix2 l (cl a k)) = (I.U l (ch (gp j a) k) : EReal)
  br : ∀ a b k p, x1 (ix3 0 (cl a k) (Fin.castAdd 512 (sl b p))) = ((I.BR (gp j a) (ch p k) * if a = b then (1 : ℝ) else 0 : ℝ) : EReal)
  bi : ∀ a b k p, x1 (ix3 0 (cl a k) (Fin.natAdd 512 (sl b p))) = ((I.BI (gp j a) (ch p k) * if a = b then (1 : ℝ) else 0 : ℝ) : EReal)
  cr : ∀ a b k p, x2 (ix3 0 (Fin.castAdd 512 (sl b p)) (cl a k)) = ((I.CR (gp j b) k p * if b = a then (1 : ℝ) else 0 : ℝ) : EReal)
  ci : ∀ a b k p, x2 (ix3 0 (Fin.natAdd 512 (sl b p)) (cl a k)) = ((-(I.CI (gp j b) k p * if b = a then (1 : ℝ) else 0) : ℝ) : EReal)
  pr : ∀ k b p, x3 (ix3 0 k (sl b p)) = ((lam I (gp j b) p ^ (k.val + 1)).re : EReal)
  pi : ∀ k b p, x4 (ix3 0 k (sl b p)) = ((lam I (gp j b) p ^ (k.val + 1)).im : EReal)
  d : ∀ a k, x5 (ix2 0 (cl a k)) = (I.D (ch (gp j a) k) : EReal)
  dy : ∀ l a k, x6 (ix2 l (cl a k)) = (I.DY l (ch (gp j a) k) : EReal)

variable (c : Dev nD) (i : grid0.Coords) (arg1 : Memref sig .tc .vmem S2048x128 .f32) (harg1 : arg1.IsWhole) (arg2 : Memref sig .tc .vmem S1x128x1024 .bf16) (harg2 : arg2.IsWhole) (arg3 : Memref sig .tc .vmem S1x1024x128 .bf16) (harg3 : arg3.IsWhole) (arg4 : Memref sig .tc .vmem S1x8x512 .f32) (harg4 : arg4.IsWhole) (arg5 : Memref sig .tc .vmem S1x8x512 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S1x128x1024 .f32) (harg9 : arg9.IsWhole) (arg10 : Memref sig .tc .vmem S1x1024x128 .f32) (harg10 : arg10.IsWhole) (arg11 : Memref sig .tc .vmem S1x8x512 .f32) (harg11 : arg11.IsWhole) (arg12 : Memref sig .tc .vmem S1x128 .f32) (harg12 : arg12.IsWhole) (arg13 : Memref sig .tc .vmem S2048x512 .f32) (harg13 : arg13.IsWhole) (arg14 : Memref sig .tc .vmem S2048x512 .f32) (harg14 : arg14.IsWhole) (arg15 : Memref sig .tc .vmem S2048x512 .f32) (harg15 : arg15.IsWhole) (arg16 : Memref sig .tc .vmem S2048x512 .f32) (harg16 : arg16.IsWhole) (arg17 : Memref sig .tc .vmem S2048x128 .f32) (harg17 : arg17.IsWhole)
variable {I : Data} {j : Fin 8} {x0 : Vec Ideal S2048x128 .f32} {x1 : Vec Ideal S1x128x1024 .bf16} {x2 : Vec Ideal S1x1024x128 .bf16} {x3 x4 : Vec Ideal S1x8x512 .f32} {x5 : Vec Ideal S1x128 .f32} {x6 : Vec Ideal S2048x128 .f32}

/-- The drives. -/
theorem drive (h : Blk I j x0 x1 x2 x3 x4 x5 x6) (l : Fin 2048) (b : Fin 8) (p : Fin 64) :
    arg13.view.read (Elt Ideal) (A13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg1.unread x0) (harg2.unread x1)) (ix2 l (sl b p)) = ((bu I (gp j b) p l).re : EReal)
      ∧ arg14.view.read (Elt Ideal) (A14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg1.unread x0) (harg2.unread x1)) (ix2 l (sl b p)) = ((bu I (gp j b) p l).im : EReal) := by
  have L := loop_one Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg1.unread x0) (harg2.unread x1)
    (fun l ch => if hl : l < 2048 then x0 (ix2 ⟨l, hl⟩ ch) else 0) (fun ch t => x1 (ix3 0 ch t)) (fun l ch => by rw [harg1.read_unread, dif_pos l.isLt]) (fun ch t => by rw [harg2.read_unread])
    arg13.view.junk arg14.view.junk 8 le_rfl l (sl b p) l.isLt
  unfold A13 A14 pcs1
  refine ⟨Eq.trans (by rw [show Scf.trips k0_t1_loop.lb k0_t1_loop.ub k0_t1_loop.st = 8 from trips_one]) (L.1.trans ?_), Eq.trans (by rw [show Scf.trips k0_t1_loop.lb k0_t1_loop.ub k0_t1_loop.st = 8 from trips_one]) (L.2.trans ?_)⟩
  · simp only [dif_pos l.isLt]
    rw [sum_cl]
    simp only [h.u, h.br, ← EReal.coe_mul, ← cast_sum]
    congr 1
    rw [Finset.sum_eq_single b (fun a _ ha => by simp [ha]) (by simp)]
    simp [bu]
  · simp only [dif_pos l.isLt]
    rw [sum_cl]
    simp only [h.u, h.bi, ← EReal.coe_mul, ← cast_sum]
    congr 1
    rw [Finset.sum_eq_single b (fun a _ ha => by simp [ha]) (by simp)]
    simp [bu]

/-- The states. -/
theorem states (h : Blk I j x0 x1 x2 x3 x4 x5 x6) (l : Fin 2048) (b : Fin 8) (p : Fin 64) :
    arg13.view.read (Elt Ideal) (B13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg1.unread x0) (harg2.unread x1) (harg4.unread x3) (harg5.unread x4)) (ix2 l (sl b p)) = ((xs I (gp j b) p l).re : EReal)
      ∧ arg14.view.read (Elt Ideal) (B14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg1.unread x0) (harg2.unread x1) (harg4.unread x3) (harg5.unread x4)) (ix2 l (sl b p)) = ((xs I (gp j b) p l).im : EReal) := by
  have D := fun l => drive c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h l b p
  have L := loop_two Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (pre4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg4.unread x3)) (pre5 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg5.unread x4))
    (A13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg1.unread x0) (harg2.unread x1)) (A14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg1.unread x0) (harg2.unread x1)) (sl b p) (lam I (gp j b) p) (bu I (gp j b) p)
    (fun k => ((load_whole _ _ _ 0 k _ k (by simp)).trans (by rw [harg4.read_unread])).trans (h.pr k b p))
    (fun k => ((load_whole _ _ _ 0 k _ k (by simp)).trans (by rw [harg5.read_unread])).trans (h.pi k b p))
    (fun l => (D l).1) (fun l => (D l).2) 256 le_rfl
  have L' := L.2.2 l
  rw [if_pos (show l.val < 8 * 256 from l.isLt)] at L'
  unfold B13 B14 out2
  exact ⟨Eq.trans (by rw [show Scf.trips k0_t2_loop.lb k0_t2_loop.ub k0_t2_loop.st = 256 from trips_two]) L'.1, Eq.trans (by rw [show Scf.trips k0_t2_loop.lb k0_t2_loop.ub k0_t2_loop.st = 256 from trips_two]) L'.2⟩

/-- The states by lane, over all rows. -/
def sre (I : Data) (j : Fin 8) (l : ℕ) (t : Fin 512) : EReal := ((xs I (gp j ⟨t / 64, by omega⟩) ⟨t % 64, by omega⟩ l).re : EReal)
def sim (I : Data) (j : Fin 8) (l : ℕ) (t : Fin 512) : EReal := ((xs I (gp j ⟨t / 64, by omega⟩) ⟨t % 64, by omega⟩ l).im : EReal)
theorem sre_sl (I : Data) (j b : Fin 8) (p : Fin 64) (l : ℕ) : sre I j l (sl b p) = ((xs I (gp j b) p l).re : EReal) := by unfold sre; rw [sl_div, sl_mod]
theorem sim_sl (I : Data) (j b : Fin 8) (p : Fin 64) (l : ℕ) : sim I j l (sl b p) = ((xs I (gp j b) p l).im : EReal) := by unfold sim; rw [sl_div, sl_mod]

/-- The readout's gradient at a row of the block. -/
theorem dyp_at (h : Blk I j x0 x1 x2 x3 x4 x5 x6) (l : Fin 2048) (a : Fin 8) (k : Fin 16) :
    dyp (sre I j) (sim I j) (fun l ch => if hl : l < 2048 then x0 (ix2 ⟨l, hl⟩ ch) else 0) (fun l ch => if hl : l < 2048 then x6 (ix2 ⟨l, hl⟩ ch) else 0) (fun t ch => x2 (ix3 0 t ch)) (fun ch => x5 (ix2 0 ch)) l (cl a k)
      = (dp I l (gp j a) k : EReal) := by
  unfold dyp
  simp only [dif_pos l.isLt]
  rw [sum_sl, sum_sl]
  simp only [sre_sl, sim_sl, h.u, h.cr, h.ci, h.d, h.dy, ← EReal.coe_mul, ← cast_sum, ← EReal.coe_add, gk_real]
  congr 1
  unfold dp yv
  rw [Finset.sum_eq_single a (fun b _ hb => by simp [hb]) (by simp), Finset.sum_eq_single a (fun b _ hb => by simp [hb]) (by simp)]
  simp [Finset.sum_neg_distrib, sub_eq_add_neg]

/-- The three sums over all rows. -/
theorem sums (h : Blk I j x0 x1 x2 x3 x4 x5 x6) (a : Fin 8) (k : Fin 16) :
    (∀ b p, (out3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg1.unread x0) (harg2.unread x1) (harg3.unread x2) (harg4.unread x3) (harg5.unread x4) (harg6.unread x5) (harg7.unread x6)).1.1 (ix2 (sl b p) (cl a k)) = ((∑ l : Fin 2048, (xs I (gp j b) p l).re * dp I l (gp j a) k : ℝ) : EReal))
      ∧ (∀ b p, (out3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg1.unread x0) (harg2.unread x1) (harg3.unread x2) (harg4.unread x3) (harg5.unread x4) (harg6.unread x5) (harg7.unread x6)).1.2.1 (ix2 (sl b p) (cl a k)) = ((∑ l : Fin 2048, (xs I (gp j b) p l).im * dp I l (gp j a) k : ℝ) : EReal))
      ∧ (out3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg1.unread x0) (harg2.unread x1) (harg3.unread x2) (harg4.unread x3) (harg5.unread x4) (harg6.unread x5) (harg7.unread x6)).1.2.2 (ix2 0 (cl a k)) = (dD I (gp j a) k : EReal) := by
  have L := loop_three Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg1.unread x0) (harg3.unread x2) (harg6.unread x5) (harg7.unread x6) (B13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg1.unread x0) (harg2.unread x1) (harg4.unread x3) (harg5.unread x4)) (B14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg1.unread x0) (harg2.unread x1) (harg4.unread x3) (harg5.unread x4))
    (k0_pay57 (pre4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg4.unread x3))) (k0_pay58 (pre5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg5.unread x4))) (iota .tc S8x512 32 [0] iota_S8x512_d0_w32) (k0_pay60 (pre4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg4.unread x3))) (k0_pay61 (pre5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg5.unread x4))) (k0_pay63 (pre4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg4.unread x3))) (k0_pay64 (pre5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg5.unread x4))) k0_pay65 (k0_pay66 (pre4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg4.unread x3))) (Scalar.ofBits .f32 0x00000000#32) (k0_pay67 (pre5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg5.unread x4)))
    (sre I j) (sim I j) (fun l ch => if hl : l < 2048 then x0 (ix2 ⟨l, hl⟩ ch) else 0) (fun l ch => if hl : l < 2048 then x6 (ix2 ⟨l, hl⟩ ch) else 0) (fun t ch => x2 (ix3 0 t ch)) (fun ch => x5 (ix2 0 ch))
    (fun l ch => by rw [harg1.read_unread, dif_pos l.isLt]) (fun t ch => by rw [harg3.read_unread]) (fun ch => by rw [harg6.read_unread]) (fun l ch => by rw [harg7.read_unread, dif_pos l.isLt])
    (fun l t => by obtain ⟨b, p, rfl⟩ := sl_surj t; rw [sre_sl]; exact (states c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h l b p).1)
    (fun l t => by obtain ⟨b, p, rfl⟩ := sl_surj t; rw [sim_sl]; exact (states c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h l b p).2)
    8 le_rfl (cl a k)
  obtain ⟨L1, L2, L3⟩ := L
  have e : (out3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg1.unread x0) (harg2.unread x1) (harg3.unread x2) (harg4.unread x3) (harg5.unread x4) (harg6.unread x5) (harg7.unread x6)) = st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay57 (pre4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg4.unread x3))) (k0_pay58 (pre5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg5.unread x4))) (iota .tc S8x512 32 [0] iota_S8x512_d0_w32) (k0_pay60 (pre4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg4.unread x3))) (k0_pay61 (pre5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg5.unread x4))) (k0_pay63 (pre4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg4.unread x3))) (k0_pay64 (pre5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg5.unread x4))) k0_pay65 (k0_pay66 (pre4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg4.unread x3))) (Scalar.ofBits .f32 0x00000000#32) (k0_pay67 (pre5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg5.unread x4))) (harg1.unread x0) (harg3.unread x2) (harg6.unread x5) (harg7.unread x6) (B13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg1.unread x0) (harg2.unread x1) (harg4.unread x3) (harg5.unread x4)) (B14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg1.unread x0) (harg2.unread x1) (harg4.unread x3) (harg5.unread x4)) (k0_pay74, k0_pay74, k0_pay75) 8 := by
    unfold out3
    rw [show Scf.trips k0_t3_loop.lb k0_t3_loop.ub k0_t3_loop.st = 8 from trips_three]
  rw [e]
  refine ⟨fun b p => (L1 (sl b p)).trans ?_, fun b p => (L2 (sl b p)).trans ?_, L3.trans ?_⟩
  · rw [show 256 * 8 = 2048 from rfl, Finset.sum_range, cast_sum]
    exact Finset.sum_congr rfl fun l _ => by rw [sre_sl, dyp_at h, ← EReal.coe_mul]
  · rw [show 256 * 8 = 2048 from rfl, Finset.sum_range, cast_sum]
    exact Finset.sum_congr rfl fun l _ => by rw [sim_sl, dyp_at h, ← EReal.coe_mul]
  · rw [show 256 * 8 = 2048 from rfl, Finset.sum_range, dD, cast_sum]
    exact Finset.sum_congr rfl fun l _ => by rw [dyp_at h, dif_pos l.isLt, h.u, ← EReal.coe_mul]

theorem pay78_at (v : FVec Ideal S512x128 .f32) (r : Fin 512) (ch : Fin 128) : k0_pay78 v (ix3 0 r ch) = v (ix2 r ch) := by pointwise [k0_pay78]
theorem pay79_at (v : FVec Ideal S512x128 .f32) (r : Fin 512) (ch : Fin 128) : k0_pay79 v (ix3 0 r ch) = v (ix2 r ch) := by pointwise [k0_pay79]

/-- The read-out weights' block, at its two halves, and the skip's block. -/
theorem block_cr (h : Blk I j x0 x1 x2 x3 x4 x5 x6) (V : View sig .tc .vmem S1x1024x128 .f32) (f : V.ty.Contents (Elt Ideal)) (a b : Fin 8) (k : Fin 16) (p : Fin 64) :
    V.read (Elt Ideal) (V.writes (Elt Ideal) f (given10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6)) (ix3 0 (Fin.castAdd 512 (sl b p)) (cl a k))
      = ((∑ l : Fin 2048, (xs I (gp j b) p l).re * dp I l (gp j a) k : ℝ) : EReal) := by
  refine Eq.trans ?_ ((sums c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h a k).1 b p)
  unfold given10 pcs10
  generalize out3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg1.unread x0) (harg2.unread x1) (harg3.unread x2) (harg4.unread x3) (harg5.unread x4) (harg6.unread x5) (harg7.unread x6) = o
  rw [View.read_writes_cons_unit_of_not_mem V f _ _ _ _ rfl 1 (Or.inl (sl b p).isLt)]
  refine (View.read_writes_cons_unit_of_mem V f _ _ [] _ (ix3 0 (sl b p) (cl a k)) rfl fun a => ?_).trans (pay78_at _ _ _)
  match a with
  | ⟨0, _⟩ => rfl
  | ⟨1, _⟩ => show (sl b p).val = 0 + (sl b p).val; omega
  | ⟨2, _⟩ => show (cl _ _).val = 0 + (cl _ _).val; omega
theorem block_ci (h : Blk I j x0 x1 x2 x3 x4 x5 x6) (V : View sig .tc .vmem S1x1024x128 .f32) (f : V.ty.Contents (Elt Ideal)) (a b : Fin 8) (k : Fin 16) (p : Fin 64) :
    V.read (Elt Ideal) (V.writes (Elt Ideal) f (given10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6)) (ix3 0 (Fin.natAdd 512 (sl b p)) (cl a k))
      = ((∑ l : Fin 2048, (xs I (gp j b) p l).im * dp I l (gp j a) k : ℝ) : EReal) := by
  refine Eq.trans ?_ ((sums c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h a k).2.1 b p)
  unfold given10 pcs10
  generalize out3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg1.unread x0) (harg2.unread x1) (harg3.unread x2) (harg4.unread x3) (harg5.unread x4) (harg6.unread x5) (harg7.unread x6) = o
  refine (View.read_writes_cons_unit_of_mem V f _ _ _ _ (ix3 0 (sl b p) (cl a k)) rfl fun a => ?_).trans (pay79_at _ _ _)
  match a with
  | ⟨0, _⟩ => rfl
  | ⟨1, _⟩ => rfl
  | ⟨2, _⟩ => show (cl _ _).val = 0 + (cl _ _).val; omega
theorem block_d (h : Blk I j x0 x1 x2 x3 x4 x5 x6) (V : View sig .tc .vmem S1x128 .f32) (f : V.ty.Contents (Elt Ideal)) (a : Fin 8) (k : Fin 16) :
    V.read (Elt Ideal) (V.writes (Elt Ideal) f (given12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6)) (ix2 0 (cl a k)) = (dD I (gp j a) k : EReal) := by
  refine Eq.trans ?_ (sums c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h a k).2.2
  unfold given12 pcs12
  generalize out3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg1.unread x0) (harg2.unread x1) (harg3.unread x2) (harg4.unread x3) (harg5.unread x4) (harg6.unread x5) (harg7.unread x6) = o
  exact stored_row V f _ rfl _ [] 0 (cl a k) 0 rfl

end Cert.Proof.S5
end
-- ==== Proof.K2Tail.lean ====
module

public import proofs.«01_k».proof.Proof.K2Pre

@[expose] public section

set_option maxRecDepth 16384
noncomputable section
open Idealize.ShloMosaic Idealize.ShloMosaic.TcCoe Idealize.SL.Sem
open Cert.Kernel2Ideal Cert.Kernel2Ideal.Gen
/-! The operations after the grid: what they make of the two arrays that are claimed. -/
namespace Cert.Proof.S5

def sufE {F : FTy → Type} [FloatOps F] : List (HloOp τ sig (Elt F)) := [
  StableHlo.nullary main_v111 (iotaInDim S8x8 32 0),
  StableHlo.nullary main_v112 (iotaInDim S8x8 32 1),
  StableHlo.nullary main_c_0 (constantI S_ 32 0#32),
  StableHlo.unary main_c_0 main_v113 (broadcastInDim S8x8 ![] bcast_S_S8x8 : (⟨S_, .i32⟩ : BufTy).Contents (Elt F) → (⟨S8x8, .i32⟩ : BufTy).Contents (Elt F)),
  StableHlo.binary main_v111 main_v113 main_v114 (addi : (⟨S8x8, .i32⟩ : BufTy).Contents (Elt F) → (⟨S8x8, .i32⟩ : BufTy).Contents (Elt F) → (⟨S8x8, .i32⟩ : BufTy).Contents (Elt F)),
  StableHlo.binary main_v114 main_v112 main_v115 (cmpi .eq : (⟨S8x8, .i32⟩ : BufTy).Contents (Elt F) → (⟨S8x8, .i32⟩ : BufTy).Contents (Elt F) → (⟨S8x8, .i1⟩ : BufTy).Contents (Elt F)),
  StableHlo.unary main_v115 main_v116 (uitofp .f32 : (⟨S8x8, .i1⟩ : BufTy).Contents (Elt F) → (⟨S8x8, .f32⟩ : BufTy).Contents (Elt F))]
def sufR {F : FTy → Type} [FloatOps F] : List (HloOp τ sig (Elt F)) := [
  StableHlo.unary main_v110_2 main_v117 ((extractStridedSlice S8x512x128 ![0, 0, 0] · slices_S8x1024x128_S8x512x128_0_0_0) : (⟨S8x1024x128, .f32⟩ : BufTy).Contents (Elt F) → (⟨S8x512x128, .f32⟩ : BufTy).Contents (Elt F)),
  StableHlo.reshape main_v117 main_v118 (rfl : (.f32 : EltTy) = .f32) shapeCasts_S8x512x128_S8x8x64x8x16,
  StableHlo.unary main_v116 main_v119 (broadcastInDim S8x1x8x1 ![0, 2] bcast_S8x8_S8x1x8x1_0_2 : (⟨S8x8, .f32⟩ : BufTy).Contents (Elt F) → (⟨S8x1x8x1, .f32⟩ : BufTy).Contents (Elt F)),
  StableHlo.unary main_v119 main_v120 (broadcastInDim S1x8x1x8x1 ![1, 2, 3, 4] bcast_S8x1x8x1_S1x8x1x8x1_1_2_3_4 : (⟨S8x1x8x1, .f32⟩ : BufTy).Contents (Elt F) → (⟨S1x8x1x8x1, .f32⟩ : BufTy).Contents (Elt F)),
  StableHlo.unary main_v120 main_v121 (broadcastInDim S8x8x64x8x16 ![0, 1, 2, 3, 4] bcast_S1x8x1x8x1_S8x8x64x8x16_0_1_2_3_4 : (⟨S1x8x1x8x1, .f32⟩ : BufTy).Contents (Elt F) → (⟨S8x8x64x8x16, .f32⟩ : BufTy).Contents (Elt F)),
  StableHlo.binary main_v118 main_v121 main_v122 (mulf : (⟨S8x8x64x8x16, .f32⟩ : BufTy).Contents (Elt F) → (⟨S8x8x64x8x16, .f32⟩ : BufTy).Contents (Elt F) → (⟨S8x8x64x8x16, .f32⟩ : BufTy).Contents (Elt F)),
  StableHlo.nullary main_cst (constant S_ .f32 0x00000000#32),
  StableHlo.binary main_v122 main_cst main_v123 ((fun x v => Host.reduceAdd x v reducesTo_S8x8x64x8x16_S8x8x64x16_d3 h_S_) : (⟨S8x8x64x8x16, .f32⟩ : BufTy).Contents (Elt F) → (⟨S_, .f32⟩ : BufTy).Contents (Elt F) → (⟨S8x8x64x16, .f32⟩ : BufTy).Contents (Elt F)),
  StableHlo.unary main_v123 main_v124 ((transpose S8x8x16x64 [0, 1, 3, 2] · transposes_S8x8x64x16_S8x8x16x64_0_1_3_2) : (⟨S8x8x64x16, .f32⟩ : BufTy).Contents (Elt F) → (⟨S8x8x16x64, .f32⟩ : BufTy).Contents (Elt F)),
  StableHlo.reshape main_v124 main_v125 (rfl : (.f32 : EltTy) = .f32) shapeCasts_S8x8x16x64_S64x16x64]
def sufI {F : FTy → Type} [FloatOps F] : List (HloOp τ sig (Elt F)) := [
  StableHlo.unary main_v110_2 main_v126 ((extractStridedSlice S8x512x128 ![0, 512, 0] · slices_S8x1024x128_S8x512x128_0_512_0) : (⟨S8x1024x128, .f32⟩ : BufTy).Contents (Elt F) → (⟨S8x512x128, .f32⟩ : BufTy).Contents (Elt F)),
  StableHlo.reshape main_v126 main_v127 (rfl : (.f32 : EltTy) = .f32) shapeCasts_S8x512x128_S8x8x64x8x16,
  StableHlo.unary main_v116 main_v128 (broadcastInDim S8x1x8x1 ![0, 2] bcast_S8x8_S8x1x8x1_0_2 : (⟨S8x8, .f32⟩ : BufTy).Contents (Elt F) → (⟨S8x1x8x1, .f32⟩ : BufTy).Contents (Elt F)),
  StableHlo.unary main_v128 main_v129 (broadcastInDim S1x8x1x8x1 ![1, 2, 3, 4] bcast_S8x1x8x1_S1x8x1x8x1_1_2_3_4 : (⟨S8x1x8x1, .f32⟩ : BufTy).Contents (Elt F) → (⟨S1x8x1x8x1, .f32⟩ : BufTy).Contents (Elt F)),
  StableHlo.unary main_v129 main_v130 (broadcastInDim S8x8x64x8x16 ![0, 1, 2, 3, 4] bcast_S1x8x1x8x1_S8x8x64x8x16_0_1_2_3_4 : (⟨S1x8x1x8x1, .f32⟩ : BufTy).Contents (Elt F) → (⟨S8x8x64x8x16, .f32⟩ : BufTy).Contents (Elt F)),
  StableHlo.binary main_v127 main_v130 main_v131 (mulf : (⟨S8x8x64x8x16, .f32⟩ : BufTy).Contents (Elt F) → (⟨S8x8x64x8x16, .f32⟩ : BufTy).Contents (Elt F) → (⟨S8x8x64x8x16, .f32⟩ : BufTy).Contents (Elt F)),
  StableHlo.nullary main_cst_1 (constant S_ .f32 0x00000000#32),
  StableHlo.binary main_v131 main_cst_1 main_v132 ((fun x v => Host.reduceAdd x v reducesTo_S8x8x64x8x16_S8x8x64x16_d3 h_S_) : (⟨S8x8x64x8x16, .f32⟩ : BufTy).Contents (Elt F) → (⟨S_, .f32⟩ : BufTy).Contents (Elt F) → (⟨S8x8x64x16, .f32⟩ : BufTy).Contents (Elt F)),
  StableHlo.unary main_v132 main_v133 ((transpose S8x8x16x64 [0, 1, 3, 2] · transposes_S8x8x64x16_S8x8x16x64_0_1_3_2) : (⟨S8x8x64x16, .f32⟩ : BufTy).Contents (Elt F) → (⟨S8x8x16x64, .f32⟩ : BufTy).Contents (Elt F)),
  StableHlo.reshape main_v133 main_v134 (rfl : (.f32 : EltTy) = .f32) shapeCasts_S8x8x16x64_S64x16x64,
  StableHlo.unary main_v134 main_v135 (Host.negf : (⟨S64x16x64, .f32⟩ : BufTy).Contents (Elt F) → (⟨S64x16x64, .f32⟩ : BufTy).Contents (Elt F))]
def sufD {F : FTy → Type} [FloatOps F] : List (HloOp τ sig (Elt F)) := [
  StableHlo.reshape main_v110_4 main_v136 (rfl : (.f32 : EltTy) = .f32) shapeCasts_S1x1024_S1024]
theorem suf_split : (hostOps1 : List (HloOp τ sig (Elt Ideal))) = sufE ++ (sufR ++ (sufI ++ sufD)) := rfl

variable (V : Valuation τ sig (Elt Ideal))
theorem keep_sufE {r : Ref sig .tc} (hr : r ∉ [main_v111, main_v112, main_c_0, main_v113, main_v114, main_v115, main_v116]) : StableHlo.after sufE V (Proc.devRef .tc r) = V (Proc.devRef .tc r) :=
  StableHlo.after_unwritten _ (by unfold sufE; rfl) hr V
theorem keep_sufR {r : Ref sig .tc} (hr : r ∉ [main_v117, main_v118, main_v119, main_v120, main_v121, main_v122, main_cst, main_v123, main_v124, main_v125]) : StableHlo.after sufR V (Proc.devRef .tc r) = V (Proc.devRef .tc r) :=
  StableHlo.after_unwritten _ (by unfold sufR; rfl) hr V
theorem keep_sufI {r : Ref sig .tc} (hr : r ∉ [main_v126, main_v127, main_v128, main_v129, main_v130, main_v131, main_cst_1, main_v132, main_v133, main_v134, main_v135]) : StableHlo.after sufI V (Proc.devRef .tc r) = V (Proc.devRef .tc r) :=
  StableHlo.after_unwritten _ (by unfold sufI; rfl) hr V
theorem keep_sufD {r : Ref sig .tc} (hr : r ∉ [main_v136]) : StableHlo.after sufD V (Proc.devRef .tc r) = V (Proc.devRef .tc r) :=
  StableHlo.after_unwritten _ (by unfold sufD; rfl) hr V

theorem gp_div (j b : Fin 8) (h : (gp j b : ℕ) / 8 < 8) : (⟨(gp j b : ℕ) / 8, h⟩ : Fin 8) = j := Fin.ext (by simp [gp]; omega)
theorem gp_mod (j b : Fin 8) (h : (gp j b : ℕ) % 8 < 8) : (⟨(gp j b : ℕ) % 8, h⟩ : Fin 8) = b := Fin.ext (by simp [gp])

theorem suf_eye (a b : Fin 8) : StableHlo.after sufE V (Proc.devRef .tc main_v116) (ix2 a b) = ((if a = b then (1 : ℝ) else 0 : ℝ) : EReal) := by
  unfold sufE; after_reads_at
  exact eye_word a b
theorem suf_r (j b : Fin 8) (k : Fin 16) (p : Fin 64) :
    StableHlo.after sufR V (Proc.devRef .tc main_v125) (ix3 (gp j b) k p)
      = ∑ a : Fin 8, HMul.hMul (α := EReal) (V (Proc.devRef .tc main_v110_2) (ix3 j (Fin.castAdd 512 (sl b p)) (cl a k))) (V (Proc.devRef .tc main_v116) (ix2 b a)) := by
  unfold sufR; after_reads_at
  simp only [gp_div, gp_mod]
  refine Finset.sum_congr rfl fun a _ => congrArg (fun i => HMul.hMul (α := EReal) (V (Proc.devRef .tc main_v110_2) (ix3 j i (cl a k))) (V (Proc.devRef .tc main_v116) (ix2 b a))) (Fin.ext ?_)
  simp [gp, sl]
theorem suf_i (j b : Fin 8) (k : Fin 16) (p : Fin 64) :
    StableHlo.after sufI V (Proc.devRef .tc main_v135) (ix3 (gp j b) k p)
      = Neg.neg (α := EReal) (∑ a : Fin 8, HMul.hMul (α := EReal) (V (Proc.devRef .tc main_v110_2) (ix3 j (Fin.natAdd 512 (sl b p)) (cl a k))) (V (Proc.devRef .tc main_v116) (ix2 b a))) := by
  unfold sufI; after_reads_at
  simp only [gp_div, gp_mod]
  refine congrArg (Neg.neg (α := EReal)) (Finset.sum_congr rfl fun a _ => congrArg (fun i => HMul.hMul (α := EReal) (V (Proc.devRef .tc main_v110_2) (ix3 j i (cl a k))) (V (Proc.devRef .tc main_v116) (ix2 b a))) (Fin.ext ?_))
  simp [gp, sl]; omega
theorem suf_d (x : Fin 1024) : StableHlo.after sufD V (Proc.devRef .tc main_v136) (ix1 x) = V (Proc.devRef .tc main_v110_4) (ix2 0 x) := by
  unfold sufD; after_reads_at

/-- The arrays the grid leaves, as real numbers. -/
structure Out (I : Data) : Prop where
  r : ∀ (j a b : Fin 8) (k : Fin 16) (p : Fin 64), V (Proc.devRef .tc main_v110_2) (ix3 j (Fin.castAdd 512 (sl b p)) (cl a k)) = ((∑ l : Fin 2048, (xs I (gp j b) p l).re * dp I l (gp j a) k : ℝ) : EReal)
  i : ∀ (j a b : Fin 8) (k : Fin 16) (p : Fin 64), V (Proc.devRef .tc main_v110_2) (ix3 j (Fin.natAdd 512 (sl b p)) (cl a k)) = ((∑ l : Fin 2048, (xs I (gp j b) p l).im * dp I l (gp j a) k : ℝ) : EReal)
  d : ∀ (j a : Fin 8) (k : Fin 16), V (Proc.devRef .tc main_v110_4) (ix2 0 (ch (gp j a) k)) = (dD I (gp j a) k : EReal)

theorem gp_surj (g : Fin 64) : ∃ j b, g = gp j b := ⟨⟨g / 8, by omega⟩, ⟨g % 8, by omega⟩, Fin.ext (by simp [gp]; omega)⟩

variable {V} {I : Data} (h : Out V I)
include h
theorem ker_Cr (g : Fin 64) (k : Fin 16) (p : Fin 64) : StableHlo.after hostOps1 V (Proc.devRef .tc main_v125) (ix3 g k p) = (dCr I g k p : EReal) := by
  obtain ⟨j, b, rfl⟩ := gp_surj g
  rw [suf_split]
  simp only [StableHlo.after_append]
  rw [keep_sufD _ (by decide +kernel), keep_sufI _ (by decide +kernel), suf_r]
  refine (Finset.sum_congr rfl fun a _ => congrArg₂ (HMul.hMul (α := EReal) (β := EReal) (γ := EReal)) ((congrFun (keep_sufE V (r := main_v110_2) (by decide +kernel)) _).trans (h.r j a b k p)) (suf_eye V b a)).trans ?_
  simp only [← EReal.coe_mul, ← cast_sum]
  congr 1
  rw [Finset.sum_eq_single b (fun a _ ha => by simp [ha.symm]) (by simp)]
  simp [dCr]
theorem ker_Ci (g : Fin 64) (k : Fin 16) (p : Fin 64) : StableHlo.after hostOps1 V (Proc.devRef .tc main_v135) (ix3 g k p) = (dCi I g k p : EReal) := by
  obtain ⟨j, b, rfl⟩ := gp_surj g
  rw [suf_split]
  simp only [StableHlo.after_append]
  rw [keep_sufD _ (by decide +kernel), suf_i, keep_sufR _ (by decide +kernel), keep_sufR _ (by decide +kernel)]
  refine (congrArg (Neg.neg (α := EReal)) (Finset.sum_congr rfl fun a _ => congrArg₂ (HMul.hMul (α := EReal) (β := EReal) (γ := EReal)) ((congrFun (keep_sufE V (r := main_v110_2) (by decide +kernel)) _).trans (h.i j a b k p)) (suf_eye V b a))).trans ?_
  simp only [← EReal.coe_mul, ← cast_sum, ← EReal.coe_neg]
  congr 1
  rw [Finset.sum_eq_single b (fun a _ ha => by simp [ha.symm]) (by simp)]
  simp [dCi]
theorem ker_D (g : Fin 64) (k : Fin 16) : StableHlo.after hostOps1 V (Proc.devRef .tc main_v136) (ix1 (ch g k)) = (dD I g k : EReal) := by
  obtain ⟨j, b, rfl⟩ := gp_surj g
  rw [suf_split]
  simp only [StableHlo.after_append]
  rw [suf_d, keep_sufI _ (by decide +kernel), keep_sufR _ (by decide +kernel), keep_sufE _ (by decide +kernel), h.d]

end Cert.Proof.S5
end
-- ==== Proof.K2Frame.lean ====
module

public import proofs.«01_k».proof.Proof.K2Run
public import Idealize.ShloMosaic.Lib.Claim

@[expose] public section

set_option maxRecDepth 16384

noncomputable section

namespace Cert.Kernel2Ideal.Scan

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! What each window's buffer holds after the body at a point -/

def left8 (c : Dev nD) (t : Fin cfg0.N) : Vec F S2048x128 .f32 :=
  VO0_7.read (Elt F) (VO0_7.writes (Elt F) VO0_7.junk (given8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t)))

def left9 (c : Dev nD) (t : Fin cfg0.N) : Vec F S1x128x1024 .f32 :=
  VO0_8.read (Elt F) (VO0_8.writes (Elt F) VO0_8.junk (given9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t)))

def left10 (c : Dev nD) (t : Fin cfg0.N) : Vec F S1x1024x128 .f32 :=
  VO0_9.read (Elt F) (VO0_9.writes (Elt F) VO0_9.junk (given10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t)))

def left11 (c : Dev nD) (t : Fin cfg0.N) : Vec F S1x8x512 .f32 :=
  VO0_10.read (Elt F) (VO0_10.writes (Elt F) VO0_10.junk (given11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t)))

def left12 (c : Dev nD) (t : Fin cfg0.N) : Vec F S1x128 .f32 :=
  VO0_11.read (Elt F) (VO0_11.writes (Elt F) VO0_11.junk (given12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t)))

/-- The pipeline's data: arrays as found, inputs' buffers at their blocks, outputs' at what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => left8 m c t
    | ⟨8, _⟩ => left9 m c t
    | ⟨9, _⟩ => left10 m c t
    | ⟨10, _⟩ => left11 m c t
    | ⟨11, _⟩ => left12 m c t
  Φ _ := Pipeline.ΦA spec0 c
  q _ := fullShare
  owed _ := 0

theorem found (c : Dev nD) (w : Fin cfg0.W) : (dats m 0 c).A w = V m c (Pipeline.arrRef spec0 w) := by
  dsimp only [dats]

theorem in0 (c : Dev nD) (t : Fin cfg0.N) : (dats m 0 c).after 0 t = iblk m c 0 t := by dsimp only [dats]
theorem in1 (c : Dev nD) (t : Fin cfg0.N) : (dats m 0 c).after 1 t = iblk m c 1 t := by dsimp only [dats]
theorem in2 (c : Dev nD) (t : Fin cfg0.N) : (dats m 0 c).after 2 t = iblk m c 2 t := by dsimp only [dats]
theorem in3 (c : Dev nD) (t : Fin cfg0.N) : (dats m 0 c).after 3 t = iblk m c 3 t := by dsimp only [dats]
theorem in4 (c : Dev nD) (t : Fin cfg0.N) : (dats m 0 c).after 4 t = iblk m c 4 t := by dsimp only [dats]
theorem in5 (c : Dev nD) (t : Fin cfg0.N) : (dats m 0 c).after 5 t = iblk m c 5 t := by dsimp only [dats]
theorem in6 (c : Dev nD) (t : Fin cfg0.N) : (dats m 0 c).after 6 t = iblk m c 6 t := by dsimp only [dats]
theorem end8 (c : Dev nD) (t : Fin cfg0.N) : (dats m 0 c).after 7 t = left8 m c t := by dsimp only [dats]
theorem end9 (c : Dev nD) (t : Fin cfg0.N) : (dats m 0 c).after 8 t = left9 m c t := by dsimp only [dats]
theorem end10 (c : Dev nD) (t : Fin cfg0.N) : (dats m 0 c).after 9 t = left10 m c t := by dsimp only [dats]
theorem end11 (c : Dev nD) (t : Fin cfg0.N) : (dats m 0 c).after 10 t = left11 m c t := by dsimp only [dats]
theorem end12 (c : Dev nD) (t : Fin cfg0.N) : (dats m 0 c).after 11 t = left12 m c t := by dsimp only [dats]
theorem held0 (c : Dev nD) (t : Fin cfg0.N) (d) : (dats m 0 c).before 0 t d = iblk m c 0 t :=
  before0_0_of m (dats m 0 c) (found m c 0) (in0 m c) t d
theorem held1 (c : Dev nD) (t : Fin cfg0.N) (d) : (dats m 0 c).before 1 t d = iblk m c 1 t :=
  before0_1_of m (dats m 0 c) (found m c 1) (in1 m c) t d
theorem held2 (c : Dev nD) (t : Fin cfg0.N) (d) : (dats m 0 c).before 2 t d = iblk m c 2 t :=
  before0_2_of m (dats m 0 c) (found m c 2) (in2 m c) t d
theorem held3 (c : Dev nD) (t : Fin cfg0.N) (d) : (dats m 0 c).before 3 t d = iblk m c 3 t :=
  before0_3_of m (dats m 0 c) (found m c 3) (in3 m c) t d
theorem held4 (c : Dev nD) (t : Fin cfg0.N) (d) : (dats m 0 c).before 4 t d = iblk m c 4 t :=
  before0_4_of m (dats m 0 c) (found m c 4) (in4 m c) t d
theorem held5 (c : Dev nD) (t : Fin cfg0.N) (d) : (dats m 0 c).before 5 t d = iblk m c 5 t :=
  before0_5_of m (dats m 0 c) (found m c 5) (in5 m c) t d
theorem held6 (c : Dev nD) (t : Fin cfg0.N) (d) : (dats m 0 c).before 6 t d = iblk m c 6 t :=
  before0_6_of m (dats m 0 c) (found m c 6) (in6 m c) t d

/-- What the body is given at a point. -/
def given (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- What it gives back. -/
def back (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 1600000 in
/-- The body at any point. -/
theorem body_at (c : Dev nD) (t : Fin cfg0.N) :
    given m c t ⊢ wp frame (wpE (defs₀ (F := F)) Variants.none c none) Set.univ (bodyAt0 t) (fun _ => back m c t) := by
  unfold given back bodyAt0
  simp only [held0, held1, held2, held3, held4, held5, held6]
  rw [show (dats m 0 c).Φ t.succ = (dats m 0 c).Φ t.castSucc from rfl,
    show (dats m 0 c).owesAt () t.succ = (dats m 0 c).owesAt () t.castSucc from rfl,
    in0, in1, in2, in3, in4, in5, in6, end8, end9, end10, end11, end12]
  rw [show (dats m 0 c).Φ t.castSucc = Pipeline.ΦA spec0 c from rfl, PhiA0_eq]
  unfold left8 left9 left10 left11 left12
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run_owned c (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, ⟨%e7, H7⟩, ⟨%e8, H8⟩, ⟨%e9, H9⟩, ⟨%e10, H10⟩, ⟨%e11, H11⟩, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (cov8 c _ _ _ _ _ _ _ _ _ _ _ _ _ _ _ _ _ _ _ _ _ _ _ _ _ _ _ _ _ _ _ _ _ _ _ _ _ _ _ _ _ _ )
  isplitl [H8]
  · unfold owns; iexists _; isplitr
    swap; · iexact H8
    ipureintro; exact View.read_writes_of_cover _ _ _ _ _ (cov9 c _ _ _ _ _ _ _ _ _ _ _ _ _ _ _ _ _ _ _ _ _ _ _ _ _ _ _ _ _ _ _ _ _ _ _ _ _ _ _ _ _ _ )
  isplitl [H9]
  · unfold owns; iexists _; isplitr
    swap; · iexact H9
    ipureintro; exact View.read_writes_of_cover _ _ _ _ _ (cov10 c _ _ _ _ _ _ _ _ _ _ _ _ _ _ _ _ _ _ _ _ _ _ _ _ _ _ _ _ _ _ _ _ _ _ _ _ _ _ _ _ _ _ )
  isplitl [H10]
  · unfold owns; iexists _; isplitr
    swap; · iexact H10
    ipureintro; exact View.read_writes_of_cover _ _ _ _ _ (cov11 c _ _ _ _ _ _ _ _ _ _ _ _ _ _ _ _ _ _ _ _ _ _ _ _ _ _ _ _ _ _ _ _ _ _ _ _ _ _ _ _ _ _ )
  unfold owns; iexists _; isplitr
  swap; · iexact H11
  ipureintro; exact View.read_writes_of_cover _ _ _ _ _ (cov12 c _ _ _ _ _ _ _ _ _ _ _ _ _ _ _ _ _ _ _ _ _ _ _ _ _ _ _ _ _ _ _ _ _ _ _ _ _ _ _ _ _ _ )

theorem row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (body_at m c t) rfl .rfl fun _ => .rfl

set_option backward.isDefEq.respectTransparency.types false in
set_option maxHeartbeats 800000 in
/-- The run, with every counter at zero at its end. -/
theorem runs : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := found m) (hΦ := fun _ _ => rfl)

/-- The arguments end as they were and no counter is left. -/
theorem ends : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (found m) ((θ_run defs _ _).mono (fun _ h => h.1) (runs m ρ))) ((θ_run defs _ _).mono (fun _ h => h.2) (runs m ρ))

end Cert.Kernel2Ideal.Scan

end
-- ==== Proof.K2End.lean ====
module

public import proofs.«01_k».proof.Proof.K2Block
public import proofs.«01_k».proof.Proof.K2Tail
public import proofs.«01_k».proof.Proof.K2Frame
public import Idealize.ShloMosaic.Lib.Pipeline.ValueKit

@[expose] public section

set_option maxRecDepth 16384
noncomputable section
open Idealize.ShloMosaic Idealize.ShloMosaic.TcCoe Idealize.SL.Sem
open Idealize.ShloMosaic.Pipeline (Dat)
open Cert.Kernel2Ideal Cert.Kernel2Ideal.Gen Cert.Kernel2Ideal.Scan
/-! The grid's points together: the two arrays claimed, then the results. -/
namespace Cert.Proof.S5
variable (m : (ℓ : Loc nD τ sig) → Buf (Elt Ideal) ℓ) (c : Dev nD)

theorem idxs : ∀ t : Fin cfg0.N, win0_0.index t = ![0, t.val] ∧ win0_1.index t = ![t.val, 0, 0] ∧ win0_2.index t = ![t.val, 0, 0] ∧ win0_3.index t = ![t.val, 0, 0]
    ∧ win0_4.index t = ![t.val, 0, 0] ∧ win0_5.index t = ![0, t.val] ∧ win0_6.index t = ![0, t.val] ∧ win0_9.index t = ![t.val, 0, 0] ∧ win0_11.index t = ![0, t.val] :=
  (by decide +kernel : ∀ t : Fin grid0.N, _)

/-- The column block of a grid point. -/
def blkOf (t : Fin cfg0.N) : Fin 8 := ⟨t, lt_of_lt_of_eq t.isLt N_0⟩

variable {m c} {I : Data}

theorem blocks (h : Arr I (V0 m c)) (t : Fin cfg0.N) :
    Blk I (blkOf t) (iblk m c 0 t) (iblk m c 1 t) (iblk m c 2 t) (iblk m c 3 t) (iblk m c 4 t) (iblk m c 5 t) (iblk m c 6 t) where
  u l a k := by
    refine Eq.trans ?_ (h.u l (ch (gp (blkOf t) a) k))
    blk_point [iblk, idxs t]
    show t.val * 128 + (a.val * 16 + k.val) = (t.val * 8 + a.val) * 16 + k.val; omega
  br a b k p := by
    refine Eq.trans ?_ (h.br (blkOf t) a b k p)
    blk_point [iblk, idxs t]
    rfl
  bi a b k p := by
    refine Eq.trans ?_ (h.bi (blkOf t) a b k p)
    blk_point [iblk, idxs t]
    rfl
  cr a b k p := by
    refine Eq.trans ?_ (h.cr (blkOf t) a b k p)
    blk_point [iblk, idxs t]
    rfl
  ci a b k p := by
    refine Eq.trans ?_ (h.ci (blkOf t) a b k p)
    blk_point [iblk, idxs t]
    rfl
  pr k b p := by
    refine Eq.trans ?_ (h.pr (blkOf t) k b p)
    blk_point [iblk, idxs t]
    rfl
  pi k b p := by
    refine Eq.trans ?_ (h.pi (blkOf t) k b p)
    blk_point [iblk, idxs t]
    rfl
  d a k := by
    refine Eq.trans ?_ (h.d (ch (gp (blkOf t) a) k))
    blk_point [iblk, idxs t]
    show t.val * 128 + (a.val * 16 + k.val) = (t.val * 8 + a.val) * 16 + k.val; omega
  dy l a k := by
    refine Eq.trans ?_ (h.dy l (ch (gp (blkOf t) a) k))
    blk_point [iblk, idxs t]
    show t.val * 128 + (a.val * 16 + k.val) = (t.val * 8 + a.val) * 16 + k.val; omega

/-- The read-out weights' array, and the skip's. -/
def gC (I : Data) (j : Fin 8) (r : ℕ) (x : Fin 128) : EReal :=
  ((∑ l : Fin 2048, (if r < 512 then (xs I (gp j ⟨r % 512 / 64, by omega⟩) ⟨r % 64, by omega⟩ l).re else (xs I (gp j ⟨r % 512 / 64, by omega⟩) ⟨r % 64, by omega⟩ l).im)
    * dp I l (gp j ⟨x / 16, by omega⟩) ⟨x % 16, by omega⟩ : ℝ) : EReal)
def arrC (I : Data) : S8x1024x128.Idx → EReal := fun i => gC I (i 0) (i 1 : ℕ) (i 2)
def gD (I : Data) (x : ℕ) : EReal := (dD I ⟨x / 16 % 64, by omega⟩ ⟨x % 16, by omega⟩ : EReal)
def arrD (I : Data) : S1x1024.Idx → EReal := fun i => gD I (i 1 : ℕ)

theorem gC_re (j a b : Fin 8) (k : Fin 16) (p : Fin 64) : gC I j (Fin.castAdd 512 (sl b p) : Fin 1024).val (cl a k) = ((∑ l : Fin 2048, (xs I (gp j b) p l).re * dp I l (gp j a) k : ℝ) : EReal) := by
  have h1 : (⟨(sl b p).val % 512 / 64, by omega⟩ : Fin 8) = b := Fin.ext (by simp [sl]; omega)
  have h2 : (⟨(sl b p).val % 64, by omega⟩ : Fin 64) = p := Fin.ext (by simp [sl])
  unfold gC
  simp only [Fin.val_castAdd, if_pos (sl b p).isLt, h1, h2, cl_div, cl_mod]
theorem gC_im (j a b : Fin 8) (k : Fin 16) (p : Fin 64) : gC I j (Fin.natAdd 512 (sl b p) : Fin 1024).val (cl a k) = ((∑ l : Fin 2048, (xs I (gp j b) p l).im * dp I l (gp j a) k : ℝ) : EReal) := by
  have h1 : (⟨(512 + (sl b p).val) % 512 / 64, by omega⟩ : Fin 8) = b := Fin.ext (by simp [sl]; omega)
  have h2 : (⟨(512 + (sl b p).val) % 64, by omega⟩ : Fin 64) = p := Fin.ext (by simp [sl]; omega)
  unfold gC
  simp only [Fin.val_natAdd, if_neg (show ¬ 512 + (sl b p).val < 512 by omega), h1, h2, cl_div, cl_mod]

theorem row_surj (r : Fin 1024) : ∃ b p, r = Fin.castAdd 512 (sl b p) ∨ r = Fin.natAdd 512 (sl b p) := by
  by_cases hr : r.val < 512
  · obtain ⟨b, p, e⟩ := sl_surj ⟨r, hr⟩
    exact ⟨b, p, Or.inl (Fin.ext (show r.val = (sl b p).val from congrArg (fun x : Fin 512 => x.val) e))⟩
  · obtain ⟨b, p, e⟩ := sl_surj ⟨r - 512, by omega⟩
    exact ⟨b, p, Or.inr (Fin.ext (by have := congrArg Fin.val e; simp at this ⊢; omega))⟩

theorem left10_at (h : Arr I (V0 m c)) (t : Fin cfg0.N) (r : Fin 1024) (x : Fin 128) : left10 (F := Ideal) m c t (ix3 0 r x) = gC I (blkOf t) r x := by
  obtain ⟨a, k, rfl⟩ := cl_surj x
  obtain ⟨b, p, rfl | rfl⟩ := row_surj r
  · exact (block_cr c _ _ _ _ _ _ _ _ _ _ _ _ _ _ _ _ _ _ _ _ _ _ _ _ _ _ _ _ _ _ _ _ _ _ _ (blocks h t) VO0_9 _ a b k p).trans (gC_re _ a b k p).symm
  · exact (block_ci c _ _ _ _ _ _ _ _ _ _ _ _ _ _ _ _ _ _ _ _ _ _ _ _ _ _ _ _ _ _ _ _ _ _ _ (blocks h t) VO0_9 _ a b k p).trans (gC_im _ a b k p).symm
theorem left12_at (h : Arr I (V0 m c)) (t : Fin cfg0.N) (a : Fin 8) (k : Fin 16) : left12 (F := Ideal) m c t (ix2 0 (cl a k)) = (dD I (gp (blkOf t) a) k : EReal) :=
  block_d c _ _ _ _ _ _ _ _ _ _ _ _ _ _ _ _ _ _ _ _ _ _ _ _ _ _ _ _ _ _ _ _ _ _ _ (blocks h t) VO0_11 _ a k

theorem left10_of (h : Arr I (V0 m c)) (t : Fin cfg0.N) (y : S1x1024x128.Idx) : left10 (F := Ideal) m c t y = gC I (blkOf t) (y 1 : ℕ) (y 2) := by
  refine Eq.trans (congrArg _ ?_) (left10_at h t (y 1) (y 2))
  funext a
  match a with
  | ⟨0, _⟩ => exact Subsingleton.elim (α := Fin 1) _ _
  | ⟨1, _⟩ => rfl
  | ⟨2, _⟩ => rfl
theorem left12_of (h : Arr I (V0 m c)) (t : Fin cfg0.N) (y : S1x128.Idx) :
    left12 (F := Ideal) m c t y = gD I (t.val * 128 + (y 1 : ℕ)) := by
  have ht : t.val < 8 := lt_of_lt_of_eq t.isLt N_0
  obtain ⟨a, k, e⟩ := cl_surj (y 1)
  have e' : (y 1 : ℕ) = a.val * 16 + k.val := congrArg (fun x : Fin 128 => x.val) e
  refine Eq.trans (congrArg _ ?_) ((left12_at h t a k).trans (congrArg₂ (fun g k => ((dD I g k : ℝ) : EReal)) (Fin.ext ?_) (Fin.ext ?_)))
  · funext a
    match a with
    | ⟨0, _⟩ => exact Subsingleton.elim (α := Fin 1) _ _
    | ⟨1, _⟩ => exact e
  · show t.val * 8 + a.val = (t.val * 128 + (y 1 : ℕ)) / 16 % 64; omega
  · show k.val = (t.val * 128 + (y 1 : ℕ)) % 16; omega

theorem final9 (h : Arr I (V0 m c)) : (dats (F := Ideal) m 0 c).arrAt 9 cfg0.N = arrC I := by
  refine (dats (F := Ideal) m 0 c).arrAt_eq_of_covers 9 _ (by decide +kernel) fun t _ y => ?_
  blk_simp
  rw [end10]
  refine (left10_of h t y).trans ?_
  unfold arrC
  refine congr (congr (congrArg (gC I) (Fin.ext ?_)) ?_) (Fin.ext ?_)
  · have hb0 : (y 0 : ℕ) < 1 := (y 0).isLt
    show t.val = _
    blk_simp [idxs t]
  · blk_simp [idxs t]
  · blk_simp [idxs t]
theorem final11 (h : Arr I (V0 m c)) : (dats (F := Ideal) m 0 c).arrAt 11 cfg0.N = arrD I := by
  refine (dats (F := Ideal) m 0 c).arrAt_eq_of_covers 11 _ (by decide +kernel) fun t _ y => ?_
  blk_simp
  rw [end12]
  refine (left12_of h t y).trans ?_
  unfold arrD
  refine congrArg (gD I) ?_
  blk_simp [idxs t]

end Cert.Proof.S5
end
-- ==== Proof.K2RefEnd.lean ====
/-
  The reference's run: its arguments unchanged, its results the three gradients.
-/
module

public import proofs.«01_k».proof.Proof.K2RefVal

@[expose] public section

set_option maxRecDepth 16384
noncomputable section
open Idealize.ShloMosaic Idealize.ShloMosaic.TcCoe Idealize.SL.Sem Idealize.ShloMosaic.StableHlo
open Cert.Reference2Ideal Cert.Reference2Ideal.Gen Cert.Reference2Ideal.Value
namespace Cert.Proof.S5

variable (m : (ℓ : Loc nD τ sig) → Buf (Elt Ideal) ℓ) (c : Dev nD)

/-- A reference the loop writes nowhere. -/
def kept : List (Ref sig .tc) := [main_v0, main_arg0, main_arg1, main_arg2, main_arg3, main_arg4, main_arg5, main_arg6, main_arg7, main_arg8]

theorem keep_cond (V : Valuation τ sig (Elt Ideal)) {r : Ref sig .tc} (hr : r ∈ kept) : after condOps V (Proc.devRef .tc r) = V (Proc.devRef .tc r) := by
  refine after_of_writes_sub condOps V condOps_writes ?_
  simp only [kept, List.mem_cons, List.not_mem_nil, or_false] at hr
  rcases hr with rfl | rfl | rfl | rfl | rfl | rfl | rfl | rfl | rfl | rfl <;> decide +kernel
theorem keep_0 (V : Valuation τ sig (Elt Ideal)) {r : Ref sig .tc} (hr : r ∈ kept) : after while0Ops0 V (Proc.devRef .tc r) = V (Proc.devRef .tc r) := by
  refine after_of_writes_sub while0Ops0 V while0Ops0_writes ?_
  simp only [kept, List.mem_cons, List.not_mem_nil, or_false] at hr
  rcases hr with rfl | rfl | rfl | rfl | rfl | rfl | rfl | rfl | rfl | rfl <;> decide +kernel
theorem keep_1 (V : Valuation τ sig (Elt Ideal)) {r : Ref sig .tc} (hr : r ∈ kept) : after while0Ops0_1 V (Proc.devRef .tc r) = V (Proc.devRef .tc r) := by
  refine after_of_writes_sub while0Ops0_1 V while0Ops0_1_writes ?_
  simp only [kept, List.mem_cons, List.not_mem_nil, or_false] at hr
  rcases hr with rfl | rfl | rfl | rfl | rfl | rfl | rfl | rfl | rfl | rfl <;> decide +kernel
theorem keep_2 (V : Valuation τ sig (Elt Ideal)) {r : Ref sig .tc} (hr : r ∈ kept) : after while0Ops0_2 V (Proc.devRef .tc r) = V (Proc.devRef .tc r) := by
  refine after_of_writes_sub while0Ops0_2 V while0Ops0_2_writes ?_
  simp only [kept, List.mem_cons, List.not_mem_nil, or_false] at hr
  rcases hr with rfl | rfl | rfl | rfl | rfl | rfl | rfl | rfl | rfl | rfl <;> decide +kernel
theorem keep_3 (V : Valuation τ sig (Elt Ideal)) {r : Ref sig .tc} (hr : r ∈ kept) : after while0Ops0_3 V (Proc.devRef .tc r) = V (Proc.devRef .tc r) := by
  refine after_of_writes_sub while0Ops0_3 V while0Ops0_3_writes ?_
  simp only [kept, List.mem_cons, List.not_mem_nil, or_false] at hr
  rcases hr with rfl | rfl | rfl | rfl | rfl | rfl | rfl | rfl | rfl | rfl <;> decide +kernel
theorem keep_4 (V : Valuation τ sig (Elt Ideal)) {r : Ref sig .tc} (hr : r ∈ kept) : after while0Ops0_4 V (Proc.devRef .tc r) = V (Proc.devRef .tc r) := by
  refine after_of_writes_sub while0Ops0_4 V while0Ops0_4_writes ?_
  simp only [kept, List.mem_cons, List.not_mem_nil, or_false] at hr
  rcases hr with rfl | rfl | rfl | rfl | rfl | rfl | rfl | rfl | rfl | rfl <;> decide +kernel
theorem keep_5 (V : Valuation τ sig (Elt Ideal)) {r : Ref sig .tc} (hr : r ∈ kept) : after while0Ops0_5 V (Proc.devRef .tc r) = V (Proc.devRef .tc r) := by
  refine after_of_writes_sub while0Ops0_5 V while0Ops0_5_writes ?_
  simp only [kept, List.mem_cons, List.not_mem_nil, or_false] at hr
  rcases hr with rfl | rfl | rfl | rfl | rfl | rfl | rfl | rfl | rfl | rfl <;> decide +kernel

theorem keep_trips {r : Ref sig .tc} (hr : r ∈ kept) : ∀ k, atK m k c (Proc.devRef .tc r) = entryContents preI m c (Proc.devRef .tc r)
  | 0 => rfl
  | k + 1 => by
    rw [show atK m (k + 1) c = afterL bodyI (after condOps (atK m k c)) from rfl]
    simp only [afterL_cons, afterL_nil]
    rw [keep_5 _ hr, keep_4 _ hr, keep_3 _ hr, keep_2 _ hr, keep_1 _ hr, keep_0 _ hr, keep_cond _ hr]
    exact keep_trips hr k

/-- The memory the operations before the loop find. -/
def mem0 : Valuation τ sig (Elt Ideal) := fun b => m (c, b)
theorem entry_eq : entryContents preI m c = after hostOps0 (mem0 m c) := rfl
theorem final_eq : finalContents condOps preI bodyI postI 2048 m c = after hostOps0_1 (after condOps (atK m 2048 c)) := rfl

theorem entry_arg {r : Ref sig .tc} (hr : r ∈ [main_arg0, main_arg1, main_arg2, main_arg3, main_arg4, main_arg5, main_arg6, main_arg7, main_arg8]) :
    entryContents preI m c (Proc.devRef .tc r) = mem0 m c (Proc.devRef .tc r) := by
  rw [entry_eq]
  refine after_of_writes_sub hostOps0 _ hostOps0_writes ?_
  simp only [List.mem_cons, List.not_mem_nil, or_false] at hr
  rcases hr with rfl | rfl | rfl | rfl | rfl | rfl | rfl | rfl | rfl <;> decide +kernel
theorem final_arg {r : Ref sig .tc} (hr : r ∈ [main_arg0, main_arg1, main_arg2, main_arg3, main_arg4, main_arg5, main_arg6, main_arg7, main_arg8]) :
    finalContents condOps preI bodyI postI 2048 m c (Proc.devRef .tc r) = mem0 m c (Proc.devRef .tc r) := by
  have hk : r ∈ kept := List.mem_cons_of_mem _ hr
  rw [final_eq, end_split]
  have h := entry_arg m c hr
  simp only [List.mem_cons, List.not_mem_nil, or_false] at hr
  rw [keep_opsR _ (by rcases hr with rfl | rfl | rfl | rfl | rfl | rfl | rfl | rfl | rfl <;> decide +kernel),
    keep_opsQ2 _ (by rcases hr with rfl | rfl | rfl | rfl | rfl | rfl | rfl | rfl | rfl <;> decide +kernel),
    keep_opsQ _ (by rcases hr with rfl | rfl | rfl | rfl | rfl | rfl | rfl | rfl | rfl <;> decide +kernel),
    keep_opsP _ (by rcases hr with rfl | rfl | rfl | rfl | rfl | rfl | rfl | rfl | rfl <;> decide +kernel),
    keep_cond _ hk, keep_trips m c hk, h]

variable {m c} {I : Data}
/-- What the operations after the loop find. -/
theorem found (h : ArgsOf I (mem0 m c)) : Found I (after condOps (atK m 2048 c)) := by
  have L := loop_ref I (entryContents preI m c) (fun l g p => bu_re _ _ h l g p) (fun l g p => bu_im _ _ h l g p)
    (fun g p => (congrFun (read_v10_2 _) _).trans (h.lr g p)) (fun g p => (congrFun (read_v10_3 _) _).trans (h.li g p)) (ctr_entry m c)
    (fun g p => read_v10_5 _ g p) (fun g p => read_v10_6 _ g p) 2048 le_rfl
  obtain ⟨-, -, -, -, -, -, -, L7, L8⟩ := L
  have A : Agree (after condOps (atK m 2048 c)) (STEP^[2048] (entryContents preI m c)) := fun j hj => (cond_keeps _ j hj).trans (atK_agree m c 2048 j hj)
  have K : ∀ {r : Ref sig .tc}, r ∈ kept → after condOps (atK m 2048 c) (Proc.devRef .tc r) = entryContents preI m c (Proc.devRef .tc r) := fun hr => (keep_cond _ hr).trans (keep_trips m c hr 2048)
  exact {
    sr := fun l g p => (congrFun (A main_v10_7 (by decide)) _).trans (L7 l l.2 g p)
    si := fun l g p => (congrFun (A main_v10_8 (by decide)) _).trans (L8 l l.2 g p)
    u := fun l g k => (congrFun (K (r := main_v0) (by decide)) _).trans ((read_v0 _ l g k).trans (h.u l _))
    cr := fun g k p => (congrFun ((K (r := main_arg5) (by decide)).trans (entry_arg m c (r := main_arg5) (by decide))) _).trans (h.cr g k p)
    ci := fun g k p => (congrFun ((K (r := main_arg6) (by decide)).trans (entry_arg m c (r := main_arg6) (by decide))) _).trans (h.ci g k p)
    d := fun x => (congrFun ((K (r := main_arg7) (by decide)).trans (entry_arg m c (r := main_arg7) (by decide))) _).trans (h.d x)
    dy := fun l x => (congrFun ((K (r := main_arg8) (by decide)).trans (entry_arg m c (r := main_arg8) (by decide))) _).trans (h.dy l x) }

theorem ref_D (h : ArgsOf I (mem0 m c)) (g : Fin 64) (k : Fin 16) : finalContents condOps preI bodyI postI 2048 m c (Proc.devRef .tc main_v66) (ix1 (ch g k)) = (dD I g k : EReal) :=
  end_D (found h) g k
theorem ref_Ci (h : ArgsOf I (mem0 m c)) (g : Fin 64) (k : Fin 16) (p : Fin 64) : finalContents condOps preI bodyI postI 2048 m c (Proc.devRef .tc main_v69) (ix3 g k p) = (dCi I g k p : EReal) :=
  end_Ci (found h) g k p
theorem ref_Cr (h : ArgsOf I (mem0 m c)) (g : Fin 64) (k : Fin 16) (p : Fin 64) : finalContents condOps preI bodyI postI 2048 m c (Proc.devRef .tc main_v71) (ix3 g k p) = (dCr I g k p : EReal) :=
  end_Cr (found h) g k p

end Cert.Proof.S5
end
-- ==== Proof.K2Fin.lean ====
/-
  The precondition: every argument's elements are real numbers.
-/
module

public import proofs.«01_k».proof.Pre_finite
public import Idealize.ShloMosaic.Lib.Pointwise
public import Idealize.ShloMosaic.Lib.WordCmp
public import Idealize.ShloMosaic.Lib.Affine

@[expose] public section

noncomputable section
open Idealize.ShloMosaic
namespace Cert.Proof.S5
open Cert.Pre_finite

instance factsFin : Cert.Pre_finite.Facts where
  bcast_S_S2048x1024 := by decide
  reducesTo_S2048x1024_S_d0_1 := by decide
  h_S_ := by decide
  bcast_S_S64x64 := by decide
  reducesTo_S64x64_S_d0_1 := by decide
  bcast_S_S64x1024 := by decide
  reducesTo_S64x1024_S_d0_1 := by decide
  bcast_S_S64x16x64 := by decide
  reducesTo_S64x16x64_S_d0_1_2 := by decide
  bcast_S_S1024 := by decide
  reducesTo_S1024_S_d0 := by decide

theorem bit_and : ∀ {a b : BitVec 1}, IntOp.andi a b = 1#1 → a = 1#1 ∧ b = 1#1 := by decide

/-- A bit that is the conjunction of a list's is one only where each of the list's is. -/
theorem fold_and_init {ι : Type} (f : ι → BitVec 1) (L : List ι) (a : BitVec 1) (h : L.foldl (fun r i => IntOp.andi r (f i)) a = 1#1) : a = 1#1 := by
  induction L generalizing a with
  | nil => exact h
  | cons k L ih => exact (bit_and (ih _ h)).1
theorem fold_and {ι : Type} (f : ι → BitVec 1) (L : List ι) (a : BitVec 1) (h : L.foldl (fun r i => IntOp.andi r (f i)) a = 1#1) : ∀ i ∈ L, f i = 1#1 := by
  induction L generalizing a with
  | nil => intro i hi; exact absurd hi List.not_mem_nil
  | cons j L ih =>
    intro i hi
    rcases List.mem_cons.mp hi with rfl | hi
    · exact (bit_and (fold_and_init f L _ h)).2
    · exact ih _ h i hi

/-- A conjunction over a whole array is one only where the array is one throughout. -/
theorem all_ones {s : Shape} {axes : List (Fin s.rank)} (x : s.Idx → BitVec 1) (v : IVec S_ 1) (h : s.ReducesTo axes S_) (hu : 0 < S_.numel)
    (e : Host.reduce IntOp.andi x v h hu = fun _ => 1#1) (i : s.Idx) : x i = 1#1 := by
  have e' := fold_and _ _ _ (congrFun e (Shape.Idx.first hu)) (s.rowMajor i) (List.mem_filter.mpr ⟨List.mem_finRange _, by simp; exact funext fun a => a.elim0⟩)
  simpa using e'

/-- An element below infinity in absolute value is a real number. -/
theorem real_of_lt {x : EReal} (h : Ideal.cmp .olt (max x (-x)) (Ideal.ofBits .f32 0x7F800000#32) = 1#1) : x = (x.toReal : EReal) := by
  have htop : Ideal.ofBits .f32 0x7F800000#32 = ⊤ := by simp [Ideal.ofBits, Ideal.ieee]
  rw [htop] at h
  induction x with
  | bot => exact absurd h (by simp [Ideal.cmp])
  | top => exact absurd h (by simp [Ideal.cmp])
  | coe r => rfl

theorem real_all {s : Shape} {axes : List (Fin s.rank)} (x : FVec Ideal s .f32) (hb : S_.BroadcastsInDim s (![] : Fin 0 → Fin s.rank)) (v : IVec S_ 1) (h : s.ReducesTo axes S_) (hu : 0 < S_.numel)
    (e : Host.reduce IntOp.andi (cmpf .olt (Host.absf x) (broadcastInDim s ![] hb (constant S_ .f32 0x7F800000#32))) v h hu = fun _ => 1#1) (i : s.Idx) : (x i : EReal) = ((x i : EReal).toReal : EReal) :=
  real_of_lt (all_ones _ v h hu e i)

theorem and_split {a b : IVec S_ 1} (e : andi a b = fun _ => 1#1) : (a = fun _ => 1#1) ∧ b = fun _ => 1#1 :=
  ⟨funext fun i => (bit_and (congrFun e i)).1, funext fun i => (bit_and (congrFun e i)).2⟩

theorem reals (a0 : FVec Ideal S2048x1024 .f32) (a1 : FVec Ideal S64x64 .f32) (a2 : FVec Ideal S64x64 .f32) (a3 : FVec Ideal S64x1024 .f32) (a4 : FVec Ideal S64x1024 .f32) (a5 : FVec Ideal S64x16x64 .f32) (a6 : FVec Ideal S64x16x64 .f32) (a7 : FVec Ideal S1024 .f32) (a8 : FVec Ideal S2048x1024 .f32) (e : fn (F := Ideal) a0 a1 a2 a3 a4 a5 a6 a7 a8 = fun _ => 1#1) :
    (∀ i, (a0 i : EReal) = ((a0 i : EReal).toReal : EReal)) ∧ (∀ i, (a1 i : EReal) = ((a1 i : EReal).toReal : EReal)) ∧ (∀ i, (a2 i : EReal) = ((a2 i : EReal).toReal : EReal)) ∧ (∀ i, (a3 i : EReal) = ((a3 i : EReal).toReal : EReal)) ∧ (∀ i, (a4 i : EReal) = ((a4 i : EReal).toReal : EReal)) ∧ (∀ i, (a5 i : EReal) = ((a5 i : EReal).toReal : EReal)) ∧ (∀ i, (a6 i : EReal) = ((a6 i : EReal).toReal : EReal)) ∧ (∀ i, (a7 i : EReal) = ((a7 i : EReal).toReal : EReal)) ∧ (∀ i, (a8 i : EReal) = ((a8 i : EReal).toReal : EReal)) := by
  unfold fn fn_part1 fn_part2 at e
  dsimp only at e
  obtain ⟨e, r8⟩ := and_split e
  obtain ⟨e, r7⟩ := and_split e
  obtain ⟨e, r6⟩ := and_split e
  obtain ⟨e, r5⟩ := and_split e
  obtain ⟨e, r4⟩ := and_split e
  obtain ⟨e, r3⟩ := and_split e
  obtain ⟨e, r2⟩ := and_split e
  obtain ⟨e, r1⟩ := and_split e
  obtain ⟨e, r0⟩ := and_split e
  exact ⟨real_all _ _ _ _ _ r0, real_all _ _ _ _ _ r1, real_all _ _ _ _ _ r2, real_all _ _ _ _ _ r3, real_all _ _ _ _ _ r4, real_all _ _ _ _ _ r5, real_all _ _ _ _ _ r6, real_all _ _ _ _ _ r7, real_all _ _ _ _ _ r8⟩

end Cert.Proof.S5
end
-- ==== Proof.K2Both.lean ====
module

public import proofs.«01_k».proof.Defs
public import proofs.«01_k».proof.Proof.K2End
public import proofs.«01_k».proof.Proof.K2RefEnd
public import proofs.«01_k».proof.Proof.K2Fin
public import Idealize.ShloMosaic.Lib.Quiescent
public import Idealize.ShloMosaic.Lib.Claim

@[expose] public section

set_option maxRecDepth 16384
noncomputable section
open Idealize.ShloMosaic Idealize.ShloMosaic.TcCoe Idealize.SL.Sem
/-! The readout's gradient: the kernel's three results are the reference's. -/
namespace Cert.Proof.S5

section Numbers
open Cert.Reference2Ideal
variable (a0 : Vec Ideal S2048x1024 .f32) (a1 a2 : Vec Ideal S64x64 .f32) (a3 a4 : Vec Ideal S64x1024 .f32) (a5 a6 : Vec Ideal S64x16x64 .f32) (a7 : Vec Ideal S1024 .f32) (a8 : Vec Ideal S2048x1024 .f32)
/-- The arguments' numbers. -/
def dataOf : Data where
  U l x := if h : l < 2048 then (a0 (ix2 ⟨l, h⟩ x) : EReal).toReal else 0
  DY l x := if h : l < 2048 then (a8 (ix2 ⟨l, h⟩ x) : EReal).toReal else 0
  LR g p := (a1 (ix2 g p) : EReal).toReal
  LI g p := (a2 (ix2 g p) : EReal).toReal
  BR g x := (a3 (ix2 g x) : EReal).toReal
  BI g x := (a4 (ix2 g x) : EReal).toReal
  CR g k p := (a5 (ix3 g k p) : EReal).toReal
  CI g k p := (a6 (ix3 g k p) : EReal).toReal
  D x := (a7 (ix1 x) : EReal).toReal
variable {a0 a1 a2 a3 a4 a5 a6 a7 a8}
theorem args_of (e : Cert.Pre_finite.fn (F := Ideal) a0 a1 a2 a3 a4 a5 a6 a7 a8 = fun _ => 1#1) : Args (dataOf a0 a1 a2 a3 a4 a5 a6 a7 a8) a0 a1 a2 a3 a4 a5 a6 a7 a8 := by
  obtain ⟨r0, r1, r2, r3, r4, r5, r6, r7, r8⟩ := reals _ _ _ _ _ _ _ _ _ e
  exact {
    u := fun l x => by show _ = ((dite _ _ _ : ℝ) : EReal); rw [dif_pos l.isLt]; exact r0 _
    lr := fun g p => r1 _
    li := fun g p => r2 _
    br := fun g x => r3 _
    bi := fun g x => r4 _
    cr := fun g k p => r5 _
    ci := fun g k p => r6 _
    d := fun x => r7 _
    dy := fun l x => by show _ = ((dite _ _ _ : ℝ) : EReal); rw [dif_pos l.isLt]; exact r8 _ }

/-- The three results. -/
def gradR (I : Data) : Vec Ideal S64x16x64 .f32 := fun i => (dCr I (i 0) (i 1) (i 2) : EReal)
def gradI (I : Data) : Vec Ideal S64x16x64 .f32 := fun i => (dCi I (i 0) (i 1) (i 2) : EReal)
def gradD (I : Data) : Vec Ideal S1024 .f32 := fun i => (dD I ⟨(i 0 : ℕ) / 16 % 64, by omega⟩ ⟨(i 0 : ℕ) % 16, by omega⟩ : EReal)

theorem eq_three (v : Vec Ideal S64x16x64 .f32) (f : Fin 64 → Fin 16 → Fin 64 → EReal) (h : ∀ g k p, v (ix3 g k p) = f g k p) : v = fun i => f (i 0) (i 1) (i 2) := by
  funext i; idx_vars i; exact h _ _ _
theorem eq_skip (I : Data) (v : Vec Ideal S1024 .f32) (h : ∀ g k, v (ix1 (ch g k)) = (dD I g k : EReal)) : v = gradD I := by
  funext i
  have hi : (i 0 : ℕ) < 1024 := (i 0).isLt
  refine Eq.trans (congrArg v ?_) (h ⟨(i 0 : ℕ) / 16 % 64, by omega⟩ ⟨(i 0 : ℕ) % 16, by omega⟩)
  funext a
  match a with
  | ⟨0, _⟩ => exact Fin.ext (by show (i 0 : ℕ) = (i 0 : ℕ) / 16 % 64 * 16 + (i 0 : ℕ) % 16; omega)
end Numbers

section Kernel
open Cert.Kernel2Ideal Cert.Kernel2Ideal.Gen Cert.Kernel2Ideal.Scan
variable {m : (ℓ : Loc nD τ sig) → Buf (Elt Ideal) ℓ} {c : Dev nD} {I : Data}

/-- What the operations after the grid find. -/
def leftover (m : (ℓ : Loc nD τ sig) → Buf (Elt Ideal) ℓ) (c : Dev nD) : Valuation τ sig (Elt Ideal) :=
  Pipeline.withArrays spec0 c (V0 m c) fun w => (dats (F := Ideal) m 0 c).arrAt w cfg0.N
theorem arrs_inj : Function.Injective (Pipeline.arrRef spec0) := by decide
theorem outs (h : Arr I (V0 m c)) : Out (leftover m c) I := by
  have e9 : leftover m c (Proc.devRef .tc main_v110_2) = arrC I := (Pipeline.withArrays_arr spec0 arrs_inj c (V0 m c) _ 9).trans (final9 h)
  have e11 : leftover m c (Proc.devRef .tc main_v110_4) = arrD I := (Pipeline.withArrays_arr spec0 arrs_inj c (V0 m c) _ 11).trans (final11 h)
  refine { r := fun j a b k p => (congrFun e9 _).trans (gC_re j a b k p), i := fun j a b k p => (congrFun e9 _).trans (gC_im j a b k p), d := fun j a k => (congrFun e11 _).trans ?_ }
  show ((dD I ⟨(ch (gp j a) k).val / 16 % 64, _⟩ ⟨(ch (gp j a) k).val % 16, _⟩ : ℝ) : EReal) = _
  have h1 : (⟨(ch (gp j a) k).val / 16 % 64, by omega⟩ : Fin 64) = gp j a := Fin.ext (by simp [ch, gp]; omega)
  have h2 : (⟨(ch (gp j a) k).val % 16, by omega⟩ : Fin 16) = k := Fin.ext (by simp [ch])
  rw [h1, h2]
theorem tail_eq (b : Ref sig .tc) : Pipeline.afterTail₀ cfgs (dats (F := Ideal) m) 0 (V0 m) [hostOps1] c b = StableHlo.after hostOps1 (leftover m c) (Proc.devRef .tc b) := by
  unfold Pipeline.afterTail₀ leftover
  rw [List.flatten_cons, List.flatten_nil, List.append_nil]
theorem arr_of (h : Args I (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) : Arr I (V0 m c) := by
  have e : V0 m c = StableHlo.after hostOps0 (fun b => m (c, b)) := by
    unfold V0; rw [List.flatten_cons, List.flatten_nil, List.append_nil]
  rw [e]
  exact pre_found (fun b => m (c, b)) I h

theorem run_kernel (m : (ℓ : Loc nD τ sig) → Buf (Elt Ideal) ℓ) (ρ : Dev nD → PrngReg) (I : Dev nD → Data) (h : ∀ c : Dev nD, Args (I c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) :
    θ_run defs (onTc (τ := τ) (main (F := Ideal))) ⟨m, fun _ => 0, ρ⟩ (fun r => ∀ c : Dev nD,
      r.2.mem ((c.tc : Thread nD τ).loc main_v125) = gradR (I c) ∧ r.2.mem ((c.tc : Thread nD τ).loc main_v135) = gradI (I c) ∧ r.2.mem ((c.tc : Thread nD τ).loc main_v136) = gradD (I c)) := by
  refine θ_run_mono (runs (F := Ideal) m ρ) fun r hr c => ?_
  have o := outs (arr_of (h c))
  have k := fun (b : Ref sig .tc) (hb : b ∈ Pipeline.restRefs sig spec0) => ((hr.1 c).2 b hb).trans (tail_eq b)
  exact ⟨(k main_v125 (Pipeline.mem_restRefs_of main_v125 (by decide) (by decide))).trans (eq_three _ (fun g k p => (dCr (I c) g k p : EReal)) fun g k p => ker_Cr o g k p),
    (k main_v135 (Pipeline.mem_restRefs_of main_v135 (by decide) (by decide))).trans (eq_three _ (fun g k p => (dCi (I c) g k p : EReal)) fun g k p => ker_Ci o g k p),
    (k main_v136 (Pipeline.mem_restRefs_of main_v136 (by decide) (by decide))).trans (eq_skip _ _ fun g k => ker_D o g k)⟩
end Kernel

section Reference
open Cert.Reference2Ideal Cert.Reference2Ideal.Gen Cert.Reference2Ideal.Value StableHlo
theorem kept_ref (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) := by
  refine θ_run_mono (run_fold (F := Ideal) m ρ) fun r hr => ⟨fun c => ?_, sem_eq_zero_of_no_sems rfl _⟩
  have k := fun (b : Ref sig .tc) hs hb => (hr c b hs).trans (final_arg m c (r := b) hb)
  exact ⟨k _ rfl (by decide), k _ rfl (by decide), k _ rfl (by decide), k _ rfl (by decide), k _ rfl (by decide), k _ rfl (by decide), k _ rfl (by decide), k _ rfl (by decide), k _ rfl (by decide)⟩
theorem run_ref (m : (ℓ : Loc nD τ sig) → Buf (Elt Ideal) ℓ) (ρ : Dev nD → PrngReg) (I : Dev nD → Data) (h : ∀ c, ArgsOf (I c) (mem0 m c)) :
    θ_run defs (onTc (τ := τ) (main (F := Ideal))) ⟨m, fun _ => 0, ρ⟩ (fun r => ∀ c : Dev nD,
      r.2.mem ((c.tc : Thread nD τ).loc main_v71) = gradR (I c) ∧ r.2.mem ((c.tc : Thread nD τ).loc main_v69) = gradI (I c) ∧ r.2.mem ((c.tc : Thread nD τ).loc main_v66) = gradD (I c)) := by
  refine θ_run_mono (run_fold (F := Ideal) m ρ) fun r hr c => ?_
  exact ⟨(hr c main_v71 rfl).trans (eq_three _ (fun g k p => (dCr (I c) g k p : EReal)) fun g k p => ref_Cr (h c) g k p),
    (hr c main_v69 rfl).trans (eq_three _ (fun g k p => (dCi (I c) g k p : EReal)) fun g k p => ref_Ci (h c) g k p),
    (hr c main_v66 rfl).trans (eq_skip _ _ fun g k => ref_D (h c) g k)⟩
end Reference

/-- Both leave the readout's three gradients. -/
theorem values : Cert.algebraic_Kernel2Ideal_Reference2Ideal_pre_finite (hKernel2Ideal := Cert.Kernel2Ideal.Gen.facts) (hReference2Ideal := Cert.Reference2Ideal.Gen.facts) (hPre_finite := factsFin) := by
  intro m g m' g' hp hm
  have A := fun c : Dev Cert.Kernel2Ideal.nD => args_of (hp c)
  refine ⟨fun c : Dev Cert.Kernel2Ideal.nD => gradR (dataOf (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))), fun c : Dev Cert.Kernel2Ideal.nD => gradI (dataOf (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))), fun c : Dev Cert.Kernel2Ideal.nD => gradD (dataOf (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))), ?_, ?_⟩
  · refine θ_run_mono (θ_run_and (run_kernel m g _ A) (Cert.Kernel2Ideal.Scan.ends m g)) fun r hr c => ?_
    obtain ⟨v0, v1, v2⟩ := hr.1 c
    exact ⟨v0, v1, v2, hr.2.1 c⟩
  · have B : ∀ c : Dev Cert.Kernel2Ideal.nD, ArgsOf (dataOf (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))) (mem0 m' c) := fun c => by
      obtain ⟨h0, h1, h2, h3, h4, h5, h6, h7, h8⟩ := hm c
      show Args _ (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)) (m' ((c.tc : Thread Cert.Reference2Ideal.nD Cert.Reference2Ideal.τ).loc Cert.Reference2Ideal.main_arg8))
      rw [h0, h1, h2, h3, h4, h5, h6, h7, h8]
      exact A c
    refine θ_run_mono (θ_run_and (run_ref m' g' _ B) (kept_ref m' g')) fun r hr c => ?_
    obtain ⟨v0, v1, v2⟩ := hr.1 c
    exact ⟨v0, v1, v2, hr.2.1 c⟩

end Cert.Proof.S5
end
-- ==== Proof.P3Run.lean ====
module

public import proofs.«01_k».proof.Proof.Gen.Kernel3Ideal.Frame

@[expose] public section

set_option maxRecDepth 16384
noncomputable section
namespace Cert.Kernel3Ideal.Whole
open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem
variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- Every weakly fair execution ends with each unscoped buffer of each device at the last boundary's contents. -/
theorem run : θ_run defs (onTc (τ := τ) (main (F := F))) ⟨m, fun _ => 0, ρ⟩
    (fun r => ∀ c : Dev nD, ∀ b ∈ Pipeline.ucRefs τ sig, r.2.mem (((c : Thread nD τ)).1, b) = W16 m ρ c b) :=
  (θ_run defs _ _).mono (fun _ h => h.1) <|
  Pipeline.θ_run_regions_kit_sems (Q := fun r => (∀ c : Dev nD, ∀ b ∈ Pipeline.ucRefs τ sig, r.2.mem (((c : Thread nD τ)).1, b) = W16 m ρ c b) ∧ True)
    (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun c => by
        dsimp only [Pipeline.Seg.post, hseg, Pipeline.HostSeg.ofOps]
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h hz => ⟨h, trivial⟩)

end Cert.Kernel3Ideal.Whole
end

end
-- ==== Proof.Spec.lean ====
module

public import Idealize.ShloMosaic.Lib.Pointwise

@[expose] public section

set_option maxRecDepth 16384
noncomputable section
open Idealize.ShloMosaic Idealize.ShloMosaic.TcCoe Idealize.SL.Sem

/-! The arrays that the eight calls of the sub-layer leave, as functions of the arrays they read, index by index. -/
namespace Mlp

/-- Arrays of rank two and three over the extended reals. -/
abbrev M (a b : ℕ) (φ : FTy) := FVec Ideal ⟨2, ![a, b]⟩ φ
abbrev T (a b c : ℕ) (φ : FTy) := FVec Ideal ⟨3, ![a, b, c]⟩ φ

/-- The mean square of row `r` plus the small constant. -/
def ms (x : M 2048 1024 .f32) (r : Fin 2048) : EReal :=
  Ideal.div (∑ k : Fin 1024, x (ix2 r k) * x (ix2 r k)) (Ideal.ofBits .f32 0x44800000#32) + Ideal.ofBits .f32 0x358637BD#32
/-- The reciprocal root of it. -/
def inv (x : M 2048 1024 .f32) (r : Fin 2048) : EReal := Ideal.rsqrt (ms x r)
/-- The normalised rows, scaled. -/
def norm (x : M 2048 1024 .f32) (g : M 1 1024 .f32) : M 2048 1024 .bf16 :=
  fun i => x (ix2 (i 0) (i 1)) * inv x (i 0) * g (ix2 0 (i 1))
/-- The squared positive part of the first product. -/
def act (y : M 2048 1024 .bf16) (w : M 1024 4096 .bf16) : M 2048 4096 .bf16 :=
  fun i => max (∑ k : Fin 1024, y (ix2 (i 0) k) * w (ix2 k (i 1))) 0 * max (∑ k : Fin 1024, y (ix2 (i 0) k) * w (ix2 k (i 1))) 0
/-- The second product, onto the residual. -/
def down (a : M 2048 4096 .bf16) (w : M 4096 1024 .bf16) (x : M 2048 1024 .f32) : M 2048 1024 .f32 :=
  fun i => (∑ k : Fin 4096, a (ix2 (i 0) k) * w (ix2 k (i 1))) + x (ix2 (i 0) (i 1))
/-- The gradient of the second product's matrix, laid out in shards from row 1024 of the buffer on. -/
def dw2 (a : M 2048 4096 .bf16) (d : M 2048 1024 .f32) : T 4 2304 1024 .bf16 :=
  fun i => ∑ k : Fin 2048, a (ix2 k ⟨((i 0 : ℕ) * 1024 + ((i 1 : ℕ) - 1024)) % 4096, Nat.mod_lt _ (by norm_num)⟩) * d (ix2 k (i 2))
/-- It, into rows 1024 to 2047 of the buffer. -/
def putDw2 (a : M 2048 4096 .bf16) (d : M 2048 1024 .f32) (b : T 4 2304 1024 .bf16) : T 4 2304 1024 .bf16 :=
  fun i => if 1024 ≤ (i 1 : ℕ) ∧ (i 1 : ℕ) < 2048 then dw2 a d i else b i
/-- The gradient before the squared positive part. -/
def da (d : M 2048 1024 .f32) (w : M 4096 1024 .bf16) (a : M 2048 4096 .bf16) : M 2048 4096 .bf16 :=
  fun i => (∑ k : Fin 1024, d (ix2 (i 0) k) * w (ix2 (i 1) k)) * (Ideal.ofBits .f32 0x40000000#32 * Ideal.sqrt (a (ix2 (i 0) (i 1))))
/-- The gradient of the first product's matrix, laid out in shards of 1024 columns from row 0 of the buffer on. -/
def dw1 (y : M 2048 1024 .bf16) (e : M 2048 4096 .bf16) : T 4 2304 1024 .bf16 :=
  fun i => ∑ k : Fin 2048, y (ix2 k ⟨(i 1 : ℕ) % 1024, Nat.mod_lt _ (by norm_num)⟩)
    * e (ix2 k ⟨((i 0 : ℕ) * 1024 + (i 2 : ℕ)) % 4096, Nat.mod_lt _ (by norm_num)⟩)
/-- It, into rows 0 to 1023 of the buffer. -/
def putDw1 (y : M 2048 1024 .bf16) (e : M 2048 4096 .bf16) (b : T 4 2304 1024 .bf16) : T 4 2304 1024 .bf16 :=
  fun i => if (i 1 : ℕ) < 1024 then dw1 y e i else b i
/-- The gradient at the normalised rows. -/
def dhn (e : M 2048 4096 .bf16) (w : M 1024 4096 .bf16) : M 2048 1024 .f32 :=
  fun i => ∑ k : Fin 4096, e (ix2 (i 0) k) * w (ix2 (i 1) k)
/-- The gradient at the rows: the residual's and the norm's. -/
def dx (x : M 2048 1024 .f32) (g : M 1 1024 .f32) (d : M 2048 1024 .f32) (dr : M 2048 1024 .f32) : M 2048 1024 .f32 :=
  fun i => dr (ix2 (i 0) (i 1)) + inv x (i 0) * (d (ix2 (i 0) (i 1)) * g (ix2 0 (i 1))
    - x (ix2 (i 0) (i 1)) * inv x (i 0)
      * Ideal.div (∑ k : Fin 1024, d (ix2 (i 0) k) * g (ix2 0 k) * (x (ix2 (i 0) k) * inv x (i 0))) (Ideal.ofBits .f32 0x44800000#32))
/-- The gradient of the scale. -/
def dg (x : M 2048 1024 .f32) (d : M 2048 1024 .f32) : M 1 1024 .f32 :=
  fun i => ∑ k : Fin 2048, d (ix2 k (i 1)) * (x (ix2 k (i 1)) * inv x k)

/-! The four results, from the arguments. -/
/-- The scale as one row. -/
def row (g : FVec Ideal ⟨1, ![1024]⟩ .f32) : M 1 1024 .f32 := fun i => g (ix1 (i 1))
/-- The normalised rows, the squared positive part, and the two gradients on the way back. -/
def Y (x : M 2048 1024 .f32) (g : FVec Ideal ⟨1, ![1024]⟩ .f32) := norm x (row g)
def A (x : M 2048 1024 .f32) (g : FVec Ideal ⟨1, ![1024]⟩ .f32) (w1 : M 1024 4096 .f32) := act (Y x g) w1
def E (x : M 2048 1024 .f32) (g : FVec Ideal ⟨1, ![1024]⟩ .f32) (w1 : M 1024 4096 .f32) (w2 : M 4096 1024 .f32) (d : M 2048 1024 .f32) :=
  da d w2 (A x g w1)
def H (x : M 2048 1024 .f32) (g : FVec Ideal ⟨1, ![1024]⟩ .f32) (w1 : M 1024 4096 .f32) (w2 : M 4096 1024 .f32) (d : M 2048 1024 .f32) :=
  dhn (E x g w1 w2 d) w1
/-- The sub-layer's output. -/
def out (x : M 2048 1024 .f32) (g : FVec Ideal ⟨1, ![1024]⟩ .f32) (w1 : M 1024 4096 .f32) (w2 : M 4096 1024 .f32) : M 2048 1024 .f32 :=
  down (A x g w1) w2 x
/-- The gradient at its input. -/
def gx (x : M 2048 1024 .f32) (g : FVec Ideal ⟨1, ![1024]⟩ .f32) (w1 : M 1024 4096 .f32) (w2 : M 4096 1024 .f32) (d : M 2048 1024 .f32) :
    M 2048 1024 .f32 := dx x (row g) (H x g w1 w2 d) d
/-- The gradient at the scale. -/
def gg (x : M 2048 1024 .f32) (g : FVec Ideal ⟨1, ![1024]⟩ .f32) (w1 : M 1024 4096 .f32) (w2 : M 4096 1024 .f32) (d : M 2048 1024 .f32) :
    FVec Ideal ⟨1, ![1024]⟩ .f32 := fun i => dg x (H x g w1 w2 d) (ix2 0 (i 0))
/-- The buffer with the gradients at the two matrices. -/
def gw (x : M 2048 1024 .f32) (g : FVec Ideal ⟨1, ![1024]⟩ .f32) (w1 : M 1024 4096 .f32) (w2 : M 4096 1024 .f32) (d : M 2048 1024 .f32)
    (b : T 4 2304 1024 .bf16) : T 4 2304 1024 .bf16 := putDw1 (Y x g) (E x g w1 w2 d) (putDw2 (A x g w1) d b)

end Mlp
end

end
-- ==== Proof.P3Spec.lean ====
module

public import proofs.«01_k».proof.Proof.Spec

@[expose] public section

noncomputable section
open Idealize.ShloMosaic Idealize.ShloMosaic.TcCoe Idealize.SL.Sem

/-! The products around a mixer, forward and backward, index by index: `K` columns of the mixer's output, `n` columns of its
input, of which each of the four shards takes `s`. -/
namespace Mix
open Mlp (M T)

/-- The plain product. -/
def mul {a k b : ℕ} (x : M a k .f32) (w : M k b .f32) : M a b .f32 := fun i => ∑ l : Fin k, x (ix2 (i 0) l) * w (ix2 l (i 1))
/-- The product with the transpose of the right factor. -/
def mulT {a k b : ℕ} (x : M a k .f32) (w : M b k .f32) : M a b .f32 := fun i => ∑ l : Fin k, x (ix2 (i 0) l) * w (ix2 (i 1) l)
/-- The product with the transpose of the left factor. -/
def tmul {a k b : ℕ} (x : M k a .f32) (w : M k b .f32) : M a b .f32 := fun i => ∑ l : Fin k, x (ix2 l (i 0)) * w (ix2 l (i 1))
/-- The product onto the residual. -/
def onto {a k b : ℕ} (x : M a k .f32) (w : M k b .f32) (r : M a b .f32) : M a b .f32 :=
  fun i => (∑ l : Fin k, x (ix2 (i 0) l) * w (ix2 l (i 1))) + r (ix2 (i 0) (i 1))
/-- A matrix with columns of zeros after its own. -/
def wide {a n N : ℕ} (w : M a n .f32) : M a N .f32 := fun i => if h : (i 1 : ℕ) < n then w (ix2 (i 0) ⟨i 1, h⟩) else 0
/-- The first columns of a matrix. -/
def narrow {a n N : ℕ} (h : n ≤ N) (w : M a N .f32) : M a n .f32 := fun i => w (ix2 (i 0) ⟨i 1, lt_of_lt_of_le (i 1).isLt h⟩)
/-- The gradient of the output's matrix, laid out in shards of `s` rows from row 2048 of the buffer on. -/
def dwout {K s R : ℕ} [NeZero K] (y : M 2048 K .f32) (d : M 2048 1024 .f32) : T 4 R 1024 .f32 :=
  fun i => ∑ l : Fin 2048, y (ix2 l ⟨((i 0 : ℕ) * s + ((i 1 : ℕ) - 2048)) % K, Nat.mod_lt _ (NeZero.pos K)⟩) * d (ix2 l (i 2))
/-- It, into the rows of the buffer from 2048 on. -/
def putOut {K R : ℕ} (s : ℕ) [NeZero K] (y : M 2048 K .f32) (d : M 2048 1024 .f32) (b : T 4 R 1024 .f32) : T 4 R 1024 .f32 :=
  fun i => if 2048 ≤ (i 1 : ℕ) then dwout (s := s) y d i else b i
/-- A matrix of which each shard takes `s` of the columns. -/
def cut {n s : ℕ} [NeZero n] (w : M 1024 n .f32) : T 4 1024 s .f32 :=
  fun i => w (ix2 (i 1) ⟨((i 0 : ℕ) * s + (i 2 : ℕ)) % n, Nat.mod_lt _ (NeZero.pos n)⟩)

theorem cut_at {n s : ℕ} [NeZero n] (w : M 1024 n .f32) (x : Fin 4) (y : Fin 1024) (z : Fin s) (h : (x : ℕ) * s + (z : ℕ) < n) :
    cut w (ix3 x y z) = w (ix2 y ⟨(x : ℕ) * s + (z : ℕ), h⟩) := by
  show w (ix2 y ⟨((x : ℕ) * s + (z : ℕ)) % n, Nat.mod_lt _ (NeZero.pos n)⟩) = _
  congr 3
  exact Nat.mod_eq_of_lt h
theorem putOut_at {K s R : ℕ} [NeZero K] (y : M 2048 K .f32) (d : M 2048 1024 .f32) (b : T 4 R 1024 .f32) (x : Fin 4) (r : Fin R) (z : Fin 1024)
    (h : (x : ℕ) * s + ((r : ℕ) - 2048) < K) :
    putOut s y d b (ix3 x r z) = if 2048 ≤ (r : ℕ) then ∑ l : Fin 2048, y (ix2 l ⟨(x : ℕ) * s + ((r : ℕ) - 2048), h⟩) * d (ix2 l z) else b (ix3 x r z) := by
  have e : (⟨((x : ℕ) * s + ((r : ℕ) - 2048)) % K, Nat.mod_lt _ (NeZero.pos K)⟩ : Fin K) = ⟨(x : ℕ) * s + ((r : ℕ) - 2048), h⟩ :=
    Fin.ext (Nat.mod_eq_of_lt h)
  rw [← e]; rfl

/-- Columns of zeros add nothing to a product with a transpose. -/
theorem mulT_wide {a b n N : ℕ} (h : n ≤ N) (x : M a N .f32) (w : M b n .f32) :
    mulT x (wide (N := N) w) = mulT (narrow h x) w := by
  funext i
  obtain ⟨d, rfl⟩ := Nat.exists_eq_add_of_le h
  show @Eq EReal (∑ l : Fin (n + d), x (ix2 (i 0) l) * (wide w : M b (n + d) .f32) (ix2 (i 1) l))
    (∑ l : Fin n, narrow h x (ix2 (i 0) l) * w (ix2 (i 1) l))
  rw [Fin.sum_univ_add]
  have hz : ∀ l : Fin d, x (ix2 (i 0) (Fin.natAdd n l)) * (wide w : M b (n + d) .f32) (ix2 (i 1) (Fin.natAdd n l)) = 0 := by
    intro l
    have : (wide w : M b (n + d) .f32) (ix2 (i 1) (Fin.natAdd n l)) = 0 := dif_neg (by show ¬ n + (l : ℕ) < n; omega)
    rw [this]; exact mul_zero (M₀ := EReal) _
  rw [Finset.sum_congr rfl fun l _ => hz l, Finset.sum_const_zero, add_zero]
  refine Finset.sum_congr rfl fun l _ => ?_
  have : (wide w : M b (n + d) .f32) (ix2 (i 1) (Fin.castAdd d l)) = w (ix2 (i 1) l) := dif_pos (show (l : ℕ) < n from l.isLt)
  rw [this]; rfl
/-- … and none to the columns before them. -/
theorem narrow_mul_wide {a k n N : ℕ} (h : n ≤ N) (x : M a k .f32) (w : M k n .f32) :
    narrow h (mul x (wide (N := N) w)) = mul x w := by
  funext i
  show @Eq EReal (∑ l : Fin k, x (ix2 (i 0) l) * (wide w : M k N .f32) (ix2 l ⟨i 1, lt_of_lt_of_le (i 1).isLt h⟩))
    (∑ l : Fin k, x (ix2 (i 0) l) * w (ix2 l (i 1)))
  refine Finset.sum_congr rfl fun l _ => ?_
  have : (wide w : M k N .f32) (ix2 l ⟨i 1, lt_of_lt_of_le (i 1).isLt h⟩) = w (ix2 l (i 1)) := dif_pos (show ((i 1 : Fin n) : ℕ) < n from (i 1).isLt)
  rw [this]

/-! The results, from the arguments. -/
section results
variable {n N K R : ℕ} (h : n ≤ N) (x : M 2048 1024 .f32) (g : FVec Ideal ⟨1, ![1024]⟩ .f32) (w : M 1024 n .f32) (y : M 2048 K .f32)
  (w' : M K 1024 .f32) (e : M 2048 N .f32) (d : M 2048 1024 .f32)
/-- The mixer's input. -/
def p : M 2048 n .f32 := mul (Mlp.Y x g) w
/-- The sub-layer's output. -/
def out : M 2048 1024 .f32 := onto y w' x
/-- The gradient at the mixer's output. -/
def gy : M 2048 K .f32 := mulT d w'
/-- The gradient at the normalised rows. -/
def H : M 2048 1024 .f32 := mulT (narrow h e) w
/-- The gradient at the rows. -/
def gx : M 2048 1024 .f32 := Mlp.dx x (Mlp.row g) (H h w e) d
/-- The gradient at the scale. -/
def gg : FVec Ideal ⟨1, ![1024]⟩ .f32 := fun i => Mlp.dg x (H h w e) (ix2 0 (i 0))
/-- The gradient at the input's matrix, by shards. -/
def gin (s : ℕ) [NeZero n] : T 4 1024 s .f32 := cut (tmul (Mlp.Y x g) (narrow h e) : M 1024 n .f32)
end results

end Mix
end

end
-- ==== Proof.P3Reg.lean ====
module

public import proofs.«01_k».proof.Proof.Gen.Kernel3Ideal.Frame
public import proofs.«01_k».proof.Proof.P3Spec
public import Idealize.ShloMosaic.Lib.Pipeline.ValueKit

@[expose] public section

set_option maxRecDepth 16384
noncomputable section
open Idealize.ShloMosaic Idealize.ShloMosaic.TcCoe Idealize.SL.Sem
open Idealize.ShloMosaic.Pipeline (Dat)
/-! What each of the eight calls around the gated DeltaNet leaves. -/
namespace Cert.Kernel3Ideal.Value
open Cert.Kernel3Ideal Cert.Kernel3Ideal.Gen
variable (V : (c : Dev nD) → (b : Ref sig .tc) → Buf (Elt Ideal) ((c : Thread nD τ).loc b)) (c : Dev nD)

theorem idx0 : ∀ t : Fin cfg0.N, win0_0.index t = ![t.val, 0] ∧ win0_1.index t = ![0, 0] ∧ win0_2.index t = ![t.val, 0] :=
  (by decide +kernel : ∀ t : Fin grid0.N, _)
/-- The scaled normalised rows. -/
theorem final0 : (dat0 V c).arrAt 2 cfg0.N = Mlp.norm (V c main_arg0) (V c main_v3) := by
  refine (dat0 V c).arrAt_eq_of_covers 2 _ (by decide +kernel) fun t _ y => ?_
  blk_simp
  rw [after0_2]; frame_out
  pointwise [k0_pay1, Mlp.norm, Mlp.inv, Mlp.ms]
  blk_point [iblk0, idx0 t]

theorem idx1 : ∀ t : Fin cfg1.N, win1_0.index t = ![0, 0] ∧ win1_1.index t = ![0, t.val] ∧ win1_2.index t = ![0, t.val] :=
  (by decide +kernel : ∀ t : Fin grid1.N, _)
/-- The mixer's input. -/
theorem final1 : (dat1 V c).arrAt 2 cfg1.N = Mix.mul (V c main_v4) (V c main_v2) := by
  refine (dat1 V c).arrAt_eq_of_covers 2 _ (by decide +kernel) fun t _ y => ?_
  blk_simp
  rw [after1_2]; frame_out
  pointwise [k1_pay1, Mix.mul]
  blk_point [iblk1, idx1 t]

theorem idx2 : ∀ t : Fin cfg2.N, win2_0.index t = ![0, 0] ∧ win2_1.index t = ![0, t.val] ∧ win2_2.index t = ![0, t.val]
    ∧ win2_3.index t = ![0, t.val] :=
  (by decide +kernel : ∀ t : Fin grid2.N, _)
/-- The mixer's output times its matrix, onto the residual. -/
theorem final2 : (dat2 V c).arrAt 3 cfg2.N = Mix.onto (V c main_arg3) (V c main_v1) (V c main_arg0) := by
  refine (dat2 V c).arrAt_eq_of_covers 3 _ (by decide +kernel) fun t _ y => ?_
  blk_simp
  rw [after2_3]; frame_out
  pointwise [k2_pay1, Mix.onto]
  blk_point [iblk2, idx2 t]

theorem idx3 : ∀ t : Fin cfg3.N, win3_0.index t = ![0, 0] ∧ win3_1.index t = ![t.val, 0] ∧ win3_2.index t = ![0, t.val] :=
  (by decide +kernel : ∀ t : Fin grid3.N, _)
/-- The gradient at the mixer's output. -/
theorem final3 : (dat3 V c).arrAt 2 cfg3.N = Mix.mulT (V c main_arg6) (V c main_v1) := by
  refine (dat3 V c).arrAt_eq_of_covers 2 _ (by decide +kernel) fun t _ y => ?_
  blk_simp
  rw [after3_2]; frame_out
  pointwise [k3_pay1, Mix.mulT]
  blk_point [iblk3, idx3 t]

theorem idx4 : ∀ t : Fin cfg4.N, win4_0.index t = ![0, t.val / 2] ∧ win4_1.index t = ![0, t.val % 2] ∧ win4_2.index t = ![t.val / 2, 8, t.val % 2] :=
  (by decide +kernel : ∀ t : Fin grid4.N, _)
/-- The gradient of the output's matrix goes into its rows of the buffer. -/
theorem final4 : (dat4 V c).arrAt 2 cfg4.N = Mix.putOut 256 (V c main_arg3) (V c main_arg6) (V c main_v8) := by
  refine (dat4 V c).arrAt_eq_of_coversWhere 2 (Mix.dwout (s := 256) (V c main_arg3) (V c main_arg6))
    (P := fun i => 2048 ≤ (i (1 : Fin 3) : ℕ)) (fun β => β (1 : Fin 3) = 8) (by decide +kernel) (fun t hf y => ?_)
    (fun j => ?_)
  · blk_simp
    rw [after4_2]; unfold outsAt4; frame_out
    pointwise [k4_pay1, Mix.dwout]
    have ht : t.val < 8 := lt_of_lt_of_eq t.isLt N_4
    have h0 : (y 0 : ℕ) < 1 := lt_of_lt_of_le (y 0).isLt ((cfg4.win 2).xsize_le (grid4.coords t) 0)
    have h1 : (y 1 : ℕ) < 256 := lt_of_lt_of_le (y 1).isLt ((cfg4.win 2).xsize_le (grid4.coords t) 1)
    have h2 : (y 2 : ℕ) < 512 := lt_of_lt_of_le (y 2).isLt ((cfg4.win 2).xsize_le (grid4.coords t) 2)
    blk_point [iblk4, idx4 t]
    all_goals omega
  · have hj : (j (1 : Fin 3) : ℕ) < 2304 := (j 1).isLt
    blk_simp [Pipeline.Window.cell_apply]
    omega

theorem idx5 : ∀ t : Fin cfg5.N, win5_0.index t = ![0, 0] ∧ win5_1.index t = ![0, t.val] ∧ win5_2.index t = ![0, t.val] :=
  (by decide +kernel : ∀ t : Fin grid5.N, _)
/-- The gradient of the input's matrix. -/
theorem final5 : (dat5 V c).arrAt 2 cfg5.N = Mix.tmul (V c main_v4) (V c main_v9) := by
  refine (dat5 V c).arrAt_eq_of_covers 2 _ (by decide +kernel) fun t _ y => ?_
  blk_simp
  rw [after5_2]; frame_out
  pointwise [k5_pay1, Mix.tmul]
  blk_point [iblk5, idx5 t]

theorem idx6 : ∀ t : Fin cfg6.N, win6_0.index t = ![t.val / 2, 0] ∧ win6_1.index t = ![t.val % 2, 0] ∧ win6_2.index t = ![t.val / 2, t.val % 2] :=
  (by decide +kernel : ∀ t : Fin grid6.N, _)
/-- The gradient at the normalised rows. -/
theorem final6 : (dat6 V c).arrAt 2 cfg6.N = Mix.mulT (V c main_v9) (V c main_v2) := by
  refine (dat6 V c).arrAt_eq_of_covers 2 _ (by decide +kernel) fun t _ y => ?_
  blk_simp
  rw [after6_2]; frame_out
  pointwise [k6_pay1, Mix.mulT]
  blk_point [iblk6, idx6 t]

theorem idx7 : ∀ t : Fin cfg7.N, win7_0.index t = ![t.val, 0] ∧ win7_1.index t = ![0, 0] ∧ win7_2.index t = ![t.val, 0]
    ∧ win7_3.index t = ![t.val, 0] ∧ win7_4.index t = ![t.val, 0] ∧ win7_5.index t = ![0, 0] :=
  (by decide +kernel : ∀ t : Fin grid7.N, _)
/-- The gradient at the rows. -/
theorem final7_dx : (dat7 V c).arrAt 4 cfg7.N = Mlp.dx (V c main_arg0) (V c main_v25) (V c main_v24) (V c main_arg6) := by
  refine (dat7 V c).arrAt_eq_of_covers 4 _ (by decide +kernel) fun t _ y => ?_
  blk_simp
  rw [after7_4]
  by_cases h : t.val % 8 = 0
  · rw [outsAt7_A V c t h]; frame_out
    pointwise [k7_pay5, k7_pay4, k7_pay3, k7_pay2, Mlp.dx, Mlp.inv, Mlp.ms]
    blk_point [iblk7, idx7 t]
  · rw [outsAt7_B V c t h]; frame_out
    pointwise [k7_pay5, k7_pay4, k7_pay3, k7_pay2, Mlp.dx, Mlp.inv, Mlp.ms]
    blk_point [iblk7, idx7 t]

theorem zero7 (j) : k7_pay6 (F := Ideal) j = 0 := by pointwise [k7_pay6]
theorem step7 (acc : FVec Ideal S1x1024 .f32) (x0 x2 : FVec Ideal S256x1024 .f32) (j : S1x1024.Idx) :
    k7_pay1 (F := Ideal) (k7_pay7 acc) (k7_pay8 x0 x2) j
      = acc j + ∑ k : Fin 256, x2 (ix2 k (j 1)) * (x0 (ix2 k (j 1)) * Ideal.rsqrt (Ideal.div (∑ l : Fin 1024, x0 (ix2 k l) * x0 (ix2 k l)) (Ideal.ofBits .f32 0x44800000#32) + Ideal.ofBits .f32 0x358637BD#32)) := by
  idx_vars j
  pointwise [k7_pay1, k7_pay7, k7_pay8, k7_pay4, k7_pay3, k7_pay2]
/-- … and the gradient of the scale, over the rows block by block. -/
theorem final7_dg : (dat7 V c).arrAt 5 cfg7.N = Mlp.dg (V c main_arg0) (V c main_v24) := by
  refine (dat7 V c).arrAt_eq_of_covers 5 _ (by decide +kernel) fun t hf y => ?_
  blk_simp
  rw [after7_5, Pipeline.eq_sum_fin_of_reset_step_apply_of_flush (fun n h => (outsAt7 V c n h).2) 8 (fun _ => 0) _
    (fun t h j => by rw [outsAt7_A V c t h]; frame_out; rw [step7, zero7])
    (fun t h j => by rw [outsAt7_B V c t h]; frame_out; rw [step7])
    t ((flush7_5 t).mp hf) _, zero_add]
  unfold Mlp.dg
  refine Fin.sum_mul_add_congr fun s k hl => ?_
  unfold Mlp.inv Mlp.ms
  have ht : t.val < 8 := lt_of_lt_of_eq t.isLt N_7
  blk_point [iblk7, idx7 t, idx7 ⟨_, Pipeline.run_point_lt_of_flush t ((flush7_5 t).mp hf) s⟩]

end Cert.Kernel3Ideal.Value
end

end
-- ==== Proof.P3Chain.lean ====
module

public import proofs.«01_k».proof.Proof.P3Run
public import proofs.«01_k».proof.Proof.P3Reg
public import Idealize.ShloMosaic.Lib.StableHlo.ReadAt
public import Idealize.ShloMosaic.Lib.Claim

@[expose] public section

set_option maxRecDepth 16384
noncomputable section
open Idealize.ShloMosaic Idealize.ShloMosaic.TcCoe Idealize.SL.Sem
/-! The eight calls around the gated DeltaNet one after the other: what each leaves, from the arguments. -/
namespace Cert.Kernel3Ideal.Value
open Cert.Kernel3Ideal Cert.Kernel3Ideal.Gen
variable (m : (ℓ : Loc nD τ sig) → Buf (Elt Ideal) ℓ) (ρ : Dev nD → PrngReg) (c : Dev nD)

/-- The two matrices and the scale as the calls take them. -/
theorem v0_1 : W1 m ρ c (Proc.devRef .tc main_v0) = (m ((c : Thread nD τ).loc main_arg2)) := by
  unfold W1; after_reads_simp; rfl
theorem v1_1 : W1 m ρ c (Proc.devRef .tc main_v1) = (m ((c : Thread nD τ).loc main_arg4)) := by
  unfold W1; after_reads_simp; rfl
theorem v2_2 : W2 m ρ c (Proc.devRef .tc main_v2) = (Mix.wide (m ((c : Thread nD τ).loc main_arg2)) : Mlp.M 1024 4224 .f32) := by
  have h : W2 m ρ c (Proc.devRef .tc main_v2) = (Mix.wide (W1 m ρ c (Proc.devRef .tc main_v0) : Mlp.M 1024 4112 .f32) : Mlp.M 1024 4224 .f32) := by
    funext i; unfold W2 Mix.wide; after_reads_at
    have z : (FloatOps.sitofp FTy.bf16 0#32 : Ideal .bf16) = 0 := by show (((0#32 : BitVec 32).toInt : ℝ) : EReal) = 0; simp
    rw [z]
  rw [h, v0_1]
theorem v3_3 : W3 m ρ c (Proc.devRef .tc main_v3) = Mlp.row (m ((c : Thread nD τ).loc main_arg1)) := by
  have h : W3 m ρ c (Proc.devRef .tc main_v3) = Mlp.row (W2 m ρ c (Proc.devRef .tc main_arg1)) := by
    funext i; unfold W3 Mlp.row; after_reads_at
  rw [h, W2_args m ρ c main_arg1 (by decide)]
theorem v2_3 : W3 m ρ c (Proc.devRef .tc main_v2) = (Mix.wide (m ((c : Thread nD τ).loc main_arg2)) : Mlp.M 1024 4224 .f32) :=
  (W3_of m ρ c main_v2 (by decide)).trans <| v2_2 m ρ c
/-- The normalised rows. -/
theorem v4_4 : W4 m ρ c (Proc.devRef .tc main_v4) = Mlp.Y (m ((c : Thread nD τ).loc main_arg0)) (m ((c : Thread nD τ).loc main_arg1)) := by
  refine (W4_arr m ρ c 2).trans ((final0 (V3 m ρ) c).trans ?_)
  rw [show V3 m ρ c main_arg0 = _ from W3_args m ρ c main_arg0 (by decide), show V3 m ρ c main_v3 = _ from v3_3 m ρ c]; rfl
theorem v2_4 : W4 m ρ c (Proc.devRef .tc main_v2) = (Mix.wide (m ((c : Thread nD τ).loc main_arg2)) : Mlp.M 1024 4224 .f32) :=
  (W4_of m ρ c main_v2 (by decide)).trans <| v2_3 m ρ c
/-- The mixer's input, with the columns past its own. -/
theorem v5_5 : W5 m ρ c (Proc.devRef .tc main_v5) = Mix.mul (Mlp.Y (m ((c : Thread nD τ).loc main_arg0)) (m ((c : Thread nD τ).loc main_arg1))) (Mix.wide (m ((c : Thread nD τ).loc main_arg2)) : Mlp.M 1024 4224 .f32) := by
  refine (W5_arr m ρ c 2).trans ((final1 (V4 m ρ) c).trans ?_)
  rw [show V4 m ρ c main_v4 = _ from v4_4 m ρ c, show V4 m ρ c main_v2 = _ from v2_4 m ρ c]
theorem v1_5 : W5 m ρ c (Proc.devRef .tc main_v1) = (m ((c : Thread nD τ).loc main_arg4)) :=
  (W5_of m ρ c main_v1 (by decide)).trans <|
  (W4_of m ρ c main_v1 (by decide)).trans <|
  (W3_of m ρ c main_v1 (by decide)).trans <|
  (W2_of m ρ c main_v1 (by decide)).trans <| v1_1 m ρ c
/-- The output. -/
theorem v6_6 : W6 m ρ c (Proc.devRef .tc main_v6) = Mix.out (m ((c : Thread nD τ).loc main_arg0)) (m ((c : Thread nD τ).loc main_arg3)) (m ((c : Thread nD τ).loc main_arg4)) := by
  refine (W6_arr m ρ c 3).trans ((final2 (V5 m ρ) c).trans ?_)
  rw [show V5 m ρ c main_arg3 = _ from W5_args m ρ c main_arg3 (by decide), show V5 m ρ c main_v1 = _ from v1_5 m ρ c, show V5 m ρ c main_arg0 = _ from W5_args m ρ c main_arg0 (by decide)]; rfl
theorem v1_6 : W6 m ρ c (Proc.devRef .tc main_v1) = (m ((c : Thread nD τ).loc main_arg4)) :=
  (W6_of m ρ c main_v1 (by decide)).trans <| v1_5 m ρ c
/-- The gradient at the mixer's output. -/
theorem v7_7 : W7 m ρ c (Proc.devRef .tc main_v7) = Mix.gy (m ((c : Thread nD τ).loc main_arg4)) (m ((c : Thread nD τ).loc main_arg6)) := by
  refine (W7_arr m ρ c 2).trans ((final3 (V6 m ρ) c).trans ?_)
  rw [show V6 m ρ c main_arg6 = _ from W6_args m ρ c main_arg6 (by decide), show V6 m ρ c main_v1 = _ from v1_6 m ρ c]; rfl
theorem v8_8 : W8 m ρ c (Proc.devRef .tc main_v8) = (m ((c : Thread nD τ).loc main_arg7)) := by
  have h : W8 m ρ c (Proc.devRef .tc main_v8) = W7 m ρ c (Proc.devRef .tc main_arg7) := by unfold W8; after_reads_simp; rfl
  exact h.trans (W7_args m ρ c main_arg7 (by decide))
/-- The buffer with the output's matrix's gradient. -/
theorem v8_9 : W9 m ρ c (Proc.devRef .tc main_v8) = Mix.putOut 256 (m ((c : Thread nD τ).loc main_arg3)) (m ((c : Thread nD τ).loc main_arg6)) (m ((c : Thread nD τ).loc main_arg7)) := by
  refine (W9_arr m ρ c 2).trans ((final4 (V8 m ρ) c).trans ?_)
  rw [show V8 m ρ c main_arg3 = _ from W8_args m ρ c main_arg3 (by decide), show V8 m ρ c main_arg6 = _ from W8_args m ρ c main_arg6 (by decide), show V8 m ρ c main_v8 = _ from v8_8 m ρ c]
theorem v9_10 : W10 m ρ c (Proc.devRef .tc main_v9) = (m ((c : Thread nD τ).loc main_arg5)) := by
  have h : W10 m ρ c (Proc.devRef .tc main_v9) = W9 m ρ c (Proc.devRef .tc main_arg5) := by unfold W10; after_reads_simp; rfl
  exact h.trans (W9_args m ρ c main_arg5 (by decide))
theorem v4_10 : W10 m ρ c (Proc.devRef .tc main_v4) = Mlp.Y (m ((c : Thread nD τ).loc main_arg0)) (m ((c : Thread nD τ).loc main_arg1)) :=
  (W10_of m ρ c main_v4 (by decide)).trans <|
  (W9_of m ρ c main_v4 (by decide)).trans <|
  (W8_of m ρ c main_v4 (by decide)).trans <|
  (W7_of m ρ c main_v4 (by decide)).trans <|
  (W6_of m ρ c main_v4 (by decide)).trans <|
  (W5_of m ρ c main_v4 (by decide)).trans <| v4_4 m ρ c
/-- The gradient at the input's matrix, with the columns past its own. -/
theorem v10_11 : W11 m ρ c (Proc.devRef .tc main_v10) = Mix.tmul (Mlp.Y (m ((c : Thread nD τ).loc main_arg0)) (m ((c : Thread nD τ).loc main_arg1))) ((m ((c : Thread nD τ).loc main_arg5)) : Mlp.M 2048 4224 .f32) := by
  refine (W11_arr m ρ c 2).trans ((final5 (V10 m ρ) c).trans ?_)
  rw [show V10 m ρ c main_v4 = _ from v4_10 m ρ c, show V10 m ρ c main_v9 = _ from v9_10 m ρ c]
/-- It, by shards. -/
theorem v23_12 : W12 m ρ c (Proc.devRef .tc main_v23) = Mix.gin (n := 4112) (by norm_num) (m ((c : Thread nD τ).loc main_arg0)) (m ((c : Thread nD τ).loc main_arg1)) (m ((c : Thread nD τ).loc main_arg5)) 1028 := by
  have h : W12 m ρ c (Proc.devRef .tc main_v23) = (Mix.cut (Mix.narrow (n := 4112) (by norm_num) (W11 m ρ c (Proc.devRef .tc main_v10) : Mlp.M 1024 4224 .f32) : Mlp.M 1024 4112 .f32) : Mlp.T 4 1024 1028 .f32) := by
    have put : ∀ (b : Fin 1024) (p : Fin 4224) (q : Fin 4112), (p : ℕ) = q →
        W11 m ρ c (Proc.devRef .tc main_v10) (ix2 b p) = (Mix.narrow (n := 4112) (by norm_num) (W11 m ρ c (Proc.devRef .tc main_v10) : Mlp.M 1024 4224 .f32) : Mlp.M 1024 4112 .f32) (ix2 b q) :=
      fun b p q e => congrArg (fun t => W11 m ρ c (Proc.devRef .tc main_v10) (ix2 b t)) (Fin.ext e)
    funext i
    idx_vars i
    rw [Mix.cut_at _ _ _ _ (by omega)]
    unfold W12; after_reads_at
    by_cases h0 : (i0 : ℕ) < 1
    · rw [dif_pos h0]; after_reads_at; refine put _ _ _ ?_; dsimp only; omega
    rw [dif_neg h0]
    by_cases h1 : (i0 : ℕ) - 1 < 1
    · rw [dif_pos h1]; after_reads_at; refine put _ _ _ ?_; dsimp only; omega
    rw [dif_neg h1]
    by_cases h2 : (i0 : ℕ) - 1 - 1 < 1
    · rw [dif_pos h2]; after_reads_at; refine put _ _ _ ?_; dsimp only; omega
    rw [dif_neg h2]; after_reads_at; refine put _ _ _ ?_; dsimp only; omega
  rw [h, v10_11]; rfl
theorem v9_12 : W12 m ρ c (Proc.devRef .tc main_v9) = (m ((c : Thread nD τ).loc main_arg5)) :=
  (W12_of m ρ c main_v9 (by decide)).trans <|
  (W11_of m ρ c main_v9 (by decide)).trans <| v9_10 m ρ c
theorem v2_12 : W12 m ρ c (Proc.devRef .tc main_v2) = (Mix.wide (m ((c : Thread nD τ).loc main_arg2)) : Mlp.M 1024 4224 .f32) :=
  (W12_of m ρ c main_v2 (by decide)).trans <|
  (W11_of m ρ c main_v2 (by decide)).trans <|
  (W10_of m ρ c main_v2 (by decide)).trans <|
  (W9_of m ρ c main_v2 (by decide)).trans <|
  (W8_of m ρ c main_v2 (by decide)).trans <|
  (W7_of m ρ c main_v2 (by decide)).trans <|
  (W6_of m ρ c main_v2 (by decide)).trans <|
  (W5_of m ρ c main_v2 (by decide)).trans <| v2_4 m ρ c
/-- The gradient at the normalised rows. -/
theorem v24_13 : W13 m ρ c (Proc.devRef .tc main_v24) = Mix.H (n := 4112) (by norm_num) (m ((c : Thread nD τ).loc main_arg2)) (m ((c : Thread nD τ).loc main_arg5)) := by
  refine (W13_arr m ρ c 2).trans ((final6 (V12 m ρ) c).trans ?_)
  rw [show V12 m ρ c main_v9 = _ from v9_12 m ρ c, show V12 m ρ c main_v2 = _ from v2_12 m ρ c]
  exact Mix.mulT_wide (n := 4112) (by norm_num) (m ((c : Thread nD τ).loc main_arg5)) (m ((c : Thread nD τ).loc main_arg2))
theorem v24_14 : W14 m ρ c (Proc.devRef .tc main_v24) = Mix.H (n := 4112) (by norm_num) (m ((c : Thread nD τ).loc main_arg2)) (m ((c : Thread nD τ).loc main_arg5)) :=
  (W14_of m ρ c main_v24 (by decide)).trans <| v24_13 m ρ c
theorem v25_14 : W14 m ρ c (Proc.devRef .tc main_v25) = Mlp.row (m ((c : Thread nD τ).loc main_arg1)) := by
  have h : W14 m ρ c (Proc.devRef .tc main_v25) = Mlp.row (W13 m ρ c (Proc.devRef .tc main_arg1)) := by
    funext i; unfold W14 Mlp.row; after_reads_at
  rw [h, W13_args m ρ c main_arg1 (by decide)]
/-- The gradient at the rows. -/
theorem v26_15 : W15 m ρ c (Proc.devRef .tc main_v26_0) = Mix.gx (n := 4112) (by norm_num) (m ((c : Thread nD τ).loc main_arg0)) (m ((c : Thread nD τ).loc main_arg1)) (m ((c : Thread nD τ).loc main_arg2)) (m ((c : Thread nD τ).loc main_arg5)) (m ((c : Thread nD τ).loc main_arg6)) := by
  refine (W15_arr m ρ c 4).trans ((final7_dx (V14 m ρ) c).trans ?_)
  rw [show V14 m ρ c main_v25 = _ from v25_14 m ρ c, show V14 m ρ c main_v24 = _ from v24_14 m ρ c, show V14 m ρ c main_arg0 = _ from W14_args m ρ c main_arg0 (by decide), show V14 m ρ c main_arg6 = _ from W14_args m ρ c main_arg6 (by decide)]; rfl
/-- The gradient at the scale, as one row. -/
theorem v26b_15 : W15 m ρ c (Proc.devRef .tc main_v26_1) = Mlp.dg (m ((c : Thread nD τ).loc main_arg0)) (Mix.H (n := 4112) (by norm_num) (m ((c : Thread nD τ).loc main_arg2)) (m ((c : Thread nD τ).loc main_arg5))) := by
  refine (W15_arr m ρ c 5).trans ((final7_dg (V14 m ρ) c).trans ?_)
  rw [show V14 m ρ c main_v24 = _ from v24_14 m ρ c, show V14 m ρ c main_arg0 = _ from W14_args m ρ c main_arg0 (by decide)]

/-! The seven results where the program ends. -/
theorem v5_15 : W15 m ρ c (Proc.devRef .tc main_v5) = Mix.mul (Mlp.Y (m ((c : Thread nD τ).loc main_arg0)) (m ((c : Thread nD τ).loc main_arg1))) (Mix.wide (m ((c : Thread nD τ).loc main_arg2)) : Mlp.M 1024 4224 .f32) :=
  (W15_of m ρ c main_v5 (by decide)).trans <|
  (W14_of m ρ c main_v5 (by decide)).trans <|
  (W13_of m ρ c main_v5 (by decide)).trans <|
  (W12_of m ρ c main_v5 (by decide)).trans <|
  (W11_of m ρ c main_v5 (by decide)).trans <|
  (W10_of m ρ c main_v5 (by decide)).trans <|
  (W9_of m ρ c main_v5 (by decide)).trans <|
  (W8_of m ρ c main_v5 (by decide)).trans <|
  (W7_of m ρ c main_v5 (by decide)).trans <|
  (W6_of m ρ c main_v5 (by decide)).trans <| v5_5 m ρ c
theorem res_p : W16 m ρ c (Proc.devRef .tc main_v27) = Mix.p (m ((c : Thread nD τ).loc main_arg0)) (m ((c : Thread nD τ).loc main_arg1)) (m ((c : Thread nD τ).loc main_arg2)) := by
  have h : W16 m ρ c (Proc.devRef .tc main_v27) = (Mix.narrow (n := 4112) (by norm_num) (W15 m ρ c (Proc.devRef .tc main_v5) : Mlp.M 2048 4224 .f32) : Mlp.M 2048 4112 .f32) := by
    funext i; unfold W16 Mix.narrow; after_reads_at
  rw [h, v5_15]; exact Mix.narrow_mul_wide (n := 4112) (by norm_num) (Mlp.Y (m ((c : Thread nD τ).loc main_arg0)) (m ((c : Thread nD τ).loc main_arg1))) (m ((c : Thread nD τ).loc main_arg2))
theorem res_out : W16 m ρ c (Proc.devRef .tc main_v6) = Mix.out (m ((c : Thread nD τ).loc main_arg0)) (m ((c : Thread nD τ).loc main_arg3)) (m ((c : Thread nD τ).loc main_arg4)) :=
  (W16_of m ρ c main_v6 (by decide)).trans <|
  (W15_of m ρ c main_v6 (by decide)).trans <|
  (W14_of m ρ c main_v6 (by decide)).trans <|
  (W13_of m ρ c main_v6 (by decide)).trans <|
  (W12_of m ρ c main_v6 (by decide)).trans <|
  (W11_of m ρ c main_v6 (by decide)).trans <|
  (W10_of m ρ c main_v6 (by decide)).trans <|
  (W9_of m ρ c main_v6 (by decide)).trans <|
  (W8_of m ρ c main_v6 (by decide)).trans <|
  (W7_of m ρ c main_v6 (by decide)).trans <| v6_6 m ρ c
theorem res_gy : W16 m ρ c (Proc.devRef .tc main_v7) = Mix.gy (m ((c : Thread nD τ).loc main_arg4)) (m ((c : Thread nD τ).loc main_arg6)) :=
  (W16_of m ρ c main_v7 (by decide)).trans <|
  (W15_of m ρ c main_v7 (by decide)).trans <|
  (W14_of m ρ c main_v7 (by decide)).trans <|
  (W13_of m ρ c main_v7 (by decide)).trans <|
  (W12_of m ρ c main_v7 (by decide)).trans <|
  (W11_of m ρ c main_v7 (by decide)).trans <|
  (W10_of m ρ c main_v7 (by decide)).trans <|
  (W9_of m ρ c main_v7 (by decide)).trans <|
  (W8_of m ρ c main_v7 (by decide)).trans <| v7_7 m ρ c
theorem res_gx : W16 m ρ c (Proc.devRef .tc main_v26_0) = Mix.gx (n := 4112) (by norm_num) (m ((c : Thread nD τ).loc main_arg0)) (m ((c : Thread nD τ).loc main_arg1)) (m ((c : Thread nD τ).loc main_arg2)) (m ((c : Thread nD τ).loc main_arg5)) (m ((c : Thread nD τ).loc main_arg6)) :=
  (W16_of m ρ c main_v26_0 (by decide)).trans <| v26_15 m ρ c
theorem res_gg : W16 m ρ c (Proc.devRef .tc main_v28) = Mix.gg (n := 4112) (by norm_num) (m ((c : Thread nD τ).loc main_arg0)) (m ((c : Thread nD τ).loc main_arg2)) (m ((c : Thread nD τ).loc main_arg5)) := by
  have h : W16 m ρ c (Proc.devRef .tc main_v28) = fun i : (⟨1, ![1024]⟩ : Shape).Idx => W15 m ρ c (Proc.devRef .tc main_v26_1) (ix2 0 (i 0)) := by
    funext i; unfold W16; after_reads_at
  rw [h, v26b_15]; rfl
theorem res_gin : W16 m ρ c (Proc.devRef .tc main_v23) = Mix.gin (n := 4112) (by norm_num) (m ((c : Thread nD τ).loc main_arg0)) (m ((c : Thread nD τ).loc main_arg1)) (m ((c : Thread nD τ).loc main_arg5)) 1028 :=
  (W16_of m ρ c main_v23 (by decide)).trans <|
  (W15_of m ρ c main_v23 (by decide)).trans <|
  (W14_of m ρ c main_v23 (by decide)).trans <|
  (W13_of m ρ c main_v23 (by decide)).trans <| v23_12 m ρ c
theorem res_buf : W16 m ρ c (Proc.devRef .tc main_v8) = Mix.putOut 256 (m ((c : Thread nD τ).loc main_arg3)) (m ((c : Thread nD τ).loc main_arg6)) (m ((c : Thread nD τ).loc main_arg7)) :=
  (W16_of m ρ c main_v8 (by decide)).trans <|
  (W15_of m ρ c main_v8 (by decide)).trans <|
  (W14_of m ρ c main_v8 (by decide)).trans <|
  (W13_of m ρ c main_v8 (by decide)).trans <|
  (W12_of m ρ c main_v8 (by decide)).trans <|
  (W11_of m ρ c main_v8 (by decide)).trans <|
  (W10_of m ρ c main_v8 (by decide)).trans <| v8_9 m ρ c

end Cert.Kernel3Ideal.Value
end

end
-- ==== Proof.Ref.lean ====
module

public import proofs.«01_k».proof.Proof.Gen.ReferenceIdeal
public import Idealize.ShloMosaic.Lib.Claim
public import Idealize.ShloMosaic.Lib.Quiescent

@[expose] public section

set_option maxRecDepth 16384
noncomputable section
open Idealize.ShloMosaic Idealize.ShloMosaic.TcCoe Idealize.SL.Sem
/-! The reference's operations in six lines, and its run: every buffer ends at what the six lines leave. -/
namespace Cert.ReferenceIdeal.Value
open Cert.ReferenceIdeal Cert.ReferenceIdeal.Gen
variable {F : FTy → Type} [FloatOps F]

/-- The normalised rows. -/
def opsA : List (HloOp τ sig (Elt F)) := [
  StableHlo.binary main_arg0 main_arg0 main_v0 (mulf : (⟨S2048x1024, .f32⟩ : BufTy).Contents (Elt F) → (⟨S2048x1024, .f32⟩ : BufTy).Contents (Elt F) → (⟨S2048x1024, .f32⟩ : BufTy).Contents (Elt F)),
  StableHlo.nullary main_cst (constant S_ .f32 0x00000000#32),
  StableHlo.binary main_v0 main_cst main_v1 ((fun x v => Host.reduceAdd x v reducesTo_S2048x1024_S2048_d1 h_S_) : (⟨S2048x1024, .f32⟩ : BufTy).Contents (Elt F) → (⟨S_, .f32⟩ : BufTy).Contents (Elt F) → (⟨S2048, .f32⟩ : BufTy).Contents (Elt F)),
  StableHlo.unary main_v1 main_v2 (broadcastInDim S2048x1 ![0] bcast_S2048_S2048x1_0 : (⟨S2048, .f32⟩ : BufTy).Contents (Elt F) → (⟨S2048x1, .f32⟩ : BufTy).Contents (Elt F)),
  StableHlo.nullary main_cst_0 (constant S_ .f32 0x44800000#32),
  StableHlo.unary main_cst_0 main_v3 (broadcastInDim S2048x1 ![] bcast_S_S2048x1 : (⟨S_, .f32⟩ : BufTy).Contents (Elt F) → (⟨S2048x1, .f32⟩ : BufTy).Contents (Elt F)),
  StableHlo.binary main_v2 main_v3 main_v4 (Host.divf : (⟨S2048x1, .f32⟩ : BufTy).Contents (Elt F) → (⟨S2048x1, .f32⟩ : BufTy).Contents (Elt F) → (⟨S2048x1, .f32⟩ : BufTy).Contents (Elt F)),
  StableHlo.nullary main_cst_1 (constant S_ .f32 0x358637BD#32),
  StableHlo.unary main_cst_1 main_v5 (broadcastInDim S2048x1 ![] bcast_S_S2048x1 : (⟨S_, .f32⟩ : BufTy).Contents (Elt F) → (⟨S2048x1, .f32⟩ : BufTy).Contents (Elt F)),
  StableHlo.binary main_v4 main_v5 main_v6 (addf : (⟨S2048x1, .f32⟩ : BufTy).Contents (Elt F) → (⟨S2048x1, .f32⟩ : BufTy).Contents (Elt F) → (⟨S2048x1, .f32⟩ : BufTy).Contents (Elt F)),
  StableHlo.unary main_v6 main_v7 (Host.rsqrt : (⟨S2048x1, .f32⟩ : BufTy).Contents (Elt F) → (⟨S2048x1, .f32⟩ : BufTy).Contents (Elt F)),
  StableHlo.binary main_v7 main_v6 main_v8 (Host.divf : (⟨S2048x1, .f32⟩ : BufTy).Contents (Elt F) → (⟨S2048x1, .f32⟩ : BufTy).Contents (Elt F) → (⟨S2048x1, .f32⟩ : BufTy).Contents (Elt F)),
  StableHlo.nullary main_cst_2 (constant S_ .f32 0xBF000000#32),
  StableHlo.unary main_cst_2 main_v9 (broadcastInDim S2048x1 ![] bcast_S_S2048x1 : (⟨S_, .f32⟩ : BufTy).Contents (Elt F) → (⟨S2048x1, .f32⟩ : BufTy).Contents (Elt F)),
  StableHlo.binary main_v9 main_v8 main_v10 (mulf : (⟨S2048x1, .f32⟩ : BufTy).Contents (Elt F) → (⟨S2048x1, .f32⟩ : BufTy).Contents (Elt F) → (⟨S2048x1, .f32⟩ : BufTy).Contents (Elt F)),
  StableHlo.unary main_v7 main_v11 (broadcastInDim S2048x1024 ![0, 1] bcast_S2048x1_S2048x1024_0_1 : (⟨S2048x1, .f32⟩ : BufTy).Contents (Elt F) → (⟨S2048x1024, .f32⟩ : BufTy).Contents (Elt F)),
  StableHlo.binary main_arg0 main_v11 main_v12 (mulf : (⟨S2048x1024, .f32⟩ : BufTy).Contents (Elt F) → (⟨S2048x1024, .f32⟩ : BufTy).Contents (Elt F) → (⟨S2048x1024, .f32⟩ : BufTy).Contents (Elt F)),
  StableHlo.unary main_arg1 main_v13 (broadcastInDim S1x1024 ![1] bcast_S1024_S1x1024_1 : (⟨S1024, .f32⟩ : BufTy).Contents (Elt F) → (⟨S1x1024, .f32⟩ : BufTy).Contents (Elt F)),
  StableHlo.unary main_v13 main_v14 (broadcastInDim S2048x1024 ![0, 1] bcast_S1x1024_S2048x1024_0_1 : (⟨S1x1024, .f32⟩ : BufTy).Contents (Elt F) → (⟨S2048x1024, .f32⟩ : BufTy).Contents (Elt F)),
  StableHlo.binary main_v12 main_v14 main_v15 (mulf : (⟨S2048x1024, .f32⟩ : BufTy).Contents (Elt F) → (⟨S2048x1024, .f32⟩ : BufTy).Contents (Elt F) → (⟨S2048x1024, .f32⟩ : BufTy).Contents (Elt F))]
/-- The two products and the residual. -/
def opsB : List (HloOp τ sig (Elt F)) := [
  StableHlo.binary main_v15 main_arg2 main_v16 ((fun l r => Host.dotGeneral dot_S2048x1024_S1024x4096_S2048x4096_1_0_0_1_n_n none l r) : (⟨S2048x1024, .f32⟩ : BufTy).Contents (Elt F) → (⟨S1024x4096, .f32⟩ : BufTy).Contents (Elt F) → (⟨S2048x4096, .f32⟩ : BufTy).Contents (Elt F)),
  StableHlo.TRef.nullary main_call0.cst (constant S_ .f32 0x00000000#32),
  StableHlo.TRef.unary main_call0.cst main_call0.v0 (broadcastInDim S2048x4096 ![] bcast_S_S2048x4096),
  StableHlo.TRef.binary (.of main_v16) main_call0.v0 main_call0.v1 maximumf,
  StableHlo.nullary main_cst_3 (constant S_ .f32 0x00000000#32),
  StableHlo.unary main_cst_3 main_v18 (broadcastInDim S2048x4096 ![] bcast_S_S2048x4096 : (⟨S_, .f32⟩ : BufTy).Contents (Elt F) → (⟨S2048x4096, .f32⟩ : BufTy).Contents (Elt F)),
  StableHlo.binary main_v16 main_v18 main_v19 (cmpf .ogt : (⟨S2048x4096, .f32⟩ : BufTy).Contents (Elt F) → (⟨S2048x4096, .f32⟩ : BufTy).Contents (Elt F) → (⟨S2048x4096, .i1⟩ : BufTy).Contents (Elt F)),
  StableHlo.nullary main_cst_4 (constant S_ .f32 0x00000000#32),
  StableHlo.unary main_cst_4 main_v20 (broadcastInDim S2048x4096 ![] bcast_S_S2048x4096 : (⟨S_, .f32⟩ : BufTy).Contents (Elt F) → (⟨S2048x4096, .f32⟩ : BufTy).Contents (Elt F)),
  StableHlo.binary main_v17 main_v17 main_v21 (mulf : (⟨S2048x4096, .f32⟩ : BufTy).Contents (Elt F) → (⟨S2048x4096, .f32⟩ : BufTy).Contents (Elt F) → (⟨S2048x4096, .f32⟩ : BufTy).Contents (Elt F)),
  StableHlo.nullary main_cst_5 (constant S_ .f32 0x40000000#32),
  StableHlo.unary main_cst_5 main_v22 (broadcastInDim S2048x4096 ![] bcast_S_S2048x4096 : (⟨S_, .f32⟩ : BufTy).Contents (Elt F) → (⟨S2048x4096, .f32⟩ : BufTy).Contents (Elt F)),
  StableHlo.binary main_v22 main_v17 main_v23 (mulf : (⟨S2048x4096, .f32⟩ : BufTy).Contents (Elt F) → (⟨S2048x4096, .f32⟩ : BufTy).Contents (Elt F) → (⟨S2048x4096, .f32⟩ : BufTy).Contents (Elt F)),
  StableHlo.binary main_v21 main_arg3 main_v24 ((fun l r => Host.dotGeneral dot_S2048x4096_S4096x1024_S2048x1024_1_0_0_1_n_n none l r) : (⟨S2048x4096, .f32⟩ : BufTy).Contents (Elt F) → (⟨S4096x1024, .f32⟩ : BufTy).Contents (Elt F) → (⟨S2048x1024, .f32⟩ : BufTy).Contents (Elt F)),
  StableHlo.binary main_arg0 main_v24 main_v25 (addf : (⟨S2048x1024, .f32⟩ : BufTy).Contents (Elt F) → (⟨S2048x1024, .f32⟩ : BufTy).Contents (Elt F) → (⟨S2048x1024, .f32⟩ : BufTy).Contents (Elt F))]
/-- The gradients of the second product and of the squared positive part. -/
def opsC : List (HloOp τ sig (Elt F)) := [
  StableHlo.reshape main_arg4 main_v26 (rfl : (.f32 : EltTy) = .f32) shapeCasts_S2048x1024_S2048x1024,
  StableHlo.binary main_v26 main_v21 main_v27 ((fun l r => Host.dotGeneral dot_S2048x1024_S2048x4096_S1024x4096_0_0_1_1_n_n none l r) : (⟨S2048x1024, .f32⟩ : BufTy).Contents (Elt F) → (⟨S2048x4096, .f32⟩ : BufTy).Contents (Elt F) → (⟨S1024x4096, .f32⟩ : BufTy).Contents (Elt F)),
  StableHlo.unary main_v27 main_v28 ((transpose S4096x1024 [1, 0] · transposes_S1024x4096_S4096x1024_1_0) : (⟨S1024x4096, .f32⟩ : BufTy).Contents (Elt F) → (⟨S4096x1024, .f32⟩ : BufTy).Contents (Elt F)),
  StableHlo.binary main_v26 main_arg3 main_v29 ((fun l r => Host.dotGeneral dot_S2048x1024_S4096x1024_S2048x4096_1_1_0_0_n_n none l r) : (⟨S2048x1024, .f32⟩ : BufTy).Contents (Elt F) → (⟨S4096x1024, .f32⟩ : BufTy).Contents (Elt F) → (⟨S2048x4096, .f32⟩ : BufTy).Contents (Elt F)),
  StableHlo.binary main_v29 main_v23 main_v30 (mulf : (⟨S2048x4096, .f32⟩ : BufTy).Contents (Elt F) → (⟨S2048x4096, .f32⟩ : BufTy).Contents (Elt F) → (⟨S2048x4096, .f32⟩ : BufTy).Contents (Elt F)),
  StableHlo.nullary main_cst_6 (constant S_ .f32 0x00000000#32),
  StableHlo.unary main_cst_6 main_v31 (broadcastInDim S2048x4096 ![] bcast_S_S2048x4096 : (⟨S_, .f32⟩ : BufTy).Contents (Elt F) → (⟨S2048x4096, .f32⟩ : BufTy).Contents (Elt F)),
  StableHlo.ternary main_v19 main_v30 main_v31 main_v32 (select : (⟨S2048x4096, .i1⟩ : BufTy).Contents (Elt F) → (⟨S2048x4096, .f32⟩ : BufTy).Contents (Elt F) → (⟨S2048x4096, .f32⟩ : BufTy).Contents (Elt F) → (⟨S2048x4096, .f32⟩ : BufTy).Contents (Elt F))]
/-- The gradients of the first product. -/
def opsD : List (HloOp τ sig (Elt F)) := [
  StableHlo.binary main_v32 main_v15 main_v33 ((fun l r => Host.dotGeneral dot_S2048x4096_S2048x1024_S4096x1024_0_0_1_1_n_n none l r) : (⟨S2048x4096, .f32⟩ : BufTy).Contents (Elt F) → (⟨S2048x1024, .f32⟩ : BufTy).Contents (Elt F) → (⟨S4096x1024, .f32⟩ : BufTy).Contents (Elt F)),
  StableHlo.unary main_v33 main_v34 ((transpose S1024x4096 [1, 0] · transposes_S4096x1024_S1024x4096_1_0) : (⟨S4096x1024, .f32⟩ : BufTy).Contents (Elt F) → (⟨S1024x4096, .f32⟩ : BufTy).Contents (Elt F)),
  StableHlo.binary main_v32 main_arg2 main_v35 ((fun l r => Host.dotGeneral dot_S2048x4096_S1024x4096_S2048x1024_1_1_0_0_n_n none l r) : (⟨S2048x4096, .f32⟩ : BufTy).Contents (Elt F) → (⟨S1024x4096, .f32⟩ : BufTy).Contents (Elt F) → (⟨S2048x1024, .f32⟩ : BufTy).Contents (Elt F))]
/-- The gradients of the norm. -/
def opsE : List (HloOp τ sig (Elt F)) := [
  StableHlo.binary main_v12 main_v35 main_v36 (mulf : (⟨S2048x1024, .f32⟩ : BufTy).Contents (Elt F) → (⟨S2048x1024, .f32⟩ : BufTy).Contents (Elt F) → (⟨S2048x1024, .f32⟩ : BufTy).Contents (Elt F)),
  StableHlo.nullary main_cst_7 (constant S_ .f32 0x00000000#32),
  StableHlo.binary main_v36 main_cst_7 main_v37 ((fun x v => Host.reduceAdd x v reducesTo_S2048x1024_S1024_d0 h_S_) : (⟨S2048x1024, .f32⟩ : BufTy).Contents (Elt F) → (⟨S_, .f32⟩ : BufTy).Contents (Elt F) → (⟨S1024, .f32⟩ : BufTy).Contents (Elt F)),
  StableHlo.reshape main_v37 main_v38 (rfl : (.f32 : EltTy) = .f32) shapeCasts_S1024_S1x1024,
  StableHlo.unary main_v13 main_v39 (broadcastInDim S2048x1024 ![0, 1] bcast_S1x1024_S2048x1024_0_1 : (⟨S1x1024, .f32⟩ : BufTy).Contents (Elt F) → (⟨S2048x1024, .f32⟩ : BufTy).Contents (Elt F)),
  StableHlo.binary main_v35 main_v39 main_v40 (mulf : (⟨S2048x1024, .f32⟩ : BufTy).Contents (Elt F) → (⟨S2048x1024, .f32⟩ : BufTy).Contents (Elt F) → (⟨S2048x1024, .f32⟩ : BufTy).Contents (Elt F)),
  StableHlo.nullary main_cst_8 (constant S_ .f32 0x00000000#32),
  StableHlo.binary main_v38 main_cst_8 main_v41 ((fun x v => Host.reduceAdd x v reducesTo_S1x1024_S1024_d0 h_S_) : (⟨S1x1024, .f32⟩ : BufTy).Contents (Elt F) → (⟨S_, .f32⟩ : BufTy).Contents (Elt F) → (⟨S1024, .f32⟩ : BufTy).Contents (Elt F)),
  StableHlo.binary main_arg0 main_v40 main_v42 (mulf : (⟨S2048x1024, .f32⟩ : BufTy).Contents (Elt F) → (⟨S2048x1024, .f32⟩ : BufTy).Contents (Elt F) → (⟨S2048x1024, .f32⟩ : BufTy).Contents (Elt F)),
  StableHlo.nullary main_cst_9 (constant S_ .f32 0x00000000#32),
  StableHlo.binary main_v42 main_cst_9 main_v43 ((fun x v => Host.reduceAdd x v reducesTo_S2048x1024_S2048_d1 h_S_) : (⟨S2048x1024, .f32⟩ : BufTy).Contents (Elt F) → (⟨S_, .f32⟩ : BufTy).Contents (Elt F) → (⟨S2048, .f32⟩ : BufTy).Contents (Elt F)),
  StableHlo.reshape main_v43 main_v44 (rfl : (.f32 : EltTy) = .f32) shapeCasts_S2048_S2048x1,
  StableHlo.unary main_v7 main_v45 (broadcastInDim S2048x1024 ![0, 1] bcast_S2048x1_S2048x1024_0_1 : (⟨S2048x1, .f32⟩ : BufTy).Contents (Elt F) → (⟨S2048x1024, .f32⟩ : BufTy).Contents (Elt F)),
  StableHlo.binary main_v40 main_v45 main_v46 (mulf : (⟨S2048x1024, .f32⟩ : BufTy).Contents (Elt F) → (⟨S2048x1024, .f32⟩ : BufTy).Contents (Elt F) → (⟨S2048x1024, .f32⟩ : BufTy).Contents (Elt F)),
  StableHlo.binary main_arg4 main_v46 main_v47 (addf : (⟨S2048x1024, .f32⟩ : BufTy).Contents (Elt F) → (⟨S2048x1024, .f32⟩ : BufTy).Contents (Elt F) → (⟨S2048x1024, .f32⟩ : BufTy).Contents (Elt F)),
  StableHlo.binary main_v44 main_v10 main_v48 (mulf : (⟨S2048x1, .f32⟩ : BufTy).Contents (Elt F) → (⟨S2048x1, .f32⟩ : BufTy).Contents (Elt F) → (⟨S2048x1, .f32⟩ : BufTy).Contents (Elt F)),
  StableHlo.nullary main_cst_10 (constant S_ .f32 0x44800000#32),
  StableHlo.unary main_cst_10 main_v49 (broadcastInDim S2048x1 ![] bcast_S_S2048x1 : (⟨S_, .f32⟩ : BufTy).Contents (Elt F) → (⟨S2048x1, .f32⟩ : BufTy).Contents (Elt F)),
  StableHlo.binary main_v48 main_v49 main_v50 (Host.divf : (⟨S2048x1, .f32⟩ : BufTy).Contents (Elt F) → (⟨S2048x1, .f32⟩ : BufTy).Contents (Elt F) → (⟨S2048x1, .f32⟩ : BufTy).Contents (Elt F)),
  StableHlo.nullary main_cst_11 (constant S_ .f32 0x00000000#32),
  StableHlo.binary main_v50 main_cst_11 main_v51 ((fun x v => Host.reduceAdd x v reducesTo_S2048x1_S2048_d1 h_S_) : (⟨S2048x1, .f32⟩ : BufTy).Contents (Elt F) → (⟨S_, .f32⟩ : BufTy).Contents (Elt F) → (⟨S2048, .f32⟩ : BufTy).Contents (Elt F)),
  StableHlo.unary main_v51 main_v52 (broadcastInDim S2048x1024 ![0] bcast_S2048_S2048x1024_0 : (⟨S2048, .f32⟩ : BufTy).Contents (Elt F) → (⟨S2048x1024, .f32⟩ : BufTy).Contents (Elt F)),
  StableHlo.binary main_arg0 main_v52 main_v53 (mulf : (⟨S2048x1024, .f32⟩ : BufTy).Contents (Elt F) → (⟨S2048x1024, .f32⟩ : BufTy).Contents (Elt F) → (⟨S2048x1024, .f32⟩ : BufTy).Contents (Elt F)),
  StableHlo.binary main_v47 main_v53 main_v54 (addf : (⟨S2048x1024, .f32⟩ : BufTy).Contents (Elt F) → (⟨S2048x1024, .f32⟩ : BufTy).Contents (Elt F) → (⟨S2048x1024, .f32⟩ : BufTy).Contents (Elt F)),
  StableHlo.binary main_v52 main_arg0 main_v55 (mulf : (⟨S2048x1024, .f32⟩ : BufTy).Contents (Elt F) → (⟨S2048x1024, .f32⟩ : BufTy).Contents (Elt F) → (⟨S2048x1024, .f32⟩ : BufTy).Contents (Elt F)),
  StableHlo.binary main_v54 main_v55 main_v56 (addf : (⟨S2048x1024, .f32⟩ : BufTy).Contents (Elt F) → (⟨S2048x1024, .f32⟩ : BufTy).Contents (Elt F) → (⟨S2048x1024, .f32⟩ : BufTy).Contents (Elt F))]
/-- The matrices' gradients in the buffer. -/
def opsG : List (HloOp τ sig (Elt F)) := [
  StableHlo.reshape main_v34 main_v57 (rfl : (.f32 : EltTy) = .f32) shapeCasts_S1024x4096_S1024x4x1024,
  StableHlo.unary main_v57 main_v58 ((transpose S4x1024x1024 [1, 0, 2] · transposes_S1024x4x1024_S4x1024x1024_1_0_2) : (⟨S1024x4x1024, .f32⟩ : BufTy).Contents (Elt F) → (⟨S4x1024x1024, .f32⟩ : BufTy).Contents (Elt F)),
  StableHlo.reshape main_v28 main_v59 (rfl : (.f32 : EltTy) = .f32) shapeCasts_S4096x1024_S4x1024x1024,
  StableHlo.unary main_v58 main_v60 ((truncf .bf16 · bitsLt_bf16_f32) : (⟨S4x1024x1024, .f32⟩ : BufTy).Contents (Elt F) → (⟨S4x1024x1024, .bf16⟩ : BufTy).Contents (Elt F)),
  StableHlo.unary main_v59 main_v61 ((truncf .bf16 · bitsLt_bf16_f32) : (⟨S4x1024x1024, .f32⟩ : BufTy).Contents (Elt F) → (⟨S4x1024x1024, .bf16⟩ : BufTy).Contents (Elt F)),
  StableHlo.unary main_arg5 main_v62 ((extractStridedSlice S4x256x1024 ![0, 2048, 0] · slices_S4x2304x1024_S4x256x1024_0_2048_0) : (⟨S4x2304x1024, .bf16⟩ : BufTy).Contents (Elt F) → (⟨S4x256x1024, .bf16⟩ : BufTy).Contents (Elt F)),
  StableHlo.nary ![main_v60, main_v61, main_v62] main_v63 (fun u => (concatenate S4x2304x1024 1 [⟨S4x1024x1024, (u 0 : (⟨S4x1024x1024, .bf16⟩ : BufTy).Contents (Elt F))⟩, ⟨S4x1024x1024, (u 1 : (⟨S4x1024x1024, .bf16⟩ : BufTy).Contents (Elt F))⟩, ⟨S4x256x1024, (u 2 : (⟨S4x256x1024, .bf16⟩ : BufTy).Contents (Elt F))⟩] concatenates_S4x1024x1024_S4x1024x1024_S4x256x1024_S4x2304x1024_d1 : (⟨S4x2304x1024, .bf16⟩ : BufTy).Contents (Elt F)))]

/-- All of them. -/
def ops : List (HloOp τ sig (Elt F)) := opsA ++ (opsB ++ (opsC ++ (opsD ++ (opsE ++ opsG))))

set_option maxHeartbeats 4000000 in
theorem main_seq (d : Dev nD) : main (F := F) d = StableHlo.seq ops := by
  unfold main main_part0 main_part1 fn_relu.body
  exact (rfl)

theorem fresh : ∀ op ∈ (ops (F := F)), op.fresh = ∅ := by
  intro _ h
  repeat (cases h with | head => rfl | tail _ h => ?_)
  exact nomatch h

theorem bufs_sub : (ops (F := F)).Forall fun op => op.bufs ⊆ StableHlo.tcRefs τ sig := by
  simp [ops, opsA, opsB, opsC, opsD, opsE, opsG]

/-- Every buffer of the reference's run. -/
theorem run (m : (ℓ : Loc nD τ sig) → Buf (Elt F) ℓ) (g : Dev nD → PrngReg) :
    θ_run (defs (F := F)) (onTc (τ := τ) (main (F := F))) ⟨m, fun _ => 0, g⟩ (fun r => ∀ (d : Dev nD) (b : Ref sig .tc),
      r.2.mem ((d.tc : Thread nD τ).loc b) = StableHlo.after ops (StableHlo.launchContents m d) (Proc.devRef .tc b)) :=
  StableHlo.run_hlo _ _ main_seq (by decide) (by decide) bufs_sub fresh m g
end Cert.ReferenceIdeal.Value
end

end
-- ==== Proof.Pure.lean ====
module

public import Idealize.ShloMosaic.Lib.Pointwise

@[expose] public section

noncomputable section
open Idealize.ShloMosaic
/-! The laws of the extended reals by which the reference's gradient of the norm is the kernel's. -/
namespace Mlp

theorem word_1024 : Ideal.ofBits .f32 0x44800000#32 = ((1024 : ℝ) : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num
theorem word_half : Ideal.ofBits .f32 0xBF000000#32 = ((-(1/2) : ℝ) : EReal) := by
  simp [Ideal.ofBits, Ideal.ieee, -EReal.coe_mul, -EReal.coe_neg]; norm_num
theorem word_eps : ∃ ε : ℝ, 0 < ε ∧ Ideal.ofBits .f32 0x358637BD#32 = (ε : EReal) := by
  refine ⟨8796093 * 2 ^ (-43 : ℤ), by norm_num, ?_⟩
  simp [Ideal.ofBits, Ideal.ieee, -EReal.coe_mul]

/-- The root of a square that is not negative. -/
theorem sqrt_mul_self {p : EReal} (h : 0 ≤ p) : Ideal.sqrt (p * p) = p := by
  induction p with
  | bot => exact absurd h (by simp)
  | top => rw [EReal.top_mul_top]; rfl
  | coe p =>
    have hp : 0 ≤ p := by exact_mod_cast h
    rw [← EReal.coe_mul, Ideal.sqrt_coe, if_neg (not_lt.mpr (mul_nonneg hp hp)), Real.sqrt_mul_self hp]

/-- The gradient of the squared positive part, by the root of its square. -/
theorem grad_sq (p s c : EReal) : (if 0 < p then s * (c * max p 0) else 0) = s * (c * Ideal.sqrt (max p 0 * max p 0)) := by
  rw [sqrt_mul_self (le_max_right _ _)]
  split_ifs with h
  · rfl
  · rw [max_eq_right (not_lt.mp h), mul_zero, mul_zero]

/-- A real factor that is not negative, out of a finite sum. -/
theorem sum_mul_real {ι : Type} (s : Finset ι) (f : ι → EReal) {r : ℝ} (hr : 0 ≤ r) : ∑ k ∈ s, f k * (r : EReal) = (∑ k ∈ s, f k) * (r : EReal) := by
  classical
  induction s using Finset.induction_on with
  | empty => simp
  | insert a s ha ih =>
    rw [Finset.sum_insert ha, Finset.sum_insert ha, ih,
      EReal.right_distrib_of_nonneg_of_ne_top (by exact_mod_cast hr) (EReal.coe_ne_top r)]

/-- A finite sum of reals. -/
theorem coe_sum {ι : Type} (s : Finset ι) (f : ι → ℝ) : ((∑ k ∈ s, f k * f k : ℝ) : EReal) = ∑ k ∈ s, (f k : EReal) * (f k : EReal) := by
  classical
  induction s using Finset.induction_on with
  | empty => simp
  | insert a s ha ih => rw [Finset.sum_insert ha, Finset.sum_insert ha, EReal.coe_add, EReal.coe_mul, ih]

theorem add_self (t : EReal) : t + t = t * ((2 : ℝ) : EReal) := by
  induction t with
  | bot => rw [EReal.bot_mul_coe_of_pos (by norm_num)]; rfl
  | top => rw [EReal.top_mul_coe_of_pos (by norm_num)]; rfl
  | coe t => rw [← EReal.coe_add, ← EReal.coe_mul, mul_two]

theorem mul_self_nonneg' (t : EReal) : 0 ≤ t * t := by
  induction t with
  | bot => simp
  | top => simp
  | coe t => rw [← EReal.coe_mul]; exact_mod_cast mul_self_nonneg t

/-- One row of the norm's gradient: the reference's three terms are the kernel's one. -/
theorem grad_row {n : ℕ} (x e : Fin n → EReal) (dr : EReal) (j : Fin n) {N ε : ℝ} (hN : 0 < N) (hε : 0 < ε) {M R : EReal}
    (hM : M = Ideal.div (∑ k, x k * x k) (N : EReal) + (ε : EReal)) (hR : R = Ideal.rsqrt M) :
    dr + e j * R + x j * Ideal.div ((∑ k, x k * e k) * (((-(1/2) : ℝ) : EReal) * Ideal.div R M)) (N : EReal)
        + Ideal.div ((∑ k, x k * e k) * (((-(1/2) : ℝ) : EReal) * Ideal.div R M)) (N : EReal) * x j
      = dr + R * (e j - x j * R * Ideal.div (∑ k, e k * (x k * R)) (N : EReal)) := by
  rw [Ideal.div_coe hN.ne'] at hM
  rw [Ideal.div_coe hN.ne', Ideal.div_coe hN.ne']
  have hN' : 0 < 1 / N := by positivity
  by_cases hx : ∃ k, x k * x k = ⊤
  · obtain ⟨k, hk⟩ := hx
    have hS : ∑ k, x k * x k = ⊤ := top_le_iff.mp (hk ▸ Finset.single_le_sum (f := fun k => x k * x k) (fun i _ => mul_self_nonneg' _) (Finset.mem_univ k))
    have hM' : M = ⊤ := by rw [hM, hS, EReal.top_mul_coe_of_pos hN']; rfl
    have hR' : R = 0 := by rw [hR, hM']; rfl
    have hq : Ideal.div R M = 0 := by rw [hR', hM', Ideal.div, if_neg (by simp), zero_mul]
    rw [hq, hR']
    simp
  · have hx' : ∀ k, ∃ y : ℝ, x k = y := by
      intro k
      have := fun h => hx ⟨k, h⟩
      generalize x k = t at this
      induction t with
      | bot => exact absurd rfl this
      | top => exact absurd rfl this
      | coe t => exact ⟨t, rfl⟩
    choose y hy using hx'
    obtain rfl : x = fun k => (y k : EReal) := funext hy
    dsimp only at hM ⊢
    have hS : ∑ k, (y k : EReal) * (y k : EReal) = ((∑ k, y k * y k : ℝ) : EReal) := (coe_sum _ _).symm
    have hQ : 0 ≤ ∑ k, y k * y k := Finset.sum_nonneg fun k _ => mul_self_nonneg _
    generalize (∑ k, y k * y k : ℝ) = Q at hS hQ
    obtain ⟨μ, hμ, hMμ⟩ : ∃ μ : ℝ, 0 < μ ∧ M = μ := ⟨Q * (1 / N) + ε, by positivity, by rw [hM, hS]; push_cast; rfl⟩
    obtain ⟨ρ, hρ, hRρ, hρμ⟩ : ∃ ρ : ℝ, 0 < ρ ∧ R = ρ ∧ 1 / μ = ρ * ρ := by
      refine ⟨(Real.sqrt μ)⁻¹, inv_pos.mpr (Real.sqrt_pos.mpr hμ), ?_, ?_⟩
      · rw [hR, hMμ, Ideal.rsqrt_coe, if_neg (not_lt.mpr hμ.le), if_neg hμ.ne']
      · rw [← mul_inv, Real.mul_self_sqrt hμ.le, one_div]
    have hT : ∑ k, e k * ((y k : EReal) * R) = (∑ k, (y k : EReal) * e k) * (ρ : EReal) := by
      rw [hRρ, ← sum_mul_real _ _ hρ.le]
      exact Finset.sum_congr rfl fun k _ => by rw [← mul_assoc, mul_comm (e k)]
    rw [hT, hMμ, Ideal.div_coe hμ.ne', hρμ, hRρ]
    generalize (∑ k, (y k : EReal) * e k) = S
    generalize e j = E
    generalize y j = Y
    have h1 : (Y : EReal) * (S * (((-(1/2) : ℝ) : EReal) * ((ρ : EReal) * ((ρ * ρ : ℝ) : EReal))) * ((1 / N : ℝ) : EReal))
        = S * ((-(1/2) * (ρ * (ρ * ρ)) * (1 / N) * Y : ℝ) : EReal) := by
      push_cast; ac_rfl
    have h2 : (S * (((-(1/2) : ℝ) : EReal) * ((ρ : EReal) * ((ρ * ρ : ℝ) : EReal))) * ((1 / N : ℝ) : EReal)) * (Y : EReal)
        = S * ((-(1/2) * (ρ * (ρ * ρ)) * (1 / N) * Y : ℝ) : EReal) := by
      push_cast; ac_rfl
    have h3 : (ρ : EReal) * (E - (Y : EReal) * (ρ : EReal) * (S * (ρ : EReal) * ((1 / N : ℝ) : EReal)))
        = E * (ρ : EReal) + S * ((-(1/2) * (ρ * (ρ * ρ)) * (1 / N) * Y * 2 : ℝ) : EReal) := by
      have h4 : (-(1/2) * (ρ * (ρ * ρ)) * (1 / N) * Y * 2 : ℝ) = -(Y * ρ * (ρ * (1 / N)) * ρ) := by ring
      rw [sub_eq_add_neg, EReal.left_distrib_of_nonneg_of_ne_top (by exact_mod_cast hρ.le) (EReal.coe_ne_top ρ), mul_comm _ E, h4,
        EReal.coe_neg, mul_neg, mul_neg]
      congr 2
      push_cast; ac_rfl
    rw [h1, h2, h3, add_assoc, add_self, mul_assoc, ← EReal.coe_mul, add_assoc]

end Mlp
end

end
-- ==== Proof.RefVal.lean ====
module

public import proofs.«01_k».proof.Proof.Ref
public import proofs.«01_k».proof.Proof.Spec
public import proofs.«01_k».proof.Proof.Pure
public import Idealize.ShloMosaic.Lib.StableHlo.ReadAt
public import Idealize.ShloMosaic.Lib.Pipeline.ValueKit

@[expose] public section

set_option maxRecDepth 16384
noncomputable section
open Idealize.ShloMosaic Idealize.ShloMosaic.TcCoe Idealize.SL.Sem
/-! What each of the reference's six lines leaves, at an index. -/
namespace Cert.ReferenceIdeal.Value
open Cert.ReferenceIdeal Cert.ReferenceIdeal.Gen
variable (V : Valuation τ sig (Elt Ideal))

theorem readA_7 : StableHlo.after opsA V (Proc.devRef .tc main_v7) = fun i => Mlp.inv (V (Proc.devRef .tc main_arg0)) (i 0) := by
  funext i; unfold opsA; after_reads_at; rfl
theorem readA_10 : StableHlo.after opsA V (Proc.devRef .tc main_v10)
    = fun i => Ideal.ofBits .f32 0xBF000000#32 * Ideal.div (Mlp.inv (V (Proc.devRef .tc main_arg0)) (i 0)) (Mlp.ms (V (Proc.devRef .tc main_arg0)) (i 0)) := by
  funext i; unfold opsA; after_reads_at; rfl
theorem readA_12 : StableHlo.after opsA V (Proc.devRef .tc main_v12) = fun i => HMul.hMul (α := EReal) (V (Proc.devRef .tc main_arg0) i) (Mlp.inv (V (Proc.devRef .tc main_arg0)) (i 0)) := by
  funext i; unfold opsA; after_reads_at; rfl
theorem readA_13 : StableHlo.after opsA V (Proc.devRef .tc main_v13) = fun i => V (Proc.devRef .tc main_arg1) (ix1 (i 1)) := by
  funext i; unfold opsA; after_reads_at
theorem readA_15 : StableHlo.after opsA V (Proc.devRef .tc main_v15) = Mlp.norm (V (Proc.devRef .tc main_arg0)) (fun i => V (Proc.devRef .tc main_arg1) (ix1 (i 1))) := by
  funext i; unfold opsA Mlp.norm; after_reads_at; rfl
theorem readB_21 : StableHlo.after opsB V (Proc.devRef .tc main_v21) = Mlp.act (V (Proc.devRef .tc main_v15)) (V (Proc.devRef .tc main_arg2)) := by
  funext i; unfold opsB Mlp.act; after_reads_at
theorem readB_25 : StableHlo.after opsB V (Proc.devRef .tc main_v25) = Mlp.down (Mlp.act (V (Proc.devRef .tc main_v15)) (V (Proc.devRef .tc main_arg2))) (V (Proc.devRef .tc main_arg3)) (V (Proc.devRef .tc main_arg0)) := by
  funext i; unfold opsB Mlp.act Mlp.down; after_reads_at
  exact add_comm (G := EReal) _ _
theorem readC_32 : StableHlo.after opsC (StableHlo.after opsB V) (Proc.devRef .tc main_v32)
    = Mlp.da (V (Proc.devRef .tc main_arg4)) (V (Proc.devRef .tc main_arg3)) (Mlp.act (V (Proc.devRef .tc main_v15)) (V (Proc.devRef .tc main_arg2))) := by
  funext i; unfold opsC opsB Mlp.act Mlp.da; after_reads_at
  exact Mlp.grad_sq _ _ _
theorem readC_28 : StableHlo.after opsC V (Proc.devRef .tc main_v28) = fun i => ∑ k : Fin 2048, HMul.hMul (α := EReal) (V (Proc.devRef .tc main_v21) (ix2 k (i 0))) (V (Proc.devRef .tc main_arg4) (ix2 k (i 1))) := by
  funext i; unfold opsC; after_reads_at
  exact Finset.sum_congr rfl fun k _ => mul_comm (G := EReal) _ _
theorem readD_34 : StableHlo.after opsD V (Proc.devRef .tc main_v34) = fun i => ∑ k : Fin 2048, HMul.hMul (α := EReal) (V (Proc.devRef .tc main_v15) (ix2 k (i 0))) (V (Proc.devRef .tc main_v32) (ix2 k (i 1))) := by
  funext i; unfold opsD; after_reads_at
  exact Finset.sum_congr rfl fun k _ => mul_comm (G := EReal) _ _
theorem readD_35 : StableHlo.after opsD V (Proc.devRef .tc main_v35) = Mlp.dhn (V (Proc.devRef .tc main_v32)) (V (Proc.devRef .tc main_arg2)) := by
  funext i; unfold opsD Mlp.dhn; after_reads_at
theorem readE_41 : StableHlo.after opsE V (Proc.devRef .tc main_v41) = fun i => ∑ k : Fin 2048, HMul.hMul (α := EReal) (V (Proc.devRef .tc main_v35) (ix2 k (i 0))) (V (Proc.devRef .tc main_v12) (ix2 k (i 0))) := by
  funext i; unfold opsE; after_reads_at
  exact (Fin.sum_univ_one (M := EReal) _).trans (Finset.sum_congr rfl fun k _ => mul_comm (G := EReal) _ _)
/-- The reference's terms of the norm's gradient, at an index. -/
theorem dx_at (x : Mlp.M 2048 1024 .f32) (g : Mlp.M 1 1024 .f32) (d dr : Mlp.M 2048 1024 .f32) (i : (⟨2, ![2048, 1024]⟩ : Shape).Idx) :
    dr i + d i * g (ix2 0 (i 1)) * Mlp.inv x (i 0)
        + x i * ∑ _k : Fin 1, Ideal.div ((∑ k : Fin 1024, x (ix2 (i 0) k) * (d (ix2 (i 0) k) * g (ix2 0 k)))
            * (Ideal.ofBits .f32 0xBF000000#32 * Ideal.div (Mlp.inv x (i 0)) (Mlp.ms x (i 0)))) (Ideal.ofBits .f32 0x44800000#32)
        + (∑ _k : Fin 1, Ideal.div ((∑ k : Fin 1024, x (ix2 (i 0) k) * (d (ix2 (i 0) k) * g (ix2 0 k)))
            * (Ideal.ofBits .f32 0xBF000000#32 * Ideal.div (Mlp.inv x (i 0)) (Mlp.ms x (i 0)))) (Ideal.ofBits .f32 0x44800000#32)) * x i
      = dr i + Mlp.inv x (i 0) * (d i * g (ix2 0 (i 1)) - x i * Mlp.inv x (i 0)
          * Ideal.div (∑ k : Fin 1024, d (ix2 (i 0) k) * g (ix2 0 k) * (x (ix2 (i 0) k) * Mlp.inv x (i 0))) (Ideal.ofBits .f32 0x44800000#32)) := by
  obtain ⟨ε, hε, hw⟩ := Mlp.word_eps
  have key := Mlp.grad_row (fun k : Fin 1024 => x (ix2 (i 0) k)) (fun k : Fin 1024 => d (ix2 (i 0) k) * g (ix2 0 k))
    (dr (ix2 (i 0) (i 1))) (i 1) (N := 1024) (by norm_num) hε (M := Mlp.ms x (i 0)) (R := Mlp.inv x (i 0))
    (by unfold Mlp.ms; rw [Mlp.word_1024, hw]) rfl
  rw [← Mlp.word_1024, ← Mlp.word_half, ix2_eta i] at key
  refine Eq.trans ?_ key
  simp only [Fin.sum_univ_one]
/-- The norm's gradient, where the line starts from the norm of the rows. -/
theorem readE_56 (h7 : (V (Proc.devRef .tc main_v7)) = fun i => Mlp.inv (V (Proc.devRef .tc main_arg0)) (i 0))
    (h10 : (V (Proc.devRef .tc main_v10)) = fun i => Ideal.ofBits .f32 0xBF000000#32 * Ideal.div (Mlp.inv (V (Proc.devRef .tc main_arg0)) (i 0)) (Mlp.ms (V (Proc.devRef .tc main_arg0)) (i 0))) :
    StableHlo.after opsE V (Proc.devRef .tc main_v56) = Mlp.dx (V (Proc.devRef .tc main_arg0)) (V (Proc.devRef .tc main_v13)) (V (Proc.devRef .tc main_v35)) (V (Proc.devRef .tc main_arg4)) := by
  funext i; unfold opsE Mlp.dx; after_reads_at
  rw [h7, h10]
  exact dx_at (V (Proc.devRef .tc main_arg0)) (V (Proc.devRef .tc main_v13)) (V (Proc.devRef .tc main_v35)) (V (Proc.devRef .tc main_arg4)) i
/-- The buffer from the two matrices' gradients and what stood in it. -/
def buf (p : Mlp.M 1024 4096 .f32) (q : Mlp.M 4096 1024 .f32) (b : Mlp.T 4 2304 1024 .bf16) : Mlp.T 4 2304 1024 .bf16 := fun i =>
  if (i 1 : ℕ) < 1024 then
    p (ix2 ⟨(i 1 : ℕ) % 1024, Nat.mod_lt _ (by norm_num)⟩ ⟨((i 0 : ℕ) * 1024 + (i 2 : ℕ)) % 4096, Nat.mod_lt _ (by norm_num)⟩)
  else if 1024 ≤ (i 1 : ℕ) ∧ (i 1 : ℕ) < 2048 then
    q (ix2 ⟨((i 0 : ℕ) * 1024 + ((i 1 : ℕ) - 1024)) % 4096, Nat.mod_lt _ (by norm_num)⟩ (i 2))
  else b i
theorem buf_at (p : Mlp.M 1024 4096 .f32) (q : Mlp.M 4096 1024 .f32) (b : Mlp.T 4 2304 1024 .bf16) (x : Fin 4) (y : Fin 2304) (z : Fin 1024)
    (h1 : ∀ h : (y : ℕ) < 1024, (x : ℕ) * 1024 + (z : ℕ) < 4096) (h2 : ∀ h : (y : ℕ) - 1024 < 1024, (x : ℕ) * 1024 + ((y : ℕ) - 1024) < 4096)
    (h3 : ∀ h : ¬ (y : ℕ) - 1024 < 1024, 2048 + ((y : ℕ) - 1024 - 1024) < 2304) :
    (if h : (y : ℕ) < 1024 then p (ix2 ⟨(y : ℕ), h⟩ ⟨(x : ℕ) * 1024 + (z : ℕ), h1 h⟩)
     else if h : (y : ℕ) - 1024 < 1024 then q (ix2 ⟨(x : ℕ) * 1024 + ((y : ℕ) - 1024), h2 h⟩ z)
     else b (ix3 x ⟨2048 + ((y : ℕ) - 1024 - 1024), h3 h⟩ z)) = buf p q b (ix3 x y z) := by
  show _ = if (y : ℕ) < 1024 then _ else if 1024 ≤ (y : ℕ) ∧ (y : ℕ) < 2048 then _ else b (ix3 x y z)
  by_cases hA : (y : ℕ) < 1024
  · rw [dif_pos hA, if_pos hA]
    have := h1 hA
    congr 3
    · exact (Nat.mod_eq_of_lt hA).symm
    · exact (Nat.mod_eq_of_lt this).symm
  · rw [dif_neg hA, if_neg hA]
    by_cases hB : (y : ℕ) - 1024 < 1024
    · rw [dif_pos hB, if_pos ⟨by omega, by omega⟩]
      congr 3
      exact (Nat.mod_eq_of_lt (h2 hB)).symm
    · rw [dif_neg hB, if_neg (by omega)]
      congr 3
      omega
theorem readG_63 : StableHlo.after opsG V (Proc.devRef .tc main_v63) = buf (V (Proc.devRef .tc main_v34)) (V (Proc.devRef .tc main_v28)) (V (Proc.devRef .tc main_arg5)) := by
  funext i; unfold opsG; after_reads_at; after_reads_at
  have h0 : (i 0 : ℕ) < 4 := (i 0).isLt
  have h1 : (i 1 : ℕ) < 2304 := (i 1).isLt
  have h2 : (i 2 : ℕ) < 1024 := (i 2).isLt
  have key := (buf_at (V (Proc.devRef .tc main_v34)) (V (Proc.devRef .tc main_v28)) (V (Proc.devRef .tc main_arg5)) (i 0) (i 1) (i 2) (fun _ => by omega) (fun _ => by omega) (fun _ => by omega)).trans (congrArg (buf (V (Proc.devRef .tc main_v34)) (V (Proc.devRef .tc main_v28)) (V (Proc.devRef .tc main_arg5))) (ix3_eta (n0 := 4) (n1 := 2304) (n2 := 1024) i))
  refine Eq.trans ?_ key
  congr 1

/-- What this line leaves as it was. -/
theorem keepA {r : Ref sig .tc} (hr : r ∉ [main_v0, main_cst, main_v1, main_v2, main_cst_0, main_v3, main_v4, main_cst_1, main_v5, main_v6, main_v7, main_v8, main_cst_2, main_v9, main_v10, main_v11, main_v12, main_v13, main_v14, main_v15]) : StableHlo.after opsA V (Proc.devRef .tc r) = V (Proc.devRef .tc r) :=
  StableHlo.after_unwritten _ (by unfold opsA; rfl) hr V
/-- What this line leaves as it was. -/
theorem keepB {r : Ref sig .tc} (hr : r ∉ [main_v16, main_call0_cst, main_call0_v0, main_v17, main_cst_3, main_v18, main_v19, main_cst_4, main_v20, main_v21, main_cst_5, main_v22, main_v23, main_v24, main_v25]) : StableHlo.after opsB V (Proc.devRef .tc r) = V (Proc.devRef .tc r) :=
  StableHlo.after_unwritten _ (by unfold opsB; rfl) hr V
/-- What this line leaves as it was. -/
theorem keepC {r : Ref sig .tc} (hr : r ∉ [main_v26, main_v27, main_v28, main_v29, main_v30, main_cst_6, main_v31, main_v32]) : StableHlo.after opsC V (Proc.devRef .tc r) = V (Proc.devRef .tc r) :=
  StableHlo.after_unwritten _ (by unfold opsC; rfl) hr V
/-- What this line leaves as it was. -/
theorem keepD {r : Ref sig .tc} (hr : r ∉ [main_v33, main_v34, main_v35]) : StableHlo.after opsD V (Proc.devRef .tc r) = V (Proc.devRef .tc r) :=
  StableHlo.after_unwritten _ (by unfold opsD; rfl) hr V
/-- What this line leaves as it was. -/
theorem keepE {r : Ref sig .tc} (hr : r ∉ [main_v36, main_cst_7, main_v37, main_v38, main_v39, main_v40, main_cst_8, main_v41, main_v42, main_cst_9, main_v43, main_v44, main_v45, main_v46, main_v47, main_v48, main_cst_10, main_v49, main_v50, main_cst_11, main_v51, main_v52, main_v53, main_v54, main_v55, main_v56]) : StableHlo.after opsE V (Proc.devRef .tc r) = V (Proc.devRef .tc r) :=
  StableHlo.after_unwritten _ (by unfold opsE; rfl) hr V
/-- What this line leaves as it was. -/
theorem keepG {r : Ref sig .tc} (hr : r ∉ [main_v57, main_v58, main_v59, main_v60, main_v61, main_v62, main_v63]) : StableHlo.after opsG V (Proc.devRef .tc r) = V (Proc.devRef .tc r) :=
  StableHlo.after_unwritten _ (by unfold opsG; rfl) hr V
end Cert.ReferenceIdeal.Value
end

end
-- ==== Proof.P3Ref.lean ====
module

public import proofs.«01_k».proof.Proof.Gen.Reference3Ideal.Run
public import proofs.«01_k».proof.Proof.RefVal
public import proofs.«01_k».proof.Proof.P3Spec
public import Idealize.ShloMosaic.Lib.Pipeline.ValueKit

@[expose] public section

set_option maxRecDepth 16384
noncomputable section
open Idealize.ShloMosaic Idealize.ShloMosaic.TcCoe Idealize.SL.Sem
/-! The reference's seven results around the gated DeltaNet, from its arguments. -/
namespace Cert.Reference3Ideal.Value
open Cert.Reference3Ideal Cert.Reference3Ideal.Gen

theorem values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16) = Mix.p (m ((c.tc : Thread nD τ).loc main_arg0)) (m ((c.tc : Thread nD τ).loc main_arg1)) (m ((c.tc : Thread nD τ).loc main_arg2))
      ∧ r.2.mem ((c.tc : Thread nD τ).loc main_v18) = Mix.out (m ((c.tc : Thread nD τ).loc main_arg0)) (m ((c.tc : Thread nD τ).loc main_arg3)) (m ((c.tc : Thread nD τ).loc main_arg4))
      ∧ r.2.mem ((c.tc : Thread nD τ).loc main_v23) = Mix.gy (m ((c.tc : Thread nD τ).loc main_arg4)) (m ((c.tc : Thread nD τ).loc main_arg6))
      ∧ r.2.mem ((c.tc : Thread nD τ).loc main_v47) = Mix.gx (n := 4112) (by norm_num) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6))
      ∧ r.2.mem ((c.tc : Thread nD τ).loc main_v32) = Mix.gg (n := 4112) (by norm_num) (m ((c.tc : Thread nD τ).loc main_arg0)) (m ((c.tc : Thread nD τ).loc main_arg2)) (m ((c.tc : Thread nD τ).loc main_arg5))
      ∧ r.2.mem ((c.tc : Thread nD τ).loc main_v50) = Mix.gin (n := 4112) (by norm_num) (m ((c.tc : Thread nD τ).loc main_arg0)) (m ((c.tc : Thread nD τ).loc main_arg1)) (m ((c.tc : Thread nD τ).loc main_arg5)) 1028
      ∧ r.2.mem ((c.tc : Thread nD τ).loc main_v54) = Mix.putOut 256 (m ((c.tc : Thread nD τ).loc main_arg3)) (m ((c.tc : Thread nD τ).loc main_arg6)) (m ((c.tc : Thread nD τ).loc main_arg7))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4))
      ∧ r.2.mem ((c.tc : Thread nD τ).loc main_arg5) = (m ((c.tc : Thread nD τ).loc main_arg5))
      ∧ r.2.mem ((c.tc : Thread nD τ).loc main_arg6) = (m ((c.tc : Thread nD τ).loc main_arg6))
      ∧ r.2.mem ((c.tc : Thread nD τ).loc main_arg7) = (m ((c.tc : Thread nD τ).loc main_arg7)) := by
  refine (θ_run defs _ _).mono (fun r h c => ?_) (run m ρ)
  obtain ⟨h0, h1, h2, h3, h4, h5, h6, hk⟩ := h c
  refine ⟨h0.trans ?_, h1.trans ?_, h2.trans ?_, h3.trans ?_, h4.trans ?_, h5.trans ?_, h6.trans ?_, hk⟩
  all_goals clear h0 h1 h2 h3 h4 h5 h6 hk h
  · funext i; idx_vars i
    pointwise [Mix.p, Mix.mul, Mlp.Y, Mlp.norm, Mlp.inv, Mlp.ms, Mlp.row]
  · funext i; idx_vars i
    pointwise [Mix.out, Mix.onto]
    exact add_comm (G := EReal) _ _
  · funext i; idx_vars i
    pointwise [Mix.gy, Mix.mulT]
  · funext i; idx_vars i
    pointwise [res_main_v47]
    exact Cert.ReferenceIdeal.Value.dx_at (m ((c.tc : Thread nD τ).loc main_arg0)) (Mlp.row (m ((c.tc : Thread nD τ).loc main_arg1))) (Mix.H (n := 4112) (by norm_num) (m ((c.tc : Thread nD τ).loc main_arg2)) (m ((c.tc : Thread nD τ).loc main_arg5))) (m ((c.tc : Thread nD τ).loc main_arg6)) (ix2 i0 i1)
  · funext i; idx_vars i
    pointwise [Mix.gg, Mix.H, Mix.mulT, Mix.narrow, Mlp.dg, Mlp.inv, Mlp.ms]
    exact (Fin.sum_univ_one (M := EReal) _).trans (Finset.sum_congr rfl fun k _ => mul_comm (G := EReal) _ _)
  · funext i; idx_vars i
    pointwise []
    unfold Mix.gin
    rw [Mix.cut_at _ _ _ _ (by omega)]
    exact Finset.sum_congr rfl fun k _ => mul_comm (G := EReal) _ _
  · funext i; idx_vars i
    pointwise []
    refine Eq.trans ?_ (Mix.putOut_at (m ((c.tc : Thread nD τ).loc main_arg3)) (m ((c.tc : Thread nD τ).loc main_arg6)) (m ((c.tc : Thread nD τ).loc main_arg7)) i0 i1 i2 (by omega)).symm
    by_cases h : (i1 : ℕ) < 2048
    · rw [dif_pos h, if_neg (by omega)]
    · refine (dif_neg h).trans (Eq.trans ?_ (if_pos (by omega)).symm)
      exact Finset.sum_congr (M := EReal) rfl fun k _ => mul_comm (G := EReal) _ _

end Cert.Reference3Ideal.Value
end

end
-- ==== Proof.P3Values.lean ====
module

public import proofs.«01_k».proof.Defs
public import proofs.«01_k».proof.Proof.P3Chain
public import proofs.«01_k».proof.Proof.P3Ref
public import Idealize.ShloMosaic.Lib.Quiescent
public import Idealize.ShloMosaic.Lib.Claim

@[expose] public section

noncomputable section
open Idealize.ShloMosaic Idealize.ShloMosaic.TcCoe Idealize.SL.Sem
namespace Mix3

/-- The reference ends with its arguments as they were. -/
theorem kept : Cert.quiescent_Reference3Ideal (hReference3Ideal := Cert.Reference3Ideal.Gen.facts) := by
  intro m g _
  refine θ_run_mono (Cert.Reference3Ideal.Value.values m g) fun r hr => ⟨fun c => ?_, sem_eq_zero_of_no_sems rfl _⟩
  obtain ⟨-, -, -, -, -, -, -, h⟩ := hr c
  exact h

/-- Both leave the products around the gated DeltaNet and their gradients. -/
theorem values : Cert.algebraic_Kernel3Ideal_Reference3Ideal (hKernel3Ideal := Cert.Kernel3Ideal.Gen.facts) (hReference3Ideal := Cert.Reference3Ideal.Gen.facts) := by
  intro m g m' g' _ hm
  refine ⟨fun c => Cert.Kernel3Ideal.Gen.W16 m g c (Proc.devRef .tc Cert.Kernel3Ideal.main_v27),
    fun c => Cert.Kernel3Ideal.Gen.W16 m g c (Proc.devRef .tc Cert.Kernel3Ideal.main_v6),
    fun c => Cert.Kernel3Ideal.Gen.W16 m g c (Proc.devRef .tc Cert.Kernel3Ideal.main_v7),
    fun c => Cert.Kernel3Ideal.Gen.W16 m g c (Proc.devRef .tc Cert.Kernel3Ideal.main_v26_0),
    fun c => Cert.Kernel3Ideal.Gen.W16 m g c (Proc.devRef .tc Cert.Kernel3Ideal.main_v28),
    fun c => Cert.Kernel3Ideal.Gen.W16 m g c (Proc.devRef .tc Cert.Kernel3Ideal.main_v23),
    fun c => Cert.Kernel3Ideal.Gen.W16 m g c (Proc.devRef .tc Cert.Kernel3Ideal.main_v8), ?_, ?_⟩
  · refine θ_run_mono (Cert.Kernel3Ideal.Whole.run m g) fun r hr c => ?_
    have k := fun b hb => hr c _ (Cert.Kernel3Ideal.Gen.mem_uc b hb)
    exact ⟨k _ (by decide), k _ (by decide), k _ (by decide), k _ (by decide), k _ (by decide), k _ (by decide), k _ (by decide),
      (k _ (by decide)).trans (Cert.Kernel3Ideal.Gen.W16_main_arg0 m g c),
      (k _ (by decide)).trans (Cert.Kernel3Ideal.Gen.W16_main_arg1 m g c),
      (k _ (by decide)).trans (Cert.Kernel3Ideal.Gen.W16_main_arg2 m g c),
      (k _ (by decide)).trans (Cert.Kernel3Ideal.Gen.W16_main_arg3 m g c),
      (k _ (by decide)).trans (Cert.Kernel3Ideal.Gen.W16_main_arg4 m g c),
      (k _ (by decide)).trans (Cert.Kernel3Ideal.Gen.W16_main_arg5 m g c),
      (k _ (by decide)).trans (Cert.Kernel3Ideal.Gen.W16_main_arg6 m g c),
      (k _ (by decide)).trans (Cert.Kernel3Ideal.Gen.W16_main_arg7 m g c)⟩
  · refine θ_run_mono (Cert.Reference3Ideal.Value.values m' g') fun r hr c => ?_
    obtain ⟨h0, h1, h2, h3, h4, h5, h6, h7⟩ := hm c
    obtain ⟨r0, r1, r2, r3, r4, r5, r6, h⟩ := hr c
    refine ⟨r0.trans ?_, r1.trans ?_, r2.trans ?_, r3.trans ?_, r4.trans ?_, r5.trans ?_, r6.trans ?_, h⟩
    · exact (congr (congr (congrArg Mix.p h0) h1) h2).trans (Cert.Kernel3Ideal.Value.res_p m g c).symm
    · exact (congr (congr (congrArg Mix.out h0) h3) h4).trans (Cert.Kernel3Ideal.Value.res_out m g c).symm
    · exact (congr (congrArg Mix.gy h4) h6).trans (Cert.Kernel3Ideal.Value.res_gy m g c).symm
    · exact (congr (congr (congr (congr (congrArg (Mix.gx (n := 4112) (by norm_num)) h0) h1) h2) h5) h6).trans (Cert.Kernel3Ideal.Value.res_gx m g c).symm
    · exact (congr (congr (congrArg (Mix.gg (n := 4112) (by norm_num)) h0) h2) h5).trans (Cert.Kernel3Ideal.Value.res_gg m g c).symm
    · exact (congr (congr (congrArg (fun x g e => Mix.gin (n := 4112) (by norm_num) x g e 1028) h0) h1) h5).trans (Cert.Kernel3Ideal.Value.res_gin m g c).symm
    · exact (congr (congr (congrArg (Mix.putOut 256) h3) h6) h7).trans (Cert.Kernel3Ideal.Value.res_buf m g c).symm

end Mix3
end

end
-- ==== Proof.P4Run.lean ====
module

public import proofs.«01_k».proof.Proof.Gen.Kernel4Ideal.Frame

@[expose] public section

set_option maxRecDepth 16384
noncomputable section
namespace Cert.Kernel4Ideal.Whole
open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem
variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- Every weakly fair execution ends with each unscoped buffer of each device at the last boundary's contents. -/
theorem run : θ_run defs (onTc (τ := τ) (main (F := F))) ⟨m, fun _ => 0, ρ⟩
    (fun r => ∀ c : Dev nD, ∀ b ∈ Pipeline.ucRefs τ sig, r.2.mem (((c : Thread nD τ)).1, b) = W16 m ρ c b) :=
  (θ_run defs _ _).mono (fun _ h => h.1) <|
  Pipeline.θ_run_regions_kit_sems (Q := fun r => (∀ c : Dev nD, ∀ b ∈ Pipeline.ucRefs τ sig, r.2.mem (((c : Thread nD τ)).1, b) = W16 m ρ c b) ∧ True)
    (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun c => by
        dsimp only [Pipeline.Seg.post, hseg, Pipeline.HostSeg.ofOps]
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h hz => ⟨h, trivial⟩)

end Cert.Kernel4Ideal.Whole
end

end
-- ==== Proof.P4Reg.lean ====
module

public import proofs.«01_k».proof.Proof.Gen.Kernel4Ideal.Frame
public import proofs.«01_k».proof.Proof.P3Spec
public import Idealize.ShloMosaic.Lib.Pipeline.ValueKit

@[expose] public section

set_option maxRecDepth 16384
noncomputable section
open Idealize.ShloMosaic Idealize.ShloMosaic.TcCoe Idealize.SL.Sem
open Idealize.ShloMosaic.Pipeline (Dat)
/-! What each of the eight calls around the Mamba-2 leaves. -/
namespace Cert.Kernel4Ideal.Value
open Cert.Kernel4Ideal Cert.Kernel4Ideal.Gen
variable (V : (c : Dev nD) → (b : Ref sig .tc) → Buf (Elt Ideal) ((c : Thread nD τ).loc b)) (c : Dev nD)

theorem idx0 : ∀ t : Fin cfg0.N, win0_0.index t = ![t.val, 0] ∧ win0_1.index t = ![0, 0] ∧ win0_2.index t = ![t.val, 0] :=
  (by decide +kernel : ∀ t : Fin grid0.N, _)
/-- The scaled normalised rows. -/
theorem final0 : (dat0 V c).arrAt 2 cfg0.N = Mlp.norm (V c main_arg0) (V c main_v3) := by
  refine (dat0 V c).arrAt_eq_of_covers 2 _ (by decide +kernel) fun t _ y => ?_
  blk_simp
  rw [after0_2]; frame_out
  pointwise [k0_pay1, Mlp.norm, Mlp.inv, Mlp.ms]
  blk_point [iblk0, idx0 t]

theorem idx1 : ∀ t : Fin cfg1.N, win1_0.index t = ![0, 0] ∧ win1_1.index t = ![0, t.val] ∧ win1_2.index t = ![0, t.val] :=
  (by decide +kernel : ∀ t : Fin grid1.N, _)
/-- The mixer's input. -/
theorem final1 : (dat1 V c).arrAt 2 cfg1.N = Mix.mul (V c main_v4) (V c main_v2) := by
  refine (dat1 V c).arrAt_eq_of_covers 2 _ (by decide +kernel) fun t _ y => ?_
  blk_simp
  rw [after1_2]; frame_out
  pointwise [k1_pay1, Mix.mul]
  blk_point [iblk1, idx1 t]

theorem idx2 : ∀ t : Fin cfg2.N, win2_0.index t = ![t.val / 2, 0] ∧ win2_1.index t = ![0, t.val % 2] ∧ win2_2.index t = ![t.val / 2, t.val % 2]
    ∧ win2_3.index t = ![t.val / 2, t.val % 2] :=
  (by decide +kernel : ∀ t : Fin grid2.N, _)
/-- The mixer's output times its matrix, onto the residual. -/
theorem final2 : (dat2 V c).arrAt 3 cfg2.N = Mix.onto (V c main_arg3) (V c main_v1) (V c main_arg0) := by
  refine (dat2 V c).arrAt_eq_of_covers 3 _ (by decide +kernel) fun t _ y => ?_
  blk_simp
  rw [after2_3]; frame_out
  pointwise [k2_pay1, Mix.onto]
  blk_point [iblk2, idx2 t]

theorem idx3 : ∀ t : Fin cfg3.N, win3_0.index t = ![0, 0] ∧ win3_1.index t = ![t.val, 0] ∧ win3_2.index t = ![0, t.val] :=
  (by decide +kernel : ∀ t : Fin grid3.N, _)
/-- The gradient at the mixer's output. -/
theorem final3 : (dat3 V c).arrAt 2 cfg3.N = Mix.mulT (V c main_arg6) (V c main_v1) := by
  refine (dat3 V c).arrAt_eq_of_covers 2 _ (by decide +kernel) fun t _ y => ?_
  blk_simp
  rw [after3_2]; frame_out
  pointwise [k3_pay1, Mix.mulT]
  blk_point [iblk3, idx3 t]

theorem idx4 : ∀ t : Fin cfg4.N, win4_0.index t = ![0, t.val / 2] ∧ win4_1.index t = ![0, t.val % 2] ∧ win4_2.index t = ![t.val / 2, 4, t.val % 2] :=
  (by decide +kernel : ∀ t : Fin grid4.N, _)
/-- The gradient of the output's matrix goes into its rows of the buffer. -/
theorem final4 : (dat4 V c).arrAt 2 cfg4.N = Mix.putOut 512 (V c main_arg3) (V c main_arg6) (V c main_v8) := by
  refine (dat4 V c).arrAt_eq_of_coversWhere 2 (Mix.dwout (s := 512) (V c main_arg3) (V c main_arg6))
    (P := fun i => 2048 ≤ (i (1 : Fin 3) : ℕ)) (fun β => β (1 : Fin 3) = 4) (by decide +kernel) (fun t hf y => ?_)
    (fun j => ?_)
  · blk_simp
    rw [after4_2]; unfold outsAt4; frame_out
    pointwise [k4_pay1, Mix.dwout]
    have ht : t.val < 8 := lt_of_lt_of_eq t.isLt N_4
    have h0 : (y 0 : ℕ) < 1 := lt_of_lt_of_le (y 0).isLt ((cfg4.win 2).xsize_le (grid4.coords t) 0)
    have h1 : (y 1 : ℕ) < 512 := lt_of_lt_of_le (y 1).isLt ((cfg4.win 2).xsize_le (grid4.coords t) 1)
    have h2 : (y 2 : ℕ) < 512 := lt_of_lt_of_le (y 2).isLt ((cfg4.win 2).xsize_le (grid4.coords t) 2)
    blk_point [iblk4, idx4 t]
    all_goals omega
  · have hj : (j (1 : Fin 3) : ℕ) < 2560 := (j 1).isLt
    blk_simp [Pipeline.Window.cell_apply]
    omega

theorem idx5 : ∀ t : Fin cfg5.N, win5_0.index t = ![0, 0] ∧ win5_1.index t = ![0, t.val] ∧ win5_2.index t = ![0, t.val] :=
  (by decide +kernel : ∀ t : Fin grid5.N, _)
/-- The gradient of the input's matrix. -/
theorem final5 : (dat5 V c).arrAt 2 cfg5.N = Mix.tmul (V c main_v4) (V c main_v9) := by
  refine (dat5 V c).arrAt_eq_of_covers 2 _ (by decide +kernel) fun t _ y => ?_
  blk_simp
  rw [after5_2]; frame_out
  pointwise [k5_pay1, Mix.tmul]
  blk_point [iblk5, idx5 t]

theorem idx6 : ∀ t : Fin cfg6.N, win6_0.index t = ![t.val / 2, 0] ∧ win6_1.index t = ![t.val % 2, 0] ∧ win6_2.index t = ![t.val / 2, t.val % 2] :=
  (by decide +kernel : ∀ t : Fin grid6.N, _)
/-- The gradient at the normalised rows. -/
theorem final6 : (dat6 V c).arrAt 2 cfg6.N = Mix.mulT (V c main_v9) (V c main_v2) := by
  refine (dat6 V c).arrAt_eq_of_covers 2 _ (by decide +kernel) fun t _ y => ?_
  blk_simp
  rw [after6_2]; frame_out
  pointwise [k6_pay1, Mix.mulT]
  blk_point [iblk6, idx6 t]

theorem idx7 : ∀ t : Fin cfg7.N, win7_0.index t = ![t.val, 0] ∧ win7_1.index t = ![0, 0] ∧ win7_2.index t = ![t.val, 0]
    ∧ win7_3.index t = ![t.val, 0] ∧ win7_4.index t = ![t.val, 0] ∧ win7_5.index t = ![0, 0] :=
  (by decide +kernel : ∀ t : Fin grid7.N, _)
/-- The gradient at the rows. -/
theorem final7_dx : (dat7 V c).arrAt 4 cfg7.N = Mlp.dx (V c main_arg0) (V c main_v25) (V c main_v24) (V c main_arg6) := by
  refine (dat7 V c).arrAt_eq_of_covers 4 _ (by decide +kernel) fun t _ y => ?_
  blk_simp
  rw [after7_4]
  by_cases h : t.val % 8 = 0
  · rw [outsAt7_A V c t h]; frame_out
    pointwise [k7_pay5, k7_pay4, k7_pay3, k7_pay2, Mlp.dx, Mlp.inv, Mlp.ms]
    blk_point [iblk7, idx7 t]
  · rw [outsAt7_B V c t h]; frame_out
    pointwise [k7_pay5, k7_pay4, k7_pay3, k7_pay2, Mlp.dx, Mlp.inv, Mlp.ms]
    blk_point [iblk7, idx7 t]

theorem zero7 (j) : k7_pay6 (F := Ideal) j = 0 := by pointwise [k7_pay6]
theorem step7 (acc : FVec Ideal S1x1024 .f32) (x0 x2 : FVec Ideal S256x1024 .f32) (j : S1x1024.Idx) :
    k7_pay1 (F := Ideal) (k7_pay7 acc) (k7_pay8 x0 x2) j
      = acc j + ∑ k : Fin 256, x2 (ix2 k (j 1)) * (x0 (ix2 k (j 1)) * Ideal.rsqrt (Ideal.div (∑ l : Fin 1024, x0 (ix2 k l) * x0 (ix2 k l)) (Ideal.ofBits .f32 0x44800000#32) + Ideal.ofBits .f32 0x358637BD#32)) := by
  idx_vars j
  pointwise [k7_pay1, k7_pay7, k7_pay8, k7_pay4, k7_pay3, k7_pay2]
/-- … and the gradient of the scale, over the rows block by block. -/
theorem final7_dg : (dat7 V c).arrAt 5 cfg7.N = Mlp.dg (V c main_arg0) (V c main_v24) := by
  refine (dat7 V c).arrAt_eq_of_covers 5 _ (by decide +kernel) fun t hf y => ?_
  blk_simp
  rw [after7_5, Pipeline.eq_sum_fin_of_reset_step_apply_of_flush (fun n h => (outsAt7 V c n h).2) 8 (fun _ => 0) _
    (fun t h j => by rw [outsAt7_A V c t h]; frame_out; rw [step7, zero7])
    (fun t h j => by rw [outsAt7_B V c t h]; frame_out; rw [step7])
    t ((flush7_5 t).mp hf) _, zero_add]
  unfold Mlp.dg
  refine Fin.sum_mul_add_congr fun s k hl => ?_
  unfold Mlp.inv Mlp.ms
  have ht : t.val < 8 := lt_of_lt_of_eq t.isLt N_7
  blk_point [iblk7, idx7 t, idx7 ⟨_, Pipeline.run_point_lt_of_flush t ((flush7_5 t).mp hf) s⟩]

end Cert.Kernel4Ideal.Value
end

end
-- ==== Proof.P4Chain.lean ====
module

public import proofs.«01_k».proof.Proof.P4Run
public import proofs.«01_k».proof.Proof.P4Reg
public import Idealize.ShloMosaic.Lib.StableHlo.ReadAt
public import Idealize.ShloMosaic.Lib.Claim

@[expose] public section

set_option maxRecDepth 16384
noncomputable section
open Idealize.ShloMosaic Idealize.ShloMosaic.TcCoe Idealize.SL.Sem
/-! The eight calls around the Mamba-2 one after the other: what each leaves, from the arguments. -/
namespace Cert.Kernel4Ideal.Value
open Cert.Kernel4Ideal Cert.Kernel4Ideal.Gen
variable (m : (ℓ : Loc nD τ sig) → Buf (Elt Ideal) ℓ) (ρ : Dev nD → PrngReg) (c : Dev nD)

/-- The two matrices and the scale as the calls take them. -/
theorem v0_1 : W1 m ρ c (Proc.devRef .tc main_v0) = (m ((c : Thread nD τ).loc main_arg2)) := by
  unfold W1; after_reads_simp; rfl
theorem v1_1 : W1 m ρ c (Proc.devRef .tc main_v1) = (m ((c : Thread nD τ).loc main_arg4)) := by
  unfold W1; after_reads_simp; rfl
theorem v2_2 : W2 m ρ c (Proc.devRef .tc main_v2) = (Mix.wide (m ((c : Thread nD τ).loc main_arg2)) : Mlp.M 1024 6272 .f32) := by
  have h : W2 m ρ c (Proc.devRef .tc main_v2) = (Mix.wide (W1 m ρ c (Proc.devRef .tc main_v0) : Mlp.M 1024 6176 .f32) : Mlp.M 1024 6272 .f32) := by
    funext i; unfold W2 Mix.wide; after_reads_at
    have z : (FloatOps.sitofp FTy.bf16 0#32 : Ideal .bf16) = 0 := by show (((0#32 : BitVec 32).toInt : ℝ) : EReal) = 0; simp
    rw [z]
  rw [h, v0_1]
theorem v3_3 : W3 m ρ c (Proc.devRef .tc main_v3) = Mlp.row (m ((c : Thread nD τ).loc main_arg1)) := by
  have h : W3 m ρ c (Proc.devRef .tc main_v3) = Mlp.row (W2 m ρ c (Proc.devRef .tc main_arg1)) := by
    funext i; unfold W3 Mlp.row; after_reads_at
  rw [h, W2_args m ρ c main_arg1 (by decide)]
theorem v2_3 : W3 m ρ c (Proc.devRef .tc main_v2) = (Mix.wide (m ((c : Thread nD τ).loc main_arg2)) : Mlp.M 1024 6272 .f32) :=
  (W3_of m ρ c main_v2 (by decide)).trans <| v2_2 m ρ c
/-- The normalised rows. -/
theorem v4_4 : W4 m ρ c (Proc.devRef .tc main_v4) = Mlp.Y (m ((c : Thread nD τ).loc main_arg0)) (m ((c : Thread nD τ).loc main_arg1)) := by
  refine (W4_arr m ρ c 2).trans ((final0 (V3 m ρ) c).trans ?_)
  rw [show V3 m ρ c main_arg0 = _ from W3_args m ρ c main_arg0 (by decide), show V3 m ρ c main_v3 = _ from v3_3 m ρ c]; rfl
theorem v2_4 : W4 m ρ c (Proc.devRef .tc main_v2) = (Mix.wide (m ((c : Thread nD τ).loc main_arg2)) : Mlp.M 1024 6272 .f32) :=
  (W4_of m ρ c main_v2 (by decide)).trans <| v2_3 m ρ c
/-- The mixer's input, with the columns past its own. -/
theorem v5_5 : W5 m ρ c (Proc.devRef .tc main_v5) = Mix.mul (Mlp.Y (m ((c : Thread nD τ).loc main_arg0)) (m ((c : Thread nD τ).loc main_arg1))) (Mix.wide (m ((c : Thread nD τ).loc main_arg2)) : Mlp.M 1024 6272 .f32) := by
  refine (W5_arr m ρ c 2).trans ((final1 (V4 m ρ) c).trans ?_)
  rw [show V4 m ρ c main_v4 = _ from v4_4 m ρ c, show V4 m ρ c main_v2 = _ from v2_4 m ρ c]
theorem v1_5 : W5 m ρ c (Proc.devRef .tc main_v1) = (m ((c : Thread nD τ).loc main_arg4)) :=
  (W5_of m ρ c main_v1 (by decide)).trans <|
  (W4_of m ρ c main_v1 (by decide)).trans <|
  (W3_of m ρ c main_v1 (by decide)).trans <|
  (W2_of m ρ c main_v1 (by decide)).trans <| v1_1 m ρ c
/-- The output. -/
theorem v6_6 : W6 m ρ c (Proc.devRef .tc main_v6) = Mix.out (m ((c : Thread nD τ).loc main_arg0)) (m ((c : Thread nD τ).loc main_arg3)) (m ((c : Thread nD τ).loc main_arg4)) := by
  refine (W6_arr m ρ c 3).trans ((final2 (V5 m ρ) c).trans ?_)
  rw [show V5 m ρ c main_arg3 = _ from W5_args m ρ c main_arg3 (by decide), show V5 m ρ c main_v1 = _ from v1_5 m ρ c, show V5 m ρ c main_arg0 = _ from W5_args m ρ c main_arg0 (by decide)]; rfl
theorem v1_6 : W6 m ρ c (Proc.devRef .tc main_v1) = (m ((c : Thread nD τ).loc main_arg4)) :=
  (W6_of m ρ c main_v1 (by decide)).trans <| v1_5 m ρ c
/-- The gradient at the mixer's output. -/
theorem v7_7 : W7 m ρ c (Proc.devRef .tc main_v7) = Mix.gy (m ((c : Thread nD τ).loc main_arg4)) (m ((c : Thread nD τ).loc main_arg6)) := by
  refine (W7_arr m ρ c 2).trans ((final3 (V6 m ρ) c).trans ?_)
  rw [show V6 m ρ c main_arg6 = _ from W6_args m ρ c main_arg6 (by decide), show V6 m ρ c main_v1 = _ from v1_6 m ρ c]; rfl
theorem v8_8 : W8 m ρ c (Proc.devRef .tc main_v8) = (m ((c : Thread nD τ).loc main_arg7)) := by
  have h : W8 m ρ c (Proc.devRef .tc main_v8) = W7 m ρ c (Proc.devRef .tc main_arg7) := by unfold W8; after_reads_simp; rfl
  exact h.trans (W7_args m ρ c main_arg7 (by decide))
/-- The buffer with the output's matrix's gradient. -/
theorem v8_9 : W9 m ρ c (Proc.devRef .tc main_v8) = Mix.putOut 512 (m ((c : Thread nD τ).loc main_arg3)) (m ((c : Thread nD τ).loc main_arg6)) (m ((c : Thread nD τ).loc main_arg7)) := by
  refine (W9_arr m ρ c 2).trans ((final4 (V8 m ρ) c).trans ?_)
  rw [show V8 m ρ c main_arg3 = _ from W8_args m ρ c main_arg3 (by decide), show V8 m ρ c main_arg6 = _ from W8_args m ρ c main_arg6 (by decide), show V8 m ρ c main_v8 = _ from v8_8 m ρ c]
theorem v9_10 : W10 m ρ c (Proc.devRef .tc main_v9) = (m ((c : Thread nD τ).loc main_arg5)) := by
  have h : W10 m ρ c (Proc.devRef .tc main_v9) = W9 m ρ c (Proc.devRef .tc main_arg5) := by unfold W10; after_reads_simp; rfl
  exact h.trans (W9_args m ρ c main_arg5 (by decide))
theorem v4_10 : W10 m ρ c (Proc.devRef .tc main_v4) = Mlp.Y (m ((c : Thread nD τ).loc main_arg0)) (m ((c : Thread nD τ).loc main_arg1)) :=
  (W10_of m ρ c main_v4 (by decide)).trans <|
  (W9_of m ρ c main_v4 (by decide)).trans <|
  (W8_of m ρ c main_v4 (by decide)).trans <|
  (W7_of m ρ c main_v4 (by decide)).trans <|
  (W6_of m ρ c main_v4 (by decide)).trans <|
  (W5_of m ρ c main_v4 (by decide)).trans <| v4_4 m ρ c
/-- The gradient at the input's matrix, with the columns past its own. -/
theorem v10_11 : W11 m ρ c (Proc.devRef .tc main_v10) = Mix.tmul (Mlp.Y (m ((c : Thread nD τ).loc main_arg0)) (m ((c : Thread nD τ).loc main_arg1))) ((m ((c : Thread nD τ).loc main_arg5)) : Mlp.M 2048 6272 .f32) := by
  refine (W11_arr m ρ c 2).trans ((final5 (V10 m ρ) c).trans ?_)
  rw [show V10 m ρ c main_v4 = _ from v4_10 m ρ c, show V10 m ρ c main_v9 = _ from v9_10 m ρ c]
/-- It, by shards. -/
theorem v23_12 : W12 m ρ c (Proc.devRef .tc main_v23) = Mix.gin (n := 6176) (by norm_num) (m ((c : Thread nD τ).loc main_arg0)) (m ((c : Thread nD τ).loc main_arg1)) (m ((c : Thread nD τ).loc main_arg5)) 1544 := by
  have h : W12 m ρ c (Proc.devRef .tc main_v23) = (Mix.cut (Mix.narrow (n := 6176) (by norm_num) (W11 m ρ c (Proc.devRef .tc main_v10) : Mlp.M 1024 6272 .f32) : Mlp.M 1024 6176 .f32) : Mlp.T 4 1024 1544 .f32) := by
    have put : ∀ (b : Fin 1024) (p : Fin 6272) (q : Fin 6176), (p : ℕ) = q →
        W11 m ρ c (Proc.devRef .tc main_v10) (ix2 b p) = (Mix.narrow (n := 6176) (by norm_num) (W11 m ρ c (Proc.devRef .tc main_v10) : Mlp.M 1024 6272 .f32) : Mlp.M 1024 6176 .f32) (ix2 b q) :=
      fun b p q e => congrArg (fun t => W11 m ρ c (Proc.devRef .tc main_v10) (ix2 b t)) (Fin.ext e)
    funext i
    idx_vars i
    rw [Mix.cut_at _ _ _ _ (by omega)]
    unfold W12; after_reads_at
    by_cases h0 : (i0 : ℕ) < 1
    · rw [dif_pos h0]; after_reads_at; refine put _ _ _ ?_; dsimp only; omega
    rw [dif_neg h0]
    by_cases h1 : (i0 : ℕ) - 1 < 1
    · rw [dif_pos h1]; after_reads_at; refine put _ _ _ ?_; dsimp only; omega
    rw [dif_neg h1]
    by_cases h2 : (i0 : ℕ) - 1 - 1 < 1
    · rw [dif_pos h2]; after_reads_at; refine put _ _ _ ?_; dsimp only; omega
    rw [dif_neg h2]; after_reads_at; refine put _ _ _ ?_; dsimp only; omega
  rw [h, v10_11]; rfl
theorem v9_12 : W12 m ρ c (Proc.devRef .tc main_v9) = (m ((c : Thread nD τ).loc main_arg5)) :=
  (W12_of m ρ c main_v9 (by decide)).trans <|
  (W11_of m ρ c main_v9 (by decide)).trans <| v9_10 m ρ c
theorem v2_12 : W12 m ρ c (Proc.devRef .tc main_v2) = (Mix.wide (m ((c : Thread nD τ).loc main_arg2)) : Mlp.M 1024 6272 .f32) :=
  (W12_of m ρ c main_v2 (by decide)).trans <|
  (W11_of m ρ c main_v2 (by decide)).trans <|
  (W10_of m ρ c main_v2 (by decide)).trans <|
  (W9_of m ρ c main_v2 (by decide)).trans <|
  (W8_of m ρ c main_v2 (by decide)).trans <|
  (W7_of m ρ c main_v2 (by decide)).trans <|
  (W6_of m ρ c main_v2 (by decide)).trans <|
  (W5_of m ρ c main_v2 (by decide)).trans <| v2_4 m ρ c
/-- The gradient at the normalised rows. -/
theorem v24_13 : W13 m ρ c (Proc.devRef .tc main_v24) = Mix.H (n := 6176) (by norm_num) (m ((c : Thread nD τ).loc main_arg2)) (m ((c : Thread nD τ).loc main_arg5)) := by
  refine (W13_arr m ρ c 2).trans ((final6 (V12 m ρ) c).trans ?_)
  rw [show V12 m ρ c main_v9 = _ from v9_12 m ρ c, show V12 m ρ c main_v2 = _ from v2_12 m ρ c]
  exact Mix.mulT_wide (n := 6176) (by norm_num) (m ((c : Thread nD τ).loc main_arg5)) (m ((c : Thread nD τ).loc main_arg2))
theorem v24_14 : W14 m ρ c (Proc.devRef .tc main_v24) = Mix.H (n := 6176) (by norm_num) (m ((c : Thread nD τ).loc main_arg2)) (m ((c : Thread nD τ).loc main_arg5)) :=
  (W14_of m ρ c main_v24 (by decide)).trans <| v24_13 m ρ c
theorem v25_14 : W14 m ρ c (Proc.devRef .tc main_v25) = Mlp.row (m ((c : Thread nD τ).loc main_arg1)) := by
  have h : W14 m ρ c (Proc.devRef .tc main_v25) = Mlp.row (W13 m ρ c (Proc.devRef .tc main_arg1)) := by
    funext i; unfold W14 Mlp.row; after_reads_at
  rw [h, W13_args m ρ c main_arg1 (by decide)]
/-- The gradient at the rows. -/
theorem v26_15 : W15 m ρ c (Proc.devRef .tc main_v26_0) = Mix.gx (n := 6176) (by norm_num) (m ((c : Thread nD τ).loc main_arg0)) (m ((c : Thread nD τ).loc main_arg1)) (m ((c : Thread nD τ).loc main_arg2)) (m ((c : Thread nD τ).loc main_arg5)) (m ((c : Thread nD τ).loc main_arg6)) := by
  refine (W15_arr m ρ c 4).trans ((final7_dx (V14 m ρ) c).trans ?_)
  rw [show V14 m ρ c main_v25 = _ from v25_14 m ρ c, show V14 m ρ c main_v24 = _ from v24_14 m ρ c, show V14 m ρ c main_arg0 = _ from W14_args m ρ c main_arg0 (by decide), show V14 m ρ c main_arg6 = _ from W14_args m ρ c main_arg6 (by decide)]; rfl
/-- The gradient at the scale, as one row. -/
theorem v26b_15 : W15 m ρ c (Proc.devRef .tc main_v26_1) = Mlp.dg (m ((c : Thread nD τ).loc main_arg0)) (Mix.H (n := 6176) (by norm_num) (m ((c : Thread nD τ).loc main_arg2)) (m ((c : Thread nD τ).loc main_arg5))) := by
  refine (W15_arr m ρ c 5).trans ((final7_dg (V14 m ρ) c).trans ?_)
  rw [show V14 m ρ c main_v24 = _ from v24_14 m ρ c, show V14 m ρ c main_arg0 = _ from W14_args m ρ c main_arg0 (by decide)]

/-! The seven results where the program ends. -/
theorem v5_15 : W15 m ρ c (Proc.devRef .tc main_v5) = Mix.mul (Mlp.Y (m ((c : Thread nD τ).loc main_arg0)) (m ((c : Thread nD τ).loc main_arg1))) (Mix.wide (m ((c : Thread nD τ).loc main_arg2)) : Mlp.M 1024 6272 .f32) :=
  (W15_of m ρ c main_v5 (by decide)).trans <|
  (W14_of m ρ c main_v5 (by decide)).trans <|
  (W13_of m ρ c main_v5 (by decide)).trans <|
  (W12_of m ρ c main_v5 (by decide)).trans <|
  (W11_of m ρ c main_v5 (by decide)).trans <|
  (W10_of m ρ c main_v5 (by decide)).trans <|
  (W9_of m ρ c main_v5 (by decide)).trans <|
  (W8_of m ρ c main_v5 (by decide)).trans <|
  (W7_of m ρ c main_v5 (by decide)).trans <|
  (W6_of m ρ c main_v5 (by decide)).trans <| v5_5 m ρ c
theorem res_p : W16 m ρ c (Proc.devRef .tc main_v27) = Mix.p (m ((c : Thread nD τ).loc main_arg0)) (m ((c : Thread nD τ).loc main_arg1)) (m ((c : Thread nD τ).loc main_arg2)) := by
  have h : W16 m ρ c (Proc.devRef .tc main_v27) = (Mix.narrow (n := 6176) (by norm_num) (W15 m ρ c (Proc.devRef .tc main_v5) : Mlp.M 2048 6272 .f32) : Mlp.M 2048 6176 .f32) := by
    funext i; unfold W16 Mix.narrow; after_reads_at
  rw [h, v5_15]; exact Mix.narrow_mul_wide (n := 6176) (by norm_num) (Mlp.Y (m ((c : Thread nD τ).loc main_arg0)) (m ((c : Thread nD τ).loc main_arg1))) (m ((c : Thread nD τ).loc main_arg2))
theorem res_out : W16 m ρ c (Proc.devRef .tc main_v6) = Mix.out (m ((c : Thread nD τ).loc main_arg0)) (m ((c : Thread nD τ).loc main_arg3)) (m ((c : Thread nD τ).loc main_arg4)) :=
  (W16_of m ρ c main_v6 (by decide)).trans <|
  (W15_of m ρ c main_v6 (by decide)).trans <|
  (W14_of m ρ c main_v6 (by decide)).trans <|
  (W13_of m ρ c main_v6 (by decide)).trans <|
  (W12_of m ρ c main_v6 (by decide)).trans <|
  (W11_of m ρ c main_v6 (by decide)).trans <|
  (W10_of m ρ c main_v6 (by decide)).trans <|
  (W9_of m ρ c main_v6 (by decide)).trans <|
  (W8_of m ρ c main_v6 (by decide)).trans <|
  (W7_of m ρ c main_v6 (by decide)).trans <| v6_6 m ρ c
theorem res_gy : W16 m ρ c (Proc.devRef .tc main_v7) = Mix.gy (m ((c : Thread nD τ).loc main_arg4)) (m ((c : Thread nD τ).loc main_arg6)) :=
  (W16_of m ρ c main_v7 (by decide)).trans <|
  (W15_of m ρ c main_v7 (by decide)).trans <|
  (W14_of m ρ c main_v7 (by decide)).trans <|
  (W13_of m ρ c main_v7 (by decide)).trans <|
  (W12_of m ρ c main_v7 (by decide)).trans <|
  (W11_of m ρ c main_v7 (by decide)).trans <|
  (W10_of m ρ c main_v7 (by decide)).trans <|
  (W9_of m ρ c main_v7 (by decide)).trans <|
  (W8_of m ρ c main_v7 (by decide)).trans <| v7_7 m ρ c
theorem res_gx : W16 m ρ c (Proc.devRef .tc main_v26_0) = Mix.gx (n := 6176) (by norm_num) (m ((c : Thread nD τ).loc main_arg0)) (m ((c : Thread nD τ).loc main_arg1)) (m ((c : Thread nD τ).loc main_arg2)) (m ((c : Thread nD τ).loc main_arg5)) (m ((c : Thread nD τ).loc main_arg6)) :=
  (W16_of m ρ c main_v26_0 (by decide)).trans <| v26_15 m ρ c
theorem res_gg : W16 m ρ c (Proc.devRef .tc main_v28) = Mix.gg (n := 6176) (by norm_num) (m ((c : Thread nD τ).loc main_arg0)) (m ((c : Thread nD τ).loc main_arg2)) (m ((c : Thread nD τ).loc main_arg5)) := by
  have h : W16 m ρ c (Proc.devRef .tc main_v28) = fun i : (⟨1, ![1024]⟩ : Shape).Idx => W15 m ρ c (Proc.devRef .tc main_v26_1) (ix2 0 (i 0)) := by
    funext i; unfold W16; after_reads_at
  rw [h, v26b_15]; rfl
theorem res_gin : W16 m ρ c (Proc.devRef .tc main_v23) = Mix.gin (n := 6176) (by norm_num) (m ((c : Thread nD τ).loc main_arg0)) (m ((c : Thread nD τ).loc main_arg1)) (m ((c : Thread nD τ).loc main_arg5)) 1544 :=
  (W16_of m ρ c main_v23 (by decide)).trans <|
  (W15_of m ρ c main_v23 (by decide)).trans <|
  (W14_of m ρ c main_v23 (by decide)).trans <|
  (W13_of m ρ c main_v23 (by decide)).trans <| v23_12 m ρ c
theorem res_buf : W16 m ρ c (Proc.devRef .tc main_v8) = Mix.putOut 512 (m ((c : Thread nD τ).loc main_arg3)) (m ((c : Thread nD τ).loc main_arg6)) (m ((c : Thread nD τ).loc main_arg7)) :=
  (W16_of m ρ c main_v8 (by decide)).trans <|
  (W15_of m ρ c main_v8 (by decide)).trans <|
  (W14_of m ρ c main_v8 (by decide)).trans <|
  (W13_of m ρ c main_v8 (by decide)).trans <|
  (W12_of m ρ c main_v8 (by decide)).trans <|
  (W11_of m ρ c main_v8 (by decide)).trans <|
  (W10_of m ρ c main_v8 (by decide)).trans <| v8_9 m ρ c

end Cert.Kernel4Ideal.Value
end

end
-- ==== Proof.P4Ref.lean ====
module

public import proofs.«01_k».proof.Proof.Gen.Reference4Ideal.Run
public import proofs.«01_k».proof.Proof.RefVal
public import proofs.«01_k».proof.Proof.P3Spec
public import Idealize.ShloMosaic.Lib.Pipeline.ValueKit

@[expose] public section

set_option maxRecDepth 16384
noncomputable section
open Idealize.ShloMosaic Idealize.ShloMosaic.TcCoe Idealize.SL.Sem
/-! The reference's seven results around the Mamba-2, from its arguments. -/
namespace Cert.Reference4Ideal.Value
open Cert.Reference4Ideal Cert.Reference4Ideal.Gen

theorem values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16) = Mix.p (m ((c.tc : Thread nD τ).loc main_arg0)) (m ((c.tc : Thread nD τ).loc main_arg1)) (m ((c.tc : Thread nD τ).loc main_arg2))
      ∧ r.2.mem ((c.tc : Thread nD τ).loc main_v18) = Mix.out (m ((c.tc : Thread nD τ).loc main_arg0)) (m ((c.tc : Thread nD τ).loc main_arg3)) (m ((c.tc : Thread nD τ).loc main_arg4))
      ∧ r.2.mem ((c.tc : Thread nD τ).loc main_v23) = Mix.gy (m ((c.tc : Thread nD τ).loc main_arg4)) (m ((c.tc : Thread nD τ).loc main_arg6))
      ∧ r.2.mem ((c.tc : Thread nD τ).loc main_v47) = Mix.gx (n := 6176) (by norm_num) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6))
      ∧ r.2.mem ((c.tc : Thread nD τ).loc main_v32) = Mix.gg (n := 6176) (by norm_num) (m ((c.tc : Thread nD τ).loc main_arg0)) (m ((c.tc : Thread nD τ).loc main_arg2)) (m ((c.tc : Thread nD τ).loc main_arg5))
      ∧ r.2.mem ((c.tc : Thread nD τ).loc main_v50) = Mix.gin (n := 6176) (by norm_num) (m ((c.tc : Thread nD τ).loc main_arg0)) (m ((c.tc : Thread nD τ).loc main_arg1)) (m ((c.tc : Thread nD τ).loc main_arg5)) 1544
      ∧ r.2.mem ((c.tc : Thread nD τ).loc main_v54) = Mix.putOut 512 (m ((c.tc : Thread nD τ).loc main_arg3)) (m ((c.tc : Thread nD τ).loc main_arg6)) (m ((c.tc : Thread nD τ).loc main_arg7))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4))
      ∧ r.2.mem ((c.tc : Thread nD τ).loc main_arg5) = (m ((c.tc : Thread nD τ).loc main_arg5))
      ∧ r.2.mem ((c.tc : Thread nD τ).loc main_arg6) = (m ((c.tc : Thread nD τ).loc main_arg6))
      ∧ r.2.mem ((c.tc : Thread nD τ).loc main_arg7) = (m ((c.tc : Thread nD τ).loc main_arg7)) := by
  refine (θ_run defs _ _).mono (fun r h c => ?_) (run m ρ)
  obtain ⟨h0, h1, h2, h3, h4, h5, h6, hk⟩ := h c
  refine ⟨h0.trans ?_, h1.trans ?_, h2.trans ?_, h3.trans ?_, h4.trans ?_, h5.trans ?_, h6.trans ?_, hk⟩
  all_goals clear h0 h1 h2 h3 h4 h5 h6 hk h
  · funext i; idx_vars i
    pointwise [Mix.p, Mix.mul, Mlp.Y, Mlp.norm, Mlp.inv, Mlp.ms, Mlp.row]
  · funext i; idx_vars i
    pointwise [Mix.out, Mix.onto]
    exact add_comm (G := EReal) _ _
  · funext i; idx_vars i
    pointwise [Mix.gy, Mix.mulT]
  · funext i; idx_vars i
    pointwise [res_main_v47]
    exact Cert.ReferenceIdeal.Value.dx_at (m ((c.tc : Thread nD τ).loc main_arg0)) (Mlp.row (m ((c.tc : Thread nD τ).loc main_arg1))) (Mix.H (n := 6176) (by norm_num) (m ((c.tc : Thread nD τ).loc main_arg2)) (m ((c.tc : Thread nD τ).loc main_arg5))) (m ((c.tc : Thread nD τ).loc main_arg6)) (ix2 i0 i1)
  · funext i; idx_vars i
    pointwise [Mix.gg, Mix.H, Mix.mulT, Mix.narrow, Mlp.dg, Mlp.inv, Mlp.ms]
    exact (Fin.sum_univ_one (M := EReal) _).trans (Finset.sum_congr rfl fun k _ => mul_comm (G := EReal) _ _)
  · funext i; idx_vars i
    pointwise []
    unfold Mix.gin
    rw [Mix.cut_at _ _ _ _ (by omega)]
    exact Finset.sum_congr rfl fun k _ => mul_comm (G := EReal) _ _
  · funext i; idx_vars i
    pointwise []
    refine Eq.trans ?_ (Mix.putOut_at (m ((c.tc : Thread nD τ).loc main_arg3)) (m ((c.tc : Thread nD τ).loc main_arg6)) (m ((c.tc : Thread nD τ).loc main_arg7)) i0 i1 i2 (by omega)).symm
    by_cases h : (i1 : ℕ) < 2048
    · rw [dif_pos h, if_neg (by omega)]
    · refine (dif_neg h).trans (Eq.trans ?_ (if_pos (by omega)).symm)
      exact Finset.sum_congr (M := EReal) rfl fun k _ => mul_comm (G := EReal) _ _

end Cert.Reference4Ideal.Value
end

end
-- ==== Proof.P4Values.lean ====
module

public import proofs.«01_k».proof.Defs
public import proofs.«01_k».proof.Proof.P4Chain
public import proofs.«01_k».proof.Proof.P4Ref
public import Idealize.ShloMosaic.Lib.Quiescent
public import Idealize.ShloMosaic.Lib.Claim

@[expose] public section

noncomputable section
open Idealize.ShloMosaic Idealize.ShloMosaic.TcCoe Idealize.SL.Sem
namespace Mix4

/-- The reference ends with its arguments as they were. -/
theorem kept : Cert.quiescent_Reference4Ideal (hReference4Ideal := Cert.Reference4Ideal.Gen.facts) := by
  intro m g _
  refine θ_run_mono (Cert.Reference4Ideal.Value.values m g) fun r hr => ⟨fun c => ?_, sem_eq_zero_of_no_sems rfl _⟩
  obtain ⟨-, -, -, -, -, -, -, h⟩ := hr c
  exact h

/-- Both leave the products around the Mamba-2 and their gradients. -/
theorem values : Cert.algebraic_Kernel4Ideal_Reference4Ideal (hKernel4Ideal := Cert.Kernel4Ideal.Gen.facts) (hReference4Ideal := Cert.Reference4Ideal.Gen.facts) := by
  intro m g m' g' _ hm
  refine ⟨fun c => Cert.Kernel4Ideal.Gen.W16 m g c (Proc.devRef .tc Cert.Kernel4Ideal.main_v27),
    fun c => Cert.Kernel4Ideal.Gen.W16 m g c (Proc.devRef .tc Cert.Kernel4Ideal.main_v6),
    fun c => Cert.Kernel4Ideal.Gen.W16 m g c (Proc.devRef .tc Cert.Kernel4Ideal.main_v7),
    fun c => Cert.Kernel4Ideal.Gen.W16 m g c (Proc.devRef .tc Cert.Kernel4Ideal.main_v26_0),
    fun c => Cert.Kernel4Ideal.Gen.W16 m g c (Proc.devRef .tc Cert.Kernel4Ideal.main_v28),
    fun c => Cert.Kernel4Ideal.Gen.W16 m g c (Proc.devRef .tc Cert.Kernel4Ideal.main_v23),
    fun c => Cert.Kernel4Ideal.Gen.W16 m g c (Proc.devRef .tc Cert.Kernel4Ideal.main_v8), ?_, ?_⟩
  · refine θ_run_mono (Cert.Kernel4Ideal.Whole.run m g) fun r hr c => ?_
    have k := fun b hb => hr c _ (Cert.Kernel4Ideal.Gen.mem_uc b hb)
    exact ⟨k _ (by decide), k _ (by decide), k _ (by decide), k _ (by decide), k _ (by decide), k _ (by decide), k _ (by decide),
      (k _ (by decide)).trans (Cert.Kernel4Ideal.Gen.W16_main_arg0 m g c),
      (k _ (by decide)).trans (Cert.Kernel4Ideal.Gen.W16_main_arg1 m g c),
      (k _ (by decide)).trans (Cert.Kernel4Ideal.Gen.W16_main_arg2 m g c),
      (k _ (by decide)).trans (Cert.Kernel4Ideal.Gen.W16_main_arg3 m g c),
      (k _ (by decide)).trans (Cert.Kernel4Ideal.Gen.W16_main_arg4 m g c),
      (k _ (by decide)).trans (Cert.Kernel4Ideal.Gen.W16_main_arg5 m g c),
      (k _ (by decide)).trans (Cert.Kernel4Ideal.Gen.W16_main_arg6 m g c),
      (k _ (by decide)).trans (Cert.Kernel4Ideal.Gen.W16_main_arg7 m g c)⟩
  · refine θ_run_mono (Cert.Reference4Ideal.Value.values m' g') fun r hr c => ?_
    obtain ⟨h0, h1, h2, h3, h4, h5, h6, h7⟩ := hm c
    obtain ⟨r0, r1, r2, r3, r4, r5, r6, h⟩ := hr c
    refine ⟨r0.trans ?_, r1.trans ?_, r2.trans ?_, r3.trans ?_, r4.trans ?_, r5.trans ?_, r6.trans ?_, h⟩
    · exact (congr (congr (congrArg Mix.p h0) h1) h2).trans (Cert.Kernel4Ideal.Value.res_p m g c).symm
    · exact (congr (congr (congrArg Mix.out h0) h3) h4).trans (Cert.Kernel4Ideal.Value.res_out m g c).symm
    · exact (congr (congrArg Mix.gy h4) h6).trans (Cert.Kernel4Ideal.Value.res_gy m g c).symm
    · exact (congr (congr (congr (congr (congrArg (Mix.gx (n := 6176) (by norm_num)) h0) h1) h2) h5) h6).trans (Cert.Kernel4Ideal.Value.res_gx m g c).symm
    · exact (congr (congr (congrArg (Mix.gg (n := 6176) (by norm_num)) h0) h2) h5).trans (Cert.Kernel4Ideal.Value.res_gg m g c).symm
    · exact (congr (congr (congrArg (fun x g e => Mix.gin (n := 6176) (by norm_num) x g e 1544) h0) h1) h5).trans (Cert.Kernel4Ideal.Value.res_gin m g c).symm
    · exact (congr (congr (congrArg (Mix.putOut 512) h3) h6) h7).trans (Cert.Kernel4Ideal.Value.res_buf m g c).symm

end Mix4
end

end
-- ==== Proof.P5Run.lean ====
module

public import proofs.«01_k».proof.Proof.Gen.Kernel5Ideal.Frame

@[expose] public section

set_option maxRecDepth 16384
noncomputable section
namespace Cert.Kernel5Ideal.Whole
open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem
variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- Every weakly fair execution ends with each unscoped buffer of each device at the last boundary's contents. -/
theorem run : θ_run defs (onTc (τ := τ) (main (F := F))) ⟨m, fun _ => 0, ρ⟩
    (fun r => ∀ c : Dev nD, ∀ b ∈ Pipeline.ucRefs τ sig, r.2.mem (((c : Thread nD τ)).1, b) = W15 m ρ c b) :=
  (θ_run defs _ _).mono (fun _ h => h.1) <|
  Pipeline.θ_run_regions_kit_sems (Q := fun r => (∀ c : Dev nD, ∀ b ∈ Pipeline.ucRefs τ sig, r.2.mem (((c : Thread nD τ)).1, b) = W15 m ρ c b) ∧ True)
    (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun _ => .rfl, fun c => by
        dsimp only [Pipeline.Seg.post, hseg, Pipeline.HostSeg.ofOps]
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h hz => ⟨h, trivial⟩)

end Cert.Kernel5Ideal.Whole
end

end
-- ==== Proof.P5Spec.lean ====
module

public import proofs.«01_k».proof.Proof.P3Spec

@[expose] public section

noncomputable section
open Idealize.ShloMosaic Idealize.ShloMosaic.TcCoe Idealize.SL.Sem

/-! The products and the gate around the S5 core, index by index. -/
namespace Glu
open Mlp (M T)

/-- One. -/
def one : EReal := Ideal.ofBits .f32 0x3F800000#32
/-- The logistic function. -/
def sig (z : EReal) : EReal := Ideal.div one (one + Ideal.exp (-z))
theorem zsub (z : EReal) : 0 - z = -z := zero_sub z
/-- The gate at a place: it is computed from the second half of the columns. -/
def gate (ag : M 2048 2048 .f32) (r : Fin 2048) (k : Fin 1024) : EReal := sig (ag (ix2 r ⟨1024 + (k : ℕ), by omega⟩))
/-- The value at a place: the first half of the columns. -/
def val (ag : M 2048 2048 .f32) (r : Fin 2048) (k : Fin 1024) : EReal := ag (ix2 r ⟨(k : ℕ), by omega⟩)
/-- The gated value onto the residual. -/
def fwd (x : M 2048 1024 .f32) (ag : M 2048 2048 .f32) : M 2048 1024 .f32 :=
  fun i => x (ix2 (i 0) (i 1)) + val ag (i 0) (i 1) * gate ag (i 0) (i 1)
/-- The gradient at the values. -/
def dv (d : M 2048 1024 .f32) (ag : M 2048 2048 .f32) : M 2048 1024 .f32 :=
  fun i => d (ix2 (i 0) (i 1)) * gate ag (i 0) (i 1)
/-- The gradient at what the gates are computed from. -/
def dz (d : M 2048 1024 .f32) (ag : M 2048 2048 .f32) : M 2048 1024 .f32 :=
  fun i => d (ix2 (i 0) (i 1)) * val ag (i 0) (i 1) * gate ag (i 0) (i 1) * (one - gate ag (i 0) (i 1))
/-- Two halves side by side. -/
def join (a b : M 2048 1024 .f32) : M 2048 2048 .f32 :=
  fun i => if h : (i 1 : ℕ) < 1024 then a (ix2 (i 0) ⟨i 1, h⟩)
    else b (ix2 (i 0) ⟨(i 1 : ℕ) - 1024, by have : (i 1 : ℕ) < 2048 := (i 1).isLt; omega⟩)

/-! The results, from the arguments. -/
section results
variable (x : M 2048 1024 .f32) (g : FVec Ideal ⟨1, ![1024]⟩ .f32) (w : M 1024 1024 .f32) (y : M 2048 1024 .f32)
  (w' : M 1024 2048 .f32) (e : M 2048 1024 .f32) (d : M 2048 1024 .f32)
/-- The core's output times its matrix. -/
def ag : M 2048 2048 .f32 := Mix.mul y w'
/-- The sub-layer's output. -/
def out : M 2048 1024 .f32 := fwd x (ag y w')
/-- The gradient at the product. -/
def dag : M 2048 2048 .f32 := join (dv d (ag y w')) (dz d (ag y w'))
/-- The gradient at the core's output. -/
def gy : M 2048 1024 .f32 := Mix.mulT (dag y w' d) w'
/-- The gradient at the rows. -/
def gx : M 2048 1024 .f32 := Mlp.dx x (Mlp.row g) (Mix.mulT e w) d
/-- The gradient at the scale. -/
def gg : FVec Ideal ⟨1, ![1024]⟩ .f32 := fun i => Mlp.dg x (Mix.mulT e w) (ix2 0 (i 0))
/-- The gradient at the output's matrix, by shards of the columns. -/
def gout : T 4 1024 512 .f32 := Mix.cut (Mix.tmul y (dag y w' d))
end results

end Glu
end

end
-- ==== Proof.P5Reg.lean ====
module

public import proofs.«01_k».proof.Proof.Gen.Kernel5Ideal.Frame
public import proofs.«01_k».proof.Proof.P5Spec
public import Idealize.ShloMosaic.Lib.Pipeline.ValueKit

@[expose] public section

set_option maxRecDepth 16384
noncomputable section
open Idealize.ShloMosaic Idealize.ShloMosaic.TcCoe Idealize.SL.Sem
open Idealize.ShloMosaic.Pipeline (Dat)
/-! What each of the ten calls around the S5 core leaves. -/
namespace Cert.Kernel5Ideal.Value
open Cert.Kernel5Ideal Cert.Kernel5Ideal.Gen
variable (V : (c : Dev nD) → (b : Ref sig .tc) → Buf (Elt Ideal) ((c : Thread nD τ).loc b)) (c : Dev nD)

theorem idx0 : ∀ t : Fin cfg0.N, win0_0.index t = ![t.val, 0] ∧ win0_1.index t = ![0, 0] ∧ win0_2.index t = ![t.val, 0] :=
  (by decide +kernel : ∀ t : Fin grid0.N, _)
/-- The scaled normalised rows. -/
theorem final0 : (dat0 V c).arrAt 2 cfg0.N = Mlp.norm (V c main_arg0) (V c main_v2) := by
  refine (dat0 V c).arrAt_eq_of_covers 2 _ (by decide +kernel) fun t _ y => ?_
  blk_simp
  rw [after0_2]; frame_out
  pointwise [k0_pay1, Mlp.norm, Mlp.inv, Mlp.ms]
  blk_point [iblk0, idx0 t]

theorem idx1 : ∀ t : Fin cfg1.N, win1_0.index t = ![0, 0] ∧ win1_1.index t = ![0, t.val] ∧ win1_2.index t = ![0, t.val] :=
  (by decide +kernel : ∀ t : Fin grid1.N, _)
/-- The core's input. -/
theorem final1 : (dat1 V c).arrAt 2 cfg1.N = Mix.mul (V c main_v3) (V c main_v0) := by
  refine (dat1 V c).arrAt_eq_of_covers 2 _ (by decide +kernel) fun t _ y => ?_
  blk_simp
  rw [after1_2]; frame_out
  pointwise [k1_pay1, Mix.mul]
  blk_point [iblk1, idx1 t]

theorem idx2 : ∀ t : Fin cfg2.N, win2_0.index t = ![0, 0] ∧ win2_1.index t = ![0, t.val] ∧ win2_2.index t = ![0, t.val] :=
  (by decide +kernel : ∀ t : Fin grid2.N, _)
/-- The core's output times its matrix. -/
theorem final2 : (dat2 V c).arrAt 2 cfg2.N = Mix.mul (V c main_arg3) (V c main_v1) := by
  refine (dat2 V c).arrAt_eq_of_covers 2 _ (by decide +kernel) fun t _ y => ?_
  blk_simp
  rw [after2_2]; frame_out
  pointwise [k2_pay1, Mix.mul]
  blk_point [iblk2, idx2 t]

theorem idx3 : ∀ t : Fin cfg3.N, win3_0.index t = ![t.val, 0] ∧ win3_1.index t = ![t.val, 0] ∧ win3_2.index t = ![t.val, 1] ∧ win3_3.index t = ![t.val, 0] :=
  (by decide +kernel : ∀ t : Fin grid3.N, _)
/-- The gated value onto the residual. -/
theorem final3 : (dat3 V c).arrAt 3 cfg3.N = Glu.fwd (V c main_arg0) (V c main_v5) := by
  refine (dat3 V c).arrAt_eq_of_covers 3 _ (by decide +kernel) fun t _ y => ?_
  blk_simp
  rw [after3_3]; frame_out
  pointwise [k3_pay1, Glu.fwd, Glu.val, Glu.gate, Glu.sig, Glu.one, Glu.zsub]
  blk_point [iblk3, idx3 t]

theorem idx4 : ∀ t : Fin cfg4.N, win4_0.index t = ![t.val, 0] ∧ win4_1.index t = ![t.val, 0] ∧ win4_2.index t = ![t.val, 1] ∧ win4_3.index t = ![t.val, 0] ∧ win4_4.index t = ![t.val, 0] :=
  (by decide +kernel : ∀ t : Fin grid4.N, _)
/-- The gradient at the values … -/
theorem final4_dv : (dat4 V c).arrAt 3 cfg4.N = Glu.dv (V c main_arg6) (V c main_v5) := by
  refine (dat4 V c).arrAt_eq_of_covers 3 _ (by decide +kernel) fun t _ y => ?_
  blk_simp
  rw [after4_3]; frame_out
  pointwise [k4_pay2, k4_pay1, Glu.dv, Glu.gate, Glu.sig, Glu.one, Glu.zsub]
  blk_point [iblk4, idx4 t]

/-- … and at what the gates are computed from. -/
theorem final4_dz : (dat4 V c).arrAt 4 cfg4.N = Glu.dz (V c main_arg6) (V c main_v5) := by
  refine (dat4 V c).arrAt_eq_of_covers 4 _ (by decide +kernel) fun t _ y => ?_
  blk_simp
  rw [after4_4]; frame_out
  pointwise [k4_pay3, k4_pay1, Glu.dz, Glu.val, Glu.gate, Glu.sig, Glu.one, Glu.zsub]
  blk_point [iblk4, idx4 t]

theorem idx5 : ∀ t : Fin cfg5.N, win5_0.index t = ![0, 0] ∧ win5_1.index t = ![0, t.val] ∧ win5_2.index t = ![t.val, 0, 0] :=
  (by decide +kernel : ∀ t : Fin grid5.N, _)
/-- The gradient of the output's matrix, a shard a block. -/
theorem final5 : (dat5 V c).arrAt 2 cfg5.N = (Mix.cut (Mix.tmul (V c main_arg3) (V c main_v9) : Mlp.M 1024 2048 .f32) : Mlp.T 4 1024 512 .f32) := by
  refine (dat5 V c).arrAt_eq_of_covers 2 _ (by decide +kernel) fun t _ y => ?_
  blk_simp
  rw [after5_2]; unfold outsAt5; frame_out
  pointwise [k5_pay1, Mix.cut, Mix.tmul]
  have ht : t.val < 4 := lt_of_lt_of_eq t.isLt N_5
  have h0 : (y 0 : ℕ) < 1 := lt_of_lt_of_le (y 0).isLt ((cfg5.win 2).xsize_le (grid5.coords t) 0)
  have h2 : (y 2 : ℕ) < 512 := lt_of_lt_of_le (y 2).isLt ((cfg5.win 2).xsize_le (grid5.coords t) 2)
  blk_point [iblk5, idx5 t]
  all_goals omega

theorem idx6 : ∀ t : Fin cfg6.N, win6_0.index t = ![0, 0] ∧ win6_1.index t = ![t.val, 0] ∧ win6_2.index t = ![0, t.val] :=
  (by decide +kernel : ∀ t : Fin grid6.N, _)
/-- The gradient at the core's output. -/
theorem final6 : (dat6 V c).arrAt 2 cfg6.N = Mix.mulT (V c main_v9) (V c main_v1) := by
  refine (dat6 V c).arrAt_eq_of_covers 2 _ (by decide +kernel) fun t _ y => ?_
  blk_simp
  rw [after6_2]; frame_out
  pointwise [k6_pay1, Mix.mulT]
  blk_point [iblk6, idx6 t]

theorem idx7 : ∀ t : Fin cfg7.N, win7_0.index t = ![0, t.val / 2] ∧ win7_1.index t = ![0, t.val % 2] ∧ win7_2.index t = ![t.val / 2, 8, t.val % 2] :=
  (by decide +kernel : ∀ t : Fin grid7.N, _)
/-- The gradient of the input's matrix goes into its rows of the buffer. -/
theorem final7 : (dat7 V c).arrAt 2 cfg7.N = Mix.putOut 256 (V c main_v3) (V c main_arg5) (V c main_v12) := by
  refine (dat7 V c).arrAt_eq_of_coversWhere 2 (Mix.dwout (s := 256) (V c main_v3) (V c main_arg5))
    (P := fun i => 2048 ≤ (i (1 : Fin 3) : ℕ)) (fun β => β (1 : Fin 3) = 8) (by decide +kernel) (fun t hf y => ?_)
    (fun j => ?_)
  · blk_simp
    rw [after7_2]; unfold outsAt7; frame_out
    pointwise [k7_pay1, Mix.dwout]
    have ht : t.val < 8 := lt_of_lt_of_eq t.isLt N_7
    have h0 : (y 0 : ℕ) < 1 := lt_of_lt_of_le (y 0).isLt ((cfg7.win 2).xsize_le (grid7.coords t) 0)
    have h1 : (y 1 : ℕ) < 256 := lt_of_lt_of_le (y 1).isLt ((cfg7.win 2).xsize_le (grid7.coords t) 1)
    have h2 : (y 2 : ℕ) < 512 := lt_of_lt_of_le (y 2).isLt ((cfg7.win 2).xsize_le (grid7.coords t) 2)
    blk_point [iblk7, idx7 t]
    all_goals omega
  · have hj : (j (1 : Fin 3) : ℕ) < 2304 := (j 1).isLt
    blk_simp [Pipeline.Window.cell_apply]
    omega

theorem idx8 : ∀ t : Fin cfg8.N, win8_0.index t = ![0, 0] ∧ win8_1.index t = ![t.val, 0] ∧ win8_2.index t = ![0, t.val] :=
  (by decide +kernel : ∀ t : Fin grid8.N, _)
/-- The gradient at the normalised rows. -/
theorem final8 : (dat8 V c).arrAt 2 cfg8.N = Mix.mulT (V c main_arg5) (V c main_v0) := by
  refine (dat8 V c).arrAt_eq_of_covers 2 _ (by decide +kernel) fun t _ y => ?_
  blk_simp
  rw [after8_2]; frame_out
  pointwise [k8_pay1, Mix.mulT]
  blk_point [iblk8, idx8 t]

theorem idx9 : ∀ t : Fin cfg9.N, win9_0.index t = ![t.val, 0] ∧ win9_1.index t = ![0, 0] ∧ win9_2.index t = ![t.val, 0]
    ∧ win9_3.index t = ![t.val, 0] ∧ win9_4.index t = ![t.val, 0] ∧ win9_5.index t = ![0, 0] :=
  (by decide +kernel : ∀ t : Fin grid9.N, _)
/-- The gradient at the rows. -/
theorem final9_dx : (dat9 V c).arrAt 4 cfg9.N = Mlp.dx (V c main_arg0) (V c main_v14) (V c main_v13) (V c main_arg6) := by
  refine (dat9 V c).arrAt_eq_of_covers 4 _ (by decide +kernel) fun t _ y => ?_
  blk_simp
  rw [after9_4]
  by_cases h : t.val % 8 = 0
  · rw [outsAt9_A V c t h]; frame_out
    pointwise [k9_pay5, k9_pay4, k9_pay3, k9_pay2, Mlp.dx, Mlp.inv, Mlp.ms]
    blk_point [iblk9, idx9 t]
  · rw [outsAt9_B V c t h]; frame_out
    pointwise [k9_pay5, k9_pay4, k9_pay3, k9_pay2, Mlp.dx, Mlp.inv, Mlp.ms]
    blk_point [iblk9, idx9 t]

theorem zero9 (j) : k9_pay6 (F := Ideal) j = 0 := by pointwise [k9_pay6]
theorem step9 (acc : FVec Ideal S1x1024 .f32) (x0 x2 : FVec Ideal S256x1024 .f32) (j : S1x1024.Idx) :
    k9_pay1 (F := Ideal) (k9_pay7 acc) (k9_pay8 x0 x2) j
      = acc j + ∑ k : Fin 256, x2 (ix2 k (j 1)) * (x0 (ix2 k (j 1)) * Ideal.rsqrt (Ideal.div (∑ l : Fin 1024, x0 (ix2 k l) * x0 (ix2 k l)) (Ideal.ofBits .f32 0x44800000#32) + Ideal.ofBits .f32 0x358637BD#32)) := by
  idx_vars j
  pointwise [k9_pay1, k9_pay7, k9_pay8, k9_pay4, k9_pay3, k9_pay2]
/-- … and the gradient of the scale, over the rows block by block. -/
theorem final9_dg : (dat9 V c).arrAt 5 cfg9.N = Mlp.dg (V c main_arg0) (V c main_v13) := by
  refine (dat9 V c).arrAt_eq_of_covers 5 _ (by decide +kernel) fun t hf y => ?_
  blk_simp
  rw [after9_5, Pipeline.eq_sum_fin_of_reset_step_apply_of_flush (fun n h => (outsAt9 V c n h).2) 8 (fun _ => 0) _
    (fun t h j => by rw [outsAt9_A V c t h]; frame_out; rw [step9, zero9])
    (fun t h j => by rw [outsAt9_B V c t h]; frame_out; rw [step9])
    t ((flush9_5 t).mp hf) _, zero_add]
  unfold Mlp.dg
  refine Fin.sum_mul_add_congr fun s k hl => ?_
  unfold Mlp.inv Mlp.ms
  have ht : t.val < 8 := lt_of_lt_of_eq t.isLt N_9
  blk_point [iblk9, idx9 t, idx9 ⟨_, Pipeline.run_point_lt_of_flush t ((flush9_5 t).mp hf) s⟩]

end Cert.Kernel5Ideal.Value
end

end
-- ==== Proof.P5Chain.lean ====
module

public import proofs.«01_k».proof.Proof.P5Run
public import proofs.«01_k».proof.Proof.P5Reg
public import Idealize.ShloMosaic.Lib.StableHlo.ReadAt
public import Idealize.ShloMosaic.Lib.Claim

@[expose] public section

set_option maxRecDepth 16384
noncomputable section
open Idealize.ShloMosaic Idealize.ShloMosaic.TcCoe Idealize.SL.Sem
/-! The ten calls around the S5 core one after the other: what each leaves, from the arguments. -/
namespace Cert.Kernel5Ideal.Value
open Cert.Kernel5Ideal Cert.Kernel5Ideal.Gen
variable (m : (ℓ : Loc nD τ sig) → Buf (Elt Ideal) ℓ) (ρ : Dev nD → PrngReg) (c : Dev nD)

/-- The two matrices and the scale as the calls take them. -/
theorem v0_1 : W1 m ρ c (Proc.devRef .tc main_v0) = (m ((c : Thread nD τ).loc main_arg2)) := by
  unfold W1; after_reads_simp; rfl
theorem v1_1 : W1 m ρ c (Proc.devRef .tc main_v1) = (m ((c : Thread nD τ).loc main_arg4)) := by
  unfold W1; after_reads_simp; rfl
theorem v2_1 : W1 m ρ c (Proc.devRef .tc main_v2) = Mlp.row (m ((c : Thread nD τ).loc main_arg1)) := by
  funext i; unfold W1 Mlp.row; after_reads_at
/-- The normalised rows. -/
theorem v3_2 : W2 m ρ c (Proc.devRef .tc main_v3) = Mlp.Y (m ((c : Thread nD τ).loc main_arg0)) (m ((c : Thread nD τ).loc main_arg1)) := by
  refine (W2_arr m ρ c 2).trans ((final0 (V1 m ρ) c).trans ?_)
  rw [show V1 m ρ c main_arg0 = _ from W1_args m ρ c main_arg0 (by decide), show V1 m ρ c main_v2 = _ from v2_1 m ρ c]; rfl
theorem v0_2 : W2 m ρ c (Proc.devRef .tc main_v0) = (m ((c : Thread nD τ).loc main_arg2)) :=
  (W2_of m ρ c main_v0 (by decide)).trans <| v0_1 m ρ c
/-- The core's input. -/
theorem v4_3 : W3 m ρ c (Proc.devRef .tc main_v4) = Mix.p (m ((c : Thread nD τ).loc main_arg0)) (m ((c : Thread nD τ).loc main_arg1)) (m ((c : Thread nD τ).loc main_arg2)) := by
  refine (W3_arr m ρ c 2).trans ((final1 (V2 m ρ) c).trans ?_)
  rw [show V2 m ρ c main_v3 = _ from v3_2 m ρ c, show V2 m ρ c main_v0 = _ from v0_2 m ρ c]; rfl
theorem v1_3 : W3 m ρ c (Proc.devRef .tc main_v1) = (m ((c : Thread nD τ).loc main_arg4)) :=
  (W3_of m ρ c main_v1 (by decide)).trans <|
  (W2_of m ρ c main_v1 (by decide)).trans <| v1_1 m ρ c
/-- The core's output times its matrix. -/
theorem v5_4 : W4 m ρ c (Proc.devRef .tc main_v5) = Glu.ag (m ((c : Thread nD τ).loc main_arg3)) (m ((c : Thread nD τ).loc main_arg4)) := by
  refine (W4_arr m ρ c 2).trans ((final2 (V3 m ρ) c).trans ?_)
  rw [show V3 m ρ c main_arg3 = _ from W3_args m ρ c main_arg3 (by decide), show V3 m ρ c main_v1 = _ from v1_3 m ρ c]; rfl
/-- The output. -/
theorem v6_5 : W5 m ρ c (Proc.devRef .tc main_v6) = Glu.out (m ((c : Thread nD τ).loc main_arg0)) (m ((c : Thread nD τ).loc main_arg3)) (m ((c : Thread nD τ).loc main_arg4)) := by
  refine (W5_arr m ρ c 3).trans ((final3 (V4 m ρ) c).trans ?_)
  rw [show V4 m ρ c main_arg0 = _ from W4_args m ρ c main_arg0 (by decide), show V4 m ρ c main_v5 = _ from v5_4 m ρ c]; rfl
theorem v5_5 : W5 m ρ c (Proc.devRef .tc main_v5) = Glu.ag (m ((c : Thread nD τ).loc main_arg3)) (m ((c : Thread nD τ).loc main_arg4)) :=
  (W5_of m ρ c main_v5 (by decide)).trans <| v5_4 m ρ c
/-- The gradients at the values and at what the gates are computed from. -/
theorem v7_6 : W6 m ρ c (Proc.devRef .tc main_v7_0) = Glu.dv (m ((c : Thread nD τ).loc main_arg6)) (Glu.ag (m ((c : Thread nD τ).loc main_arg3)) (m ((c : Thread nD τ).loc main_arg4))) := by
  refine (W6_arr m ρ c 3).trans ((final4_dv (V5 m ρ) c).trans ?_)
  rw [show V5 m ρ c main_arg6 = _ from W5_args m ρ c main_arg6 (by decide), show V5 m ρ c main_v5 = _ from v5_5 m ρ c]
theorem v7b_6 : W6 m ρ c (Proc.devRef .tc main_v7_1) = Glu.dz (m ((c : Thread nD τ).loc main_arg6)) (Glu.ag (m ((c : Thread nD τ).loc main_arg3)) (m ((c : Thread nD τ).loc main_arg4))) := by
  refine (W6_arr m ρ c 4).trans ((final4_dz (V5 m ρ) c).trans ?_)
  rw [show V5 m ρ c main_arg6 = _ from W5_args m ρ c main_arg6 (by decide), show V5 m ρ c main_v5 = _ from v5_5 m ρ c]
/-- The gradient at the product. -/
theorem v9_7 : W7 m ρ c (Proc.devRef .tc main_v9) = Glu.dag (m ((c : Thread nD τ).loc main_arg3)) (m ((c : Thread nD τ).loc main_arg4)) (m ((c : Thread nD τ).loc main_arg6)) := by
  have h : W7 m ρ c (Proc.devRef .tc main_v9) = Glu.join (W6 m ρ c (Proc.devRef .tc main_v7_0)) (W6 m ρ c (Proc.devRef .tc main_v7_1)) := by
    funext i; idx_vars i; unfold W7 Glu.join; after_reads_at
    by_cases h : (i1 : ℕ) < 1024
    · rw [dif_pos h]; after_reads_at; rw [dif_pos h]
    · rw [dif_neg h]; after_reads_at; rw [dif_neg h]
  rw [h, v7_6, v7b_6]; rfl
theorem v9_8 : W8 m ρ c (Proc.devRef .tc main_v9) = Glu.dag (m ((c : Thread nD τ).loc main_arg3)) (m ((c : Thread nD τ).loc main_arg4)) (m ((c : Thread nD τ).loc main_arg6)) :=
  (W8_of m ρ c main_v9 (by decide)).trans <| v9_7 m ρ c
/-- The gradient of the output's matrix. -/
theorem v10_8 : W8 m ρ c (Proc.devRef .tc main_v10) = Glu.gout (m ((c : Thread nD τ).loc main_arg3)) (m ((c : Thread nD τ).loc main_arg4)) (m ((c : Thread nD τ).loc main_arg6)) := by
  refine (W8_arr m ρ c 2).trans ((final5 (V7 m ρ) c).trans ?_)
  rw [show V7 m ρ c main_arg3 = _ from W7_args m ρ c main_arg3 (by decide), show V7 m ρ c main_v9 = _ from v9_7 m ρ c]; rfl
theorem v1_8 : W8 m ρ c (Proc.devRef .tc main_v1) = (m ((c : Thread nD τ).loc main_arg4)) :=
  (W8_of m ρ c main_v1 (by decide)).trans <|
  (W7_of m ρ c main_v1 (by decide)).trans <|
  (W6_of m ρ c main_v1 (by decide)).trans <|
  (W5_of m ρ c main_v1 (by decide)).trans <|
  (W4_of m ρ c main_v1 (by decide)).trans <| v1_3 m ρ c
/-- The gradient at the core's output. -/
theorem v11_9 : W9 m ρ c (Proc.devRef .tc main_v11) = Glu.gy (m ((c : Thread nD τ).loc main_arg3)) (m ((c : Thread nD τ).loc main_arg4)) (m ((c : Thread nD τ).loc main_arg6)) := by
  refine (W9_arr m ρ c 2).trans ((final6 (V8 m ρ) c).trans ?_)
  rw [show V8 m ρ c main_v9 = _ from v9_8 m ρ c, show V8 m ρ c main_v1 = _ from v1_8 m ρ c]; rfl
theorem v12_10 : W10 m ρ c (Proc.devRef .tc main_v12) = (m ((c : Thread nD τ).loc main_arg7)) := by
  have h : W10 m ρ c (Proc.devRef .tc main_v12) = W9 m ρ c (Proc.devRef .tc main_arg7) := by unfold W10; after_reads_simp; rfl
  exact h.trans (W9_args m ρ c main_arg7 (by decide))
theorem v3_10 : W10 m ρ c (Proc.devRef .tc main_v3) = Mlp.Y (m ((c : Thread nD τ).loc main_arg0)) (m ((c : Thread nD τ).loc main_arg1)) :=
  (W10_of m ρ c main_v3 (by decide)).trans <|
  (W9_of m ρ c main_v3 (by decide)).trans <|
  (W8_of m ρ c main_v3 (by decide)).trans <|
  (W7_of m ρ c main_v3 (by decide)).trans <|
  (W6_of m ρ c main_v3 (by decide)).trans <|
  (W5_of m ρ c main_v3 (by decide)).trans <|
  (W4_of m ρ c main_v3 (by decide)).trans <|
  (W3_of m ρ c main_v3 (by decide)).trans <| v3_2 m ρ c
/-- The buffer with the input's matrix's gradient. -/
theorem v12_11 : W11 m ρ c (Proc.devRef .tc main_v12) = Mix.putOut 256 (Mlp.Y (m ((c : Thread nD τ).loc main_arg0)) (m ((c : Thread nD τ).loc main_arg1))) (m ((c : Thread nD τ).loc main_arg5)) (m ((c : Thread nD τ).loc main_arg7)) := by
  refine (W11_arr m ρ c 2).trans ((final7 (V10 m ρ) c).trans ?_)
  rw [show V10 m ρ c main_v3 = _ from v3_10 m ρ c, show V10 m ρ c main_arg5 = _ from W10_args m ρ c main_arg5 (by decide), show V10 m ρ c main_v12 = _ from v12_10 m ρ c]
theorem v0_11 : W11 m ρ c (Proc.devRef .tc main_v0) = (m ((c : Thread nD τ).loc main_arg2)) :=
  (W11_of m ρ c main_v0 (by decide)).trans <|
  (W10_of m ρ c main_v0 (by decide)).trans <|
  (W9_of m ρ c main_v0 (by decide)).trans <|
  (W8_of m ρ c main_v0 (by decide)).trans <|
  (W7_of m ρ c main_v0 (by decide)).trans <|
  (W6_of m ρ c main_v0 (by decide)).trans <|
  (W5_of m ρ c main_v0 (by decide)).trans <|
  (W4_of m ρ c main_v0 (by decide)).trans <|
  (W3_of m ρ c main_v0 (by decide)).trans <| v0_2 m ρ c
/-- The gradient at the normalised rows. -/
theorem v13_12 : W12 m ρ c (Proc.devRef .tc main_v13) = Mix.mulT (m ((c : Thread nD τ).loc main_arg5)) (m ((c : Thread nD τ).loc main_arg2)) := by
  refine (W12_arr m ρ c 2).trans ((final8 (V11 m ρ) c).trans ?_)
  rw [show V11 m ρ c main_arg5 = _ from W11_args m ρ c main_arg5 (by decide), show V11 m ρ c main_v0 = _ from v0_11 m ρ c]
theorem v13_13 : W13 m ρ c (Proc.devRef .tc main_v13) = Mix.mulT (m ((c : Thread nD τ).loc main_arg5)) (m ((c : Thread nD τ).loc main_arg2)) :=
  (W13_of m ρ c main_v13 (by decide)).trans <| v13_12 m ρ c
theorem v14_13 : W13 m ρ c (Proc.devRef .tc main_v14) = Mlp.row (m ((c : Thread nD τ).loc main_arg1)) := by
  have h : W13 m ρ c (Proc.devRef .tc main_v14) = Mlp.row (W12 m ρ c (Proc.devRef .tc main_arg1)) := by
    funext i; unfold W13 Mlp.row; after_reads_at
  rw [h, W12_args m ρ c main_arg1 (by decide)]
/-- The gradient at the rows. -/
theorem v15_14 : W14 m ρ c (Proc.devRef .tc main_v15_0) = Glu.gx (m ((c : Thread nD τ).loc main_arg0)) (m ((c : Thread nD τ).loc main_arg1)) (m ((c : Thread nD τ).loc main_arg2)) (m ((c : Thread nD τ).loc main_arg5)) (m ((c : Thread nD τ).loc main_arg6)) := by
  refine (W14_arr m ρ c 4).trans ((final9_dx (V13 m ρ) c).trans ?_)
  rw [show V13 m ρ c main_v14 = _ from v14_13 m ρ c, show V13 m ρ c main_v13 = _ from v13_13 m ρ c, show V13 m ρ c main_arg0 = _ from W13_args m ρ c main_arg0 (by decide), show V13 m ρ c main_arg6 = _ from W13_args m ρ c main_arg6 (by decide)]; rfl
/-- The gradient at the scale, as one row. -/
theorem v15b_14 : W14 m ρ c (Proc.devRef .tc main_v15_1) = Mlp.dg (m ((c : Thread nD τ).loc main_arg0)) (Mix.mulT (m ((c : Thread nD τ).loc main_arg5)) (m ((c : Thread nD τ).loc main_arg2))) := by
  refine (W14_arr m ρ c 5).trans ((final9_dg (V13 m ρ) c).trans ?_)
  rw [show V13 m ρ c main_v13 = _ from v13_13 m ρ c, show V13 m ρ c main_arg0 = _ from W13_args m ρ c main_arg0 (by decide)]

/-! The seven results where the program ends. -/
theorem res_u : W15 m ρ c (Proc.devRef .tc main_v4) = Mix.p (m ((c : Thread nD τ).loc main_arg0)) (m ((c : Thread nD τ).loc main_arg1)) (m ((c : Thread nD τ).loc main_arg2)) :=
  (W15_of m ρ c main_v4 (by decide)).trans <|
  (W14_of m ρ c main_v4 (by decide)).trans <|
  (W13_of m ρ c main_v4 (by decide)).trans <|
  (W12_of m ρ c main_v4 (by decide)).trans <|
  (W11_of m ρ c main_v4 (by decide)).trans <|
  (W10_of m ρ c main_v4 (by decide)).trans <|
  (W9_of m ρ c main_v4 (by decide)).trans <|
  (W8_of m ρ c main_v4 (by decide)).trans <|
  (W7_of m ρ c main_v4 (by decide)).trans <|
  (W6_of m ρ c main_v4 (by decide)).trans <|
  (W5_of m ρ c main_v4 (by decide)).trans <|
  (W4_of m ρ c main_v4 (by decide)).trans <| v4_3 m ρ c
theorem res_out : W15 m ρ c (Proc.devRef .tc main_v6) = Glu.out (m ((c : Thread nD τ).loc main_arg0)) (m ((c : Thread nD τ).loc main_arg3)) (m ((c : Thread nD τ).loc main_arg4)) :=
  (W15_of m ρ c main_v6 (by decide)).trans <|
  (W14_of m ρ c main_v6 (by decide)).trans <|
  (W13_of m ρ c main_v6 (by decide)).trans <|
  (W12_of m ρ c main_v6 (by decide)).trans <|
  (W11_of m ρ c main_v6 (by decide)).trans <|
  (W10_of m ρ c main_v6 (by decide)).trans <|
  (W9_of m ρ c main_v6 (by decide)).trans <|
  (W8_of m ρ c main_v6 (by decide)).trans <|
  (W7_of m ρ c main_v6 (by decide)).trans <|
  (W6_of m ρ c main_v6 (by decide)).trans <| v6_5 m ρ c
theorem res_gy : W15 m ρ c (Proc.devRef .tc main_v11) = Glu.gy (m ((c : Thread nD τ).loc main_arg3)) (m ((c : Thread nD τ).loc main_arg4)) (m ((c : Thread nD τ).loc main_arg6)) :=
  (W15_of m ρ c main_v11 (by decide)).trans <|
  (W14_of m ρ c main_v11 (by decide)).trans <|
  (W13_of m ρ c main_v11 (by decide)).trans <|
  (W12_of m ρ c main_v11 (by decide)).trans <|
  (W11_of m ρ c main_v11 (by decide)).trans <|
  (W10_of m ρ c main_v11 (by decide)).trans <| v11_9 m ρ c
theorem res_gx : W15 m ρ c (Proc.devRef .tc main_v15_0) = Glu.gx (m ((c : Thread nD τ).loc main_arg0)) (m ((c : Thread nD τ).loc main_arg1)) (m ((c : Thread nD τ).loc main_arg2)) (m ((c : Thread nD τ).loc main_arg5)) (m ((c : Thread nD τ).loc main_arg6)) :=
  (W15_of m ρ c main_v15_0 (by decide)).trans <| v15_14 m ρ c
theorem res_gg : W15 m ρ c (Proc.devRef .tc main_v16) = Glu.gg (m ((c : Thread nD τ).loc main_arg0)) (m ((c : Thread nD τ).loc main_arg2)) (m ((c : Thread nD τ).loc main_arg5)) := by
  have h : W15 m ρ c (Proc.devRef .tc main_v16) = fun i : (⟨1, ![1024]⟩ : Shape).Idx => W14 m ρ c (Proc.devRef .tc main_v15_1) (ix2 0 (i 0)) := by
    funext i; unfold W15; after_reads_at
  rw [h, v15b_14]; rfl
theorem res_buf : W15 m ρ c (Proc.devRef .tc main_v12) = Mix.putOut 256 (Mlp.Y (m ((c : Thread nD τ).loc main_arg0)) (m ((c : Thread nD τ).loc main_arg1))) (m ((c : Thread nD τ).loc main_arg5)) (m ((c : Thread nD τ).loc main_arg7)) :=
  (W15_of m ρ c main_v12 (by decide)).trans <|
  (W14_of m ρ c main_v12 (by decide)).trans <|
  (W13_of m ρ c main_v12 (by decide)).trans <|
  (W12_of m ρ c main_v12 (by decide)).trans <| v12_11 m ρ c
theorem res_gout : W15 m ρ c (Proc.devRef .tc main_v10) = Glu.gout (m ((c : Thread nD τ).loc main_arg3)) (m ((c : Thread nD τ).loc main_arg4)) (m ((c : Thread nD τ).loc main_arg6)) :=
  (W15_of m ρ c main_v10 (by decide)).trans <|
  (W14_of m ρ c main_v10 (by decide)).trans <|
  (W13_of m ρ c main_v10 (by decide)).trans <|
  (W12_of m ρ c main_v10 (by decide)).trans <|
  (W11_of m ρ c main_v10 (by decide)).trans <|
  (W10_of m ρ c main_v10 (by decide)).trans <|
  (W9_of m ρ c main_v10 (by decide)).trans <| v10_8 m ρ c

end Cert.Kernel5Ideal.Value
end

end
-- ==== Proof.P5Ref.lean ====
module

public import proofs.«01_k».proof.Proof.Gen.Reference5Ideal.Run
public import proofs.«01_k».proof.Proof.RefVal
public import proofs.«01_k».proof.Proof.P5Spec
public import Idealize.ShloMosaic.Lib.Pipeline.ValueKit

@[expose] public section

set_option maxRecDepth 16384
noncomputable section
open Idealize.ShloMosaic Idealize.ShloMosaic.TcCoe Idealize.SL.Sem
/-! The reference's seven results around the S5 core, from its arguments. -/
namespace Cert.Reference5Ideal.Value
open Cert.Reference5Ideal Cert.Reference5Ideal.Gen

theorem dz_at (d : Mlp.M 2048 1024 .f32) (z : Mlp.M 2048 2048 .f32) (r : Fin 2048) (k : Fin 1024) :
    Glu.dz d z (ix2 r k) = Glu.val z r k * d (ix2 r k) * (Glu.gate z r k * (Glu.one - Glu.gate z r k)) :=
  (mul_assoc (G := EReal) (d (ix2 r k) * Glu.val z r k) (Glu.gate z r k) (Glu.one - Glu.gate z r k)).trans
    (congrArg (fun t : EReal => t * (Glu.gate z r k * (Glu.one - Glu.gate z r k))) (mul_comm (G := EReal) _ _))
/-- The gradient at the product, as the reference forms it. -/
theorem dag_at (y d : Mlp.M 2048 1024 .f32) (w : Mlp.M 1024 2048 .f32) (r k : Fin 2048) :
    Glu.dag y w d (ix2 r k) = if h : (k : ℕ) < 1024 then d (ix2 r ⟨k, h⟩) * Glu.gate (Glu.ag y w) r ⟨k, h⟩
      else Glu.val (Glu.ag y w) r ⟨(k : ℕ) - 1024, by omega⟩ * d (ix2 r ⟨(k : ℕ) - 1024, by omega⟩)
        * (Glu.gate (Glu.ag y w) r ⟨(k : ℕ) - 1024, by omega⟩ * (Glu.one - Glu.gate (Glu.ag y w) r ⟨(k : ℕ) - 1024, by omega⟩)) := by
  unfold Glu.dag Glu.join
  by_cases h : (k : ℕ) < 1024
  · rw [dif_pos h]; exact dif_pos h
  · rw [dif_neg h]
    exact (dif_neg h).trans (dz_at _ _ _ _)

theorem values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19) = Mix.p (m ((c.tc : Thread nD τ).loc main_arg0)) (m ((c.tc : Thread nD τ).loc main_arg1)) (m ((c.tc : Thread nD τ).loc main_arg2))
      ∧ r.2.mem ((c.tc : Thread nD τ).loc main_v30) = Glu.out (m ((c.tc : Thread nD τ).loc main_arg0)) (m ((c.tc : Thread nD τ).loc main_arg3)) (m ((c.tc : Thread nD τ).loc main_arg4))
      ∧ r.2.mem ((c.tc : Thread nD τ).loc main_v62) = Glu.gy (m ((c.tc : Thread nD τ).loc main_arg3)) (m ((c.tc : Thread nD τ).loc main_arg4)) (m ((c.tc : Thread nD τ).loc main_arg6))
      ∧ r.2.mem ((c.tc : Thread nD τ).loc main_v58) = Glu.gx (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6))
      ∧ r.2.mem ((c.tc : Thread nD τ).loc main_v43) = Glu.gg (m ((c.tc : Thread nD τ).loc main_arg0)) (m ((c.tc : Thread nD τ).loc main_arg2)) (m ((c.tc : Thread nD τ).loc main_arg5))
      ∧ r.2.mem ((c.tc : Thread nD τ).loc main_v69) = Mix.putOut 256 (Mlp.Y (m ((c.tc : Thread nD τ).loc main_arg0)) (m ((c.tc : Thread nD τ).loc main_arg1))) (m ((c.tc : Thread nD τ).loc main_arg5)) (m ((c.tc : Thread nD τ).loc main_arg7))
      ∧ r.2.mem ((c.tc : Thread nD τ).loc main_v67) = Glu.gout (m ((c.tc : Thread nD τ).loc main_arg3)) (m ((c.tc : Thread nD τ).loc main_arg4)) (m ((c.tc : Thread nD τ).loc main_arg6))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4))
      ∧ r.2.mem ((c.tc : Thread nD τ).loc main_arg5) = (m ((c.tc : Thread nD τ).loc main_arg5))
      ∧ r.2.mem ((c.tc : Thread nD τ).loc main_arg6) = (m ((c.tc : Thread nD τ).loc main_arg6))
      ∧ r.2.mem ((c.tc : Thread nD τ).loc main_arg7) = (m ((c.tc : Thread nD τ).loc main_arg7))
      ∧ r.2.mem ((c.tc : Thread nD τ).loc main_arg8) = (m ((c.tc : Thread nD τ).loc main_arg8)) := by
  refine (θ_run defs _ _).mono (fun r h c => ?_) (run m ρ)
  obtain ⟨h0, h1, h2, h3, h4, h5, h6, hk⟩ := h c
  refine ⟨h0.trans ?_, h1.trans ?_, h2.trans ?_, h3.trans ?_, h4.trans ?_, h5.trans ?_, h6.trans ?_, hk⟩
  all_goals clear h0 h1 h2 h3 h4 h5 h6 hk h
  · funext i; idx_vars i
    pointwise [Mix.p, Mix.mul, Mlp.Y, Mlp.norm, Mlp.inv, Mlp.ms, Mlp.row]
  · funext i; idx_vars i
    pointwise [Glu.out, Glu.fwd, Glu.val, Glu.gate, Glu.sig, Glu.one, Glu.ag, Mix.mul]
  · funext i; idx_vars i
    pointwise [Glu.gy, Mix.mulT, dag_at, Glu.val, Glu.gate, Glu.sig, Glu.one, Glu.ag, Mix.mul]
  · funext i; idx_vars i
    pointwise [res_main_v58]
    exact Cert.ReferenceIdeal.Value.dx_at (m ((c.tc : Thread nD τ).loc main_arg0)) (Mlp.row (m ((c.tc : Thread nD τ).loc main_arg1))) (Mix.mulT (m ((c.tc : Thread nD τ).loc main_arg5)) (m ((c.tc : Thread nD τ).loc main_arg2))) (m ((c.tc : Thread nD τ).loc main_arg6)) (ix2 i0 i1)
  · funext i; idx_vars i
    pointwise [Glu.gg, Mix.mulT, Mlp.dg, Mlp.inv, Mlp.ms]
    exact (Fin.sum_univ_one (M := EReal) _).trans (Finset.sum_congr rfl fun k _ => mul_comm (G := EReal) _ _)
  · funext i; idx_vars i
    pointwise []
    refine Eq.trans ?_ (Mix.putOut_at (Mlp.Y (m ((c.tc : Thread nD τ).loc main_arg0)) (m ((c.tc : Thread nD τ).loc main_arg1))) (m ((c.tc : Thread nD τ).loc main_arg5)) (m ((c.tc : Thread nD τ).loc main_arg7)) i0 i1 i2 (by omega)).symm
    by_cases h : (i1 : ℕ) < 2048
    · rw [dif_pos h, if_neg (by omega)]
    · refine (dif_neg h).trans (Eq.trans ?_ (if_pos (by omega)).symm)
      exact Finset.sum_congr (M := EReal) rfl fun k _ => mul_comm (G := EReal) _ _
  · funext i; idx_vars i
    pointwise []
    unfold Glu.gout
    rw [Mix.cut_at _ _ _ _ (by omega)]
    pointwise [Mix.tmul, dag_at, Glu.val, Glu.gate, Glu.sig, Glu.one, Glu.ag, Mix.mul]
    exact Finset.sum_congr (M := EReal) rfl fun k _ => mul_comm (G := EReal) _ _

end Cert.Reference5Ideal.Value
end

end
-- ==== Proof.P5Values.lean ====
module

public import proofs.«01_k».proof.Defs
public import proofs.«01_k».proof.Proof.P5Chain
public import proofs.«01_k».proof.Proof.P5Ref
public import Idealize.ShloMosaic.Lib.Quiescent
public import Idealize.ShloMosaic.Lib.Claim

@[expose] public section

noncomputable section
open Idealize.ShloMosaic Idealize.ShloMosaic.TcCoe Idealize.SL.Sem
namespace Mix5

/-- The reference ends with its arguments as they were. -/
theorem kept : Cert.quiescent_Reference5Ideal (hReference5Ideal := Cert.Reference5Ideal.Gen.facts) := by
  intro m g _
  refine θ_run_mono (Cert.Reference5Ideal.Value.values m g) fun r hr => ⟨fun c => ?_, sem_eq_zero_of_no_sems rfl _⟩
  obtain ⟨-, -, -, -, -, -, -, h⟩ := hr c
  exact h

/-- Both leave the products and the gate around the S5 core and their gradients. -/
theorem values : Cert.algebraic_Kernel5Ideal_Reference5Ideal (hKernel5Ideal := Cert.Kernel5Ideal.Gen.facts) (hReference5Ideal := Cert.Reference5Ideal.Gen.facts) := by
  intro m g m' g' _ hm
  refine ⟨fun c => Cert.Kernel5Ideal.Gen.W15 m g c (Proc.devRef .tc Cert.Kernel5Ideal.main_v4),
    fun c => Cert.Kernel5Ideal.Gen.W15 m g c (Proc.devRef .tc Cert.Kernel5Ideal.main_v6),
    fun c => Cert.Kernel5Ideal.Gen.W15 m g c (Proc.devRef .tc Cert.Kernel5Ideal.main_v11),
    fun c => Cert.Kernel5Ideal.Gen.W15 m g c (Proc.devRef .tc Cert.Kernel5Ideal.main_v15_0),
    fun c => Cert.Kernel5Ideal.Gen.W15 m g c (Proc.devRef .tc Cert.Kernel5Ideal.main_v16),
    fun c => Cert.Kernel5Ideal.Gen.W15 m g c (Proc.devRef .tc Cert.Kernel5Ideal.main_v12),
    fun c => Cert.Kernel5Ideal.Gen.W15 m g c (Proc.devRef .tc Cert.Kernel5Ideal.main_v10), ?_, ?_⟩
  · refine θ_run_mono (Cert.Kernel5Ideal.Whole.run m g) fun r hr c => ?_
    have k := fun b hb => hr c _ (Cert.Kernel5Ideal.Gen.mem_uc b hb)
    exact ⟨k _ (by decide), k _ (by decide), k _ (by decide), k _ (by decide), k _ (by decide), k _ (by decide), k _ (by decide),
      (k _ (by decide)).trans (Cert.Kernel5Ideal.Gen.W15_main_arg0 m g c),
      (k _ (by decide)).trans (Cert.Kernel5Ideal.Gen.W15_main_arg1 m g c),
      (k _ (by decide)).trans (Cert.Kernel5Ideal.Gen.W15_main_arg2 m g c),
      (k _ (by decide)).trans (Cert.Kernel5Ideal.Gen.W15_main_arg3 m g c),
      (k _ (by decide)).trans (Cert.Kernel5Ideal.Gen.W15_main_arg4 m g c),
      (k _ (by decide)).trans (Cert.Kernel5Ideal.Gen.W15_main_arg5 m g c),
      (k _ (by decide)).trans (Cert.Kernel5Ideal.Gen.W15_main_arg6 m g c),
      (k _ (by decide)).trans (Cert.Kernel5Ideal.Gen.W15_main_arg7 m g c),
      (k _ (by decide)).trans (Cert.Kernel5Ideal.Gen.W15_main_arg8 m g c)⟩
  · refine θ_run_mono (Cert.Reference5Ideal.Value.values m' g') fun r hr c => ?_
    obtain ⟨h0, h1, h2, h3, h4, h5, h6, h7, h8⟩ := hm c
    obtain ⟨r0, r1, r2, r3, r4, r5, r6, h⟩ := hr c
    refine ⟨r0.trans ?_, r1.trans ?_, r2.trans ?_, r3.trans ?_, r4.trans ?_, r5.trans ?_, r6.trans ?_, h⟩
    · exact (congr (congr (congrArg Mix.p h0) h1) h2).trans (Cert.Kernel5Ideal.Value.res_u m g c).symm
    · exact (congr (congr (congrArg Glu.out h0) h3) h4).trans (Cert.Kernel5Ideal.Value.res_out m g c).symm
    · exact (congr (congr (congrArg Glu.gy h3) h4) h6).trans (Cert.Kernel5Ideal.Value.res_gy m g c).symm
    · exact (congr (congr (congr (congr (congrArg Glu.gx h0) h1) h2) h5) h6).trans (Cert.Kernel5Ideal.Value.res_gx m g c).symm
    · exact (congr (congr (congrArg Glu.gg h0) h2) h5).trans (Cert.Kernel5Ideal.Value.res_gg m g c).symm
    · exact (congr (congr (congr (congrArg (fun x g => Mix.putOut 256 (Mlp.Y x g)) h0) h1) h5) h7).trans (Cert.Kernel5Ideal.Value.res_buf m g c).symm
    · exact (congr (congr (congrArg Glu.gout h3) h4) h6).trans (Cert.Kernel5Ideal.Value.res_gout m g c).symm

end Mix5
end

end
-- ==== Proof.Run.lean ====
module

public import proofs.«01_k».proof.Proof.Gen.KernelIdeal.Frame

@[expose] public section

set_option maxRecDepth 16384
noncomputable section
namespace Cert.KernelIdeal.Whole
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem
variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- Every weakly fair execution ends with each unscoped buffer of each device at the last boundary's contents. -/
theorem run : θ_run defs (onTc (τ := τ) (main (F := F))) ⟨m, fun _ => 0, ρ⟩
    (fun r => ∀ c : Dev nD, ∀ b ∈ Pipeline.ucRefs τ sig, r.2.mem (((c : Thread nD τ)).1, b) = W13 m ρ c b) :=
  (θ_run defs _ _).mono (fun _ h => h.1) <|
  Pipeline.θ_run_regions_kit_sems (Q := fun r => (∀ c : Dev nD, ∀ b ∈ Pipeline.ucRefs τ sig, r.2.mem (((c : Thread nD τ)).1, b) = W13 m ρ c b) ∧ True)
    (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun c => by
        dsimp only [Pipeline.Seg.post, hseg, Pipeline.HostSeg.ofOps]
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h hz => ⟨h, trivial⟩)

end Cert.KernelIdeal.Whole
end

end
-- ==== Proof.Reg0.lean ====
module

public import proofs.«01_k».proof.Proof.Gen.KernelIdeal.Frame
public import proofs.«01_k».proof.Proof.Spec
public import Idealize.ShloMosaic.Lib.Pipeline.ValueKit

@[expose] public section

set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen
variable (V : (c : Dev nD) → (b : Ref sig .tc) → Buf (Elt Ideal) ((c : Thread nD τ).loc b)) (c : Dev nD)

theorem idx0 : ∀ t : Fin cfg0.N, win0_0.index t = ![t.val, 0] ∧ win0_1.index t = ![0, 0] ∧ win0_2.index t = ![t.val, 0] :=
  (by decide +kernel : ∀ t : Fin grid0.N, _)
/-- The first call leaves the scaled normalised rows. -/
theorem final0 : (dat0 V c).arrAt 2 cfg0.N = Mlp.norm (V c main_arg0) (V c main_v2) := by
  refine (dat0 V c).arrAt_eq_of_covers 2 _ (by decide +kernel) fun t _ y => ?_
  blk_simp
  rw [after0_2]; frame_out
  pointwise [k0_pay1, Mlp.norm, Mlp.inv, Mlp.ms]
  blk_point [iblk0, idx0 t]

theorem idx1 : ∀ t : Fin cfg1.N, win1_0.index t = ![0, 0] ∧ win1_1.index t = ![0, t.val] ∧ win1_2.index t = ![0, t.val] :=
  (by decide +kernel : ∀ t : Fin grid1.N, _)
/-- The second leaves the squared positive part of the product. -/
theorem final1 : (dat1 V c).arrAt 2 cfg1.N = Mlp.act (V c main_v3) (V c main_v0) := by
  refine (dat1 V c).arrAt_eq_of_covers 2 _ (by decide +kernel) fun t _ y => ?_
  blk_simp
  rw [after1_2]; frame_out
  pointwise [k1_pay1, Mlp.act]
  blk_point [iblk1, idx1 t]

theorem idx2 : ∀ t : Fin cfg2.N, win2_0.index t = ![t.val / 2, 0] ∧ win2_1.index t = ![0, t.val % 2] ∧ win2_2.index t = ![t.val / 2, t.val % 2]
    ∧ win2_3.index t = ![t.val / 2, t.val % 2] :=
  (by decide +kernel : ∀ t : Fin grid2.N, _)
/-- The third leaves the second product onto the residual. -/
theorem final2 : (dat2 V c).arrAt 3 cfg2.N = Mlp.down (V c main_v4) (V c main_v1) (V c main_arg0) := by
  refine (dat2 V c).arrAt_eq_of_covers 3 _ (by decide +kernel) fun t _ y => ?_
  blk_simp
  rw [after2_3]; frame_out
  pointwise [k2_pay1, Mlp.down]
  blk_point [iblk2, idx2 t]

end Cert.KernelIdeal.Value
end

end
-- ==== Proof.Reg1.lean ====
module

public import proofs.«01_k».proof.Proof.Gen.KernelIdeal.Frame
public import proofs.«01_k».proof.Proof.Spec
public import Idealize.ShloMosaic.Lib.Pipeline.ValueKit

@[expose] public section

set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen
variable (V : (c : Dev nD) → (b : Ref sig .tc) → Buf (Elt Ideal) ((c : Thread nD τ).loc b)) (c : Dev nD)

theorem idx4 : ∀ t : Fin cfg4.N, win4_0.index t = ![0, 0] ∧ win4_1.index t = ![t.val, 0] ∧ win4_2.index t = ![0, t.val]
    ∧ win4_3.index t = ![0, t.val] :=
  (by decide +kernel : ∀ t : Fin grid4.N, _)
/-- The fifth leaves the gradient before the squared positive part. -/
theorem final4 : (dat4 V c).arrAt 3 cfg4.N = Mlp.da (V c main_arg4) (V c main_v1) (V c main_v4) := by
  refine (dat4 V c).arrAt_eq_of_covers 3 _ (by decide +kernel) fun t _ y => ?_
  blk_simp
  rw [after4_3]; frame_out
  pointwise [k4_pay1, Mlp.da]
  blk_point [iblk4, idx4 t]

theorem idx6 : ∀ t : Fin cfg6.N, win6_0.index t = ![t.val / 2, 0] ∧ win6_1.index t = ![t.val % 2, 0] ∧ win6_2.index t = ![t.val / 2, t.val % 2] :=
  (by decide +kernel : ∀ t : Fin grid6.N, _)
/-- The seventh leaves the gradient at the normalised rows. -/
theorem final6 : (dat6 V c).arrAt 2 cfg6.N = Mlp.dhn (V c main_v7) (V c main_v0) := by
  refine (dat6 V c).arrAt_eq_of_covers 2 _ (by decide +kernel) fun t _ y => ?_
  blk_simp
  rw [after6_2]; frame_out
  pointwise [k6_pay1, Mlp.dhn]
  blk_point [iblk6, idx6 t]

end Cert.KernelIdeal.Value
end

end
-- ==== Proof.Reg2.lean ====
module

public import proofs.«01_k».proof.Proof.Gen.KernelIdeal.Frame
public import proofs.«01_k».proof.Proof.Spec
public import Idealize.ShloMosaic.Lib.Pipeline.ValueKit

@[expose] public section

set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen
variable (V : (c : Dev nD) → (b : Ref sig .tc) → Buf (Elt Ideal) ((c : Thread nD τ).loc b)) (c : Dev nD)

theorem idx3 : ∀ t : Fin cfg3.N, win3_0.index t = ![0, t.val / 2] ∧ win3_1.index t = ![0, t.val % 2] ∧ win3_2.index t = ![t.val / 2, 1, t.val % 2] :=
  (by decide +kernel : ∀ t : Fin grid3.N, _)
/-- The fourth writes the second matrix's gradient into its rows of the buffer. -/
theorem final3 : (dat3 V c).arrAt 2 cfg3.N = Mlp.putDw2 (V c main_v4) (V c main_arg4) (V c main_v6) := by
  refine (dat3 V c).arrAt_eq_of_coversWhere 2 (Mlp.dw2 (V c main_v4) (V c main_arg4))
    (P := fun i => 1024 ≤ (i (1 : Fin 3) : ℕ) ∧ (i (1 : Fin 3) : ℕ) < 2048) (fun β => β (1 : Fin 3) = 1) (by decide +kernel) (fun t hf y => ?_)
    (fun j => ?_)
  · blk_simp
    rw [after3_2]; unfold outsAt3; frame_out
    pointwise [k3_pay1, Mlp.dw2]
    have ht : t.val < 8 := lt_of_lt_of_eq t.isLt N_3
    have h0 : (y 0 : ℕ) < 1 := lt_of_lt_of_le (y 0).isLt ((cfg3.win 2).xsize_le (grid3.coords t) 0)
    have h1 : (y 1 : ℕ) < 1024 := lt_of_lt_of_le (y 1).isLt ((cfg3.win 2).xsize_le (grid3.coords t) 1)
    have h2 : (y 2 : ℕ) < 512 := lt_of_lt_of_le (y 2).isLt ((cfg3.win 2).xsize_le (grid3.coords t) 2)
    blk_point [iblk3, idx3 t]
    all_goals omega
  · blk_simp [Pipeline.Window.cell_apply]
    omega

theorem idx5 : ∀ t : Fin cfg5.N, win5_0.index t = ![0, 0] ∧ win5_1.index t = ![0, t.val] ∧ win5_2.index t = ![t.val / 2, 0, t.val % 2] :=
  (by decide +kernel : ∀ t : Fin grid5.N, _)
/-- The sixth writes the first matrix's gradient into its rows of the buffer. -/
theorem final5 : (dat5 V c).arrAt 2 cfg5.N = Mlp.putDw1 (V c main_v3) (V c main_v7) (V c main_v8) := by
  refine (dat5 V c).arrAt_eq_of_coversWhere 2 (Mlp.dw1 (V c main_v3) (V c main_v7))
    (P := fun i => (i (1 : Fin 3) : ℕ) < 1024) (fun β => β (1 : Fin 3) = 0) (by decide +kernel) (fun t hf y => ?_)
    (fun j => ?_)
  · blk_simp
    rw [after5_2]; unfold outsAt5; frame_out
    pointwise [k5_pay1, Mlp.dw1]
    have ht : t.val < 8 := lt_of_lt_of_eq t.isLt N_5
    have h0 : (y 0 : ℕ) < 1 := lt_of_lt_of_le (y 0).isLt ((cfg5.win 2).xsize_le (grid5.coords t) 0)
    have h1 : (y 1 : ℕ) < 1024 := lt_of_lt_of_le (y 1).isLt ((cfg5.win 2).xsize_le (grid5.coords t) 1)
    have h2 : (y 2 : ℕ) < 512 := lt_of_lt_of_le (y 2).isLt ((cfg5.win 2).xsize_le (grid5.coords t) 2)
    blk_point [iblk5, idx5 t]
    all_goals omega
  · blk_simp [Pipeline.Window.cell_apply]
    omega

end Cert.KernelIdeal.Value
end

end
-- ==== Proof.Reg3.lean ====
module

public import proofs.«01_k».proof.Proof.Gen.KernelIdeal.Frame
public import proofs.«01_k».proof.Proof.Spec
public import Idealize.ShloMosaic.Lib.Pipeline.ValueKit

@[expose] public section

set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen
variable (V : (c : Dev nD) → (b : Ref sig .tc) → Buf (Elt Ideal) ((c : Thread nD τ).loc b)) (c : Dev nD)

theorem idx7 : ∀ t : Fin cfg7.N, win7_0.index t = ![t.val, 0] ∧ win7_1.index t = ![0, 0] ∧ win7_2.index t = ![t.val, 0]
    ∧ win7_3.index t = ![t.val, 0] ∧ win7_4.index t = ![t.val, 0] ∧ win7_5.index t = ![0, 0] :=
  (by decide +kernel : ∀ t : Fin grid7.N, _)
/-- The eighth leaves the gradient at the rows. -/
theorem final7_dx : (dat7 V c).arrAt 4 cfg7.N = Mlp.dx (V c main_arg0) (V c main_v10) (V c main_v9) (V c main_arg4) := by
  refine (dat7 V c).arrAt_eq_of_covers 4 _ (by decide +kernel) fun t _ y => ?_
  blk_simp
  rw [after7_4]
  by_cases h : t.val % 8 = 0
  · rw [outsAt7_A V c t h]; frame_out
    pointwise [k7_pay5, k7_pay4, k7_pay3, k7_pay2, Mlp.dx, Mlp.inv, Mlp.ms]
    blk_point [iblk7, idx7 t]
  · rw [outsAt7_B V c t h]; frame_out
    pointwise [k7_pay5, k7_pay4, k7_pay3, k7_pay2, Mlp.dx, Mlp.inv, Mlp.ms]
    blk_point [iblk7, idx7 t]

theorem zero7 (j) : k7_pay6 (F := Ideal) j = 0 := by pointwise [k7_pay6]
theorem step7 (acc : FVec Ideal S1x1024 .f32) (x0 x2 : FVec Ideal S256x1024 .f32) (j : S1x1024.Idx) :
    k7_pay1 (F := Ideal) (k7_pay7 acc) (k7_pay8 x0 x2) j
      = acc j + ∑ k : Fin 256, x2 (ix2 k (j 1)) * (x0 (ix2 k (j 1)) * Ideal.rsqrt (Ideal.div (∑ l : Fin 1024, x0 (ix2 k l) * x0 (ix2 k l)) (Ideal.ofBits .f32 0x44800000#32) + Ideal.ofBits .f32 0x358637BD#32)) := by
  idx_vars j
  pointwise [k7_pay1, k7_pay7, k7_pay8, k7_pay4, k7_pay3, k7_pay2]
/-- … and the gradient of the scale, over the rows block by block. -/
theorem final7_dg : (dat7 V c).arrAt 5 cfg7.N = Mlp.dg (V c main_arg0) (V c main_v9) := by
  refine (dat7 V c).arrAt_eq_of_covers 5 _ (by decide +kernel) fun t hf y => ?_
  blk_simp
  rw [after7_5, Pipeline.eq_sum_fin_of_reset_step_apply_of_flush (fun n h => (outsAt7 V c n h).2) 8 (fun _ => 0) _
    (fun t h j => by rw [outsAt7_A V c t h]; frame_out; rw [step7, zero7])
    (fun t h j => by rw [outsAt7_B V c t h]; frame_out; rw [step7])
    t ((flush7_5 t).mp hf) _, zero_add]
  unfold Mlp.dg
  refine Fin.sum_mul_add_congr fun s k hl => ?_
  unfold Mlp.inv Mlp.ms
  have ht : t.val < 8 := lt_of_lt_of_eq t.isLt N_7
  blk_point [iblk7, idx7 t, idx7 ⟨_, Pipeline.run_point_lt_of_flush t ((flush7_5 t).mp hf) s⟩]

end Cert.KernelIdeal.Value
end

end
-- ==== Proof.Chain.lean ====
module

public import proofs.«01_k».proof.Proof.Run
public import proofs.«01_k».proof.Proof.Reg0
public import proofs.«01_k».proof.Proof.Reg1
public import proofs.«01_k».proof.Proof.Reg2
public import proofs.«01_k».proof.Proof.Reg3
public import Idealize.ShloMosaic.Lib.StableHlo.ReadAt
public import Idealize.ShloMosaic.Lib.Claim

@[expose] public section

set_option maxRecDepth 16384
noncomputable section
open Idealize.ShloMosaic Idealize.ShloMosaic.TcCoe Idealize.SL.Sem
/-! The eight calls one after the other: what each leaves, from the arguments. -/
namespace Cert.KernelIdeal.Value
open Cert.KernelIdeal Cert.KernelIdeal.Gen
variable (m : (ℓ : Loc nD τ sig) → Buf (Elt Ideal) ℓ) (ρ : Dev nD → PrngReg) (c : Dev nD)

theorem arg1 (a : Ref sig .tc) (h : a ∈ argRefs) : V1 m ρ c a = m ((c : Thread nD τ).loc a) := W1_args m ρ c a h
theorem arg2 (a : Ref sig .tc) (h : a ∈ argRefs) : V2 m ρ c a = m ((c : Thread nD τ).loc a) := W2_args m ρ c a h
theorem arg3 (a : Ref sig .tc) (h : a ∈ argRefs) : V3 m ρ c a = m ((c : Thread nD τ).loc a) := W3_args m ρ c a h
theorem arg5 (a : Ref sig .tc) (h : a ∈ argRefs) : V5 m ρ c a = m ((c : Thread nD τ).loc a) := W5_args m ρ c a h
theorem arg6 (a : Ref sig .tc) (h : a ∈ argRefs) : V6 m ρ c a = m ((c : Thread nD τ).loc a) := W6_args m ρ c a h
theorem arg11 (a : Ref sig .tc) (h : a ∈ argRefs) : V11 m ρ c a = m ((c : Thread nD τ).loc a) := W11_args m ρ c a h

/-- The two matrices and the scale as the calls take them. -/
theorem v0_1 : W1 m ρ c (Proc.devRef .tc main_v0) = (m ((c : Thread nD τ).loc main_arg2)) := by
  unfold W1; after_reads_simp; rfl
theorem v1_1 : W1 m ρ c (Proc.devRef .tc main_v1) = (m ((c : Thread nD τ).loc main_arg3)) := by
  unfold W1; after_reads_simp; rfl
theorem v2_1 : W1 m ρ c (Proc.devRef .tc main_v2) = Mlp.row (m ((c : Thread nD τ).loc main_arg1)) := by
  funext i; unfold W1 Mlp.row; after_reads_at
/-- The normalised rows. -/
theorem v3_2 : W2 m ρ c (Proc.devRef .tc main_v3) = Mlp.Y (m ((c : Thread nD τ).loc main_arg0)) (m ((c : Thread nD τ).loc main_arg1)) := by
  refine (W2_arr m ρ c 2).trans ((final0 (V1 m ρ) c).trans ?_)
  rw [arg1 m ρ c main_arg0 (by decide), show V1 m ρ c main_v2 = _ from v2_1 m ρ c]; rfl
theorem v0_2 : W2 m ρ c (Proc.devRef .tc main_v0) = (m ((c : Thread nD τ).loc main_arg2)) := (W2_of m ρ c main_v0 (by decide)).trans (v0_1 m ρ c)
/-- The squared positive part. -/
theorem v4_3 : W3 m ρ c (Proc.devRef .tc main_v4) = Mlp.A (m ((c : Thread nD τ).loc main_arg0)) (m ((c : Thread nD τ).loc main_arg1)) (m ((c : Thread nD τ).loc main_arg2)) := by
  refine (W3_arr m ρ c 2).trans ((final1 (V2 m ρ) c).trans ?_)
  rw [show V2 m ρ c main_v3 = _ from v3_2 m ρ c, show V2 m ρ c main_v0 = _ from v0_2 m ρ c]; rfl
theorem v1_3 : W3 m ρ c (Proc.devRef .tc main_v1) = (m ((c : Thread nD τ).loc main_arg3)) :=
  (W3_of m ρ c main_v1 (by decide)).trans ((W2_of m ρ c main_v1 (by decide)).trans (v1_1 m ρ c))
/-- The output. -/
theorem v5_4 : W4 m ρ c (Proc.devRef .tc main_v5) = Mlp.out (m ((c : Thread nD τ).loc main_arg0)) (m ((c : Thread nD τ).loc main_arg1)) (m ((c : Thread nD τ).loc main_arg2)) (m ((c : Thread nD τ).loc main_arg3)) := by
  refine (W4_arr m ρ c 3).trans ((final2 (V3 m ρ) c).trans ?_)
  rw [show V3 m ρ c main_v4 = _ from v4_3 m ρ c, show V3 m ρ c main_v1 = _ from v1_3 m ρ c, arg3 m ρ c main_arg0 (by decide)]; rfl
theorem v4_5 : W5 m ρ c (Proc.devRef .tc main_v4) = Mlp.A (m ((c : Thread nD τ).loc main_arg0)) (m ((c : Thread nD τ).loc main_arg1)) (m ((c : Thread nD τ).loc main_arg2)) :=
  (W5_of m ρ c main_v4 (by decide)).trans ((W4_of m ρ c main_v4 (by decide)).trans (v4_3 m ρ c))
theorem v1_5 : W5 m ρ c (Proc.devRef .tc main_v1) = (m ((c : Thread nD τ).loc main_arg3)) :=
  (W5_of m ρ c main_v1 (by decide)).trans ((W4_of m ρ c main_v1 (by decide)).trans (v1_3 m ρ c))
theorem v6_5 : W5 m ρ c (Proc.devRef .tc main_v6) = (m ((c : Thread nD τ).loc main_arg5)) := by
  have h : W5 m ρ c (Proc.devRef .tc main_v6) = W4 m ρ c (Proc.devRef .tc main_arg5) := by unfold W5; after_reads_simp; rfl
  exact h.trans (W4_args m ρ c main_arg5 (by decide))
/-- The buffer with the second matrix's gradient. -/
theorem v6_6 : W6 m ρ c (Proc.devRef .tc main_v6) = Mlp.putDw2 (Mlp.A (m ((c : Thread nD τ).loc main_arg0)) (m ((c : Thread nD τ).loc main_arg1)) (m ((c : Thread nD τ).loc main_arg2))) (m ((c : Thread nD τ).loc main_arg4)) (m ((c : Thread nD τ).loc main_arg5)) := by
  refine (W6_arr m ρ c 2).trans ((final3 (V5 m ρ) c).trans ?_)
  rw [show V5 m ρ c main_v4 = _ from v4_5 m ρ c, show V5 m ρ c main_v6 = _ from v6_5 m ρ c, arg5 m ρ c main_arg4 (by decide)]
/-- The gradient at the first product. -/
theorem v7_7 : W7 m ρ c (Proc.devRef .tc main_v7) = Mlp.E (m ((c : Thread nD τ).loc main_arg0)) (m ((c : Thread nD τ).loc main_arg1)) (m ((c : Thread nD τ).loc main_arg2)) (m ((c : Thread nD τ).loc main_arg3)) (m ((c : Thread nD τ).loc main_arg4)) := by
  refine (W7_arr m ρ c 3).trans ((final4 (V6 m ρ) c).trans ?_)
  rw [show V6 m ρ c main_v4 = _ from (W6_of m ρ c main_v4 (by decide)).trans (v4_5 m ρ c),
    show V6 m ρ c main_v1 = _ from (W6_of m ρ c main_v1 (by decide)).trans (v1_5 m ρ c), arg6 m ρ c main_arg4 (by decide)]; rfl
theorem v7_8 : W8 m ρ c (Proc.devRef .tc main_v7) = Mlp.E (m ((c : Thread nD τ).loc main_arg0)) (m ((c : Thread nD τ).loc main_arg1)) (m ((c : Thread nD τ).loc main_arg2)) (m ((c : Thread nD τ).loc main_arg3)) (m ((c : Thread nD τ).loc main_arg4)) :=
  (W8_of m ρ c main_v7 (by decide)).trans (v7_7 m ρ c)
theorem v8_8 : W8 m ρ c (Proc.devRef .tc main_v8) = Mlp.putDw2 (Mlp.A (m ((c : Thread nD τ).loc main_arg0)) (m ((c : Thread nD τ).loc main_arg1)) (m ((c : Thread nD τ).loc main_arg2))) (m ((c : Thread nD τ).loc main_arg4)) (m ((c : Thread nD τ).loc main_arg5)) := by
  have h : W8 m ρ c (Proc.devRef .tc main_v8) = W7 m ρ c (Proc.devRef .tc main_v6) := by unfold W8; after_reads_simp; rfl
  exact h.trans ((W7_of m ρ c main_v6 (by decide)).trans (v6_6 m ρ c))
theorem v3_8 : W8 m ρ c (Proc.devRef .tc main_v3) = Mlp.Y (m ((c : Thread nD τ).loc main_arg0)) (m ((c : Thread nD τ).loc main_arg1)) :=
  (W8_of m ρ c main_v3 (by decide)).trans <| (W7_of m ρ c main_v3 (by decide)).trans <| (W6_of m ρ c main_v3 (by decide)).trans <|
  (W5_of m ρ c main_v3 (by decide)).trans <| (W4_of m ρ c main_v3 (by decide)).trans <| (W3_of m ρ c main_v3 (by decide)).trans <| v3_2 m ρ c
/-- The buffer with both gradients. -/
theorem v8_9 : W9 m ρ c (Proc.devRef .tc main_v8) = Mlp.gw (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W9_arr m ρ c 2).trans ((final5 (V8 m ρ) c).trans ?_)
  rw [show V8 m ρ c main_v3 = _ from v3_8 m ρ c, show V8 m ρ c main_v7 = _ from v7_8 m ρ c, show V8 m ρ c main_v8 = _ from v8_8 m ρ c]; rfl
theorem v0_9 : W9 m ρ c (Proc.devRef .tc main_v0) = (m ((c : Thread nD τ).loc main_arg2)) :=
  (W9_of m ρ c main_v0 (by decide)).trans <| (W8_of m ρ c main_v0 (by decide)).trans <| (W7_of m ρ c main_v0 (by decide)).trans <|
  (W6_of m ρ c main_v0 (by decide)).trans <| (W5_of m ρ c main_v0 (by decide)).trans <| (W4_of m ρ c main_v0 (by decide)).trans <|
  (W3_of m ρ c main_v0 (by decide)).trans <| v0_2 m ρ c
/-- The gradient at the normalised rows. -/
theorem v9_10 : W10 m ρ c (Proc.devRef .tc main_v9) = Mlp.H (m ((c : Thread nD τ).loc main_arg0)) (m ((c : Thread nD τ).loc main_arg1)) (m ((c : Thread nD τ).loc main_arg2)) (m ((c : Thread nD τ).loc main_arg3)) (m ((c : Thread nD τ).loc main_arg4)) := by
  refine (W10_arr m ρ c 2).trans ((final6 (V9 m ρ) c).trans ?_)
  rw [show V9 m ρ c main_v7 = _ from (W9_of m ρ c main_v7 (by decide)).trans (v7_8 m ρ c), show V9 m ρ c main_v0 = _ from v0_9 m ρ c]; rfl
theorem v9_11 : W11 m ρ c (Proc.devRef .tc main_v9) = Mlp.H (m ((c : Thread nD τ).loc main_arg0)) (m ((c : Thread nD τ).loc main_arg1)) (m ((c : Thread nD τ).loc main_arg2)) (m ((c : Thread nD τ).loc main_arg3)) (m ((c : Thread nD τ).loc main_arg4)) :=
  (W11_of m ρ c main_v9 (by decide)).trans (v9_10 m ρ c)
theorem v10_11 : W11 m ρ c (Proc.devRef .tc main_v10) = Mlp.row (m ((c : Thread nD τ).loc main_arg1)) := by
  have h : W11 m ρ c (Proc.devRef .tc main_v10) = Mlp.row (W10 m ρ c (Proc.devRef .tc main_arg1)) := by
    funext i; unfold W11 Mlp.row; after_reads_at
  rw [h, W10_args m ρ c main_arg1 (by decide)]
/-- The gradient at the rows. -/
theorem v11_12 : W12 m ρ c (Proc.devRef .tc main_v11_0) = Mlp.gx (m ((c : Thread nD τ).loc main_arg0)) (m ((c : Thread nD τ).loc main_arg1)) (m ((c : Thread nD τ).loc main_arg2)) (m ((c : Thread nD τ).loc main_arg3)) (m ((c : Thread nD τ).loc main_arg4)) := by
  refine (W12_arr m ρ c 4).trans ((final7_dx (V11 m ρ) c).trans ?_)
  rw [show V11 m ρ c main_v10 = _ from v10_11 m ρ c, show V11 m ρ c main_v9 = _ from v9_11 m ρ c,
    arg11 m ρ c main_arg0 (by decide), arg11 m ρ c main_arg4 (by decide)]; rfl
/-- The gradient at the scale, as one row. -/
theorem v11b_12 : W12 m ρ c (Proc.devRef .tc main_v11_1) = Mlp.dg (m ((c : Thread nD τ).loc main_arg0)) (Mlp.H (m ((c : Thread nD τ).loc main_arg0)) (m ((c : Thread nD τ).loc main_arg1)) (m ((c : Thread nD τ).loc main_arg2)) (m ((c : Thread nD τ).loc main_arg3)) (m ((c : Thread nD τ).loc main_arg4))) := by
  refine (W12_arr m ρ c 5).trans ((final7_dg (V11 m ρ) c).trans ?_)
  rw [show V11 m ρ c main_v9 = _ from v9_11 m ρ c, arg11 m ρ c main_arg0 (by decide)]

/-! The four results where the program ends. -/
theorem res_out : W13 m ρ c (Proc.devRef .tc main_v5) = Mlp.out (m ((c : Thread nD τ).loc main_arg0)) (m ((c : Thread nD τ).loc main_arg1)) (m ((c : Thread nD τ).loc main_arg2)) (m ((c : Thread nD τ).loc main_arg3)) :=
  (W13_of m ρ c main_v5 (by decide)).trans <| (W12_of m ρ c main_v5 (by decide)).trans <| (W11_of m ρ c main_v5 (by decide)).trans <|
  (W10_of m ρ c main_v5 (by decide)).trans <| (W9_of m ρ c main_v5 (by decide)).trans <| (W8_of m ρ c main_v5 (by decide)).trans <|
  (W7_of m ρ c main_v5 (by decide)).trans <| (W6_of m ρ c main_v5 (by decide)).trans <| (W5_of m ρ c main_v5 (by decide)).trans <| v5_4 m ρ c
theorem res_gx : W13 m ρ c (Proc.devRef .tc main_v11_0) = Mlp.gx (m ((c : Thread nD τ).loc main_arg0)) (m ((c : Thread nD τ).loc main_arg1)) (m ((c : Thread nD τ).loc main_arg2)) (m ((c : Thread nD τ).loc main_arg3)) (m ((c : Thread nD τ).loc main_arg4)) :=
  (W13_of m ρ c main_v11_0 (by decide)).trans (v11_12 m ρ c)
theorem res_gg : W13 m ρ c (Proc.devRef .tc main_v12) = Mlp.gg (m ((c : Thread nD τ).loc main_arg0)) (m ((c : Thread nD τ).loc main_arg1)) (m ((c : Thread nD τ).loc main_arg2)) (m ((c : Thread nD τ).loc main_arg3)) (m ((c : Thread nD τ).loc main_arg4)) := by
  have h : W13 m ρ c (Proc.devRef .tc main_v12) = fun i : (⟨1, ![1024]⟩ : Shape).Idx => W12 m ρ c (Proc.devRef .tc main_v11_1) (ix2 0 (i 0)) := by
    funext i; unfold W13; after_reads_at
  rw [h, v11b_12]; rfl
theorem res_gw : W13 m ρ c (Proc.devRef .tc main_v8) = Mlp.gw (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W13_of m ρ c main_v8 (by decide)).trans <| (W12_of m ρ c main_v8 (by decide)).trans <| (W11_of m ρ c main_v8 (by decide)).trans <|
  (W10_of m ρ c main_v8 (by decide)).trans <| v8_9 m ρ c

end Cert.KernelIdeal.Value
end

end
-- ==== Proof.RefEnd.lean ====
module

public import proofs.«01_k».proof.Proof.RefVal

@[expose] public section

set_option maxRecDepth 16384
noncomputable section
open Idealize.ShloMosaic Idealize.ShloMosaic.TcCoe Idealize.SL.Sem
/-! The reference's results from its arguments. -/
namespace Cert.ReferenceIdeal.Value
open Cert.ReferenceIdeal Cert.ReferenceIdeal.Gen
variable (V : Valuation τ sig (Elt Ideal))

/-- A line after a line. -/
theorem after_line (a b : List (HloOp τ sig (Elt Ideal))) : StableHlo.after (a ++ b) V = StableHlo.after b (StableHlo.after a V) := by
  induction a generalizing V with
  | nil => rfl
  | cons op a ih => exact ih _

theorem after_ops : StableHlo.after ops V = StableHlo.after opsG (StableHlo.after opsE (StableHlo.after opsD (StableHlo.after opsC (StableHlo.after opsB (StableHlo.after opsA V))))) := by
  unfold ops; simp only [after_line]

theorem end_arg {r : Ref sig .tc} (hr : r ∈ [main_arg0, main_arg1, main_arg2, main_arg3, main_arg4, main_arg5]) :
    StableHlo.after ops V (Proc.devRef .tc r) = V (Proc.devRef .tc r) := by
  simp only [List.mem_cons, List.not_mem_nil, or_false] at hr
  rcases hr with rfl | rfl | rfl | rfl | rfl | rfl <;>
    rw [after_ops, keepG _ (by decide), keepE _ (by decide), keepD _ (by decide), keepC _ (by decide), keepB _ (by decide), keepA _ (by decide)]

theorem end_out : StableHlo.after ops V (Proc.devRef .tc main_v25) = Mlp.out (V (Proc.devRef .tc main_arg0)) (V (Proc.devRef .tc main_arg1)) (V (Proc.devRef .tc main_arg2)) (V (Proc.devRef .tc main_arg3)) := by
  rw [after_ops, keepG _ (by decide), keepE _ (by decide), keepD _ (by decide), keepC _ (by decide), readB_25, readA_15,
    keepA _ (r := main_arg0) (by decide), keepA _ (r := main_arg2) (by decide), keepA _ (r := main_arg3) (by decide)]
  rfl
/-- The gradient at the first product, after four lines. -/
theorem at_32 : StableHlo.after opsC (StableHlo.after opsB (StableHlo.after opsA V)) (Proc.devRef .tc main_v32)
    = Mlp.E (V (Proc.devRef .tc main_arg0)) (V (Proc.devRef .tc main_arg1)) (V (Proc.devRef .tc main_arg2)) (V (Proc.devRef .tc main_arg3)) (V (Proc.devRef .tc main_arg4)) := by
  rw [readC_32, readA_15, keepA _ (r := main_arg2) (by decide), keepA _ (r := main_arg3) (by decide), keepA _ (r := main_arg4) (by decide)]
  rfl
/-- The gradient at the normalised rows. -/
theorem at_35 : StableHlo.after opsD (StableHlo.after opsC (StableHlo.after opsB (StableHlo.after opsA V))) (Proc.devRef .tc main_v35)
    = Mlp.H (V (Proc.devRef .tc main_arg0)) (V (Proc.devRef .tc main_arg1)) (V (Proc.devRef .tc main_arg2)) (V (Proc.devRef .tc main_arg3)) (V (Proc.devRef .tc main_arg4)) := by
  rw [readD_35, at_32, keepC _ (r := main_arg2) (by decide), keepB _ (r := main_arg2) (by decide), keepA _ (r := main_arg2) (by decide)]
  rfl
/-- What the first line leaves is left by the next three as it was. -/
theorem keepBCD {r : Ref sig .tc} (hr : r ∈ [main_v7, main_v10, main_v12, main_v13, main_v15, main_arg0, main_arg1, main_arg2, main_arg3, main_arg4, main_arg5]) :
    StableHlo.after opsD (StableHlo.after opsC (StableHlo.after opsB V)) (Proc.devRef .tc r) = V (Proc.devRef .tc r) := by
  simp only [List.mem_cons, List.not_mem_nil, or_false] at hr
  rcases hr with rfl | rfl | rfl | rfl | rfl | rfl | rfl | rfl | rfl | rfl | rfl <;>
    rw [keepD _ (by decide), keepC _ (by decide), keepB _ (by decide)]
theorem end_gg : StableHlo.after ops V (Proc.devRef .tc main_v41) = Mlp.gg (V (Proc.devRef .tc main_arg0)) (V (Proc.devRef .tc main_arg1)) (V (Proc.devRef .tc main_arg2)) (V (Proc.devRef .tc main_arg3)) (V (Proc.devRef .tc main_arg4)) := by
  rw [after_ops, keepG _ (by decide), readE_41, at_35, keepBCD _ (r := main_v12) (by decide), readA_12]
  rfl
theorem end_gx : StableHlo.after ops V (Proc.devRef .tc main_v56) = Mlp.gx (V (Proc.devRef .tc main_arg0)) (V (Proc.devRef .tc main_arg1)) (V (Proc.devRef .tc main_arg2)) (V (Proc.devRef .tc main_arg3)) (V (Proc.devRef .tc main_arg4)) := by
  rw [after_ops, keepG _ (by decide), readE_56 _ (by rw [keepBCD _ (r := main_v7) (by decide), keepBCD _ (r := main_arg0) (by decide), readA_7,
      keepA _ (r := main_arg0) (by decide)])
    (by rw [keepBCD _ (r := main_v10) (by decide), keepBCD _ (r := main_arg0) (by decide), readA_10, keepA _ (r := main_arg0) (by decide)]),
    at_35, keepBCD _ (r := main_v13) (by decide), readA_13, keepBCD _ (r := main_arg0) (by decide), keepA _ (r := main_arg0) (by decide),
    keepBCD _ (r := main_arg4) (by decide), keepA _ (r := main_arg4) (by decide)]
  rfl
theorem end_gw : StableHlo.after ops V (Proc.devRef .tc main_v63)
    = Mlp.gw (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [after_ops, readG_63, keepE _ (r := main_v34) (by decide), keepE _ (r := main_v28) (by decide), keepE _ (r := main_arg5) (by decide),
    readD_34, at_32, keepD _ (r := main_v28) (by decide), readC_28, readB_21, keepBCD _ (r := main_arg5) (by decide), keepA _ (r := main_arg5) (by decide),
    keepC _ (r := main_v15) (by decide), keepB _ (r := main_v15) (by decide), readA_15, keepA _ (r := main_arg2) (by decide),
    keepB _ (r := main_arg4) (by decide), keepA _ (r := main_arg4) (by decide)]
  rfl
end Cert.ReferenceIdeal.Value
end

end
-- ==== Proof.lean ====
module

public import proofs.«01_k».proof.Defs
public import proofs.«01_k».proof.Proof.Gen.Kernel.Frame
public import proofs.«01_k».proof.Proof.K2FrameFull
public import proofs.«01_k».proof.Proof.K2Both
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.P3Values
public import proofs.«01_k».proof.Proof.P4Values
public import proofs.«01_k».proof.Proof.P5Values
public import proofs.«01_k».proof.Proof.Chain
public import proofs.«01_k».proof.Proof.RefEnd
public import Idealize.ShloMosaic.Lib.Quiescent
public import Idealize.ShloMosaic.Lib.Claim

@[expose] public section

noncomputable section
open Idealize.ShloMosaic Idealize.ShloMosaic.TcCoe Idealize.SL.Sem
namespace Cert.Proof

/-- The reference ends with its arguments as they were. -/
theorem frame_ref : Cert.quiescent_ReferenceIdeal (hReferenceIdeal := Cert.ReferenceIdeal.Gen.facts) := by
  intro m g _
  refine θ_run_mono (Cert.ReferenceIdeal.Value.run m g) fun r hr => ⟨fun c => ?_, sem_eq_zero_of_no_sems rfl _⟩
  have k := fun b hb => (hr c b).trans (Cert.ReferenceIdeal.Value.end_arg (StableHlo.launchContents m c) (r := b) hb)
  exact ⟨k _ (by decide), k _ (by decide), k _ (by decide), k _ (by decide), k _ (by decide), k _ (by decide)⟩

/-- Both leave the sub-layer's output and its four gradients. -/
theorem values : Cert.algebraic_KernelIdeal_ReferenceIdeal (hKernelIdeal := Cert.KernelIdeal.Gen.facts) (hReferenceIdeal := Cert.ReferenceIdeal.Gen.facts) := by
  intro m g m' g' _ hm
  refine ⟨fun c => Cert.KernelIdeal.Gen.W13 m g c (Proc.devRef .tc Cert.KernelIdeal.main_v5),
    fun c => Cert.KernelIdeal.Gen.W13 m g c (Proc.devRef .tc Cert.KernelIdeal.main_v11_0),
    fun c => Cert.KernelIdeal.Gen.W13 m g c (Proc.devRef .tc Cert.KernelIdeal.main_v12),
    fun c => Cert.KernelIdeal.Gen.W13 m g c (Proc.devRef .tc Cert.KernelIdeal.main_v8), ?_, ?_⟩
  · refine θ_run_mono (Cert.KernelIdeal.Whole.run m g) fun r hr c => ?_
    have k := fun b hb => hr c _ (Cert.KernelIdeal.Gen.mem_uc b hb)
    exact ⟨k _ (by decide), k _ (by decide), k _ (by decide), k _ (by decide),
      (k _ (by decide)).trans (Cert.KernelIdeal.Gen.W13_main_arg0 m g c), (k _ (by decide)).trans (Cert.KernelIdeal.Gen.W13_main_arg1 m g c),
      (k _ (by decide)).trans (Cert.KernelIdeal.Gen.W13_main_arg2 m g c), (k _ (by decide)).trans (Cert.KernelIdeal.Gen.W13_main_arg3 m g c),
      (k _ (by decide)).trans (Cert.KernelIdeal.Gen.W13_main_arg4 m g c), (k _ (by decide)).trans (Cert.KernelIdeal.Gen.W13_main_arg5 m g c)⟩
  · refine θ_run_mono (Cert.ReferenceIdeal.Value.run m' g') fun r hr c => ?_
    obtain ⟨h0, h1, h2, h3, h4, h5⟩ := hm c
    have k := fun b hb => (hr c b).trans (Cert.ReferenceIdeal.Value.end_arg (StableHlo.launchContents m' c) (r := b) hb)
    refine ⟨(hr c _).trans ((Cert.ReferenceIdeal.Value.end_out _).trans ?_), (hr c _).trans ((Cert.ReferenceIdeal.Value.end_gx _).trans ?_),
      (hr c _).trans ((Cert.ReferenceIdeal.Value.end_gg _).trans ?_), (hr c _).trans ((Cert.ReferenceIdeal.Value.end_gw _).trans ?_),
      k _ (by decide), k _ (by decide), k _ (by decide), k _ (by decide), k _ (by decide), k _ (by decide)⟩
    · refine Eq.trans ?_ (Cert.KernelIdeal.Value.res_out m g c).symm
      exact congr (congr (congr (congrArg Mlp.out h0) h1) h2) h3
    · refine Eq.trans ?_ (Cert.KernelIdeal.Value.res_gx m g c).symm
      exact congr (congr (congr (congr (congrArg Mlp.gx h0) h1) h2) h3) h4
    · refine Eq.trans ?_ (Cert.KernelIdeal.Value.res_gg m g c).symm
      exact congr (congr (congr (congr (congrArg Mlp.gg h0) h1) h2) h3) h4
    · refine Eq.trans ?_ (Cert.KernelIdeal.Value.res_gw m g c).symm
      exact congr (congr (congr (congr (congr (congrArg Mlp.gw h0) h1) h2) h3) h4) h5

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, S5.factsFin,
  fun m g _ => Cert.Kernel.Gen.frame m g, fun m g _ => Cert.KernelIdeal.Gen.frame m g, frame_ref,
  fun m g _ => Cert.Kernel2.Scan.ends m g, fun m g _ => Cert.Kernel2Ideal.Scan.ends m g, fun m g _ => Cert.Kernel2Ideal.Scan.ends m g,
  fun m g _ => S5.kept_ref m g, fun m g _ => S5.kept_ref m g,
  fun m g _ => Cert.Kernel3.Gen.frame m g, fun m g _ => Cert.Kernel3Ideal.Gen.frame m g, Mix3.kept,
  fun m g _ => Cert.Kernel4.Gen.frame m g, fun m g _ => Cert.Kernel4Ideal.Gen.frame m g, Mix4.kept,
  fun m g _ => Cert.Kernel5.Gen.frame m g, fun m g _ => Cert.Kernel5Ideal.Gen.frame m g, Mix5.kept,
  trivial, values,
  ⟨IdealRules.named_const.statement Cert.Kernel2Ideal.κ "gelu_a" .f32 0x3D372713#32 ((8943 / 200000 : ℝ) : EReal) rfl,
    IdealRules.named_const.statement Cert.Kernel2Ideal.κ "gelu_3a" .f32 0x3E095D4F#32 ((26829 / 200000 : ℝ) : EReal) rfl⟩,
  S5.values, trivial, Mix3.values, trivial, Mix4.values, trivial, Mix5.values⟩

end Cert.Proof
end
